-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥
  ∧ IdealRules.named_const.Statement Cert.Kernel2Ideal.κ "ln2" .f32 0x3F317218#32 ((Real.log 2 : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v73_0)) (v1 : (c : Dev Cert.Kernel2Ideal.nD) → Buf (Elt Ideal) ((c.tc : Thread Cert.Kernel2Ideal.nD Cert.Kernel2Ideal.τ).loc Cert.Kernel2Ideal.main_v73_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v73_0) = v0 c
          ∧ r.2.mem ((c.tc : Thread Cert.Kernel2Ideal.nD Cert.Kernel2Ideal.τ).loc Cert.Kernel2Ideal.main_v73_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_v77) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "mask" .f32 0xF149F2CA#32 ⊥
  ∧ IdealRules.named_const.Statement Cert.Kernel3Ideal.κ "ln2" .f32 0x3F317218#32 ((Real.log 2 : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v55) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v19)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v21)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v12)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v12) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v7)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v7) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v68) = v0 c
          ∧ r.2.mem ((c.tc : Thread Cert.Reference19Ideal.nD Cert.Reference19Ideal.τ).loc Cert.Reference19Ideal.main_v69) = v1 c
          ∧ r.2.mem ((c.tc : Thread Cert.Reference19Ideal.nD Cert.Reference19Ideal.τ).loc Cert.Reference19Ideal.main_v70) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S16384x6x128 : Shape := ⟨3, ![16384, 6, 128]⟩
abbrev S16384x6x64 : Shape := ⟨3, ![16384, 6, 64]⟩
abbrev S16384x64 : Shape := ⟨2, ![16384, 64]⟩
abbrev S_ : Shape := ⟨0, ![]⟩

class Facts : Prop where
  bcast_S_S16384x6x128 : S_.BroadcastsInDim S16384x6x128 (![] : Fin 0 → Fin S16384x6x128.rank)
  reducesTo_S16384x6x128_S_d0_1_2 : S16384x6x128.ReducesTo [0, 1, 2] S_
  h_S_ : 0 < S_.numel
  bcast_S_S16384x6x64 : S_.BroadcastsInDim S16384x6x64 (![] : Fin 0 → Fin S16384x6x64.rank)
  reducesTo_S16384x6x64_S_d0_1_2 : S16384x6x64.ReducesTo [0, 1, 2] S_
  bcast_S_S16384x64 : S_.BroadcastsInDim S16384x64 (![] : Fin 0 → Fin S16384x64.rank)
  reducesTo_S16384x64_S_d0_1 : S16384x64.ReducesTo [0, 1] S_

variable [Facts]

def fn_part1 {F : FTy → Type} [FloatOps F] (main_arg4 : FVec F S16384x6x128 .f32) (main_arg5 : FVec F S16384x6x128 .f32) (main_v3 : IVec S_ 1) (main_v7 : IVec S_ 1) (main_v11 : IVec S_ 1) (main_v15 : IVec S_ 1) : IVec S_ 1 :=
  let main_v16 : FVec F S16384x6x128 .f32 := Host.absf main_arg4
  let main_cst_6 : FVec F S_ .f32 := constant S_ .f32 0x7F800000#32
  let main_v17 : FVec F S16384x6x128 .f32 := broadcastInDim S16384x6x128 ![] bcast_S_S16384x6x128 main_cst_6
  let main_v18 : IVec S16384x6x128 1 := cmpf .olt main_v16 main_v17
  let main_c_7 : IVec S_ 1 := constantI S_ 1 1#1
  let main_v19 : IVec S_ 1 := (fun x v => Host.reduce IntOp.andi x v reducesTo_S16384x6x128_S_d0_1_2 h_S_) main_v18 main_c_7
  let main_v20 : FVec F S16384x6x128 .f32 := Host.absf main_arg5
  let main_cst_8 : FVec F S_ .f32 := constant S_ .f32 0x7F800000#32
  let main_v21 : FVec F S16384x6x128 .f32 := broadcastInDim S16384x6x128 ![] bcast_S_S16384x6x128 main_cst_8
  let main_v22 : IVec S16384x6x128 1 := cmpf .olt main_v20 main_v21
  let main_c_9 : IVec S_ 1 := constantI S_ 1 1#1
  let main_v23 : IVec S_ 1 := (fun x v => Host.reduce IntOp.andi x v reducesTo_S16384x6x128_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S16384x6x128 .f32) (main_arg1 : FVec F S16384x6x64 .f32) (main_arg2 : FVec F S16384x6x128 .f32) (main_arg3 : FVec F S16384x64 .f32) (main_arg4 : FVec F S16384x6x128 .f32) (main_arg5 : FVec F S16384x6x128 .f32) : IVec S_ 1 :=
  let main_v0 : FVec F S16384x6x128 .f32 := Host.absf main_arg0
  let main_cst : FVec F S_ .f32 := constant S_ .f32 0x7F800000#32
  let main_v1 : FVec F S16384x6x128 .f32 := broadcastInDim S16384x6x128 ![] bcast_S_S16384x6x128 main_cst
  let main_v2 : IVec S16384x6x128 1 := cmpf .olt main_v0 main_v1
  let main_c : IVec S_ 1 := constantI S_ 1 1#1
  let main_v3 : IVec S_ 1 := (fun x v => Host.reduce IntOp.andi x v reducesTo_S16384x6x128_S_d0_1_2 h_S_) main_v2 main_c
  let main_v4 : FVec F S16384x6x64 .f32 := Host.absf main_arg1
  let main_cst_0 : FVec F S_ .f32 := constant S_ .f32 0x7F800000#32
  let main_v5 : FVec F S16384x6x64 .f32 := broadcastInDim S16384x6x64 ![] bcast_S_S16384x6x64 main_cst_0
  let main_v6 : IVec S16384x6x64 1 := cmpf .olt main_v4 main_v5
  let main_c_1 : IVec S_ 1 := constantI S_ 1 1#1
  let main_v7 : IVec S_ 1 := (fun x v => Host.reduce IntOp.andi x v reducesTo_S16384x6x64_S_d0_1_2 h_S_) main_v6 main_c_1
  let main_v8 : FVec F S16384x6x128 .f32 := Host.absf main_arg2
  let main_cst_2 : FVec F S_ .f32 := constant S_ .f32 0x7F800000#32
  let main_v9 : FVec F S16384x6x128 .f32 := broadcastInDim S16384x6x128 ![] bcast_S_S16384x6x128 main_cst_2
  let main_v10 : IVec S16384x6x128 1 := cmpf .olt main_v8 main_v9
  let main_c_3 : IVec S_ 1 := constantI S_ 1 1#1
  let main_v11 : IVec S_ 1 := (fun x v => Host.reduce IntOp.andi x v reducesTo_S16384x6x128_S_d0_1_2 h_S_) main_v10 main_c_3
  let main_v12 : FVec F S16384x64 .f32 := Host.absf main_arg3
  let main_cst_4 : FVec F S_ .f32 := constant S_ .f32 0x7F800000#32
  let main_v13 : FVec F S16384x64 .f32 := broadcastInDim S16384x64 ![] bcast_S_S16384x64 main_cst_4
  let main_v14 : IVec S16384x64 1 := cmpf .olt main_v12 main_v13
  let main_c_5 : IVec S_ 1 := constantI S_ 1 1#1
  let main_v15 : IVec S_ 1 := (fun x v => Host.reduce IntOp.andi x v reducesTo_S16384x64_S_d0_1 h_S_) main_v14 main_c_5
  fn_part1 (F := F) main_arg4 main_arg5 main_v3 main_v7 main_v11 main_v15
-- ==== Pre_finite3.lean ====
abbrev S16384x6x128 : Shape := ⟨3, ![16384, 6, 128]⟩
abbrev S16384x6x64 : Shape := ⟨3, ![16384, 6, 64]⟩
abbrev S16384x64 : Shape := ⟨2, ![16384, 64]⟩
abbrev S_ : Shape := ⟨0, ![]⟩

class Facts : Prop where
  bcast_S_S16384x6x128 : S_.BroadcastsInDim S16384x6x128 (![] : Fin 0 → Fin S16384x6x128.rank)
  reducesTo_S16384x6x128_S_d0_1_2 : S16384x6x128.ReducesTo [0, 1, 2] S_
  h_S_ : 0 < S_.numel
  bcast_S_S16384x6x64 : S_.BroadcastsInDim S16384x6x64 (![] : Fin 0 → Fin S16384x6x64.rank)
  reducesTo_S16384x6x64_S_d0_1_2 : S16384x6x64.ReducesTo [0, 1, 2] S_
  bcast_S_S16384x64 : S_.BroadcastsInDim S16384x64 (![] : Fin 0 → Fin S16384x64.rank)
  reducesTo_S16384x64_S_d0_1 : S16384x64.ReducesTo [0, 1] S_

variable [Facts]

def fn_part1 {F : FTy → Type} [FloatOps F] (main_arg4 : FVec F S16384x6x128 .f32) (main_v3 : IVec S_ 1) (main_v7 : IVec S_ 1) (main_v11 : IVec S_ 1) (main_v15 : IVec S_ 1) : IVec S_ 1 :=
  let main_v16 : FVec F S16384x6x128 .f32 := Host.absf main_arg4
  let main_cst_6 : FVec F S_ .f32 := constant S_ .f32 0x7F800000#32
  let main_v17 : FVec F S16384x6x128 .f32 := broadcastInDim S16384x6x128 ![] bcast_S_S16384x6x128 main_cst_6
  let main_v18 : IVec S16384x6x128 1 := cmpf .olt main_v16 main_v17
  let main_c_7 : IVec S_ 1 := constantI S_ 1 1#1
  let main_v19 : IVec S_ 1 := (fun x v => Host.reduce IntOp.andi x v reducesTo_S16384x6x128_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x6x128 .f32) (main_arg1 : FVec F S16384x6x64 .f32) (main_arg2 : FVec F S16384x6x128 .f32) (main_arg3 : FVec F S16384x64 .f32) (main_arg4 : FVec F S16384x6x128 .f32) : IVec S_ 1 :=
  let main_v0 : FVec F S16384x6x128 .f32 := Host.absf main_arg0
  let main_cst : FVec F S_ .f32 := constant S_ .f32 0x7F800000#32
  let main_v1 : FVec F S16384x6x128 .f32 := broadcastInDim S16384x6x128 ![] bcast_S_S16384x6x128 main_cst
  let main_v2 : IVec S16384x6x128 1 := cmpf .olt main_v0 main_v1
  let main_c : IVec S_ 1 := constantI S_ 1 1#1
  let main_v3 : IVec S_ 1 := (fun x v => Host.reduce IntOp.andi x v reducesTo_S16384x6x128_S_d0_1_2 h_S_) main_v2 main_c
  let main_v4 : FVec F S16384x6x64 .f32 := Host.absf main_arg1
  let main_cst_0 : FVec F S_ .f32 := constant S_ .f32 0x7F800000#32
  let main_v5 : FVec F S16384x6x64 .f32 := broadcastInDim S16384x6x64 ![] bcast_S_S16384x6x64 main_cst_0
  let main_v6 : IVec S16384x6x64 1 := cmpf .olt main_v4 main_v5
  let main_c_1 : IVec S_ 1 := constantI S_ 1 1#1
  let main_v7 : IVec S_ 1 := (fun x v => Host.reduce IntOp.andi x v reducesTo_S16384x6x64_S_d0_1_2 h_S_) main_v6 main_c_1
  let main_v8 : FVec F S16384x6x128 .f32 := Host.absf main_arg2
  let main_cst_2 : FVec F S_ .f32 := constant S_ .f32 0x7F800000#32
  let main_v9 : FVec F S16384x6x128 .f32 := broadcastInDim S16384x6x128 ![] bcast_S_S16384x6x128 main_cst_2
  let main_v10 : IVec S16384x6x128 1 := cmpf .olt main_v8 main_v9
  let main_c_3 : IVec S_ 1 := constantI S_ 1 1#1
  let main_v11 : IVec S_ 1 := (fun x v => Host.reduce IntOp.andi x v reducesTo_S16384x6x128_S_d0_1_2 h_S_) main_v10 main_c_3
  let main_v12 : FVec F S16384x64 .f32 := Host.absf main_arg3
  let main_cst_4 : FVec F S_ .f32 := constant S_ .f32 0x7F800000#32
  let main_v13 : FVec F S16384x64 .f32 := broadcastInDim S16384x64 ![] bcast_S_S16384x64 main_cst_4
  let main_v14 : IVec S16384x64 1 := cmpf .olt main_v12 main_v13
  let main_c_5 : IVec S_ 1 := constantI S_ 1 1#1
  let main_v15 : IVec S_ 1 := (fun x v => Host.reduce IntOp.andi x v reducesTo_S16384x64_S_d0_1 h_S_) main_v14 main_c_5
  fn_part1 (F := F) main_arg4 main_v3 main_v7 main_v11 main_v15
-- ==== Pre_finite4.lean ====
abbrev S16384x1024 : Shape := ⟨2, ![16384, 1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x1024 .f32) (main_arg1 : FVec F S1024x5632 .f32) (main_arg2 : FVec F S2816x1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S16384x1024 .f32 := Host.absf main_arg3
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_v3 main_v7 main_v11 main_v15
-- ==== Kernel.lean ====
abbrev S16384x6x128 : Shape := ⟨3, ![16384, 6, 128]⟩
abbrev S16384x6x64 : Shape := ⟨3, ![16384, 6, 64]⟩
abbrev S16384x64 : Shape := ⟨2, ![16384, 64]⟩
abbrev S16384x1x64 : Shape := ⟨3, ![16384, 1, 64]⟩
abbrev S16384 : Shape := ⟨1, ![16384]⟩
abbrev S_ : Shape := ⟨0, ![]⟩
abbrev S6x16384x16384 : Shape := ⟨3, ![6, 16384, 16384]⟩
abbrev S1x16384 : Shape := ⟨2, ![1, 16384]⟩
abbrev S16384x1 : Shape := ⟨2, ![16384, 1]⟩
abbrev S16384x16384 : Shape := ⟨2, ![16384, 16384]⟩
abbrev S6x16384 : Shape := ⟨2, ![6, 16384]⟩
abbrev S6x16384x1 : Shape := ⟨3, ![6, 16384, 1]⟩
abbrev S6x128x16384 : Shape := ⟨3, ![6, 128, 16384]⟩
abbrev S16384x768 : Shape := ⟨2, ![16384, 768]⟩
abbrev S16384x6x256 : Shape := ⟨3, ![16384, 6, 256]⟩
abbrev S16384x1536 : Shape := ⟨2, ![16384, 1536]⟩
abbrev S6x16x1x1024 : Shape := ⟨4, ![6, 16, 1, 1024]⟩
abbrev S1024x256 : Shape := ⟨2, ![1024, 256]⟩
abbrev S16384x256 : Shape := ⟨2, ![16384, 256]⟩
abbrev S16384x128 : Shape := ⟨2, ![16384, 128]⟩
abbrev S1024x128 : Shape := ⟨2, ![1024, 128]⟩
abbrev S1x1024x1 : Shape := ⟨3, ![1, 1024, 1]⟩
abbrev S1x1x1x1024 : Shape := ⟨4, ![1, 1, 1, 1024]⟩
abbrev S1024x1 : Shape := ⟨2, ![1024, 1]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 133
  | .vmem => 17
  | .smem => 0
  | _ => 0

abbrev hbmTy0_0 (i : Nat) : BufTy := match i % 128 with
  | 0 => ⟨S16384x6x128, .f32⟩
  | 1 => ⟨S16384x6x64, .f32⟩
  | 2 => ⟨S16384x6x128, .f32⟩
  | 3 => ⟨S16384x64, .f32⟩
  | 4 => ⟨S16384x6x128, .f32⟩
  | 5 => ⟨S16384x6x128, .f32⟩
  | 6 => ⟨S16384x1x64, .f32⟩
  | 7 => ⟨S16384x6x64, .f32⟩
  | 8 => ⟨S16384, .i32⟩
  | 9 => ⟨S_, .i32⟩
  | 10 => ⟨S_, .i32⟩
  | 11 => ⟨S16384, .i32⟩
  | 12 => ⟨S16384, .i32⟩
  | 13 => ⟨S16384, .i32⟩
  | 14 => ⟨S_, .i32⟩
  | 15 => ⟨S16384, .i32⟩
  | 16 => ⟨S16384, .i1⟩
  | 17 => ⟨S16384, .i32⟩
  | 18 => ⟨S16384, .i32⟩
  | 19 => ⟨S_, .i32⟩
  | 20 => ⟨S16384, .i32⟩
  | 21 => ⟨S16384, .i1⟩
  | 22 => ⟨S16384, .i1⟩
  | 23 => ⟨S_, .i32⟩
  | 24 => ⟨S16384, .i32⟩
  | 25 => ⟨S16384, .i32⟩
  | 26 => ⟨S16384, .i32⟩
  | 27 => ⟨S6x16384x16384, .f32⟩
  | 28 => ⟨S6x16384x16384, .f32⟩
  | 29 => ⟨S6x16384x16384, .f32⟩
  | 30 => ⟨S_, .f32⟩
  | 31 => ⟨S6x16384x16384, .f32⟩
  | 32 => ⟨S6x16384x16384, .f32⟩
  | 33 => ⟨S1x16384, .i32⟩
  | 34 => ⟨S16384x1, .i32⟩
  | 35 => ⟨S16384x16384, .i32⟩
  | 36 => ⟨S16384x16384, .i32⟩
  | 37 => ⟨S16384x16384, .i1⟩
  | 38 => ⟨S_, .f32⟩
  | 39 => ⟨S_, .f32⟩
  | 40 => ⟨S6x16384x16384, .i1⟩
  | 41 => ⟨S6x16384x16384, .f32⟩
  | 42 => ⟨S6x16384x16384, .f32⟩
  | 43 => ⟨S_, .f32⟩
  | 44 => ⟨S6x16384, .f32⟩
  | 45 => ⟨S_, .f32⟩
  | 46 => ⟨S6x16384, .f32⟩
  | 47 => ⟨S6x16384, .f32⟩
  | 48 => ⟨S6x16384x1, .f32⟩
  | 49 => ⟨S6x16384x16384, .f32⟩
  | 50 => ⟨S6x16384x16384, .f32⟩
  | 51 => ⟨S6x16384x16384, .f32⟩
  | 52 => ⟨S_, .f32⟩
  | 53 => ⟨S6x16384, .f32⟩
  | 54 => ⟨S6x16384x1, .f32⟩
  | 55 => ⟨S6x16384x16384, .f32⟩
  | 56 => ⟨S6x16384x16384, .f32⟩
  | 57 => ⟨S6x128x16384, .f32⟩
  | 58 => ⟨S16384x6x128, .f32⟩
  | 59 => ⟨S16384x768, .f32⟩
  | 60 => ⟨S16384, .i32⟩
  | 61 => ⟨S_, .i32⟩
  | 62 => ⟨S_, .i32⟩
  | 63 => ⟨S16384, .i32⟩
  | 64 => ⟨S16384, .i32⟩
  | 65 => ⟨S16384, .i32⟩
  | 66 => ⟨S_, .i32⟩
  | 67 => ⟨S16384, .i32⟩
  | 68 => ⟨S16384, .i1⟩
  | 69 => ⟨S16384, .i32⟩
  | 70 => ⟨S16384, .i32⟩
  | 71 => ⟨S_, .i32⟩
  | 72 => ⟨S16384, .i32⟩
  | 73 => ⟨S16384, .i1⟩
  | 74 => ⟨S16384, .i1⟩
  | 75 => ⟨S_, .i32⟩
  | 76 => ⟨S16384, .i32⟩
  | 77 => ⟨S16384, .i32⟩
  | 78 => ⟨S16384, .i32⟩
  | 79 => ⟨S6x16384x16384, .f32⟩
  | 80 => ⟨S6x16384x16384, .f32⟩
  | 81 => ⟨S6x16384x16384, .f32⟩
  | 82 => ⟨S_, .f32⟩
  | 83 => ⟨S6x16384x16384, .f32⟩
  | 84 => ⟨S6x16384x16384, .f32⟩
  | 85 => ⟨S1x16384, .i32⟩
  | 86 => ⟨S16384x1, .i32⟩
  | 87 => ⟨S16384x16384, .i32⟩
  | 88 => ⟨S16384x16384, .i32⟩
  | 89 => ⟨S16384x16384, .i1⟩
  | 90 => ⟨S_, .f32⟩
  | 91 => ⟨S_, .f32⟩
  | 92 => ⟨S6x16384x16384, .i1⟩
  | 93 => ⟨S6x16384x16384, .f32⟩
  | 94 => ⟨S6x16384x16384, .f32⟩
  | 95 => ⟨S_, .f32⟩
  | 96 => ⟨S6x16384, .f32⟩
  | 97 => ⟨S6x16384x1, .f32⟩
  | 98 => ⟨S6x16384x16384, .f32⟩
  | 99 => ⟨S6x16384x16384, .f32⟩
  | 100 => ⟨S6x16384x16384, .f32⟩
  | 101 => ⟨S_, .f32⟩
  | 102 => ⟨S6x16384, .f32⟩
  | 103 => ⟨S6x16384, .f32⟩
  | 104 => ⟨S6x16384, .f32⟩
  | 105 => ⟨S_, .f32⟩
  | 106 => ⟨S_, .f32⟩
  | 107 => ⟨S6x16384, .f32⟩
  | 108 => ⟨S6x16384, .f32⟩
  | 109 => ⟨S6x16384x1, .f32⟩
  | 110 => ⟨S_, .f32⟩
  | 111 => ⟨S16384x6x64, .f32⟩
  | 112 => ⟨S16384x6x256, .f32⟩
  | 113 => ⟨S16384x1536, .f32⟩
  | 114 => ⟨S_, .f32⟩
  | 115 => ⟨S_, .f32⟩
  | 116 => ⟨S_, .f32⟩
  | 117 => ⟨S_, .f32⟩
  | 118 => ⟨S16384x1536, .f32⟩
  | 119 => ⟨S16384x1536, .f32⟩
  | 120 => ⟨S16384x1536, .bf16⟩
  | 121 => ⟨S_, .f32⟩
  | 122 => ⟨S16384x6x64, .f32⟩
  | 123 => ⟨S16384x6x256, .f32⟩
  | 124 => ⟨S16384x1536, .f32⟩
  | 125 => ⟨S16384x1536, .bf16⟩
  | 126 => ⟨S16384x768, .f32⟩
  | 127 => ⟨S16384x768, .bf16⟩
  | _ => ⟨S16384x6x128, .f32⟩

abbrev hbmTy0_1 (i : Nat) : BufTy := match i % 128 with
  | 0 => ⟨S16384x768, .bf16⟩
  | 1 => ⟨S16384x768, .f32⟩
  | 2 => ⟨S16384x768, .bf16⟩
  | 3 => ⟨S16384x1536, .bf16⟩
  | 4 => ⟨S6x16x1x1024, .f32⟩
  | _ => ⟨S16384x6x128, .f32⟩

abbrev hbmTy (i : Nat) : BufTy := match i / 128 with
  | 0 => hbmTy0_0 i
  | 1 => hbmTy0_1 i
  | _ => ⟨S16384x6x128, .f32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S16384x256, .bf16⟩
  | .local _ .vmem, ⟨3, _⟩ => ⟨S16384x256, .bf16⟩
  | .local _ .vmem, ⟨4, _⟩ => ⟨S16384x128, .bf16⟩
  | .local _ .vmem, ⟨5, _⟩ => ⟨S16384x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1024x128, .bf16⟩
  | .local _ .vmem, ⟨11, _⟩ => ⟨S1024x128, .bf16⟩
  | .local _ .vmem, ⟨12, _⟩ => ⟨S1024x256, .bf16⟩
  | .local _ .vmem, ⟨13, _⟩ => ⟨S1024x256, .bf16⟩
  | .local _ .vmem, ⟨14, _⟩ => ⟨S1x1x1x1024, .f32⟩
  | .local _ .vmem, ⟨15, _⟩ => ⟨S1x1x1x1024, .f32⟩
  | .local _ .vmem, ⟨16, _⟩ => ⟨S1024x256, .f32⟩
  | _, _ => ⟨S16384x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_4 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_cst_5 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_6 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v41 : Ref sig .tc := ⟨.hbm, 94, rfl⟩
abbrev main_cst_7 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_cst_8 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_9 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_cst_10 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_cst_11 : Ref sig .tc := ⟨.hbm, 114, rfl⟩
abbrev main_v57 : Ref sig .tc := ⟨.hbm, 115, rfl⟩
abbrev main_cst_12 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_cst_13 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71_0 : Ref sig .tc := ⟨.hbm, 131, rfl⟩
abbrev main_v71_1 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 16], ![false, false]⟩

@[reducible] def k0_t1_loop (i : grid0.Coords) : Scf.Loop 32 :=
  let c0_i32_17 : BitVec 32 := 0#32
  let arg1 : BitVec 32 := BitVec.ofNat 32 (i 1).val
  let v29 : BitVec 32 := Scalar.subi arg1 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_18 : BitVec 32 := 1#32
  ⟨c0_i32_17, v33, c1_i32_18⟩
def k0_mult1 (i : grid0.Coords) (k0_t1 : Fin (k0_t1_loop i).trips) : BitVec 32 :=
  let c0_i32_17 : BitVec 32 := 0#32
  let c1_i32_18 : BitVec 32 := 1#32
  let arg11 : BitVec 32 := Scf.iv c0_i32_17 c1_i32_18 k0_t1
  let c1024_i32_37 : BitVec 32 := 1024#32
  let v73 : BitVec 32 := Scalar.muli arg11 c1024_i32_37
  v73
def k0_off1 (i : grid0.Coords) (k0_t1 : Fin (k0_t1_loop i).trips) : Fin 2 → Nat :=
  let c0_i32_17 : BitVec 32 := 0#32
  let c1_i32_18 : BitVec 32 := 1#32
  let arg11 : BitVec 32 := Scf.iv c0_i32_17 c1_i32_18 k0_t1
  let c1024_i32_37 : BitVec 32 := 1024#32
  let v73 : BitVec 32 := Scalar.muli arg11 c1024_i32_37
  let v74 : BitVec 32 := v73
  let v75 : Index := Scalar.indexCast v74
  let c0_38 : Index := 0#32
  ![v75.toNat, 0]
def k0_mult2 (i : grid0.Coords) (k0_t1 : Fin (k0_t1_loop i).trips) : BitVec 32 :=
  let c0_i32_17 : BitVec 32 := 0#32
  let c1_i32_18 : BitVec 32 := 1#32
  let arg11 : BitVec 32 := Scf.iv c0_i32_17 c1_i32_18 k0_t1
  let c1024_i32_40 : BitVec 32 := 1024#32
  let v82 : BitVec 32 := Scalar.muli arg11 c1024_i32_40
  v82
def k0_off2 (i : grid0.Coords) (k0_t1 : Fin (k0_t1_loop i).trips) : Fin 2 → Nat :=
  let c0_i32_17 : BitVec 32 := 0#32
  let c1_i32_18 : BitVec 32 := 1#32
  let arg11 : BitVec 32 := Scf.iv c0_i32_17 c1_i32_18 k0_t1
  let c1024_i32_40 : BitVec 32 := 1024#32
  let v82 : BitVec 32 := Scalar.muli arg11 c1024_i32_40
  let v83 : BitVec 32 := v82
  let v84 : Index := Scalar.indexCast v83
  let c0_41 : Index := 0#32
  ![v84.toNat, 0]
@[reducible] def k0_t2_loop (i : grid0.Coords) : Scf.Loop 32 :=
  let c0_i32_17 : BitVec 32 := 0#32
  let arg1 : BitVec 32 := BitVec.ofNat 32 (i 1).val
  let v29 : BitVec 32 := Scalar.subi arg1 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let v30 : BitVec 32 := Scalar.addi c0_i32_17 v29
  let c1_i32_19 : BitVec 32 := 1#32
  ⟨v33, v30, c1_i32_19⟩
def k0_mult3 (i : grid0.Coords) (k0_t2 : Fin (k0_t2_loop i).trips) : BitVec 32 :=
  let c0_i32_17 : BitVec 32 := 0#32
  let arg1 : BitVec 32 := BitVec.ofNat 32 (i 1).val
  let v29 : BitVec 32 := Scalar.subi arg1 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_19 : BitVec 32 := 1#32
  let arg11 : BitVec 32 := Scf.iv v33 c1_i32_19 k0_t2
  let c1024_i32_37 : BitVec 32 := 1024#32
  let v73 : BitVec 32 := Scalar.muli arg11 c1024_i32_37
  v73
def k0_off3 (i : grid0.Coords) (k0_t2 : Fin (k0_t2_loop i).trips) : Fin 2 → Nat :=
  let c0_i32_17 : BitVec 32 := 0#32
  let arg1 : BitVec 32 := BitVec.ofNat 32 (i 1).val
  let v29 : BitVec 32 := Scalar.subi arg1 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_19 : BitVec 32 := 1#32
  let arg11 : BitVec 32 := Scf.iv v33 c1_i32_19 k0_t2
  let c1024_i32_37 : BitVec 32 := 1024#32
  let v73 : BitVec 32 := Scalar.muli arg11 c1024_i32_37
  let v74 : BitVec 32 := v73
  let v75 : Index := Scalar.indexCast v74
  let c0_38 : Index := 0#32
  ![v75.toNat, 0]
def k0_mult4 (i : grid0.Coords) (k0_t2 : Fin (k0_t2_loop i).trips) : BitVec 32 :=
  let c0_i32_17 : BitVec 32 := 0#32
  let arg1 : BitVec 32 := BitVec.ofNat 32 (i 1).val
  let v29 : BitVec 32 := Scalar.subi arg1 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_19 : BitVec 32 := 1#32
  let arg11 : BitVec 32 := Scf.iv v33 c1_i32_19 k0_t2
  let c1024_i32_40 : BitVec 32 := 1024#32
  let v82 : BitVec 32 := Scalar.muli arg11 c1024_i32_40
  v82
def k0_off4 (i : grid0.Coords) (k0_t2 : Fin (k0_t2_loop i).trips) : Fin 2 → Nat :=
  let c0_i32_17 : BitVec 32 := 0#32
  let arg1 : BitVec 32 := BitVec.ofNat 32 (i 1).val
  let v29 : BitVec 32 := Scalar.subi arg1 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_19 : BitVec 32 := 1#32
  let arg11 : BitVec 32 := Scf.iv v33 c1_i32_19 k0_t2
  let c1024_i32_40 : BitVec 32 := 1024#32
  let v82 : BitVec 32 := Scalar.muli arg11 c1024_i32_40
  let v83 : BitVec 32 := v82
  let v84 : Index := Scalar.indexCast v83
  let c0_41 : Index := 0#32
  ![v84.toNat, 0]
def k0_mult5 (i : grid0.Coords) : BitVec 32 :=
  let arg1 : BitVec 32 := BitVec.ofNat 32 (i 1).val
  let c1024_i32 : BitVec 32 := 1024#32
  let v34 : BitVec 32 := Scalar.muli arg1 c1024_i32
  v34
def k0_off5 (i : grid0.Coords) : Fin 2 → Nat :=
  let arg1 : BitVec 32 := BitVec.ofNat 32 (i 1).val
  let c1024_i32 : BitVec 32 := 1024#32
  let v34 : BitVec 32 := Scalar.muli arg1 c1024_i32
  let v35 : BitVec 32 := v34
  let v36 : Index := Scalar.indexCast v35
  let c0_20 : Index := 0#32
  ![v36.toNat, 0]
def k0_mult6 (i : grid0.Coords) : BitVec 32 :=
  let arg1 : BitVec 32 := BitVec.ofNat 32 (i 1).val
  let c1024_i32_24 : BitVec 32 := 1024#32
  let v52 : BitVec 32 := Scalar.muli arg1 c1024_i32_24
  v52
def k0_off6 (i : grid0.Coords) : Fin 2 → Nat :=
  let arg1 : BitVec 32 := BitVec.ofNat 32 (i 1).val
  let c1024_i32_24 : BitVec 32 := 1024#32
  let v52 : BitVec 32 := Scalar.muli arg1 c1024_i32_24
  let v53 : BitVec 32 := v52
  let v54 : Index := Scalar.indexCast v53
  let c0_25 : Index := 0#32
  ![v54.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x6x128 : Shape := ⟨3, ![16384, 6, 128]⟩
abbrev S16384x6x64 : Shape := ⟨3, ![16384, 6, 64]⟩
abbrev S16384x64 : Shape := ⟨2, ![16384, 64]⟩
abbrev S16384x1x64 : Shape := ⟨3, ![16384, 1, 64]⟩
abbrev S16384 : Shape := ⟨1, ![16384]⟩
abbrev S_ : Shape := ⟨0, ![]⟩
abbrev S6x16384x16384 : Shape := ⟨3, ![6, 16384, 16384]⟩
abbrev S1x16384 : Shape := ⟨2, ![1, 16384]⟩
abbrev S16384x1 : Shape := ⟨2, ![16384, 1]⟩
abbrev S16384x16384 : Shape := ⟨2, ![16384, 16384]⟩
abbrev S6x16384 : Shape := ⟨2, ![6, 16384]⟩
abbrev S6x16384x1 : Shape := ⟨3, ![6, 16384, 1]⟩
abbrev S6x128x16384 : Shape := ⟨3, ![6, 128, 16384]⟩
abbrev S6x16384x64 : Shape := ⟨3, ![6, 16384, 64]⟩
abbrev S6x16384x128 : Shape := ⟨3, ![6, 16384, 128]⟩
abbrev S16384x6x256 : Shape := ⟨3, ![16384, 6, 256]⟩
abbrev S16384x1536 : Shape := ⟨2, ![16384, 1536]⟩
abbrev S16384x6 : Shape := ⟨2, ![16384, 6]⟩
abbrev S6x16x1x1024 : Shape := ⟨4, ![6, 16, 1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S16384x6x128, .f32⟩
  | .hbm, ⟨1, _⟩ => ⟨S16384x6x64, .f32⟩
  | .hbm, ⟨2, _⟩ => ⟨S16384x6x128, .f32⟩
  | .hbm, ⟨3, _⟩ => ⟨S16384x64, .f32⟩
  | .hbm, ⟨4, _⟩ => ⟨S16384x6x128, .f32⟩
  | .hbm, ⟨5, _⟩ => ⟨S16384x6x128, .f32⟩
  | .hbm, ⟨6, _⟩ => ⟨S16384x1x64, .f32⟩
  | .hbm, ⟨7, _⟩ => ⟨S16384x6x64, .f32⟩
  | .hbm, ⟨8, _⟩ => ⟨S16384, .i32⟩
  | .hbm, ⟨9, _⟩ => ⟨S_, .i32⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S6x16384x16384, .f32⟩
  | .hbm, ⟨28, _⟩ => ⟨S6x16384x16384, .f32⟩
  | .hbm, ⟨29, _⟩ => ⟨S6x16384x16384, .f32⟩
  | .hbm, ⟨30, _⟩ => ⟨S_, .f32⟩
  | .hbm, ⟨31, _⟩ => ⟨S6x16384x16384, .f32⟩
  | .hbm, ⟨32, _⟩ => ⟨S6x16384x16384, .f32⟩
  | .hbm, ⟨33, _⟩ => ⟨S1x16384, .i32⟩
  | .hbm, ⟨34, _⟩ => ⟨S16384x1, .i32⟩
  | .hbm, ⟨35, _⟩ => ⟨S16384x16384, .i32⟩
  | .hbm, ⟨36, _⟩ => ⟨S16384x16384, .i32⟩
  | .hbm, ⟨37, _⟩ => ⟨S16384x16384, .i1⟩
  | .hbm, ⟨38, _⟩ => ⟨S_, .f32⟩
  | .hbm, ⟨39, _⟩ => ⟨S_, .f32⟩
  | .hbm, ⟨40, _⟩ => ⟨S6x16384x16384, .i1⟩
  | .hbm, ⟨41, _⟩ => ⟨S6x16384x16384, .f32⟩
  | .hbm, ⟨42, _⟩ => ⟨S6x16384x16384, .f32⟩
  | .hbm, ⟨43, _⟩ => ⟨S_, .f32⟩
  | .hbm, ⟨44, _⟩ => ⟨S6x16384x16384, .f32⟩
  | .hbm, ⟨45, _⟩ => ⟨S_, .f32⟩
  | .hbm, ⟨46, _⟩ => ⟨S6x16384, .f32⟩
  | .hbm, ⟨47, _⟩ => ⟨S6x16384x1, .f32⟩
  | .hbm, ⟨48, _⟩ => ⟨S6x16384x16384, .f32⟩
  | .hbm, ⟨49, _⟩ => ⟨S6x16384x16384, .i1⟩
  | .hbm, ⟨50, _⟩ => ⟨S6x16384x16384, .f32⟩
  | .hbm, ⟨51, _⟩ => ⟨S_, .f32⟩
  | .hbm, ⟨52, _⟩ => ⟨S6x16384, .f32⟩
  | .hbm, ⟨53, _⟩ => ⟨S_, .f32⟩
  | .hbm, ⟨54, _⟩ => ⟨S6x16384, .f32⟩
  | .hbm, ⟨55, _⟩ => ⟨S6x16384, .f32⟩
  | .hbm, ⟨56, _⟩ => ⟨S_, .f32⟩
  | .hbm, ⟨57, _⟩ => ⟨S6x16384, .f32⟩
  | .hbm, ⟨58, _⟩ => ⟨S6x16384, .i1⟩
  | .hbm, ⟨59, _⟩ => ⟨S_, .f32⟩
  | .hbm, ⟨60, _⟩ => ⟨S6x16384, .f32⟩
  | .hbm, ⟨61, _⟩ => ⟨S6x16384, .i1⟩
  | .hbm, ⟨62, _⟩ => ⟨S_, .f32⟩
  | .hbm, ⟨63, _⟩ => ⟨S6x16384, .f32⟩
  | .hbm, ⟨64, _⟩ => ⟨S_, .f32⟩
  | .hbm, ⟨65, _⟩ => ⟨S6x16384, .f32⟩
  | .hbm, ⟨66, _⟩ => ⟨S_, .f32⟩
  | .hbm, ⟨67, _⟩ => ⟨S6x16384, .f32⟩
  | .hbm, ⟨68, _⟩ => ⟨S6x16384, .f32⟩
  | .hbm, ⟨69, _⟩ => ⟨S6x16384, .f32⟩
  | .hbm, ⟨70, _⟩ => ⟨S6x16384x1, .f32⟩
  | .hbm, ⟨71, _⟩ => ⟨S6x16384x16384, .f32⟩
  | .hbm, ⟨72, _⟩ => ⟨S6x16384x16384, .f32⟩
  | .hbm, ⟨73, _⟩ => ⟨S6x16384x16384, .f32⟩
  | .hbm, ⟨74, _⟩ => ⟨S_, .f32⟩
  | .hbm, ⟨75, _⟩ => ⟨S6x16384, .f32⟩
  | .hbm, ⟨76, _⟩ => ⟨S6x16384x1, .f32⟩
  | .hbm, ⟨77, _⟩ => ⟨S6x16384x16384, .f32⟩
  | .hbm, ⟨78, _⟩ => ⟨S6x16384x16384, .f32⟩
  | .hbm, ⟨79, _⟩ => ⟨S6x16384x1, .f32⟩
  | .hbm, ⟨80, _⟩ => ⟨S_, .f32⟩
  | .hbm, ⟨81, _⟩ => ⟨S6x16384x1, .f32⟩
  | .hbm, ⟨82, _⟩ => ⟨S6x16384x1, .f32⟩
  | .hbm, ⟨83, _⟩ => ⟨S6x128x16384, .f32⟩
  | .hbm, ⟨84, _⟩ => ⟨S16384x6x128, .f32⟩
  | .hbm, ⟨85, _⟩ => ⟨S6x128x16384, .f32⟩
  | .hbm, ⟨86, _⟩ => ⟨S6x16384x16384, .f32⟩
  | .hbm, ⟨87, _⟩ => ⟨S6x128x16384, .f32⟩
  | .hbm, ⟨88, _⟩ => ⟨S16384x6x128, .f32⟩
  | .hbm, ⟨89, _⟩ => ⟨S6x16384x16384, .f32⟩
  | .hbm, ⟨90, _⟩ => ⟨S6x16384x16384, .f32⟩
  | .hbm, ⟨91, _⟩ => ⟨S6x16384x16384, .f32⟩
  | .hbm, ⟨92, _⟩ => ⟨S_, .f32⟩
  | .hbm, ⟨93, _⟩ => ⟨S6x16384, .f32⟩
  | .hbm, ⟨94, _⟩ => ⟨S6x16384x1, .f32⟩
  | .hbm, ⟨95, _⟩ => ⟨S6x16384x1, .f32⟩
  | .hbm, ⟨96, _⟩ => ⟨S6x16384x16384, .f32⟩
  | .hbm, ⟨97, _⟩ => ⟨S6x16384x16384, .f32⟩
  | .hbm, ⟨98, _⟩ => ⟨S_, .f32⟩
  | .hbm, ⟨99, _⟩ => ⟨S6x16384, .f32⟩
  | .hbm, ⟨100, _⟩ => ⟨S6x16384x16384, .f32⟩
  | .hbm, ⟨101, _⟩ => ⟨S6x16384x16384, .f32⟩
  | .hbm, ⟨102, _⟩ => ⟨S6x16384x16384, .f32⟩
  | .hbm, ⟨103, _⟩ => ⟨S_, .f32⟩
  | .hbm, ⟨104, _⟩ => ⟨S6x16384x16384, .f32⟩
  | .hbm, ⟨105, _⟩ => ⟨S6x16384x16384, .f32⟩
  | .hbm, ⟨106, _⟩ => ⟨S_, .f32⟩
  | .hbm, ⟨107, _⟩ => ⟨S6x16384x16384, .f32⟩
  | .hbm, ⟨108, _⟩ => ⟨S6x16384x16384, .f32⟩
  | .hbm, ⟨109, _⟩ => ⟨S6x16384x64, .f32⟩
  | .hbm, ⟨110, _⟩ => ⟨S16384x6x64, .f32⟩
  | .hbm, ⟨111, _⟩ => ⟨S6x16384x64, .f32⟩
  | .hbm, ⟨112, _⟩ => ⟨S16384x6x64, .f32⟩
  | .hbm, ⟨113, _⟩ => ⟨S6x16384x128, .f32⟩
  | .hbm, ⟨114, _⟩ => ⟨S16384x6x128, .f32⟩
  | .hbm, ⟨115, _⟩ => ⟨S6x16384x128, .f32⟩
  | .hbm, ⟨116, _⟩ => ⟨S16384x6x128, .f32⟩
  | .hbm, ⟨117, _⟩ => ⟨S_, .f32⟩
  | .hbm, ⟨118, _⟩ => ⟨S16384x6x64, .f32⟩
  | .hbm, ⟨119, _⟩ => ⟨S16384x6x256, .f32⟩
  | .hbm, ⟨120, _⟩ => ⟨S16384x1536, .f32⟩
  | .hbm, ⟨121, _⟩ => ⟨S16384x1536, .bf16⟩
  | .hbm, ⟨122, _⟩ => ⟨S16384x6x128, .f32⟩
  | .hbm, ⟨123, _⟩ => ⟨S_, .f32⟩
  | .hbm, ⟨124, _⟩ => ⟨S16384x6, .f32⟩
  | .hbm, ⟨125, _⟩ => ⟨S6x16384, .f32⟩
  | .hbm, ⟨126, _⟩ => ⟨S6x16x1x1024, .f32⟩
  | _, _ => ⟨S16384x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_call1_v0 : Ref sig .tc := ⟨.hbm, 39, rfl⟩
abbrev main_v14_1 : Ref sig .tc := ⟨.hbm, 40, rfl⟩
abbrev main_call1_v2 : Ref sig .tc := ⟨.hbm, 41, rfl⟩
abbrev main_v14_0 : Ref sig .tc := ⟨.hbm, 42, rfl⟩
abbrev main_call1_cst : Ref sig .tc := ⟨.hbm, 43, rfl⟩
abbrev main_v14_2 : Ref sig .tc := ⟨.hbm, 44, rfl⟩
abbrev main_cst_1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_cst_7 : Ref sig .tc := ⟨.hbm, 64, rfl⟩
abbrev main_v28 : Ref sig .tc := ⟨.hbm, 65, rfl⟩
abbrev main_cst_8 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_9 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_10 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_11 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_12 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_call2_cst : Ref sig .tc := ⟨.hbm, 103, rfl⟩
abbrev main_call2_v0 : Ref sig .tc := ⟨.hbm, 104, rfl⟩
abbrev main_v61 : Ref sig .tc := ⟨.hbm, 105, rfl⟩
abbrev main_cst_13 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_14 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_15 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩

abbrev nD : Nat := 1
abbrev τ : Topo := Topo.v7x

variable {F : FTy → Type} [FloatOps F]
-- ==== Kernel2.lean ====
abbrev S16384x6x128 : Shape := ⟨3, ![16384, 6, 128]⟩
abbrev S16384x6x64 : Shape := ⟨3, ![16384, 6, 64]⟩
abbrev S16384x64 : Shape := ⟨2, ![16384, 64]⟩
abbrev S16384x1x64 : Shape := ⟨3, ![16384, 1, 64]⟩
abbrev S16384 : Shape := ⟨1, ![16384]⟩
abbrev S_ : Shape := ⟨0, ![]⟩
abbrev S6x16384x16384 : Shape := ⟨3, ![6, 16384, 16384]⟩
abbrev S1x16384 : Shape := ⟨2, ![1, 16384]⟩
abbrev S16384x1 : Shape := ⟨2, ![16384, 1]⟩
abbrev S16384x16384 : Shape := ⟨2, ![16384, 16384]⟩
abbrev S6x16384 : Shape := ⟨2, ![6, 16384]⟩
abbrev S6x16384x1 : Shape := ⟨3, ![6, 16384, 1]⟩
abbrev S6x128x16384 : Shape := ⟨3, ![6, 128, 16384]⟩
abbrev S6x16x1x1024 : Shape := ⟨4, ![6, 16, 1, 1024]⟩
abbrev S16384x6 : Shape := ⟨2, ![16384, 6]⟩
abbrev S16384x6x256 : Shape := ⟨3, ![16384, 6, 256]⟩
abbrev S16384x1536 : Shape := ⟨2, ![16384, 1536]⟩
abbrev S16384x768 : Shape := ⟨2, ![16384, 768]⟩
abbrev S1024x256 : Shape := ⟨2, ![1024, 256]⟩
abbrev S1024x128 : Shape := ⟨2, ![1024, 128]⟩
abbrev S16384x256 : Shape := ⟨2, ![16384, 256]⟩
abbrev S16384x128 : Shape := ⟨2, ![16384, 128]⟩
abbrev S1x16x1x1024 : Shape := ⟨4, ![1, 16, 1, 1024]⟩
abbrev S1024x1024 : Shape := ⟨2, ![1024, 1024]⟩
abbrev S1x1x1x1024 : Shape := ⟨4, ![1, 1, 1, 1024]⟩
abbrev S1x1024 : Shape := ⟨2, ![1, 1024]⟩

abbrev nBuf : Space → Nat
  | .hbm => 136
  | .vmem => 18
  | .smem => 0
  | _ => 0

abbrev hbmTy0_0 (i : Nat) : BufTy := match i % 128 with
  | 0 => ⟨S16384x6x128, .f32⟩
  | 1 => ⟨S16384x6x64, .f32⟩
  | 2 => ⟨S16384x6x128, .f32⟩
  | 3 => ⟨S16384x64, .f32⟩
  | 4 => ⟨S16384x6x128, .f32⟩
  | 5 => ⟨S16384x6x128, .f32⟩
  | 6 => ⟨S16384x1x64, .f32⟩
  | 7 => ⟨S16384x6x64, .f32⟩
  | 8 => ⟨S16384, .i32⟩
  | 9 => ⟨S_, .i32⟩
  | 10 => ⟨S_, .i32⟩
  | 11 => ⟨S16384, .i32⟩
  | 12 => ⟨S16384, .i32⟩
  | 13 => ⟨S16384, .i32⟩
  | 14 => ⟨S_, .i32⟩
  | 15 => ⟨S16384, .i32⟩
  | 16 => ⟨S16384, .i1⟩
  | 17 => ⟨S16384, .i32⟩
  | 18 => ⟨S16384, .i32⟩
  | 19 => ⟨S_, .i32⟩
  | 20 => ⟨S16384, .i32⟩
  | 21 => ⟨S16384, .i1⟩
  | 22 => ⟨S16384, .i1⟩
  | 23 => ⟨S_, .i32⟩
  | 24 => ⟨S16384, .i32⟩
  | 25 => ⟨S16384, .i32⟩
  | 26 => ⟨S16384, .i32⟩
  | 27 => ⟨S6x16384x16384, .f32⟩
  | 28 => ⟨S6x16384x16384, .f32⟩
  | 29 => ⟨S6x16384x16384, .f32⟩
  | 30 => ⟨S_, .f32⟩
  | 31 => ⟨S6x16384x16384, .f32⟩
  | 32 => ⟨S6x16384x16384, .f32⟩
  | 33 => ⟨S1x16384, .i32⟩
  | 34 => ⟨S16384x1, .i32⟩
  | 35 => ⟨S16384x16384, .i32⟩
  | 36 => ⟨S16384x16384, .i32⟩
  | 37 => ⟨S16384x16384, .i1⟩
  | 38 => ⟨S_, .f32⟩
  | 39 => ⟨S_, .f32⟩
  | 40 => ⟨S6x16384x16384, .i1⟩
  | 41 => ⟨S6x16384x16384, .f32⟩
  | 42 => ⟨S6x16384x16384, .f32⟩
  | 43 => ⟨S_, .f32⟩
  | 44 => ⟨S6x16384, .f32⟩
  | 45 => ⟨S_, .f32⟩
  | 46 => ⟨S6x16384, .f32⟩
  | 47 => ⟨S6x16384, .f32⟩
  | 48 => ⟨S6x16384x1, .f32⟩
  | 49 => ⟨S6x16384x16384, .f32⟩
  | 50 => ⟨S6x16384x16384, .f32⟩
  | 51 => ⟨S6x16384x16384, .f32⟩
  | 52 => ⟨S_, .f32⟩
  | 53 => ⟨S6x16384, .f32⟩
  | 54 => ⟨S6x16384x1, .f32⟩
  | 55 => ⟨S6x16384x16384, .f32⟩
  | 56 => ⟨S6x16384x16384, .f32⟩
  | 57 => ⟨S6x128x16384, .f32⟩
  | 58 => ⟨S16384x6x128, .f32⟩
  | 59 => ⟨S16384, .i32⟩
  | 60 => ⟨S_, .i32⟩
  | 61 => ⟨S_, .i32⟩
  | 62 => ⟨S16384, .i32⟩
  | 63 => ⟨S16384, .i32⟩
  | 64 => ⟨S16384, .i32⟩
  | 65 => ⟨S_, .i32⟩
  | 66 => ⟨S16384, .i32⟩
  | 67 => ⟨S16384, .i1⟩
  | 68 => ⟨S16384, .i32⟩
  | 69 => ⟨S16384, .i32⟩
  | 70 => ⟨S_, .i32⟩
  | 71 => ⟨S16384, .i32⟩
  | 72 => ⟨S16384, .i1⟩
  | 73 => ⟨S16384, .i1⟩
  | 74 => ⟨S_, .i32⟩
  | 75 => ⟨S16384, .i32⟩
  | 76 => ⟨S16384, .i32⟩
  | 77 => ⟨S16384, .i32⟩
  | 78 => ⟨S6x16384x16384, .f32⟩
  | 79 => ⟨S6x16384x16384, .f32⟩
  | 80 => ⟨S6x16384x16384, .f32⟩
  | 81 => ⟨S_, .f32⟩
  | 82 => ⟨S6x16384x16384, .f32⟩
  | 83 => ⟨S6x16384x16384, .f32⟩
  | 84 => ⟨S1x16384, .i32⟩
  | 85 => ⟨S16384x1, .i32⟩
  | 86 => ⟨S16384x16384, .i32⟩
  | 87 => ⟨S16384x16384, .i32⟩
  | 88 => ⟨S16384x16384, .i1⟩
  | 89 => ⟨S_, .f32⟩
  | 90 => ⟨S_, .f32⟩
  | 91 => ⟨S6x16384x16384, .i1⟩
  | 92 => ⟨S6x16384x16384, .f32⟩
  | 93 => ⟨S6x16384x16384, .f32⟩
  | 94 => ⟨S_, .f32⟩
  | 95 => ⟨S6x16384, .f32⟩
  | 96 => ⟨S6x16384x1, .f32⟩
  | 97 => ⟨S6x16384x16384, .f32⟩
  | 98 => ⟨S6x16384x16384, .f32⟩
  | 99 => ⟨S6x16384x16384, .f32⟩
  | 100 => ⟨S_, .f32⟩
  | 101 => ⟨S6x16384, .f32⟩
  | 102 => ⟨S6x16384, .f32⟩
  | 103 => ⟨S6x16384, .f32⟩
  | 104 => ⟨S_, .f32⟩
  | 105 => ⟨S_, .f32⟩
  | 106 => ⟨S6x16384, .f32⟩
  | 107 => ⟨S6x16384, .f32⟩
  | 108 => ⟨S6x16x1x1024, .f32⟩
  | 109 => ⟨S16384x6x128, .f32⟩
  | 110 => ⟨S_, .f32⟩
  | 111 => ⟨S16384x6, .f32⟩
  | 112 => ⟨S6x16384, .f32⟩
  | 113 => ⟨S6x16x1x1024, .f32⟩
  | 114 => ⟨S_, .f32⟩
  | 115 => ⟨S16384x6x64, .f32⟩
  | 116 => ⟨S16384x6x256, .f32⟩
  | 117 => ⟨S16384x1536, .f32⟩
  | 118 => ⟨S_, .f32⟩
  | 119 => ⟨S_, .f32⟩
  | 120 => ⟨S_, .f32⟩
  | 121 => ⟨S_, .f32⟩
  | 122 => ⟨S16384x1536, .f32⟩
  | 123 => ⟨S16384x1536, .f32⟩
  | 124 => ⟨S16384x1536, .bf16⟩
  | 125 => ⟨S_, .f32⟩
  | 126 => ⟨S16384x6x64, .f32⟩
  | 127 => ⟨S16384x6x256, .f32⟩
  | _ => ⟨S16384x6x128, .f32⟩

abbrev hbmTy0_1 (i : Nat) : BufTy := match i % 128 with
  | 0 => ⟨S16384x1536, .f32⟩
  | 1 => ⟨S16384x1536, .bf16⟩
  | 2 => ⟨S16384x768, .f32⟩
  | 3 => ⟨S16384x768, .bf16⟩
  | 4 => ⟨S16384x768, .f32⟩
  | 5 => ⟨S16384x768, .bf16⟩
  | 6 => ⟨S16384x1536, .bf16⟩
  | 7 => ⟨S16384x768, .bf16⟩
  | _ => ⟨S16384x6x128, .f32⟩

abbrev hbmTy (i : Nat) : BufTy := match i / 128 with
  | 0 => hbmTy0_0 i
  | 1 => hbmTy0_1 i
  | _ => ⟨S16384x6x128, .f32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S16384x256, .bf16⟩
  | .local _ .vmem, ⟨5, _⟩ => ⟨S16384x256, .bf16⟩
  | .local _ .vmem, ⟨6, _⟩ => ⟨S16384x128, .bf16⟩
  | .local _ .vmem, ⟨7, _⟩ => ⟨S16384x128, .bf16⟩
  | .local _ .vmem, ⟨8, _⟩ => ⟨S1x16x1x1024, .f32⟩
  | .local _ .vmem, ⟨9, _⟩ => ⟨S1x16x1x1024, .f32⟩
  | .local _ .vmem, ⟨10, _⟩ => ⟨S1x16x1x1024, .f32⟩
  | .local _ .vmem, ⟨11, _⟩ => ⟨S1x16x1x1024, .f32⟩
  | .local _ .vmem, ⟨12, _⟩ => ⟨S1024x256, .bf16⟩
  | .local _ .vmem, ⟨13, _⟩ => ⟨S1024x256, .bf16⟩
  | .local _ .vmem, ⟨14, _⟩ => ⟨S1024x128, .bf16⟩
  | .local _ .vmem, ⟨15, _⟩ => ⟨S1024x128, .bf16⟩
  | .local _ .vmem, ⟨16, _⟩ => ⟨S1024x256, .f32⟩
  | .local _ .vmem, ⟨17, _⟩ => ⟨S1024x128, .f32⟩
  | _, _ => ⟨S16384x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_4 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_cst_5 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_cst_6 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v40 : Ref sig .tc := ⟨.hbm, 93, rfl⟩
abbrev main_cst_7 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_8 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_cst_9 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_cst_10 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_cst_11 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_12 : Ref sig .tc := ⟨.hbm, 118, rfl⟩
abbrev main_v60 : Ref sig .tc := ⟨.hbm, 119, rfl⟩
abbrev main_cst_13 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_cst_14 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73_0 : Ref sig .tc := ⟨.hbm, 134, rfl⟩
abbrev main_v73_1 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 16], ![false, false]⟩

def k0_mult1 (i : grid0.Coords) : BitVec 32 :=
  let arg1 : BitVec 32 := BitVec.ofNat 32 (i 1).val
  let c1024_i32 : BitVec 32 := 1024#32
  let v12 : BitVec 32 := Scalar.muli arg1 c1024_i32
  v12
def k0_off1 (i : grid0.Coords) : Fin 2 → Nat :=
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_8 : Index := 0#32
  ![v14.toNat, 0]
def k0_mult2 (i : grid0.Coords) : BitVec 32 :=
  let arg1 : BitVec 32 := BitVec.ofNat 32 (i 1).val
  let c1024_i32_9 : BitVec 32 := 1024#32
  let v17 : BitVec 32 := Scalar.muli arg1 c1024_i32_9
  v17
def k0_off2 (i : grid0.Coords) : Fin 2 → Nat :=
  let arg1 : BitVec 32 := BitVec.ofNat 32 (i 1).val
  let c1024_i32_9 : BitVec 32 := 1024#32
  let v17 : BitVec 32 := Scalar.muli arg1 c1024_i32_9
  let v18 : BitVec 32 := v17
  let v19 : Index := Scalar.indexCast v18
  let c0_10 : Index := 0#32
  ![v19.toNat, 0]
def k0_off3 (i : grid0.Coords) : Fin 4 → Nat :=
  let c0_14 : Index := 0#32
  let arg1 : BitVec 32 := BitVec.ofNat 32 (i 1).val
  let v32 : Index := Scalar.indexCast arg1
  let c0_15 : Index := 0#32
  let c0_16 : Index := 0#32
  ![0, v32.toNat, 0, 0]
@[reducible] def k0_t1_loop (i : grid0.Coords) : Scf.Loop 32 :=
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let c1_i32_32 : BitVec 32 := 1#32
  ⟨v59, v64, c1_i32_32⟩
def k0_mult3 (i : grid0.Coords) (k0_t1 : Fin (k0_t1_loop i).trips) : BitVec 32 :=
  let arg1 : BitVec 32 := BitVec.ofNat 32 (i 1).val
  let c1_i32 : BitVec 32 := 1#32
  let v59 : BitVec 32 := Scalar.addi arg1 c1_i32
  let c1_i32_32 : BitVec 32 := 1#32
  let arg12 : BitVec 32 := Scf.iv v59 c1_i32_32 k0_t1
  let c1024_i32_43 : BitVec 32 := 1024#32
  let v73 : BitVec 32 := Scalar.muli arg12 c1024_i32_43
  v73
def k0_off4 (i : grid0.Coords) (k0_t1 : Fin (k0_t1_loop i).trips) : Fin 2 → Nat :=
  let arg1 : BitVec 32 := BitVec.ofNat 32 (i 1).val
  let c1_i32 : BitVec 32 := 1#32
  let v59 : BitVec 32 := Scalar.addi arg1 c1_i32
  let c1_i32_32 : BitVec 32 := 1#32
  let arg12 : BitVec 32 := Scf.iv v59 c1_i32_32 k0_t1
  let c1024_i32_43 : BitVec 32 := 1024#32
  let v73 : BitVec 32 := Scalar.muli arg12 c1024_i32_43
  let v74 : BitVec 32 := v73
  let v75 : Index := Scalar.indexCast v74
  let c0_44 : Index := 0#32
  ![v75.toNat, 0]
def k0_mult4 (i : grid0.Coords) (k0_t1 : Fin (k0_t1_loop i).trips) : BitVec 32 :=
  let arg1 : BitVec 32 := BitVec.ofNat 32 (i 1).val
  let c1_i32 : BitVec 32 := 1#32
  let v59 : BitVec 32 := Scalar.addi arg1 c1_i32
  let c1_i32_32 : BitVec 32 := 1#32
  let arg12 : BitVec 32 := Scf.iv v59 c1_i32_32 k0_t1
  let c1024_i32_45 : BitVec 32 := 1024#32
  let v78 : BitVec 32 := Scalar.muli arg12 c1024_i32_45
  v78
def k0_off5 (i : grid0.Coords) (k0_t1 : Fin (k0_t1_loop i).trips) : Fin 2 → Nat :=
  let arg1 : BitVec 32 := BitVec.ofNat 32 (i 1).val
  let c1_i32 : BitVec 32 := 1#32
  let v59 : BitVec 32 := Scalar.addi arg1 c1_i32
  let c1_i32_32 : BitVec 32 := 1#32
  let arg12 : BitVec 32 := Scf.iv v59 c1_i32_32 k0_t1
  let c1024_i32_45 : BitVec 32 := 1024#32
  let v78 : BitVec 32 := Scalar.muli arg12 c1024_i32_45
  let v79 : BitVec 32 := v78
  let v80 : Index := Scalar.indexCast v79
  let c0_46 : Index := 0#32
  ![v80.toNat, 0]
def k0_off6 (i : grid0.Coords) (k0_t1 : Fin (k0_t1_loop i).trips) : Fin 4 → Nat :=
  let c0_48 : Index := 0#32
  let arg1 : BitVec 32 := BitVec.ofNat 32 (i 1).val
  let c1_i32 : BitVec 32 := 1#32
  let v59 : BitVec 32 := Scalar.addi arg1 c1_i32
  let c1_i32_32 : BitVec 32 := 1#32
  let arg12 : BitVec 32 := Scf.iv v59 c1_i32_32 k0_t1
  let v84 : Index := Scalar.indexCast arg12
  let c0_49 : Index := 0#32
  let c0_50 : Index := 0#32
  ![0, v84.toNat, 0, 0]
@[reducible] def k0_t2_loop (i : grid0.Coords) : Scf.Loop 32 :=
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let v61 : BitVec 32 := Scalar.addi v59 v60
  let c1_i32_33 : BitVec 32 := 1#32
  ⟨v64, v61, c1_i32_33⟩
def k0_mult5 (i : grid0.Coords) (k0_t2 : Fin (k0_t2_loop i).trips) : BitVec 32 :=
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let c1_i32_33 : BitVec 32 := 1#32
  let arg12 : BitVec 32 := Scf.iv v64 c1_i32_33 k0_t2
  let c1024_i32_43 : BitVec 32 := 1024#32
  let v73 : BitVec 32 := Scalar.muli arg12 c1024_i32_43
  v73
def k0_off7 (i : grid0.Coords) (k0_t2 : Fin (k0_t2_loop i).trips) : Fin 2 → Nat :=
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let c1_i32_33 : BitVec 32 := 1#32
  let arg12 : BitVec 32 := Scf.iv v64 c1_i32_33 k0_t2
  let c1024_i32_43 : BitVec 32 := 1024#32
  let v73 : BitVec 32 := Scalar.muli arg12 c1024_i32_43
  let v74 : BitVec 32 := v73
  let v75 : Index := Scalar.indexCast v74
  let c0_44 : Index := 0#32
  ![v75.toNat, 0]
def k0_mult6 (i : grid0.Coords) (k0_t2 : Fin (k0_t2_loop i).trips) : BitVec 32 :=
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let c1_i32_33 : BitVec 32 := 1#32
  let arg12 : BitVec 32 := Scf.iv v64 c1_i32_33 k0_t2
  let c1024_i32_45 : BitVec 32 := 1024#32
  let v78 : BitVec 32 := Scalar.muli arg12 c1024_i32_45
  v78
def k0_off8 (i : grid0.Coords) (k0_t2 : Fin (k0_t2_loop i).trips) : Fin 2 → Nat :=
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let c1_i32_33 : BitVec 32 := 1#32
  let arg12 : BitVec 32 := Scf.iv v64 c1_i32_33 k0_t2
  let c1024_i32_45 : BitVec 32 := 1024#32
  let v78 : BitVec 32 := Scalar.muli arg12 c1024_i32_45
  let v79 : BitVec 32 := v78
  let v80 : Index := Scalar.indexCast v79
  let c0_46 : Index := 0#32
  ![v80.toNat, 0]
def k0_off9 (i : grid0.Coords) (k0_t2 : Fin (k0_t2_loop i).trips) : Fin 4 → Nat :=
  let c0_48 : Index := 0#32
  let arg1 : BitVec 32 := BitVec.ofNat 32 (i 1).val
  let c1_i32 : BitVec 32 := 1#32
  let v59 : BitVec 32 := Scalar.addi arg1 c1_i32
  let c16_i32 : BitVec 32 := 16#32
  let v60 : BitVec 32 := Scalar.subi c16_i32 v59
  let c1_i32_31 : BitVec 32 := 1#32
  let v62 : BitVec 32 := Scalar.divsi v60 c1_i32_31
  let v63 : BitVec 32 := Scalar.muli v62 c1_i32_31
  let v64 : BitVec 32 := Scalar.addi v59 v63
  let c1_i32_33 : BitVec 32 := 1#32
  let arg12 : BitVec 32 := Scf.iv v64 c1_i32_33 k0_t2
  let v84 : Index := Scalar.indexCast arg12
  let c0_49 : Index := 0#32
  let c0_50 : Index := 0#32
  ![0, v84.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "ln2" => some ((Real.log 2 : ℝ) : EReal)
  | "mask" => some ⊥
  | _ => none
-- ==== Reference2Ideal.lean ====
abbrev S16384x6x128 : Shape := ⟨3, ![16384, 6, 128]⟩
abbrev S16384x6x64 : Shape := ⟨3, ![16384, 6, 64]⟩
abbrev S16384x64 : Shape := ⟨2, ![16384, 64]⟩
abbrev S16384x1x64 : Shape := ⟨3, ![16384, 1, 64]⟩
abbrev S16384 : Shape := ⟨1, ![16384]⟩
abbrev S_ : Shape := ⟨0, ![]⟩
abbrev S6x16384x16384 : Shape := ⟨3, ![6, 16384, 16384]⟩
abbrev S1x16384 : Shape := ⟨2, ![1, 16384]⟩
abbrev S16384x1 : Shape := ⟨2, ![16384, 1]⟩
abbrev S16384x16384 : Shape := ⟨2, ![16384, 16384]⟩
abbrev S6x16384 : Shape := ⟨2, ![6, 16384]⟩
abbrev S6x16384x1 : Shape := ⟨3, ![6, 16384, 1]⟩
abbrev S6x128x16384 : Shape := ⟨3, ![6, 128, 16384]⟩
abbrev S6x16384x64 : Shape := ⟨3, ![6, 16384, 64]⟩
abbrev S6x16384x128 : Shape := ⟨3, ![6, 16384, 128]⟩
abbrev S16384x6x256 : Shape := ⟨3, ![16384, 6, 256]⟩
abbrev S16384x1536 : Shape := ⟨2, ![16384, 1536]⟩
abbrev S16384x768 : Shape := ⟨2, ![16384, 768]⟩

abbrev nBuf : Space → Nat
  | .hbm => 124
  | .vmem => 0
  | .smem => 0
  | _ => 0

abbrev bufTy : (tb : Table) → Fin (tcTables nBuf tb) → BufTy
  | .hbm, ⟨0, _⟩ => ⟨S16384x6x128, .f32⟩
  | .hbm, ⟨1, _⟩ => ⟨S16384x6x64, .f32⟩
  | .hbm, ⟨2, _⟩ => ⟨S16384x6x128, .f32⟩
  | .hbm, ⟨3, _⟩ => ⟨S16384x64, .f32⟩
  | .hbm, ⟨4, _⟩ => ⟨S16384x6x128, .f32⟩
  | .hbm, ⟨5, _⟩ => ⟨S16384x6x128, .f32⟩
  | .hbm, ⟨6, _⟩ => ⟨S16384x1x64, .f32⟩
  | .hbm, ⟨7, _⟩ => ⟨S16384x6x64, .f32⟩
  | .hbm, ⟨8, _⟩ => ⟨S16384, .i32⟩
  | .hbm, ⟨9, _⟩ => ⟨S_, .i32⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S6x16384x16384, .f32⟩
  | .hbm, ⟨28, _⟩ => ⟨S6x16384x16384, .f32⟩
  | .hbm, ⟨29, _⟩ => ⟨S6x16384x16384, .f32⟩
  | .hbm, ⟨30, _⟩ => ⟨S_, .f32⟩
  | .hbm, ⟨31, _⟩ => ⟨S6x16384x16384, .f32⟩
  | .hbm, ⟨32, _⟩ => ⟨S6x16384x16384, .f32⟩
  | .hbm, ⟨33, _⟩ => ⟨S1x16384, .i32⟩
  | .hbm, ⟨34, _⟩ => ⟨S16384x1, .i32⟩
  | .hbm, ⟨35, _⟩ => ⟨S16384x16384, .i32⟩
  | .hbm, ⟨36, _⟩ => ⟨S16384x16384, .i32⟩
  | .hbm, ⟨37, _⟩ => ⟨S16384x16384, .i1⟩
  | .hbm, ⟨38, _⟩ => ⟨S_, .f32⟩
  | .hbm, ⟨39, _⟩ => ⟨S_, .f32⟩
  | .hbm, ⟨40, _⟩ => ⟨S6x16384x16384, .i1⟩
  | .hbm, ⟨41, _⟩ => ⟨S6x16384x16384, .f32⟩
  | .hbm, ⟨42, _⟩ => ⟨S6x16384x16384, .f32⟩
  | .hbm, ⟨43, _⟩ => ⟨S_, .f32⟩
  | .hbm, ⟨44, _⟩ => ⟨S6x16384x16384, .f32⟩
  | .hbm, ⟨45, _⟩ => ⟨S_, .f32⟩
  | .hbm, ⟨46, _⟩ => ⟨S6x16384, .f32⟩
  | .hbm, ⟨47, _⟩ => ⟨S6x16384x1, .f32⟩
  | .hbm, ⟨48, _⟩ => ⟨S6x16384x16384, .f32⟩
  | .hbm, ⟨49, _⟩ => ⟨S6x16384x16384, .i1⟩
  | .hbm, ⟨50, _⟩ => ⟨S6x16384x16384, .f32⟩
  | .hbm, ⟨51, _⟩ => ⟨S_, .f32⟩
  | .hbm, ⟨52, _⟩ => ⟨S6x16384, .f32⟩
  | .hbm, ⟨53, _⟩ => ⟨S_, .f32⟩
  | .hbm, ⟨54, _⟩ => ⟨S6x16384, .f32⟩
  | .hbm, ⟨55, _⟩ => ⟨S6x16384, .f32⟩
  | .hbm, ⟨56, _⟩ => ⟨S_, .f32⟩
  | .hbm, ⟨57, _⟩ => ⟨S6x16384, .f32⟩
  | .hbm, ⟨58, _⟩ => ⟨S6x16384, .i1⟩
  | .hbm, ⟨59, _⟩ => ⟨S_, .f32⟩
  | .hbm, ⟨60, _⟩ => ⟨S6x16384, .f32⟩
  | .hbm, ⟨61, _⟩ => ⟨S6x16384, .i1⟩
  | .hbm, ⟨62, _⟩ => ⟨S_, .f32⟩
  | .hbm, ⟨63, _⟩ => ⟨S6x16384, .f32⟩
  | .hbm, ⟨64, _⟩ => ⟨S_, .f32⟩
  | .hbm, ⟨65, _⟩ => ⟨S6x16384, .f32⟩
  | .hbm, ⟨66, _⟩ => ⟨S_, .f32⟩
  | .hbm, ⟨67, _⟩ => ⟨S6x16384, .f32⟩
  | .hbm, ⟨68, _⟩ => ⟨S6x16384, .f32⟩
  | .hbm, ⟨69, _⟩ => ⟨S6x16384, .f32⟩
  | .hbm, ⟨70, _⟩ => ⟨S6x16384x1, .f32⟩
  | .hbm, ⟨71, _⟩ => ⟨S6x16384x16384, .f32⟩
  | .hbm, ⟨72, _⟩ => ⟨S6x16384x16384, .f32⟩
  | .hbm, ⟨73, _⟩ => ⟨S6x16384x16384, .f32⟩
  | .hbm, ⟨74, _⟩ => ⟨S_, .f32⟩
  | .hbm, ⟨75, _⟩ => ⟨S6x16384, .f32⟩
  | .hbm, ⟨76, _⟩ => ⟨S6x16384x1, .f32⟩
  | .hbm, ⟨77, _⟩ => ⟨S6x16384x16384, .f32⟩
  | .hbm, ⟨78, _⟩ => ⟨S6x16384x16384, .f32⟩
  | .hbm, ⟨79, _⟩ => ⟨S6x16384x1, .f32⟩
  | .hbm, ⟨80, _⟩ => ⟨S_, .f32⟩
  | .hbm, ⟨81, _⟩ => ⟨S6x16384x1, .f32⟩
  | .hbm, ⟨82, _⟩ => ⟨S6x16384x1, .f32⟩
  | .hbm, ⟨83, _⟩ => ⟨S6x128x16384, .f32⟩
  | .hbm, ⟨84, _⟩ => ⟨S16384x6x128, .f32⟩
  | .hbm, ⟨85, _⟩ => ⟨S6x128x16384, .f32⟩
  | .hbm, ⟨86, _⟩ => ⟨S6x16384x16384, .f32⟩
  | .hbm, ⟨87, _⟩ => ⟨S6x128x16384, .f32⟩
  | .hbm, ⟨88, _⟩ => ⟨S16384x6x128, .f32⟩
  | .hbm, ⟨89, _⟩ => ⟨S6x16384x16384, .f32⟩
  | .hbm, ⟨90, _⟩ => ⟨S6x16384x16384, .f32⟩
  | .hbm, ⟨91, _⟩ => ⟨S6x16384x16384, .f32⟩
  | .hbm, ⟨92, _⟩ => ⟨S_, .f32⟩
  | .hbm, ⟨93, _⟩ => ⟨S6x16384, .f32⟩
  | .hbm, ⟨94, _⟩ => ⟨S6x16384x1, .f32⟩
  | .hbm, ⟨95, _⟩ => ⟨S6x16384x1, .f32⟩
  | .hbm, ⟨96, _⟩ => ⟨S6x16384x16384, .f32⟩
  | .hbm, ⟨97, _⟩ => ⟨S6x16384x16384, .f32⟩
  | .hbm, ⟨98, _⟩ => ⟨S_, .f32⟩
  | .hbm, ⟨99, _⟩ => ⟨S6x16384, .f32⟩
  | .hbm, ⟨100, _⟩ => ⟨S6x16384x16384, .f32⟩
  | .hbm, ⟨101, _⟩ => ⟨S6x16384x16384, .f32⟩
  | .hbm, ⟨102, _⟩ => ⟨S6x16384x16384, .f32⟩
  | .hbm, ⟨103, _⟩ => ⟨S_, .f32⟩
  | .hbm, ⟨104, _⟩ => ⟨S6x16384x16384, .f32⟩
  | .hbm, ⟨105, _⟩ => ⟨S6x16384x16384, .f32⟩
  | .hbm, ⟨106, _⟩ => ⟨S_, .f32⟩
  | .hbm, ⟨107, _⟩ => ⟨S6x16384x16384, .f32⟩
  | .hbm, ⟨108, _⟩ => ⟨S6x16384x16384, .f32⟩
  | .hbm, ⟨109, _⟩ => ⟨S6x16384x64, .f32⟩
  | .hbm, ⟨110, _⟩ => ⟨S16384x6x64, .f32⟩
  | .hbm, ⟨111, _⟩ => ⟨S6x16384x64, .f32⟩
  | .hbm, ⟨112, _⟩ => ⟨S16384x6x64, .f32⟩
  | .hbm, ⟨113, _⟩ => ⟨S6x16384x128, .f32⟩
  | .hbm, ⟨114, _⟩ => ⟨S16384x6x128, .f32⟩
  | .hbm, ⟨115, _⟩ => ⟨S6x16384x128, .f32⟩
  | .hbm, ⟨116, _⟩ => ⟨S16384x6x128, .f32⟩
  | .hbm, ⟨117, _⟩ => ⟨S_, .f32⟩
  | .hbm, ⟨118, _⟩ => ⟨S16384x6x64, .f32⟩
  | .hbm, ⟨119, _⟩ => ⟨S16384x6x256, .f32⟩
  | .hbm, ⟨120, _⟩ => ⟨S16384x1536, .f32⟩
  | .hbm, ⟨121, _⟩ => ⟨S16384x1536, .bf16⟩
  | .hbm, ⟨122, _⟩ => ⟨S16384x768, .f32⟩
  | .hbm, ⟨123, _⟩ => ⟨S16384x768, .bf16⟩
  | _, _ => ⟨S16384x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_call1_v0 : Ref sig .tc := ⟨.hbm, 39, rfl⟩
abbrev main_v14_1 : Ref sig .tc := ⟨.hbm, 40, rfl⟩
abbrev main_call1_v2 : Ref sig .tc := ⟨.hbm, 41, rfl⟩
abbrev main_v14_0 : Ref sig .tc := ⟨.hbm, 42, rfl⟩
abbrev main_call1_cst : Ref sig .tc := ⟨.hbm, 43, rfl⟩
abbrev main_v14_2 : Ref sig .tc := ⟨.hbm, 44, rfl⟩
abbrev main_cst_1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_cst_7 : Ref sig .tc := ⟨.hbm, 64, rfl⟩
abbrev main_v28 : Ref sig .tc := ⟨.hbm, 65, rfl⟩
abbrev main_cst_8 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_9 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_10 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_11 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_12 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_call2_cst : Ref sig .tc := ⟨.hbm, 103, rfl⟩
abbrev main_call2_v0 : Ref sig .tc := ⟨.hbm, 104, rfl⟩
abbrev main_v61 : Ref sig .tc := ⟨.hbm, 105, rfl⟩
abbrev main_cst_13 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_14 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩

abbrev nD : Nat := 1
abbrev τ : Topo := Topo.v7x

variable {F : FTy → Type} [FloatOps F]
-- ==== Kernel3.lean ====
abbrev S16384x6x128 : Shape := ⟨3, ![16384, 6, 128]⟩
abbrev S16384x6x64 : Shape := ⟨3, ![16384, 6, 64]⟩
abbrev S16384x64 : Shape := ⟨2, ![16384, 64]⟩
abbrev S16384x1x64 : Shape := ⟨3, ![16384, 1, 64]⟩
abbrev S_ : Shape := ⟨0, ![]⟩
abbrev S16384x6x256 : Shape := ⟨3, ![16384, 6, 256]⟩
abbrev S16384x1536 : Shape := ⟨2, ![16384, 1536]⟩
abbrev S16384x768 : Shape := ⟨2, ![16384, 768]⟩
abbrev S6x16384x1 : Shape := ⟨3, ![6, 16384, 1]⟩
abbrev S6x16x1x1024 : Shape := ⟨4, ![6, 16, 1, 1024]⟩
abbrev S1024x256 : Shape := ⟨2, ![1024, 256]⟩
abbrev S16384x256 : Shape := ⟨2, ![16384, 256]⟩
abbrev S16384x128 : Shape := ⟨2, ![16384, 128]⟩
abbrev S1024x128 : Shape := ⟨2, ![1024, 128]⟩
abbrev S1x1024x1 : Shape := ⟨3, ![1, 1024, 1]⟩
abbrev S1x1x1x1024 : Shape := ⟨4, ![1, 1, 1, 1024]⟩
abbrev S1024x1 : Shape := ⟨2, ![1024, 1]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 28
  | .vmem => 15
  | .smem => 0
  | _ => 0

abbrev bufTy : (tb : Table) → Fin (tcTables nBuf tb) → BufTy
  | .hbm, ⟨0, _⟩ => ⟨S16384x6x128, .f32⟩
  | .hbm, ⟨1, _⟩ => ⟨S16384x6x64, .f32⟩
  | .hbm, ⟨2, _⟩ => ⟨S16384x6x128, .f32⟩
  | .hbm, ⟨3, _⟩ => ⟨S16384x64, .f32⟩
  | .hbm, ⟨4, _⟩ => ⟨S16384x6x128, .f32⟩
  | .hbm, ⟨5, _⟩ => ⟨S16384x1x64, .f32⟩
  | .hbm, ⟨6, _⟩ => ⟨S16384x6x64, .f32⟩
  | .hbm, ⟨7, _⟩ => ⟨S_, .f32⟩
  | .hbm, ⟨8, _⟩ => ⟨S16384x6x64, .f32⟩
  | .hbm, ⟨9, _⟩ => ⟨S16384x6x256, .f32⟩
  | .hbm, ⟨10, _⟩ => ⟨S16384x1536, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384x1536, .f32⟩
  | .hbm, ⟨16, _⟩ => ⟨S16384x1536, .f32⟩
  | .hbm, ⟨17, _⟩ => ⟨S16384x1536, .bf16⟩
  | .hbm, ⟨18, _⟩ => ⟨S_, .f32⟩
  | .hbm, ⟨19, _⟩ => ⟨S16384x6x64, .f32⟩
  | .hbm, ⟨20, _⟩ => ⟨S16384x6x256, .f32⟩
  | .hbm, ⟨21, _⟩ => ⟨S16384x1536, .f32⟩
  | .hbm, ⟨22, _⟩ => ⟨S16384x1536, .bf16⟩
  | .hbm, ⟨23, _⟩ => ⟨S16384x768, .f32⟩
  | .hbm, ⟨24, _⟩ => ⟨S16384x768, .bf16⟩
  | .hbm, ⟨25, _⟩ => ⟨S16384x768, .bf16⟩
  | .hbm, ⟨26, _⟩ => ⟨S6x16384x1, .f32⟩
  | .hbm, ⟨27, _⟩ => ⟨S6x16x1x1024, .f32⟩
  | .local _ .vmem, ⟨0, _⟩ => ⟨S1024x256, .bf16⟩
  | .local _ .vmem, ⟨1, _⟩ => ⟨S1024x256, .bf16⟩
  | .local _ .vmem, ⟨2, _⟩ => ⟨S16384x256, .bf16⟩
  | .local _ .vmem, ⟨3, _⟩ => ⟨S16384x256, .bf16⟩
  | .local _ .vmem, ⟨4, _⟩ => ⟨S16384x128, .bf16⟩
  | .local _ .vmem, ⟨5, _⟩ => ⟨S16384x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | _, _ => ⟨S16384x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 16], ![false, false]⟩

@[reducible] def k0_t1_loop (i : grid0.Coords) : Scf.Loop 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_10 : BitVec 32 := 1#32
  ⟨c0_i32_9, v18, c1_i32_10⟩
def k0_mult1 (i : grid0.Coords) (k0_t1 : Fin (k0_t1_loop i).trips) : BitVec 32 :=
  let c0_i32_9 : BitVec 32 := 0#32
  let c1_i32_10 : BitVec 32 := 1#32
  let arg11 : BitVec 32 := Scf.iv c0_i32_9 c1_i32_10 k0_t1
  let c1024_i32_53 : BitVec 32 := 1024#32
  let v95 : BitVec 32 := Scalar.muli arg11 c1024_i32_53
  v95
def k0_off1 (i : grid0.Coords) (k0_t1 : Fin (k0_t1_loop i).trips) : Fin 2 → Nat :=
  let c0_i32_9 : BitVec 32 := 0#32
  let c1_i32_10 : BitVec 32 := 1#32
  let arg11 : BitVec 32 := Scf.iv c0_i32_9 c1_i32_10 k0_t1
  let c1024_i32_53 : BitVec 32 := 1024#32
  let v95 : BitVec 32 := Scalar.muli arg11 c1024_i32_53
  let v96 : BitVec 32 := v95
  let v97 : Index := Scalar.indexCast v96
  let c0_54 : Index := 0#32
  ![v97.toNat, 0]
def k0_mult2 (i : grid0.Coords) (k0_t1 : Fin (k0_t1_loop i).trips) : BitVec 32 :=
  let c0_i32_9 : BitVec 32 := 0#32
  let c1_i32_10 : BitVec 32 := 1#32
  let arg11 : BitVec 32 := Scf.iv c0_i32_9 c1_i32_10 k0_t1
  let c1024_i32_66 : BitVec 32 := 1024#32
  let v121 : BitVec 32 := Scalar.muli arg11 c1024_i32_66
  v121
def k0_off2 (i : grid0.Coords) (k0_t1 : Fin (k0_t1_loop i).trips) : Fin 2 → Nat :=
  let c0_i32_9 : BitVec 32 := 0#32
  let c1_i32_10 : BitVec 32 := 1#32
  let arg11 : BitVec 32 := Scf.iv c0_i32_9 c1_i32_10 k0_t1
  let c1024_i32_66 : BitVec 32 := 1024#32
  let v121 : BitVec 32 := Scalar.muli arg11 c1024_i32_66
  let v122 : BitVec 32 := v121
  let v123 : Index := Scalar.indexCast v122
  let c0_67 : Index := 0#32
  ![v123.toNat, 0]
@[reducible] def k0_t2_loop (i : grid0.Coords) : Scf.Loop 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let v15 : BitVec 32 := Scalar.addi c0_i32_9 v14
  let c1_i32_11 : BitVec 32 := 1#32
  ⟨v18, v15, c1_i32_11⟩
def k0_mult3 (i : grid0.Coords) (k0_t2 : Fin (k0_t2_loop i).trips) : BitVec 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg11 : BitVec 32 := Scf.iv v18 c1_i32_11 k0_t2
  let c1024_i32_53 : BitVec 32 := 1024#32
  let v95 : BitVec 32 := Scalar.muli arg11 c1024_i32_53
  v95
def k0_off3 (i : grid0.Coords) (k0_t2 : Fin (k0_t2_loop i).trips) : Fin 2 → Nat :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg11 : BitVec 32 := Scf.iv v18 c1_i32_11 k0_t2
  let c1024_i32_53 : BitVec 32 := 1024#32
  let v95 : BitVec 32 := Scalar.muli arg11 c1024_i32_53
  let v96 : BitVec 32 := v95
  let v97 : Index := Scalar.indexCast v96
  let c0_54 : Index := 0#32
  ![v97.toNat, 0]
def k0_mult4 (i : grid0.Coords) (k0_t2 : Fin (k0_t2_loop i).trips) : BitVec 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg11 : BitVec 32 := Scf.iv v18 c1_i32_11 k0_t2
  let c1024_i32_66 : BitVec 32 := 1024#32
  let v121 : BitVec 32 := Scalar.muli arg11 c1024_i32_66
  v121
def k0_off4 (i : grid0.Coords) (k0_t2 : Fin (k0_t2_loop i).trips) : Fin 2 → Nat :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg11 : BitVec 32 := Scf.iv v18 c1_i32_11 k0_t2
  let c1024_i32_66 : BitVec 32 := 1024#32
  let v121 : BitVec 32 := Scalar.muli arg11 c1024_i32_66
  let v122 : BitVec 32 := v121
  let v123 : Index := Scalar.indexCast v122
  let c0_67 : Index := 0#32
  ![v123.toNat, 0]
def k0_mult5 (i : grid0.Coords) : BitVec 32 :=
  let arg1 : BitVec 32 := BitVec.ofNat 32 (i 1).val
  let c1024_i32 : BitVec 32 := 1024#32
  let v19 : BitVec 32 := Scalar.muli arg1 c1024_i32
  v19
def k0_off5 (i : grid0.Coords) : Fin 2 → Nat :=
  let arg1 : BitVec 32 := BitVec.ofNat 32 (i 1).val
  let c1024_i32 : BitVec 32 := 1024#32
  let v19 : BitVec 32 := Scalar.muli arg1 c1024_i32
  let v20 : BitVec 32 := v19
  let v21 : Index := Scalar.indexCast v20
  let c0_12 : Index := 0#32
  ![v21.toNat, 0]
def k0_mult6 (i : grid0.Coords) : BitVec 32 :=
  let arg1 : BitVec 32 := BitVec.ofNat 32 (i 1).val
  let c1024_i32_26 : BitVec 32 := 1024#32
  let v54 : BitVec 32 := Scalar.muli arg1 c1024_i32_26
  v54
def k0_off6 (i : grid0.Coords) : Fin 2 → Nat :=
  let arg1 : BitVec 32 := BitVec.ofNat 32 (i 1).val
  let c1024_i32_26 : BitVec 32 := 1024#32
  let v54 : BitVec 32 := Scalar.muli arg1 c1024_i32_26
  let v55 : BitVec 32 := v54
  let v56 : Index := Scalar.indexCast v55
  let c0_27 : Index := 0#32
  ![v56.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel3Ideal.lean ====
variable {F : FTy → Type} [FloatOps F] [Named F]
def κ : String → Option EReal := fun
  | "ln2" => some ((Real.log 2 : ℝ) : EReal)
  | "mask" => some ⊥
  | _ => none
-- ==== Reference3Ideal.lean ====
abbrev S16384x6x128 : Shape := ⟨3, ![16384, 6, 128]⟩
abbrev S16384x6x64 : Shape := ⟨3, ![16384, 6, 64]⟩
abbrev S16384x64 : Shape := ⟨2, ![16384, 64]⟩
abbrev S16384x1x64 : Shape := ⟨3, ![16384, 1, 64]⟩
abbrev S16384 : Shape := ⟨1, ![16384]⟩
abbrev S_ : Shape := ⟨0, ![]⟩
abbrev S6x16384x16384 : Shape := ⟨3, ![6, 16384, 16384]⟩
abbrev S1x16384 : Shape := ⟨2, ![1, 16384]⟩
abbrev S16384x1 : Shape := ⟨2, ![16384, 1]⟩
abbrev S16384x16384 : Shape := ⟨2, ![16384, 16384]⟩
abbrev S6x16384 : Shape := ⟨2, ![6, 16384]⟩
abbrev S6x16384x1 : Shape := ⟨3, ![6, 16384, 1]⟩
abbrev S6x128x16384 : Shape := ⟨3, ![6, 128, 16384]⟩
abbrev S16384x768 : Shape := ⟨2, ![16384, 768]⟩
abbrev S6x16x1x1024 : Shape := ⟨4, ![6, 16, 1, 1024]⟩

abbrev nBuf : Space → Nat
  | .hbm => 111
  | .vmem => 0
  | .smem => 0
  | _ => 0

abbrev bufTy : (tb : Table) → Fin (tcTables nBuf tb) → BufTy
  | .hbm, ⟨0, _⟩ => ⟨S16384x6x128, .f32⟩
  | .hbm, ⟨1, _⟩ => ⟨S16384x6x64, .f32⟩
  | .hbm, ⟨2, _⟩ => ⟨S16384x6x128, .f32⟩
  | .hbm, ⟨3, _⟩ => ⟨S16384x64, .f32⟩
  | .hbm, ⟨4, _⟩ => ⟨S16384x6x128, .f32⟩
  | .hbm, ⟨5, _⟩ => ⟨S16384x1x64, .f32⟩
  | .hbm, ⟨6, _⟩ => ⟨S16384x6x64, .f32⟩
  | .hbm, ⟨7, _⟩ => ⟨S16384, .i32⟩
  | .hbm, ⟨8, _⟩ => ⟨S_, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S6x16384x16384, .f32⟩
  | .hbm, ⟨27, _⟩ => ⟨S6x16384x16384, .f32⟩
  | .hbm, ⟨28, _⟩ => ⟨S6x16384x16384, .f32⟩
  | .hbm, ⟨29, _⟩ => ⟨S_, .f32⟩
  | .hbm, ⟨30, _⟩ => ⟨S6x16384x16384, .f32⟩
  | .hbm, ⟨31, _⟩ => ⟨S6x16384x16384, .f32⟩
  | .hbm, ⟨32, _⟩ => ⟨S1x16384, .i32⟩
  | .hbm, ⟨33, _⟩ => ⟨S16384x1, .i32⟩
  | .hbm, ⟨34, _⟩ => ⟨S16384x16384, .i32⟩
  | .hbm, ⟨35, _⟩ => ⟨S16384x16384, .i32⟩
  | .hbm, ⟨36, _⟩ => ⟨S16384x16384, .i1⟩
  | .hbm, ⟨37, _⟩ => ⟨S_, .f32⟩
  | .hbm, ⟨38, _⟩ => ⟨S_, .f32⟩
  | .hbm, ⟨39, _⟩ => ⟨S6x16384x16384, .i1⟩
  | .hbm, ⟨40, _⟩ => ⟨S6x16384x16384, .f32⟩
  | .hbm, ⟨41, _⟩ => ⟨S6x16384x16384, .f32⟩
  | .hbm, ⟨42, _⟩ => ⟨S_, .f32⟩
  | .hbm, ⟨43, _⟩ => ⟨S6x16384, .f32⟩
  | .hbm, ⟨44, _⟩ => ⟨S_, .f32⟩
  | .hbm, ⟨45, _⟩ => ⟨S6x16384, .f32⟩
  | .hbm, ⟨46, _⟩ => ⟨S6x16384, .f32⟩
  | .hbm, ⟨47, _⟩ => ⟨S6x16384x1, .f32⟩
  | .hbm, ⟨48, _⟩ => ⟨S6x16384x16384, .f32⟩
  | .hbm, ⟨49, _⟩ => ⟨S6x16384x16384, .f32⟩
  | .hbm, ⟨50, _⟩ => ⟨S6x16384x16384, .f32⟩
  | .hbm, ⟨51, _⟩ => ⟨S_, .f32⟩
  | .hbm, ⟨52, _⟩ => ⟨S6x16384, .f32⟩
  | .hbm, ⟨53, _⟩ => ⟨S6x16384x1, .f32⟩
  | .hbm, ⟨54, _⟩ => ⟨S6x16384x16384, .f32⟩
  | .hbm, ⟨55, _⟩ => ⟨S6x16384x16384, .f32⟩
  | .hbm, ⟨56, _⟩ => ⟨S6x128x16384, .f32⟩
  | .hbm, ⟨57, _⟩ => ⟨S16384x6x128, .f32⟩
  | .hbm, ⟨58, _⟩ => ⟨S16384x768, .f32⟩
  | .hbm, ⟨59, _⟩ => ⟨S16384, .i32⟩
  | .hbm, ⟨60, _⟩ => ⟨S_, .i32⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S_, .i32⟩
  | .hbm, ⟨66, _⟩ => ⟨S16384, .i32⟩
  | .hbm, ⟨67, _⟩ => ⟨S16384, .i1⟩
  | .hbm, ⟨68, _⟩ => ⟨S16384, .i32⟩
  | .hbm, ⟨69, _⟩ => ⟨S16384, .i32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S16384, .i1⟩
  | .hbm, ⟨74, _⟩ => ⟨S_, .i32⟩
  | .hbm, ⟨75, _⟩ => ⟨S16384, .i32⟩
  | .hbm, ⟨76, _⟩ => ⟨S16384, .i32⟩
  | .hbm, ⟨77, _⟩ => ⟨S16384, .i32⟩
  | .hbm, ⟨78, _⟩ => ⟨S6x16384x16384, .f32⟩
  | .hbm, ⟨79, _⟩ => ⟨S6x16384x16384, .f32⟩
  | .hbm, ⟨80, _⟩ => ⟨S6x16384x16384, .f32⟩
  | .hbm, ⟨81, _⟩ => ⟨S_, .f32⟩
  | .hbm, ⟨82, _⟩ => ⟨S6x16384x16384, .f32⟩
  | .hbm, ⟨83, _⟩ => ⟨S6x16384x16384, .f32⟩
  | .hbm, ⟨84, _⟩ => ⟨S1x16384, .i32⟩
  | .hbm, ⟨85, _⟩ => ⟨S16384x1, .i32⟩
  | .hbm, ⟨86, _⟩ => ⟨S16384x16384, .i32⟩
  | .hbm, ⟨87, _⟩ => ⟨S16384x16384, .i32⟩
  | .hbm, ⟨88, _⟩ => ⟨S16384x16384, .i1⟩
  | .hbm, ⟨89, _⟩ => ⟨S_, .f32⟩
  | .hbm, ⟨90, _⟩ => ⟨S_, .f32⟩
  | .hbm, ⟨91, _⟩ => ⟨S6x16384x16384, .i1⟩
  | .hbm, ⟨92, _⟩ => ⟨S6x16384x16384, .f32⟩
  | .hbm, ⟨93, _⟩ => ⟨S6x16384x16384, .f32⟩
  | .hbm, ⟨94, _⟩ => ⟨S_, .f32⟩
  | .hbm, ⟨95, _⟩ => ⟨S6x16384, .f32⟩
  | .hbm, ⟨96, _⟩ => ⟨S6x16384x1, .f32⟩
  | .hbm, ⟨97, _⟩ => ⟨S6x16384x16384, .f32⟩
  | .hbm, ⟨98, _⟩ => ⟨S6x16384x16384, .f32⟩
  | .hbm, ⟨99, _⟩ => ⟨S6x16384x16384, .f32⟩
  | .hbm, ⟨100, _⟩ => ⟨S_, .f32⟩
  | .hbm, ⟨101, _⟩ => ⟨S6x16384, .f32⟩
  | .hbm, ⟨102, _⟩ => ⟨S6x16384, .f32⟩
  | .hbm, ⟨103, _⟩ => ⟨S6x16384, .f32⟩
  | .hbm, ⟨104, _⟩ => ⟨S_, .f32⟩
  | .hbm, ⟨105, _⟩ => ⟨S_, .f32⟩
  | .hbm, ⟨106, _⟩ => ⟨S6x16384, .f32⟩
  | .hbm, ⟨107, _⟩ => ⟨S6x16384, .f32⟩
  | .hbm, ⟨108, _⟩ => ⟨S16384x768, .bf16⟩
  | .hbm, ⟨109, _⟩ => ⟨S6x16384x1, .f32⟩
  | .hbm, ⟨110, _⟩ => ⟨S6x16x1x1024, .f32⟩
  | _, _ => ⟨S16384x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v14 : Ref sig .tc := ⟨.hbm, 41, rfl⟩
abbrev main_cst_1 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_4 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_5 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_cst_6 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v41 : Ref sig .tc := ⟨.hbm, 93, rfl⟩
abbrev main_cst_7 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_cst_8 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_cst_9 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩

abbrev nD : Nat := 1
abbrev τ : Topo := Topo.v7x

variable {F : FTy → Type} [FloatOps F]
-- ==== Kernel4.lean ====
abbrev S16384x1024 : Shape := ⟨2, ![16384, 1024]⟩
abbrev S1024x5632 : Shape := ⟨2, ![1024, 5632]⟩
abbrev S2816x1024 : Shape := ⟨2, ![2816, 1024]⟩
abbrev S16384x5632 : Shape := ⟨2, ![16384, 5632]⟩
abbrev S16384x8x704 : Shape := ⟨3, ![16384, 8, 704]⟩
abbrev S8x16384x704 : Shape := ⟨3, ![8, 16384, 704]⟩
abbrev S2x4x16384x704 : Shape := ⟨4, ![2, 4, 16384, 704]⟩
abbrev S4x704x1024 : Shape := ⟨3, ![4, 704, 1024]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S1024x704 : Shape := ⟨2, ![1024, 704]⟩
abbrev S704x1024 : Shape := ⟨2, ![704, 1024]⟩
abbrev S2x1024x704 : Shape := ⟨3, ![2, 1024, 704]⟩
abbrev S1x1024x704 : Shape := ⟨3, ![1, 1024, 704]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S16384x1024, .f32⟩
  | .hbm, ⟨4, _⟩ => ⟨S16384x5632, .f32⟩
  | .hbm, ⟨5, _⟩ => ⟨S16384x8x704, .f32⟩
  | .hbm, ⟨6, _⟩ => ⟨S8x16384x704, .f32⟩
  | .hbm, ⟨7, _⟩ => ⟨S2x4x16384x704, .f32⟩
  | .hbm, ⟨8, _⟩ => ⟨S2x4x16384x704, .bf16⟩
  | .hbm, ⟨9, _⟩ => ⟨S4x704x1024, .f32⟩
  | .hbm, ⟨10, _⟩ => ⟨S4x704x1024, .bf16⟩
  | .hbm, ⟨11, _⟩ => ⟨S2x4x16384x704, .bf16⟩
  | .local _ .vmem, ⟨0, _⟩ => ⟨S1024x1024, .f32⟩
  | .local _ .vmem, ⟨1, _⟩ => ⟨S1024x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x1024x704, .bf16⟩
  | .local _ .vmem, ⟨7, _⟩ => ⟨S2x1x1024x704, .bf16⟩
  | .local _ .vmem, ⟨8, _⟩ => ⟨S1024x704, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S16384x1024 : Shape := ⟨2, ![16384, 1024]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩
abbrev S16384x8x704 : Shape := ⟨3, ![16384, 8, 704]⟩
abbrev S8x16384x704 : Shape := ⟨3, ![8, 16384, 704]⟩
abbrev S2x4x16384x704 : Shape := ⟨4, ![2, 4, 16384, 704]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S16384x1024, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x5632, .f32⟩
  | .hbm, ⟨36, _⟩ => ⟨S16384x8x704, .f32⟩
  | .hbm, ⟨37, _⟩ => ⟨S8x16384x704, .f32⟩
  | .hbm, ⟨38, _⟩ => ⟨S2x4x16384x704, .f32⟩
  | .hbm, ⟨39, _⟩ => ⟨S2x4x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Kernel5.lean ====
abbrev S16384x1024 : Shape := ⟨2, ![16384, 1024]⟩
abbrev S1024x5632 : Shape := ⟨2, ![1024, 5632]⟩
abbrev S2816x1024 : Shape := ⟨2, ![2816, 1024]⟩
abbrev S16384x5632 : Shape := ⟨2, ![16384, 5632]⟩
abbrev S16384x8x704 : Shape := ⟨3, ![16384, 8, 704]⟩
abbrev S8x16384x704 : Shape := ⟨3, ![8, 16384, 704]⟩
abbrev S2x4x16384x704 : Shape := ⟨4, ![2, 4, 16384, 704]⟩
abbrev S4x704x1024 : Shape := ⟨3, ![4, 704, 1024]⟩
abbrev S2x1x2048x704 : Shape := ⟨4, ![2, 1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2x1x512x704 : Shape := ⟨4, ![2, 1, 512, 704]⟩
abbrev S2x512x704 : Shape := ⟨3, ![2, 512, 704]⟩
abbrev S1x512x704 : Shape := ⟨3, ![1, 512, 704]⟩
abbrev S512x704 : Shape := ⟨2, ![512, 704]⟩
abbrev S512x1024 : Shape := ⟨2, ![512, 1024]⟩

abbrev nBuf : Space → Nat
  | .hbm => 10
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S16384x1024, .f32⟩
  | .hbm, ⟨4, _⟩ => ⟨S16384x5632, .f32⟩
  | .hbm, ⟨5, _⟩ => ⟨S16384x8x704, .f32⟩
  | .hbm, ⟨6, _⟩ => ⟨S8x16384x704, .f32⟩
  | .hbm, ⟨7, _⟩ => ⟨S2x4x16384x704, .f32⟩
  | .hbm, ⟨8, _⟩ => ⟨S2x4x16384x704, .bf16⟩
  | .hbm, ⟨9, _⟩ => ⟨S4x704x1024, .f32⟩
  | .local _ .vmem, ⟨0, _⟩ => ⟨S2x1x2048x704, .bf16⟩
  | .local _ .vmem, ⟨1, _⟩ => ⟨S2x1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .f32⟩
  | .local _ .vmem, ⟨5, _⟩ => ⟨S1x704x1024, .f32⟩
  | .local _ .vmem, ⟨6, _⟩ => ⟨S704x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v83 : BitVec 1 := Scalar.cmpi .eq arg2 c7_i32
  let v84 : BitVec 32 := Scalar.extui v83
  let c0_i32_40 : BitVec 32 := 0#32
  let v85 : BitVec 1 := Scalar.cmpi .ne v84 c0_i32_40
  v85

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S16384x1024 : Shape := ⟨2, ![16384, 1024]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩
abbrev S1024x2816 : Shape := ⟨2, ![1024, 2816]⟩
abbrev S5632x1024 : Shape := ⟨2, ![5632, 1024]⟩
abbrev S4x704x1024 : Shape := ⟨3, ![4, 704, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S16384x1024, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S1024x2816, .f32⟩
  | .hbm, ⟨29, _⟩ => ⟨S2816x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x5632, .f32⟩
  | .hbm, ⟨38, _⟩ => ⟨S5632x1024, .f32⟩
  | .hbm, ⟨39, _⟩ => ⟨S1024x5632, .f32⟩
  | .hbm, ⟨40, _⟩ => ⟨S16384x1024, .f32⟩
  | .hbm, ⟨41, _⟩ => ⟨S4x704x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]
-- ==== Kernel6.lean ====
abbrev S16384x1024 : Shape := ⟨2, ![16384, 1024]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩
abbrev S16384x8x704 : Shape := ⟨3, ![16384, 8, 704]⟩
abbrev S8x16384x704 : Shape := ⟨3, ![8, 16384, 704]⟩
abbrev S8x1024x704 : Shape := ⟨3, ![8, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 41
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S16384x1024, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x5632, .f32⟩
  | .hbm, ⟨36, _⟩ => ⟨S16384x8x704, .f32⟩
  | .hbm, ⟨37, _⟩ => ⟨S8x16384x704, .f32⟩
  | .hbm, ⟨38, _⟩ => ⟨S8x16384x704, .bf16⟩
  | .hbm, ⟨39, _⟩ => ⟨S16384x1024, .bf16⟩
  | .hbm, ⟨40, _⟩ => ⟨S8x1024x704, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .f32⟩
  | .local _ .vmem, ⟨5, _⟩ => ⟨S1x1024x704, .f32⟩
  | .local _ .vmem, ⟨6, _⟩ => ⟨S1024x704, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference6Ideal.lean ====
abbrev S16384x1024 : Shape := ⟨2, ![16384, 1024]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩
abbrev S1024x2816 : Shape := ⟨2, ![1024, 2816]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S16384x1024, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S1024x2816, .f32⟩
  | .hbm, ⟨29, _⟩ => ⟨S2816x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x5632, .f32⟩
  | .hbm, ⟨38, _⟩ => ⟨S5632x1024, .f32⟩
  | .hbm, ⟨39, _⟩ => ⟨S1024x5632, .f32⟩
  | .hbm, ⟨40, _⟩ => ⟨S16384x1024, .f32⟩
  | .hbm, ⟨41, _⟩ => ⟨S1024x8x704, .f32⟩
  | .hbm, ⟨42, _⟩ => ⟨S8x1024x704, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]
-- ==== Kernel7.lean ====
abbrev S16384x1024 : Shape := ⟨2, ![16384, 1024]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩
abbrev S16384x8x704 : Shape := ⟨3, ![16384, 8, 704]⟩
abbrev S8x16384x704 : Shape := ⟨3, ![8, 16384, 704]⟩
abbrev S1024x8x704 : Shape := ⟨3, ![1024, 8, 704]⟩
abbrev S8x1024x704 : Shape := ⟨3, ![8, 1024, 704]⟩
abbrev S1x2048x704 : Shape := ⟨3, ![1, 2048, 704]⟩
abbrev S1x1024x704 : Shape := ⟨3, ![1, 1024, 704]⟩
abbrev S2048x1024 : Shape := ⟨2, ![2048, 1024]⟩
abbrev S2048x704 : Shape := ⟨2, ![2048, 704]⟩
abbrev S1024x704 : Shape := ⟨2, ![1024, 704]⟩

abbrev nBuf : Space → Nat
  | .hbm => 43
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S16384x1024, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x5632, .f32⟩
  | .hbm, ⟨36, _⟩ => ⟨S16384x8x704, .f32⟩
  | .hbm, ⟨37, _⟩ => ⟨S8x16384x704, .f32⟩
  | .hbm, ⟨38, _⟩ => ⟨S8x16384x704, .bf16⟩
  | .hbm, ⟨39, _⟩ => ⟨S1024x8x704, .f32⟩
  | .hbm, ⟨40, _⟩ => ⟨S8x1024x704, .f32⟩
  | .hbm, ⟨41, _⟩ => ⟨S8x1024x704, .bf16⟩
  | .hbm, ⟨42, _⟩ => ⟨S16384x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference7Ideal.lean ====
abbrev S16384x1024 : Shape := ⟨2, ![16384, 1024]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S16384x1024, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S1024x2816, .f32⟩
  | .hbm, ⟨29, _⟩ => ⟨S2816x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x5632, .f32⟩
  | .hbm, ⟨38, _⟩ => ⟨S5632x1024, .f32⟩
  | .hbm, ⟨39, _⟩ => ⟨S1024x5632, .f32⟩
  | .hbm, ⟨40, _⟩ => ⟨S16384x1024, .f32⟩
  | .hbm, ⟨41, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]
-- ==== Kernel8.lean ====
abbrev S16384x1024 : Shape := ⟨2, ![16384, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S8x16384x704 : Shape := ⟨3, ![8, 16384, 704]⟩
abbrev S2048x1024 : Shape := ⟨2, ![2048, 1024]⟩
abbrev S1x1024x704 : Shape := ⟨3, ![1, 1024, 704]⟩
abbrev S1x2048x704 : Shape := ⟨3, ![1, 2048, 704]⟩
abbrev S2048x704 : Shape := ⟨2, ![2048, 704]⟩
abbrev S1024x704 : Shape := ⟨2, ![1024, 704]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x1024, .bf16⟩
  | .hbm, ⟨3, _⟩ => ⟨S1024x8x704, .f32⟩
  | .hbm, ⟨4, _⟩ => ⟨S8x1024x704, .f32⟩
  | .hbm, ⟨5, _⟩ => ⟨S8x1024x704, .bf16⟩
  | .hbm, ⟨6, _⟩ => ⟨S8x16384x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S2048x704, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S1024x5632 : Shape := ⟨2, ![1024, 5632]⟩
abbrev S16384x5632 : Shape := ⟨2, ![16384, 5632]⟩
abbrev S16384x8x704 : Shape := ⟨3, ![16384, 8, 704]⟩
abbrev S8x16384x704 : Shape := ⟨3, ![8, 16384, 704]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x8x704, .f32⟩
  | .hbm, ⟨4, _⟩ => ⟨S8x16384x704, .f32⟩
  | .hbm, ⟨5, _⟩ => ⟨S8x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S16384x1024 : Shape := ⟨2, ![16384, 1024]⟩
abbrev S1024x5632 : Shape := ⟨2, ![1024, 5632]⟩
abbrev S2816x1024 : Shape := ⟨2, ![2816, 1024]⟩
abbrev S16384x5632 : Shape := ⟨2, ![16384, 5632]⟩
abbrev S16384x8x704 : Shape := ⟨3, ![16384, 8, 704]⟩
abbrev S8x16384x704 : Shape := ⟨3, ![8, 16384, 704]⟩
abbrev S2x4x16384x704 : Shape := ⟨4, ![2, 4, 16384, 704]⟩
abbrev S4x704x1024 : Shape := ⟨3, ![4, 704, 1024]⟩
abbrev S2x1x1024x704 : Shape := ⟨4, ![2, 1, 1024, 704]⟩
abbrev S1x704x1024 : Shape := ⟨3, ![1, 704, 1024]⟩
abbrev S1024x1024 : Shape := ⟨2, ![1024, 1024]⟩
abbrev S2x1x256x704 : Shape := ⟨4, ![2, 1, 256, 704]⟩
abbrev S2x256x704 : Shape := ⟨3, ![2, 256, 704]⟩
abbrev S1x256x704 : Shape := ⟨3, ![1, 256, 704]⟩
abbrev S256x704 : Shape := ⟨2, ![256, 704]⟩
abbrev S256x1024 : Shape := ⟨2, ![256, 1024]⟩
abbrev S704x1024 : Shape := ⟨2, ![704, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S16384x1024, .f32⟩
  | .hbm, ⟨4, _⟩ => ⟨S16384x5632, .f32⟩
  | .hbm, ⟨5, _⟩ => ⟨S16384x8x704, .f32⟩
  | .hbm, ⟨6, _⟩ => ⟨S8x16384x704, .f32⟩
  | .hbm, ⟨7, _⟩ => ⟨S2x4x16384x704, .f32⟩
  | .hbm, ⟨8, _⟩ => ⟨S2x4x16384x704, .bf16⟩
  | .hbm, ⟨9, _⟩ => ⟨S4x704x1024, .f32⟩
  | .hbm, ⟨10, _⟩ => ⟨S4x704x1024, .bf16⟩
  | .hbm, ⟨11, _⟩ => ⟨S16384x1024, .f32⟩
  | .local _ .vmem, ⟨0, _⟩ => ⟨S2x1x1024x704, .bf16⟩
  | .local _ .vmem, ⟨1, _⟩ => ⟨S2x1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v83 : BitVec 1 := Scalar.cmpi .eq arg2 c3_i32
  let v84 : BitVec 32 := Scalar.extui v83
  let c0_i32_44 : BitVec 32 := 0#32
  let v85 : BitVec 1 := Scalar.cmpi .ne v84 c0_i32_44
  v85

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2x1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference9Ideal.lean ====
abbrev S16384x1024 : Shape := ⟨2, ![16384, 1024]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S16384x1024, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel10.lean ====
abbrev S16384x1024 : Shape := ⟨2, ![16384, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== Reference10Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S16384x1024 : Shape := ⟨2, ![16384, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S16384x1024, .f32⟩
  | .hbm, ⟨7, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S16384x1024 : Shape := ⟨2, ![16384, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .bf16⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S16384x1024 : Shape := ⟨2, ![16384, 1024]⟩
abbrev S1024x3340 : Shape := ⟨2, ![1024, 3340]⟩
abbrev S16384x3340 : Shape := ⟨2, ![16384, 3340]⟩
abbrev S16384x12 : Shape := ⟨2, ![16384, 12]⟩
abbrev S_ : Shape := ⟨0, ![]⟩
abbrev S16384x128 : Shape := ⟨2, ![16384, 128]⟩
abbrev S16384x3072 : Shape := ⟨2, ![16384, 3072]⟩
abbrev S16384x256 : Shape := ⟨2, ![16384, 256]⟩
abbrev S16384x3456 : Shape := ⟨2, ![16384, 3456]⟩
abbrev S1024x3456 : Shape := ⟨2, ![1024, 3456]⟩
abbrev S1024x1024 : Shape := ⟨2, ![1024, 1024]⟩
abbrev S1024x1152 : Shape := ⟨2, ![1024, 1152]⟩

abbrev nBuf : Space → Nat
  | .hbm => 13
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3340, .f32⟩
  | .hbm, ⟨2, _⟩ => ⟨S16384x3340, .f32⟩
  | .hbm, ⟨3, _⟩ => ⟨S16384x1024, .bf16⟩
  | .hbm, ⟨4, _⟩ => ⟨S16384x12, .f32⟩
  | .hbm, ⟨5, _⟩ => ⟨S_, .i32⟩
  | .hbm, ⟨6, _⟩ => ⟨S_, .f32⟩
  | .hbm, ⟨7, _⟩ => ⟨S16384x128, .f32⟩
  | .hbm, ⟨8, _⟩ => ⟨S16384x3072, .f32⟩
  | .hbm, ⟨9, _⟩ => ⟨S16384x256, .f32⟩
  | .hbm, ⟨10, _⟩ => ⟨S16384x3456, .f32⟩
  | .hbm, ⟨11, _⟩ => ⟨S16384x3456, .bf16⟩
  | .hbm, ⟨12, _⟩ => ⟨S1024x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference13Ideal.lean ====
abbrev S16384x1024 : Shape := ⟨2, ![16384, 1024]⟩
abbrev S1024x3340 : Shape := ⟨2, ![1024, 3340]⟩
abbrev S16384x3340 : Shape := ⟨2, ![16384, 3340]⟩
abbrev S3340x1024 : Shape := ⟨2, ![3340, 1024]⟩
abbrev S1024x3072 : Shape := ⟨2, ![1024, 3072]⟩
abbrev S1024x256 : Shape := ⟨2, ![1024, 256]⟩
abbrev S1024x12 : Shape := ⟨2, ![1024, 12]⟩
abbrev S_ : Shape := ⟨0, ![]⟩
abbrev S1024x116 : Shape := ⟨2, ![1024, 116]⟩
abbrev S1024x3456 : Shape := ⟨2, ![1024, 3456]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3340, .f32⟩
  | .hbm, ⟨2, _⟩ => ⟨S16384x3340, .f32⟩
  | .hbm, ⟨3, _⟩ => ⟨S16384x3340, .f32⟩
  | .hbm, ⟨4, _⟩ => ⟨S3340x1024, .f32⟩
  | .hbm, ⟨5, _⟩ => ⟨S1024x3340, .f32⟩
  | .hbm, ⟨6, _⟩ => ⟨S16384x1024, .f32⟩
  | .hbm, ⟨7, _⟩ => ⟨S1024x3072, .f32⟩
  | .hbm, ⟨8, _⟩ => ⟨S1024x256, .f32⟩
  | .hbm, ⟨9, _⟩ => ⟨S1024x12, .f32⟩
  | .hbm, ⟨10, _⟩ => ⟨S_, .f32⟩
  | .hbm, ⟨11, _⟩ => ⟨S1024x116, .f32⟩
  | .hbm, ⟨12, _⟩ => ⟨S1024x3456, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel14.lean ====
abbrev S16384x1024 : Shape := ⟨2, ![16384, 1024]⟩
abbrev S1024x3340 : Shape := ⟨2, ![1024, 3340]⟩
abbrev S16384x3340 : Shape := ⟨2, ![16384, 3340]⟩
abbrev S16384x12 : Shape := ⟨2, ![16384, 12]⟩
abbrev S_ : Shape := ⟨0, ![]⟩
abbrev S16384x128 : Shape := ⟨2, ![16384, 128]⟩
abbrev S16384x3072 : Shape := ⟨2, ![16384, 3072]⟩
abbrev S16384x256 : Shape := ⟨2, ![16384, 256]⟩
abbrev S16384x3456 : Shape := ⟨2, ![16384, 3456]⟩
abbrev S1024x12 : Shape := ⟨2, ![1024, 12]⟩
abbrev S1024x128 : Shape := ⟨2, ![1024, 128]⟩
abbrev S1024x3072 : Shape := ⟨2, ![1024, 3072]⟩
abbrev S1024x256 : Shape := ⟨2, ![1024, 256]⟩
abbrev S1024x3456 : Shape := ⟨2, ![1024, 3456]⟩
abbrev S1024x1152 : Shape := ⟨2, ![1024, 1152]⟩
abbrev S1024x1024 : Shape := ⟨2, ![1024, 1024]⟩

abbrev nBuf : Space → Nat
  | .hbm => 20
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3340, .f32⟩
  | .hbm, ⟨2, _⟩ => ⟨S16384x3340, .f32⟩
  | .hbm, ⟨3, _⟩ => ⟨S16384x12, .f32⟩
  | .hbm, ⟨4, _⟩ => ⟨S_, .i32⟩
  | .hbm, ⟨5, _⟩ => ⟨S_, .f32⟩
  | .hbm, ⟨6, _⟩ => ⟨S16384x128, .f32⟩
  | .hbm, ⟨7, _⟩ => ⟨S16384x3072, .f32⟩
  | .hbm, ⟨8, _⟩ => ⟨S16384x256, .f32⟩
  | .hbm, ⟨9, _⟩ => ⟨S16384x3456, .f32⟩
  | .hbm, ⟨10, _⟩ => ⟨S16384x3456, .bf16⟩
  | .hbm, ⟨11, _⟩ => ⟨S1024x12, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x3072, .f32⟩
  | .hbm, ⟨16, _⟩ => ⟨S1024x256, .f32⟩
  | .hbm, ⟨17, _⟩ => ⟨S1024x3456, .f32⟩
  | .hbm, ⟨18, _⟩ => ⟨S1024x3456, .bf16⟩
  | .hbm, ⟨19, _⟩ => ⟨S16384x1024, .bf16⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S16384x1024 : Shape := ⟨2, ![16384, 1024]⟩
abbrev S1024x3340 : Shape := ⟨2, ![1024, 3340]⟩
abbrev S16384x3340 : Shape := ⟨2, ![16384, 3340]⟩
abbrev S3340x1024 : Shape := ⟨2, ![3340, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3340, .f32⟩
  | .hbm, ⟨2, _⟩ => ⟨S16384x3340, .f32⟩
  | .hbm, ⟨3, _⟩ => ⟨S16384x3340, .f32⟩
  | .hbm, ⟨4, _⟩ => ⟨S3340x1024, .f32⟩
  | .hbm, ⟨5, _⟩ => ⟨S1024x3340, .f32⟩
  | .hbm, ⟨6, _⟩ => ⟨S16384x1024, .f32⟩
  | .hbm, ⟨7, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S16384x1024 : Shape := ⟨2, ![16384, 1024]⟩
abbrev S1024x3340 : Shape := ⟨2, ![1024, 3340]⟩
abbrev S1024x12 : Shape := ⟨2, ![1024, 12]⟩
abbrev S_ : Shape := ⟨0, ![]⟩
abbrev S1024x128 : Shape := ⟨2, ![1024, 128]⟩
abbrev S1024x3072 : Shape := ⟨2, ![1024, 3072]⟩
abbrev S1024x256 : Shape := ⟨2, ![1024, 256]⟩
abbrev S1024x3456 : Shape := ⟨2, ![1024, 3456]⟩
abbrev S16384x3456 : Shape := ⟨2, ![16384, 3456]⟩
abbrev S1024x1024 : Shape := ⟨2, ![1024, 1024]⟩
abbrev S1024x1152 : Shape := ⟨2, ![1024, 1152]⟩

abbrev nBuf : Space → Nat
  | .hbm => 12
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3340, .f32⟩
  | .hbm, ⟨2, _⟩ => ⟨S16384x1024, .bf16⟩
  | .hbm, ⟨3, _⟩ => ⟨S1024x12, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x3072, .f32⟩
  | .hbm, ⟨8, _⟩ => ⟨S1024x256, .f32⟩
  | .hbm, ⟨9, _⟩ => ⟨S1024x3456, .f32⟩
  | .hbm, ⟨10, _⟩ => ⟨S1024x3456, .bf16⟩
  | .hbm, ⟨11, _⟩ => ⟨S16384x3456, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S16384x1024 : Shape := ⟨2, ![16384, 1024]⟩
abbrev S1024x3340 : Shape := ⟨2, ![1024, 3340]⟩
abbrev S16384x3340 : Shape := ⟨2, ![16384, 3340]⟩
abbrev S16384x3072 : Shape := ⟨2, ![16384, 3072]⟩
abbrev S16384x256 : Shape := ⟨2, ![16384, 256]⟩
abbrev S16384x12 : Shape := ⟨2, ![16384, 12]⟩
abbrev S_ : Shape := ⟨0, ![]⟩
abbrev S16384x116 : Shape := ⟨2, ![16384, 116]⟩
abbrev S16384x3456 : Shape := ⟨2, ![16384, 3456]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3340, .f32⟩
  | .hbm, ⟨2, _⟩ => ⟨S16384x3340, .f32⟩
  | .hbm, ⟨3, _⟩ => ⟨S16384x3072, .f32⟩
  | .hbm, ⟨4, _⟩ => ⟨S16384x256, .f32⟩
  | .hbm, ⟨5, _⟩ => ⟨S16384x12, .f32⟩
  | .hbm, ⟨6, _⟩ => ⟨S_, .f32⟩
  | .hbm, ⟨7, _⟩ => ⟨S16384x116, .f32⟩
  | .hbm, ⟨8, _⟩ => ⟨S16384x3456, .f32⟩
  | .hbm, ⟨9, _⟩ => ⟨S16384x3456, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S16384x1024 : Shape := ⟨2, ![16384, 1024]⟩
abbrev S1024x512 : Shape := ⟨2, ![1024, 512]⟩
abbrev S16384x512 : Shape := ⟨2, ![16384, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S16384x512, .f32⟩
  | .hbm, ⟨3, _⟩ => ⟨S16384x1024, .bf16⟩
  | .hbm, ⟨4, _⟩ => ⟨S16384x512, .bf16⟩
  | .hbm, ⟨5, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== Reference16Ideal.lean ====
abbrev S16384x1024 : Shape := ⟨2, ![16384, 1024]⟩
abbrev S1024x512 : Shape := ⟨2, ![1024, 512]⟩
abbrev S16384x512 : Shape := ⟨2, ![16384, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S16384x512, .f32⟩
  | .hbm, ⟨3, _⟩ => ⟨S16384x512, .f32⟩
  | .hbm, ⟨4, _⟩ => ⟨S512x1024, .f32⟩
  | .hbm, ⟨5, _⟩ => ⟨S1024x512, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S16384x1024 : Shape := ⟨2, ![16384, 1024]⟩
abbrev S1024x512 : Shape := ⟨2, ![1024, 512]⟩
abbrev S16384x512 : Shape := ⟨2, ![16384, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S16384x512, .f32⟩
  | .hbm, ⟨3, _⟩ => ⟨S16384x512, .bf16⟩
  | .hbm, ⟨4, _⟩ => ⟨S1024x512, .bf16⟩
  | .hbm, ⟨5, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S16384x1024 : Shape := ⟨2, ![16384, 1024]⟩
abbrev S1024x512 : Shape := ⟨2, ![1024, 512]⟩
abbrev S16384x512 : Shape := ⟨2, ![16384, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S16384x512, .f32⟩
  | .hbm, ⟨3, _⟩ => ⟨S16384x512, .f32⟩
  | .hbm, ⟨4, _⟩ => ⟨S512x1024, .f32⟩
  | .hbm, ⟨5, _⟩ => ⟨S1024x512, .f32⟩
  | .hbm, ⟨6, _⟩ => ⟨S16384x1024, .f32⟩
  | .hbm, ⟨7, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S16384x1024 : Shape := ⟨2, ![16384, 1024]⟩
abbrev S1024x512 : Shape := ⟨2, ![1024, 512]⟩
abbrev S16384x512 : Shape := ⟨2, ![16384, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S16384x1024, .bf16⟩
  | .hbm, ⟨3, _⟩ => ⟨S1024x512, .bf16⟩
  | .hbm, ⟨4, _⟩ => ⟨S16384x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S16384x1024 : Shape := ⟨2, ![16384, 1024]⟩
abbrev S1024x512 : Shape := ⟨2, ![1024, 512]⟩
abbrev S16384x512 : Shape := ⟨2, ![16384, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S16384x512, .f32⟩
  | .hbm, ⟨3, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S16384x512 : Shape := ⟨2, ![16384, 512]⟩
abbrev S256x512 : Shape := ⟨2, ![256, 512]⟩
abbrev S16384x1024 : Shape := ⟨2, ![16384, 1024]⟩
abbrev S16384x256 : Shape := ⟨2, ![16384, 256]⟩
abbrev S256x256 : Shape := ⟨2, ![256, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S256x512, .f32⟩
  | .hbm, ⟨2, _⟩ => ⟨S16384x1024, .f32⟩
  | .hbm, ⟨3, _⟩ => ⟨S16384x512, .bf16⟩
  | .hbm, ⟨4, _⟩ => ⟨S256x512, .bf16⟩
  | .hbm, ⟨5, _⟩ => ⟨S16384x1024, .bf16⟩
  | .hbm, ⟨6, _⟩ => ⟨S16384x256, .bf16⟩
  | .hbm, ⟨7, _⟩ => ⟨S256x256, .f32⟩
  | .hbm, ⟨8, _⟩ => ⟨S256x256, .f32⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S256x256, .f32⟩
  | .local _ .vmem, ⟨9, _⟩ => ⟨S256x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S16384x512 : Shape := ⟨2, ![16384, 512]⟩
abbrev S256x512 : Shape := ⟨2, ![256, 512]⟩
abbrev S16384x1024 : Shape := ⟨2, ![16384, 1024]⟩
abbrev S16384x256 : Shape := ⟨2, ![16384, 256]⟩
abbrev S16384x4x64 : Shape := ⟨3, ![16384, 4, 64]⟩
abbrev S256x256 : Shape := ⟨2, ![256, 256]⟩
abbrev S256x4x64 : Shape := ⟨3, ![256, 4, 64]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x64x16384 : Shape := ⟨3, ![4, 64, 16384]⟩
abbrev S4x64x256 : Shape := ⟨3, ![4, 64, 256]⟩
abbrev S4x256x64 : Shape := ⟨3, ![4, 256, 64]⟩
abbrev S4x16384x64 : Shape := ⟨3, ![4, 16384, 64]⟩

abbrev nBuf : Space → Nat
  | .hbm => 88
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S256x512, .f32⟩
  | .hbm, ⟨2, _⟩ => ⟨S16384x1024, .f32⟩
  | .hbm, ⟨3, _⟩ => ⟨S16384x256, .f32⟩
  | .hbm, ⟨4, _⟩ => ⟨S16384x4x64, .f32⟩
  | .hbm, ⟨5, _⟩ => ⟨S256x256, .f32⟩
  | .hbm, ⟨6, _⟩ => ⟨S256x256, .f32⟩
  | .hbm, ⟨7, _⟩ => ⟨S256x4x64, .f32⟩
  | .hbm, ⟨8, _⟩ => ⟨S256x4x64, .f32⟩
  | .hbm, ⟨9, _⟩ => ⟨S4x16384x256, .f32⟩
  | .hbm, ⟨10, _⟩ => ⟨S_, .f32⟩
  | .hbm, ⟨11, _⟩ => ⟨S4x16384x256, .f32⟩
  | .hbm, ⟨12, _⟩ => ⟨S4x16384x256, .f32⟩
  | .hbm, ⟨13, _⟩ => ⟨S_, .f32⟩
  | .hbm, ⟨14, _⟩ => ⟨S4x16384, .f32⟩
  | .hbm, ⟨15, _⟩ => ⟨S4x16384x1, .f32⟩
  | .hbm, ⟨16, _⟩ => ⟨S4x16384x256, .f32⟩
  | .hbm, ⟨17, _⟩ => ⟨S4x16384x256, .i1⟩
  | .hbm, ⟨18, _⟩ => ⟨S4x16384x256, .f32⟩
  | .hbm, ⟨19, _⟩ => ⟨S_, .f32⟩
  | .hbm, ⟨20, _⟩ => ⟨S4x16384, .f32⟩
  | .hbm, ⟨21, _⟩ => ⟨S_, .f32⟩
  | .hbm, ⟨22, _⟩ => ⟨S4x16384, .f32⟩
  | .hbm, ⟨23, _⟩ => ⟨S4x16384, .f32⟩
  | .hbm, ⟨24, _⟩ => ⟨S_, .f32⟩
  | .hbm, ⟨25, _⟩ => ⟨S4x16384, .f32⟩
  | .hbm, ⟨26, _⟩ => ⟨S4x16384, .i1⟩
  | .hbm, ⟨27, _⟩ => ⟨S_, .f32⟩
  | .hbm, ⟨28, _⟩ => ⟨S4x16384, .f32⟩
  | .hbm, ⟨29, _⟩ => ⟨S4x16384, .i1⟩
  | .hbm, ⟨30, _⟩ => ⟨S_, .f32⟩
  | .hbm, ⟨31, _⟩ => ⟨S4x16384, .f32⟩
  | .hbm, ⟨32, _⟩ => ⟨S_, .f32⟩
  | .hbm, ⟨33, _⟩ => ⟨S4x16384, .f32⟩
  | .hbm, ⟨34, _⟩ => ⟨S_, .f32⟩
  | .hbm, ⟨35, _⟩ => ⟨S4x16384, .f32⟩
  | .hbm, ⟨36, _⟩ => ⟨S4x16384, .f32⟩
  | .hbm, ⟨37, _⟩ => ⟨S4x16384, .f32⟩
  | .hbm, ⟨38, _⟩ => ⟨S4x16384x1, .f32⟩
  | .hbm, ⟨39, _⟩ => ⟨S4x16384x256, .f32⟩
  | .hbm, ⟨40, _⟩ => ⟨S4x16384x256, .f32⟩
  | .hbm, ⟨41, _⟩ => ⟨S4x16384x256, .f32⟩
  | .hbm, ⟨42, _⟩ => ⟨S_, .f32⟩
  | .hbm, ⟨43, _⟩ => ⟨S4x16384, .f32⟩
  | .hbm, ⟨44, _⟩ => ⟨S4x16384x1, .f32⟩
  | .hbm, ⟨45, _⟩ => ⟨S4x16384x256, .f32⟩
  | .hbm, ⟨46, _⟩ => ⟨S4x16384x256, .f32⟩
  | .hbm, ⟨47, _⟩ => ⟨S4x16384x1, .f32⟩
  | .hbm, ⟨48, _⟩ => ⟨S_, .f32⟩
  | .hbm, ⟨49, _⟩ => ⟨S4x16384x1, .f32⟩
  | .hbm, ⟨50, _⟩ => ⟨S4x16384x1, .f32⟩
  | .hbm, ⟨51, _⟩ => ⟨S4x64x16384, .f32⟩
  | .hbm, ⟨52, _⟩ => ⟨S16384x4x64, .f32⟩
  | .hbm, ⟨53, _⟩ => ⟨S16384x256, .f32⟩
  | .hbm, ⟨54, _⟩ => ⟨S16384x256, .f32⟩
  | .hbm, ⟨55, _⟩ => ⟨S16384x4x64, .f32⟩
  | .hbm, ⟨56, _⟩ => ⟨S4x64x16384, .f32⟩
  | .hbm, ⟨57, _⟩ => ⟨S4x16384x256, .f32⟩
  | .hbm, ⟨58, _⟩ => ⟨S4x64x256, .f32⟩
  | .hbm, ⟨59, _⟩ => ⟨S256x4x64, .f32⟩
  | .hbm, ⟨60, _⟩ => ⟨S4x16384x256, .f32⟩
  | .hbm, ⟨61, _⟩ => ⟨S4x16384x256, .f32⟩
  | .hbm, ⟨62, _⟩ => ⟨S4x16384x256, .f32⟩
  | .hbm, ⟨63, _⟩ => ⟨S_, .f32⟩
  | .hbm, ⟨64, _⟩ => ⟨S4x16384, .f32⟩
  | .hbm, ⟨65, _⟩ => ⟨S4x16384x1, .f32⟩
  | .hbm, ⟨66, _⟩ => ⟨S4x16384x1, .f32⟩
  | .hbm, ⟨67, _⟩ => ⟨S4x16384x256, .f32⟩
  | .hbm, ⟨68, _⟩ => ⟨S4x16384x256, .f32⟩
  | .hbm, ⟨69, _⟩ => ⟨S_, .f32⟩
  | .hbm, ⟨70, _⟩ => ⟨S4x16384, .f32⟩
  | .hbm, ⟨71, _⟩ => ⟨S4x16384x256, .f32⟩
  | .hbm, ⟨72, _⟩ => ⟨S4x16384x256, .f32⟩
  | .hbm, ⟨73, _⟩ => ⟨S4x16384x256, .f32⟩
  | .hbm, ⟨74, _⟩ => ⟨S_, .f32⟩
  | .hbm, ⟨75, _⟩ => ⟨S4x16384x256, .f32⟩
  | .hbm, ⟨76, _⟩ => ⟨S4x16384x256, .f32⟩
  | .hbm, ⟨77, _⟩ => ⟨S4x256x64, .f32⟩
  | .hbm, ⟨78, _⟩ => ⟨S256x4x64, .f32⟩
  | .hbm, ⟨79, _⟩ => ⟨S4x16384x64, .f32⟩
  | .hbm, ⟨80, _⟩ => ⟨S16384x4x64, .f32⟩
  | .hbm, ⟨81, _⟩ => ⟨S256x256, .f32⟩
  | .hbm, ⟨82, _⟩ => ⟨S256x256, .f32⟩
  | .hbm, ⟨83, _⟩ => ⟨S256x512, .f32⟩
  | .hbm, ⟨84, _⟩ => ⟨S16384x256, .f32⟩
  | .hbm, ⟨85, _⟩ => ⟨S16384x256, .bf16⟩
  | .hbm, ⟨86, _⟩ => ⟨S256x256, .f32⟩
  | .hbm, ⟨87, _⟩ => ⟨S256x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Proof.Att.Host.lean ====
/- What the host's lines of the attention compute, as functions of its arguments: the scores, the chunk-causal mask, the
   softmax's exponentials and their row sums, the attention's output and the gradients of its arguments. The programs'
   own composed terms are these functions by definition. Proof/Att/HostRead.lean reads them at an index. -/
module

public import proofs.«01_k».proof.Proof.Gen.ReferenceIdeal
public import Idealize.ShloMosaic.PureOps.Ideal

@[expose] public section

noncomputable section

namespace Cert.Att

open Idealize.ShloMosaic Idealize.ShloMosaic.TcCoe Cert.ReferenceIdeal Cert.ReferenceIdeal.Gen

/-- An array [token, head, 128], [token, head, 64], [token, 64]; one [head, query, key] and one [head, query]. -/
abbrev Nope := FVec Ideal S16384x6x128 .f32
abbrev Rope := FVec Ideal S16384x6x64 .f32
abbrev Rope1 := FVec Ideal S16384x64 .f32
abbrev Pairs := FVec Ideal S6x16384x16384 .f32
abbrev Rows := FVec Ideal S6x16384 .f32

/-- A scalar and its copies over the pairs. -/
abbrev splat (w : BitVec 32) : Pairs := broadcastInDim S6x16384x16384 ![] bcast_S_S6x16384x16384 (constant S_ .f32 w)

/-- The rotary key, once a head. -/
def toHeads (kr : Rope1) : Rope :=
  broadcastInDim S16384x6x64 ![0, 1, 2] bcast_S16384x1x64_S16384x6x64_0_1_2
    (broadcastInDim S16384x1x64 ![0, 2] bcast_S16384x64_S16384x1x64_0_2 kr)

/-- 64, once a token. -/
abbrev sixtyFour : IVec S16384 32 := broadcastInDim S16384 ![] bcast_S_S16384 (id (constantI S_ 32 64#32))

/-- A token's number divided by 64, rounded down: the host's quotient, one less where the signs differ and a
    remainder is left. -/
def chunk : IVec S16384 32 :=
  select
    (andi (cmpi .ne (signi (iotaInDim S16384 32 0)) (broadcastInDim S16384 ![] bcast_S_S16384 (signi (id (constantI S_ 32 64#32)))))
      (cmpi .ne (Host.remsi (iotaInDim S16384 32 0) sixtyFour) (broadcastInDim S16384 ![] bcast_S_S16384 (constantI S_ 32 0#32))))
    (subi (Host.divsi (iotaInDim S16384 32 0) sixtyFour) (broadcastInDim S16384 ![] bcast_S_S16384 (constantI S_ 32 1#32)))
    (Host.divsi (iotaInDim S16384 32 0) sixtyFour)

/-- The key's chunk is not after the query's. -/
def mask : IVec S6x16384x16384 1 :=
  broadcastInDim S6x16384x16384 ![1, 2] bcast_S16384x16384_S6x16384x16384_1_2
    (cmpi .sle
      (broadcastInDim S16384x16384 ![0, 1] bcast_S1x16384_S16384x16384_0_1 (broadcastInDim S1x16384 ![1] bcast_S16384_S1x16384_1 chunk))
      (broadcastInDim S16384x16384 ![0, 1] bcast_S16384x1_S16384x16384_0_1 (broadcastInDim S16384x1 ![0] bcast_S16384_S16384x1_0 chunk)))

/-- The scaled scores of all pairs. -/
def scores (qn : Nope) (qr : Rope) (kn : Nope) (kr : Rope) : Pairs :=
  mulf (addf (Host.dotGeneral dot_S16384x6x128_S16384x6x128_S6x16384x16384_2_2_0_0_1_1 none qn kn)
    (Host.dotGeneral dot_S16384x6x64_S16384x6x64_S6x16384x16384_2_2_0_0_1_1 none qr kr)) (splat 0x3D93CD3A#32)

/-- The scores, `-inf` where the mask forbids. -/
def masked (qn : Nope) (qr : Rope) (kn : Nope) (kr : Rope) : Pairs :=
  select mask (scores qn qr kn kr) (broadcastInDim S6x16384x16384 ![] bcast_S_S6x16384x16384 (id (constant S_ .f32 0xFF800000#32)))

/-- Every query's largest score. -/
def largest (x : Pairs) : Rows :=
  Host.reduce FloatOps.maximumf x (constant S_ .f32 0xFF800000#32) reducesTo_S6x16384x16384_S6x16384_d2 h_S_

/-- The same, met once more with `-inf`, as the softmax writes it. -/
def largest' (x : Pairs) : Rows :=
  maximumf (broadcastInDim S6x16384 ![] bcast_S_S6x16384 (constant S_ .f32 0xFF800000#32)) (largest x)

/-- A query's number, once a key. -/
def perKey (r : Rows) : Pairs :=
  broadcastInDim S6x16384x16384 ![0, 1, 2] bcast_S6x16384x1_S6x16384x16384_0_1_2
    (broadcastInDim S6x16384x1 ![0, 1] bcast_S6x16384_S6x16384x1_0_1 r)

/-- The exponentials of the scores, each less its query's number. -/
def exps (x : Pairs) (r : Rows) : Pairs := Host.exp (subf x (perKey r))

/-- The sum over the keys. -/
def rowSum (x : Pairs) : Rows :=
  Host.reduceAdd x (constant S_ .f32 0x00000000#32) reducesTo_S6x16384x16384_S6x16384_d2 h_S_

/-- The weights: the exponentials over their row sums. -/
def weights (e : Pairs) : Pairs := Host.divf e (perKey (rowSum e))

/-- The weighted sum of the values. -/
def mix (v : Nope) (p : Pairs) : Nope :=
  transpose S16384x6x128 [2, 0, 1] (Host.dotGeneral dot_S16384x6x128_S6x16384x16384_S6x128x16384_0_2_2_1_1_0 none v p)
    transposes_S6x128x16384_S16384x6x128_2_0_1

/-- The products of the cotangents with the values. -/
def dWeights (g : Nope) (v : Nope) : Pairs :=
  Host.dotGeneral dot_S6x128x16384_S16384x6x128_S6x16384x16384_1_2_2_0_0_1 none
    (transpose S6x128x16384 [1, 2, 0] g transposes_S16384x6x128_S6x128x16384_1_2_0) v

/-- The row sum that the quotient's gradient subtracts, the exponentials (`e`) over the squares of their row sums. -/
def backSum (d e : Pairs) : Rows :=
  Host.reduceAdd
    (Host.negf (shapeCast S6x16384x1
      (rowSum (mulf (mulf d (broadcastInDim S6x16384x16384 ![0, 1, 2] bcast_S6x16384x1_S6x16384x16384_0_1_2
        (Host.divf (broadcastInDim S6x16384x1 ![] bcast_S_S6x16384x1 (constant S_ .f32 0x3F800000#32))
          (mulf (broadcastInDim S6x16384x1 ![0, 1] bcast_S6x16384_S6x16384x1_0_1 (rowSum e))
            (broadcastInDim S6x16384x1 ![0, 1] bcast_S6x16384_S6x16384x1_0_1 (rowSum e)))))) e))
      shapeCasts_S6x16384_S6x16384x1))
    (constant S_ .f32 0x00000000#32) reducesTo_S6x16384x1_S6x16384_d2 h_S_

/-- The scores' gradient from the weights' (`d`) and the exponentials (`e`). -/
def dScores (d e : Pairs) : Pairs :=
  mulf
    (select mask
      (mulf
        (addf (Host.divf d (perKey (rowSum e)))
          (broadcastInDim S6x16384x16384 ![0, 1] bcast_S6x16384_S6x16384x16384_0_1 (backSum d e)))
        e)
      (splat 0x00000000#32))
    (splat 0x3D93CD3A#32)

/-- The gradients of the queries and keys, from the scores'. -/
def dqNope (s : Pairs) (kn : Nope) : Nope :=
  transpose S16384x6x128 [1, 0, 2] (Host.dotGeneral dot_S6x16384x16384_S16384x6x128_S6x16384x128_2_0_1_2_0_1 none s kn)
    transposes_S6x16384x128_S16384x6x128_1_0_2

def dqRope (s : Pairs) (kr : Rope) : Rope :=
  transpose S16384x6x64 [1, 0, 2] (Host.dotGeneral dot_S6x16384x16384_S16384x6x64_S6x16384x64_2_0_1_2_0_1 none s kr)
    transposes_S6x16384x64_S16384x6x64_1_0_2

/-- 128 + 64 columns and 64 zeros a head, the heads side by side. -/
def padded (n : Nope) (r : Rope) : FVec Ideal S16384x1536 .bf16 :=
  truncf .bf16 (shapeCast S16384x1536
    (concatenate S16384x6x256 2 [⟨S16384x6x128, n⟩, ⟨S16384x6x64, r⟩,
      ⟨S16384x6x64, broadcastInDim S16384x6x64 ![] bcast_S_S16384x6x64 (constant S_ .f32 0x00000000#32)⟩]
      concatenates_S16384x6x128_S16384x6x64_S16384x6x64_S16384x6x256_d2)
    shapeCasts_S16384x6x256_S16384x1536) bitsLt_bf16_f32

/-- The backward sums as 16 rows of 1024 a head. -/
def deltaRows (o g : Nope) : FVec Ideal S6x16x1x1024 .f32 :=
  shapeCast S6x16x1x1024
    (transpose S6x16384 [1, 0]
      (Host.reduceAdd (mulf o g) (constant S_ .f32 0x00000000#32) reducesTo_S16384x6x128_S16384x6_d2 h_S_)
      transposes_S16384x6_S6x16384_1_0)
    shapeCasts_S6x16384_S6x16x1x1024

/-- The reference's exponentials. -/
def exps0 (qn : Nope) (qr : Rope) (kn : Nope) (kr : Rope) : Pairs :=
  exps (masked qn qr kn kr) (largest' (masked qn qr kn kr))

end Cert.Att

end
-- ==== Proof.Att.Math.lean ====
/- The attention and its gradient over the real numbers, a head at a time: what every program of the claim is compared
   with. No rounding, no order of additions and no tiling appears. -/
module

public import Mathlib.Analysis.SpecialFunctions.Log.Basic
public import Mathlib.Analysis.SpecialFunctions.Pow.Real

@[expose] public section

noncomputable section

namespace Cert.Att

open scoped BigOperators

/-- The arguments as real numbers: queries, keys and values by token, head and column, the rotary key by token and
    column, the output's cotangent. -/
structure Nums where
  qn : Fin 16384 → Fin 6 → Fin 128 → ℝ
  qr : Fin 16384 → Fin 6 → Fin 64 → ℝ
  kn : Fin 16384 → Fin 6 → Fin 128 → ℝ
  kr : Fin 16384 → Fin 64 → ℝ
  v : Fin 16384 → Fin 6 → Fin 128 → ℝ
  g : Fin 16384 → Fin 6 → Fin 128 → ℝ

/-- The scale of the scores: the f32 number nearest to the reciprocal square root of 192. -/
def c0 : ℝ := 4843165 / 67108864

/-- Query `i` sees key `j`: the key's chunk of 64 is not after the query's. -/
abbrev Sees (i j : Fin 16384) : Prop := j.val / 64 ≤ i.val / 64

theorem sees_self (i : Fin 16384) : Sees i i := le_refl _

namespace Nums

variable (a : Nums)

/-- A score. -/
def sc (h : Fin 6) (i j : Fin 16384) : ℝ :=
  (∑ d, a.qn i h d * a.kn j h d + ∑ d, a.qr i h d * a.kr j d) * c0

/-- A pair's exponential, 0 where the query does not see the key. -/
def E (h : Fin 6) (i j : Fin 16384) : ℝ := if Sees i j then Real.exp (a.sc h i j) else 0

/-- A query's denominator. -/
def Z (h : Fin 6) (i : Fin 16384) : ℝ := ∑ j, a.E h i j

/-- A weight. -/
def P (h : Fin 6) (i j : Fin 16384) : ℝ := a.E h i j / a.Z h i

/-- The attention's output. -/
def o (i : Fin 16384) (h : Fin 6) (d : Fin 128) : ℝ := ∑ j, a.v j h d * a.P h i j

/-- The gradient of a weight. -/
def dP (h : Fin 6) (i j : Fin 16384) : ℝ := ∑ d, a.g i h d * a.v j h d

/-- The softmax's backward sum. -/
def del (h : Fin 6) (i : Fin 16384) : ℝ := ∑ d, a.o i h d * a.g i h d

/-- The gradient of a score. -/
def ds (h : Fin 6) (i j : Fin 16384) : ℝ := a.P h i j * (a.dP h i j - a.del h i)

/-- The logarithm, to base 2, of a query's denominator. -/
def lse2 (h : Fin 6) (i : Fin 16384) : ℝ := Real.log (a.Z h i) / Real.log 2

theorem E_nonneg (h : Fin 6) (i j : Fin 16384) : 0 ≤ a.E h i j := by
  unfold E; split
  · exact (Real.exp_pos _).le
  · exact le_refl _

theorem Z_pos (h : Fin 6) (i : Fin 16384) : 0 < a.Z h i :=
  lt_of_lt_of_le (by unfold E; rw [if_pos (sees_self i)]; exact Real.exp_pos _ : 0 < a.E h i i)
    (Finset.single_le_sum (fun j _ => a.E_nonneg h i j) (Finset.mem_univ i))

/-- The sum of the weights' gradients, weighted, is the backward sum. -/
theorem sum_P_dP (h : Fin 6) (i : Fin 16384) : ∑ j, a.P h i j * a.dP h i j = a.del h i := by
  unfold del o dP
  simp only [Finset.mul_sum, Finset.sum_mul]
  rw [Finset.sum_comm]
  refine Finset.sum_congr rfl fun d _ => Finset.sum_congr rfl fun j _ => ?_
  ring

/-- A weight as a power of two of the scaled score less the denominator's logarithm. -/
theorem rpow_P (h : Fin 6) (i j : Fin 16384) (hs : Sees i j) :
    Real.rpow 2 (a.sc h i j / Real.log 2 - a.lse2 h i) = a.P h i j := by
  have h2 : Real.log 2 ≠ 0 := (Real.log_pos one_lt_two).ne'
  have hx : Real.log 2 * (a.sc h i j / Real.log 2 - a.lse2 h i) = a.sc h i j - Real.log (a.Z h i) := by
    unfold lse2; field_simp
  change (2 : ℝ) ^ (a.sc h i j / Real.log 2 - a.lse2 h i) = _
  rw [Real.rpow_def_of_pos two_pos, hx, Real.exp_sub, Real.exp_log (a.Z_pos h i)]
  unfold P E
  rw [if_pos hs]

theorem P_of_not (h : Fin 6) (i j : Fin 16384) (hs : ¬ Sees i j) : a.P h i j = 0 := by
  unfold P E; rw [if_neg hs, zero_div]

end Nums

end Cert.Att

end
-- ==== Proof.Att.HostRead.lean ====
/- The host's lines of Proof/Att/Host.lean read at an index, of arguments that hold real numbers. -/
module

public import proofs.«01_k».proof.Proof.Att.Host
public import proofs.«01_k».proof.Proof.Att.Math
public import Idealize.ShloMosaic.Lib.Pointwise
public import Idealize.ShloMosaic.Lib.ValueIdx
public import Idealize.ShloMosaic.Lib.IdealHost
public import Idealize.ShloMosaic.Lib.Routing.Words
public import Idealize.ShloMosaic.PureOps.Ideal.Laws

@[expose] public section

noncomputable section

namespace Cert.Att

open Idealize.ShloMosaic Idealize.ShloMosaic.TcCoe Cert.ReferenceIdeal Cert.ReferenceIdeal.Gen

/-! ### Literals and sums -/

theorem ofBits_c0 : Ideal.ofBits .f32 0x3D93CD3A#32 = (c0 : EReal) := by
  have h1 : (BitVec.extractLsb' 23 8 0x3D93CD3A#32).toNat = 123 := by decide
  have h2 : (BitVec.extractLsb' 0 23 0x3D93CD3A#32).toNat = 1297722 := by decide
  have h3 : (BitVec.extractLsb' (8 + 23) 1 0x3D93CD3A#32 == 1#1) = false := by decide
  simp only [Ideal.ofBits, Ideal.ieee, c0, h1, h2, h3]
  norm_num

theorem ofBits_bot : Ideal.ofBits .f32 0xFF800000#32 = ⊥ := by
  simp [Ideal.ofBits, Ideal.ieee]

/-- A sum of real numbers is their real sum. -/
theorem coe_sum {ι : Type} (s : Finset ι) (f : ι → ℝ) : (∑ j ∈ s, (f j : EReal)) = ((∑ j ∈ s, f j : ℝ) : EReal) := by
  classical
  induction s using Finset.induction_on with
  | empty => rfl
  | insert a s ha ih => rw [Finset.sum_insert ha, Finset.sum_insert ha, ih, EReal.coe_add]

theorem sum_of_real {ι : Type} [Fintype ι] (x : ι → EReal) (f : ι → ℝ) (hx : ∀ j, x j = f j) :
    ∑ j, x j = ((∑ j, f j : ℝ) : EReal) := by
  rw [← coe_sum]; exact Finset.sum_congr rfl fun j _ => hx j

/-! ### The arguments -/

/-- The arrays hold the real numbers of `a`. -/
structure Holds (a : Nums) (qn : Nope) (qr : Rope) (kn : Nope) (kr : Rope1) (v g : Nope) : Prop where
  qn : ∀ i h d, qn (ix3 i h d) = (a.qn i h d : EReal)
  qr : ∀ i h d, qr (ix3 i h d) = (a.qr i h d : EReal)
  kn : ∀ i h d, kn (ix3 i h d) = (a.kn i h d : EReal)
  kr : ∀ i d, kr (ix2 i d) = (a.kr i d : EReal)
  v : ∀ i h d, v (ix3 i h d) = (a.v i h d : EReal)
  g : ∀ i h d, g (ix3 i h d) = (a.g i h d : EReal)

theorem toHeads_at (kr : Rope1) (i : Fin 16384) (h : Fin 6) (d : Fin 64) : toHeads kr (ix3 i h d) = kr (ix2 i d) := by
  unfold toHeads; pointwise

/-! ### The mask -/

/-- A word below 2^31 has sign 0 or 1, and its quotient by 64 needs no correction. -/
theorem floor_word (n : Nat) (hn : n < 2 ^ 31) (q : BitVec 32) :
    Scalar.select
      (IntOp.andi
        (IntOp.cmpi .ne (if BitVec.ofNat 32 n = 0 then 0 else if (BitVec.ofNat 32 n).msb = true then -1 else 1) (1 : BitVec 32))
        (IntOp.cmpi .ne (BitVec.ofNat 32 (n % 64)) 0#32))
      (IntOp.subi q 1#32) q = q := by
  by_cases h0 : n = 0
  · have h : IntOp.cmpi .ne (BitVec.ofNat 32 (n % 64)) 0#32 = 0#1 := by rw [h0]; rfl
    rw [h, show ∀ x : BitVec 1, IntOp.andi x 0#1 = 0#1 from fun x => BitVec.and_zero]
    rfl
  · have hne : BitVec.ofNat 32 n ≠ 0 := by
      intro h; have := congrArg BitVec.toNat h; simp at this; omega
    have hm : (BitVec.ofNat 32 n).msb = false := by
      rw [BitVec.msb_eq_false_iff_two_mul_lt, BitVec.toNat_ofNat]; omega
    have h : IntOp.cmpi .ne (if BitVec.ofNat 32 n = 0 then 0 else if (BitVec.ofNat 32 n).msb = true then -1 else 1)
        (1 : BitVec 32) = 0#1 := by
      rw [if_neg hne, hm]; rfl
    rw [h, show ∀ x : BitVec 1, IntOp.andi 0#1 x = 0#1 from fun x => BitVec.zero_and]
    rfl

theorem chunk_at (i : Fin 16384) : chunk (ix1 i) = BitVec.ofNat 32 (i.val / 64) := by
  have hi : i.val < 2 ^ 31 := by have := i.isLt; omega
  unfold chunk sixtyFour
  pointwise
  rw [show id (constantI S_ 32 64#32) ix0 = BitVec.ofNat 32 64 from rfl,
    Routing.divsi_word _ hi (by norm_num) (by norm_num), Routing.remsi_word _ hi (by norm_num) (by norm_num)]
  exact floor_word i.val hi _

theorem mask_at (h : Fin 6) (i j : Fin 16384) : mask (ix3 h i j) = BitVec.ofBool (decide (Sees i j)) := by
  unfold mask
  pointwise
  rw [chunk_at, chunk_at]
  have hi := i.isLt
  have hj := j.isLt
  have hw : ∀ n : Nat, n < 16384 → (BitVec.ofNat 32 (n / 64)).toInt = (n / 64 : Nat) := fun n hn => by
    rw [BitVec.toInt_eq_toNat_of_lt] <;> rw [BitVec.toNat_ofNat] <;> omega
  show BitVec.ofBool (decide ((BitVec.ofNat 32 (j.val / 64)).toInt ≤ (BitVec.ofNat 32 (i.val / 64)).toInt)) = _
  rw [hw _ hi, hw _ hj]
  congr 1
  exact decide_eq_decide.mpr Int.ofNat_le

/-! ### The scores -/

variable {a : Nums} {qn : Nope} {qr : Rope} {kn : Nope} {kr : Rope1} {v g : Nope}

theorem scores_at (H : Holds a qn qr kn kr v g) (h : Fin 6) (i j : Fin 16384) :
    scores qn qr kn (toHeads kr) (ix3 h i j) = (a.sc h i j : EReal) := by
  unfold scores splat
  pointwise
  rw [ofBits_c0, sum_of_real _ (fun d => a.qn i h d * a.kn j h d) fun d => by rw [H.qn, H.kn, EReal.coe_mul],
    sum_of_real _ (fun d => a.qr i h d * a.kr j d) fun d => by rw [toHeads_at, H.qr, H.kr, EReal.coe_mul],
    ← EReal.coe_add, ← EReal.coe_mul]
  rfl

theorem masked_at (H : Holds a qn qr kn kr v g) (h : Fin 6) (i j : Fin 16384) :
    masked qn qr kn (toHeads kr) (ix3 h i j) = if Sees i j then (a.sc h i j : EReal) else ⊥ := by
  unfold masked
  pointwise
  rw [mask_at, scores_at H, show id (constant S_ .f32 0xFF800000#32) ix0 = Ideal.ofBits .f32 0xFF800000#32 from rfl, ofBits_bot]
  by_cases hs : Sees i j <;> simp [hs, Scalar.select]

/-! ### The largest score -/

/-- A maximum over the last axis of three, at any extents. -/
theorem reduceMax_at {A B N : Nat} {z : Shape} (x : FVec Ideal ⟨3, ![A, B, N]⟩ .f32) (init : FVec Ideal z .f32)
    (hr : Shape.ReducesTo ⟨3, ![A, B, N]⟩ [2] ⟨2, ![A, B]⟩) (hz : 0 < z.numel) (p : Fin A) (q : Fin B) :
    Host.reduce FloatOps.maximumf x init hr hz (ix2 p q)
      = Finset.univ.fold max (init (Shape.Idx.first hz)) fun k : Fin N => x (ix3 p q k) := by
  pointwise

/-- The largest of finitely many numbers that are real or `-inf`, one of them real, is real. -/
theorem fold_max_real {N : Nat} (f : Fin N → EReal) (hf : ∀ k, f k ≠ ⊤) (k0 : Fin N) (h0 : f k0 ≠ ⊥) :
    ∃ M : ℝ, Finset.univ.fold max ⊥ f = (M : EReal) := by
  have hle : f k0 ≤ Finset.univ.fold max ⊥ f :=
    (Finset.le_fold_max _).mpr (Or.inr ⟨k0, Finset.mem_univ _, le_refl _⟩)
  have hlt : Finset.univ.fold max ⊥ f < ⊤ :=
    (Finset.fold_max_lt _).mpr ⟨bot_lt_top, fun k _ => lt_top_iff_ne_top.mpr (hf k)⟩
  exact ⟨_, (EReal.coe_toReal hlt.ne fun h => h0 (le_bot_iff.mp (h ▸ hle))).symm⟩

theorem reduceMax_real {A B N : Nat} {z : Shape} (x : FVec Ideal ⟨3, ![A, B, N]⟩ .f32) (init : FVec Ideal z .f32)
    (hr : Shape.ReducesTo ⟨3, ![A, B, N]⟩ [2] ⟨2, ![A, B]⟩) (hz : 0 < z.numel) (hi : init (Shape.Idx.first hz) = ⊥)
    (p : Fin A) (q : Fin B) (hx : ∀ k : Fin N, x (ix3 p q k) ≠ ⊤) (k0 : Fin N) (h0 : x (ix3 p q k0) ≠ ⊥) :
    ∃ M : ℝ, Host.reduce FloatOps.maximumf x init hr hz (ix2 p q) = (M : EReal) := by
  rw [reduceMax_at, hi]
  exact fold_max_real _ hx k0 h0

theorem bot_at : (constant (F := Ideal) S_ .f32 0xFF800000#32) (Shape.Idx.first h_S_) = ⊥ := ofBits_bot

theorem reduce_real (x : Pairs) (c : FVec Ideal S_ .f32) (hc : c (Shape.Idx.first h_S_) = ⊥) (h : Fin 6) (i : Fin 16384)
    (hx : ∀ k : Fin 16384, x (ix3 h i k) ≠ ⊤) (h0 : x (ix3 h i i) ≠ ⊥) : ∃ M : ℝ,
      Host.reduce FloatOps.maximumf x c reducesTo_S6x16384x16384_S6x16384_d2 h_S_ (ix2 h i) = (M : EReal) :=
  reduceMax_real x c reducesTo_S6x16384x16384_S6x16384_d2 h_S_ hc h i hx i h0

theorem largest_of_real (x : Pairs) (h : Fin 6) (i : Fin 16384) (hx : ∀ k : Fin 16384, x (ix3 h i k) ≠ ⊤)
    (h0 : x (ix3 h i i) ≠ ⊥) : ∃ M : ℝ, largest x (ix2 h i) = (M : EReal) :=
  reduce_real x _ bot_at h i hx h0

theorem masked_ne_top (H : Holds a qn qr kn kr v g) (h : Fin 6) (i j : Fin 16384) :
    masked qn qr kn (toHeads kr) (ix3 h i j) ≠ ⊤ := by
  rw [masked_at H]; split
  · exact EReal.coe_ne_top _
  · exact bot_ne_top

theorem masked_self (H : Holds a qn qr kn kr v g) (h : Fin 6) (i : Fin 16384) :
    masked qn qr kn (toHeads kr) (ix3 h i i) ≠ ⊥ := by
  rw [masked_at H, if_pos (sees_self i)]; exact EReal.coe_ne_bot _

theorem largest_real (H : Holds a qn qr kn kr v g) :
    ∃ M : Fin 6 → Fin 16384 → ℝ, ∀ h i, largest (masked qn qr kn (toHeads kr)) (ix2 h i) = (M h i : EReal) :=
  ⟨fun h i => (largest_of_real _ h i (masked_ne_top H h i) (masked_self H h i)).choose,
    fun h i => (largest_of_real _ h i (masked_ne_top H h i) (masked_self H h i)).choose_spec⟩

theorem max_bot_at (y : Rows) (h : Fin 6) (i : Fin 16384) :
    (maximumf (broadcastInDim S6x16384 ![] bcast_S_S6x16384 (constant S_ .f32 0xFF800000#32)) y : Rows) (ix2 h i) = y (ix2 h i) := by
  pointwise
  rw [ofBits_bot]
  exact max_eq_right bot_le

theorem largest'_at {x : Pairs} {M : Fin 6 → Fin 16384 → ℝ} (hM : ∀ h i, largest x (ix2 h i) = (M h i : EReal))
    (h : Fin 6) (i : Fin 16384) : largest' x (ix2 h i) = (M h i : EReal) :=
  (max_bot_at (largest x) h i).trans (hM h i)

/-! ### Exponentials, sums, weights -/

variable {M : Fin 6 → Fin 16384 → ℝ} {r : Rows}

theorem exps_at (H : Holds a qn qr kn kr v g) (hr : ∀ h i, r (ix2 h i) = (M h i : EReal)) (h : Fin 6) (i j : Fin 16384) :
    exps (masked qn qr kn (toHeads kr)) r (ix3 h i j) = ((a.E h i j * Real.exp (-M h i) : ℝ) : EReal) := by
  unfold exps perKey
  pointwise
  rw [masked_at H, hr]
  unfold Nums.E
  split
  · rw [← EReal.coe_sub, ← Real.exp_add, ← sub_eq_add_neg]; rfl
  · rw [EReal.bot_sub, zero_mul]; rfl

theorem rowSum_at {x : Pairs} {f : Fin 6 → Fin 16384 → Fin 16384 → ℝ} (hx : ∀ h i j, x (ix3 h i j) = (f h i j : EReal))
    (h : Fin 6) (i : Fin 16384) : rowSum x (ix2 h i) = ((∑ j, f h i j : ℝ) : EReal) := by
  unfold rowSum
  pointwise
  exact sum_of_real _ _ (hx h i)

theorem rowSum_exps_at (H : Holds a qn qr kn kr v g) (hr : ∀ h i, r (ix2 h i) = (M h i : EReal)) (h : Fin 6) (i : Fin 16384) :
    rowSum (exps (masked qn qr kn (toHeads kr)) r) (ix2 h i) = ((a.Z h i * Real.exp (-M h i) : ℝ) : EReal) := by
  rw [rowSum_at (exps_at H hr), ← Finset.sum_mul]; rfl

theorem weights_at (H : Holds a qn qr kn kr v g) (hr : ∀ h i, r (ix2 h i) = (M h i : EReal)) (h : Fin 6) (i j : Fin 16384) :
    weights (exps (masked qn qr kn (toHeads kr)) r) (ix3 h i j) = (a.P h i j : EReal) := by
  unfold weights perKey
  pointwise
  have hz : a.Z h i * Real.exp (-M h i) ≠ 0 := (mul_pos (a.Z_pos h i) (Real.exp_pos _)).ne'
  rw [exps_at H hr, rowSum_exps_at H hr, Ideal.div_coe hz, ← EReal.coe_mul, mul_one_div,
    mul_div_mul_right _ _ (Real.exp_pos _).ne']
  rfl

theorem mix_at {p : Pairs} (H : Holds a qn qr kn kr v g) (hp : ∀ h i j, p (ix3 h i j) = (a.P h i j : EReal))
    (i : Fin 16384) (h : Fin 6) (d : Fin 128) : mix v p (ix3 i h d) = (a.o i h d : EReal) := by
  unfold mix
  pointwise
  exact sum_of_real _ (fun j => a.v j h d * a.P h i j) fun j => by rw [H.v, hp, EReal.coe_mul]

theorem dWeights_at (H : Holds a qn qr kn kr v g) (h : Fin 6) (i j : Fin 16384) :
    dWeights g v (ix3 h i j) = (a.dP h i j : EReal) := by
  unfold dWeights
  pointwise
  exact sum_of_real _ (fun d => a.g i h d * a.v j h d) fun d => by rw [H.g, H.v, EReal.coe_mul]

/-! ### The gradients -/

theorem backSum_at {d e : Pairs} {f x : Fin 6 → Fin 16384 → Fin 16384 → ℝ} {l : Fin 6 → Fin 16384 → ℝ}
    (hd : ∀ h i j, d (ix3 h i j) = (f h i j : EReal)) (he : ∀ h i j, e (ix3 h i j) = (x h i j : EReal))
    (hl : ∀ h i, rowSum e (ix2 h i) = (l h i : EReal)) (h0 : ∀ h i, l h i ≠ 0) (h : Fin 6) (i : Fin 16384) :
    backSum d e (ix2 h i) = ((-∑ j, f h i j * (1 / (l h i * l h i)) * x h i j : ℝ) : EReal) := by
  have hin : ∀ h i j, (mulf (mulf d (broadcastInDim S6x16384x16384 ![0, 1, 2] bcast_S6x16384x1_S6x16384x16384_0_1_2
        (Host.divf (broadcastInDim S6x16384x1 ![] bcast_S_S6x16384x1 (constant S_ .f32 0x3F800000#32))
          (mulf (broadcastInDim S6x16384x1 ![0, 1] bcast_S6x16384_S6x16384x1_0_1 (rowSum e))
            (broadcastInDim S6x16384x1 ![0, 1] bcast_S6x16384_S6x16384x1_0_1 (rowSum e)))))) e : Pairs) (ix3 h i j)
      = ((f h i j * (1 / (l h i * l h i)) * x h i j : ℝ) : EReal) := fun h i j => by
    pointwise
    rw [hd, he, hl, ← EReal.coe_mul, Ideal.div_coe (mul_ne_zero (h0 h i) (h0 h i)), one_mul,
      ← EReal.coe_mul, ← EReal.coe_mul]
  unfold backSum
  pointwise
  rw [Fin.sum_univ_one, rowSum_at hin]
  exact (EReal.coe_neg _).symm

/-- The quotient's gradient in the reals. -/
theorem ds_eq (a : Nums) (M : ℝ) (h : Fin 6) (i j : Fin 16384) :
    (a.dP h i j * (1 / (a.Z h i * Real.exp (-M)))
      + -∑ k, a.dP h i k * (1 / (a.Z h i * Real.exp (-M) * (a.Z h i * Real.exp (-M)))) * (a.E h i k * Real.exp (-M)))
        * (a.E h i j * Real.exp (-M)) = a.ds h i j := by
  have hz := (a.Z_pos h i).ne'
  have he := (Real.exp_pos (-M)).ne'
  have hs : ∑ k, a.dP h i k * (1 / (a.Z h i * Real.exp (-M) * (a.Z h i * Real.exp (-M)))) * (a.E h i k * Real.exp (-M))
      = a.del h i * (1 / (a.Z h i * Real.exp (-M))) := by
    rw [← a.sum_P_dP, Finset.sum_mul]
    refine Finset.sum_congr rfl fun k _ => ?_
    unfold Nums.P
    field_simp
  rw [hs]
  unfold Nums.ds Nums.P
  field_simp
  ring

theorem ds_of_not (a : Nums) (h : Fin 6) (i j : Fin 16384) (hs : ¬ Sees i j) : a.ds h i j = 0 := by
  unfold Nums.ds; rw [a.P_of_not h i j hs, zero_mul]

theorem dScores_at (H : Holds a qn qr kn kr v g) (hr : ∀ h i, r (ix2 h i) = (M h i : EReal))
    (h : Fin 6) (i j : Fin 16384) :
    dScores (dWeights g v) (exps (masked qn qr kn (toHeads kr)) r) (ix3 h i j) = ((a.ds h i j * c0 : ℝ) : EReal) := by
  have hz : ∀ h i, a.Z h i * Real.exp (-M h i) ≠ 0 := fun h i => (mul_pos (a.Z_pos h i) (Real.exp_pos _)).ne'
  unfold dScores splat perKey
  pointwise
  rw [mask_at, backSum_at (dWeights_at H) (exps_at H hr) (rowSum_exps_at H hr) hz, dWeights_at H, exps_at H hr,
    rowSum_exps_at H hr, Ideal.div_coe (hz h i), ofBits_c0, ← EReal.coe_mul, ← EReal.coe_add, ← EReal.coe_mul, ds_eq]
  by_cases hs : Sees i j
  · simp [hs, Scalar.select]
  · simp [hs, Scalar.select, ds_of_not]

theorem dqNope_at {s : Pairs} (H : Holds a qn qr kn kr v g) (hs : ∀ h i j, s (ix3 h i j) = ((a.ds h i j * c0 : ℝ) : EReal))
    (i : Fin 16384) (h : Fin 6) (d : Fin 128) :
    dqNope s kn (ix3 i h d) = ((∑ j, a.ds h i j * c0 * a.kn j h d : ℝ) : EReal) := by
  unfold dqNope
  pointwise
  exact sum_of_real _ _ fun j => by rw [H.kn, hs, ← EReal.coe_mul]

theorem dqRope_at {s : Pairs} (H : Holds a qn qr kn kr v g) (hs : ∀ h i j, s (ix3 h i j) = ((a.ds h i j * c0 : ℝ) : EReal))
    (i : Fin 16384) (h : Fin 6) (d : Fin 64) :
    dqRope s (toHeads kr) (ix3 i h d) = ((∑ j, a.ds h i j * c0 * a.kr j d : ℝ) : EReal) := by
  unfold dqRope
  pointwise
  exact sum_of_real _ _ fun j => by rw [toHeads_at, H.kr, hs, ← EReal.coe_mul]

/-- A column of a head's 256: the 128, the 64, or a zero. -/
def cat {α : Type} (z : α) (n : Fin 128 → α) (r : Fin 64 → α) (d : Fin 256) : α :=
  if h : d.val < 128 then n ⟨d.val, h⟩ else if h' : d.val < 192 then r ⟨d.val - 128, by omega⟩ else z

theorem padded_at (n : Nope) (r : Rope) (i : Fin 16384) (c : Fin 1536) :
    padded n r (ix2 i c) = cat 0 (fun d => n (ix3 i ⟨c.val / 256, by omega⟩ d)) (fun d => r (ix3 i ⟨c.val / 256, by omega⟩ d))
      ⟨c.val % 256, by omega⟩ := by
  unfold padded cat
  pointwise
  by_cases h1 : c.val % 256 < 128
  · rw [dif_pos h1, dif_pos h1]
  · rw [dif_neg h1, dif_neg h1]
    by_cases h2 : c.val % 256 < 192
    · rw [dif_pos h2]; exact dif_pos (show c.val % 256 - 128 < 64 by omega)
    · rw [dif_neg h2]; exact dif_neg (show ¬ c.val % 256 - 128 < 64 by omega)

theorem deltaRows_at {o : Nope} (H : Holds a qn qr kn kr v g) (ho : ∀ i h d, o (ix3 i h d) = (a.o i h d : EReal))
    (h : Fin 6) (b : Fin 16) (p : Fin 1024) :
    deltaRows o g (ix4 h b 0 p) = (a.del h ⟨b.val * 1024 + p.val, by omega⟩ : EReal) := by
  unfold deltaRows
  pointwise
  exact sum_of_real _ _ fun d => by rw [ho, H.g, ← EReal.coe_mul]

end Cert.Att

end
-- ==== Proof.Att.Inputs.lean ====
/- What the attention's backward calls are handed, as functions of the arguments: the scaled and packed queries, the packed
   keys, arrays with the heads side by side, the base-2 logarithm of the softmax's denominator; read at an index. -/
module

public import proofs.«01_k».proof.Proof.Gen.KernelIdeal
public import proofs.«01_k».proof.Proof.Att.HostRead

@[expose] public section

noncomputable section

namespace Cert.Att

open Idealize.ShloMosaic Idealize.ShloMosaic.TcCoe Cert.KernelIdeal Cert.KernelIdeal.Gen

/-- The packed queries times the scale over log 2. -/
def queriesIn (qn : Nope) (qr : Rope) : FVec Ideal S16384x1536 .bf16 :=
  truncf .bf16
    (mulf
      (shapeCast S16384x1536
        (concatenate S16384x6x256 2 [⟨S16384x6x128, qn⟩, ⟨S16384x6x64, qr⟩,
          ⟨S16384x6x64, broadcastInDim S16384x6x64 ![] bcast_S_S16384x6x64 (constant S_ .f32 0x00000000#32)⟩]
          concatenates_S16384x6x128_S16384x6x64_S16384x6x64_S16384x6x256_d2)
        shapeCasts_S16384x6x256_S16384x1536)
      (broadcastInDim S16384x1536 ![] bcast_S_S16384x1536
        (Host.divf (constant S_ .f32 0x3D93CD3A#32) (Host.log (constant S_ .f32 0x40000000#32)))))
    bitsLt_bf16_f32

/-- The heads side by side. -/
def sideBySide (x : Nope) : FVec Ideal S16384x768 .bf16 :=
  truncf .bf16 (shapeCast S16384x768 x shapeCasts_S16384x6x128_S16384x768) bitsLt_bf16_f32

/-- A largest score and the logarithm of a sum, over log 2. -/
def lseOf (x y : Rows) : Rows :=
  Host.divf (addf x (Host.log y)) (broadcastInDim S6x16384 ![] bcast_S_S6x16384 (Host.log (constant S_ .f32 0x40000000#32)))

/-- The base-2 logarithm of the softmax's denominator, of the masked scores. -/
def lseRows (x : Pairs) : Rows := lseOf (largest x) (rowSum (exps x (largest x)))

theorem lseOf_at (x y : Rows) (h : Fin 6) (i : Fin 16384) : lseOf x y (ix2 h i)
    = Ideal.div (x (ix2 h i) + Ideal.log (y (ix2 h i))) (Ideal.log (Ideal.ofBits .f32 0x40000000#32)) := by
  unfold lseOf
  pointwise

theorem ofBits_two : Ideal.ofBits .f32 0x40000000#32 = ((2 : ℝ) : EReal) := by
  have h1 : (BitVec.extractLsb' 23 8 0x40000000#32).toNat = 128 := by decide
  have h2 : (BitVec.extractLsb' 0 23 0x40000000#32).toNat = 0 := by decide
  have h3 : (BitVec.extractLsb' (8 + 23) 1 0x40000000#32 == 1#1) = false := by decide
  simp only [Ideal.ofBits, Ideal.ieee, h1, h2, h3]
  norm_num

theorem log2_ne : Real.log 2 ≠ 0 := (Real.log_pos one_lt_two).ne'

theorem log_two : Ideal.log ((2 : ℝ) : EReal) = ((Real.log 2 : ℝ) : EReal) := by
  show (if (2 : ℝ) ≤ 0 then ⊥ else ((Real.log 2 : ℝ) : EReal)) = _
  rw [if_neg (by norm_num)]

variable {a : Nums} {qn : Nope} {qr : Rope} {kn : Nope} {kr : Rope1} {v g : Nope}

/-- A packed, scaled query. -/
def Nums.q (a : Nums) (i : Fin 16384) (h : Fin 6) (d : Fin 256) : ℝ := cat 0 (a.qn i h) (a.qr i h) d

/-- A packed key. -/
def Nums.k (a : Nums) (j : Fin 16384) (h : Fin 6) (d : Fin 256) : ℝ := cat 0 (a.kn j h) (a.kr j) d

theorem queriesIn_at (H : Holds a qn qr kn kr v g) (i : Fin 16384) (c : Fin 1536) :
    queriesIn qn qr (ix2 i c)
      = ((a.q i ⟨c.val / 256, by omega⟩ ⟨c.val % 256, by omega⟩ * (c0 / Real.log 2) : ℝ) : EReal) := by
  have hp : (padded qn qr (ix2 i c) : EReal) = ((a.q i ⟨c.val / 256, by omega⟩ ⟨c.val % 256, by omega⟩ : ℝ) : EReal) := by
    rw [padded_at]
    unfold Nums.q cat
    dsimp only
    split_ifs
    · exact H.qn _ _ _
    · exact H.qr _ _ _
    · rfl
  have hs : (broadcastInDim S16384x1536 ![] bcast_S_S16384x1536
        (Host.divf (constant (F := Ideal) S_ .f32 0x3D93CD3A#32) (Host.log (constant S_ .f32 0x40000000#32)))) (ix2 i c)
      = ((c0 / Real.log 2 : ℝ) : EReal) := by
    pointwise
    rw [ofBits_c0, ofBits_two, log_two, Ideal.div_coe log2_ne, ← EReal.coe_mul, mul_one_div]
  show (padded qn qr (ix2 i c) : EReal) * (broadcastInDim S16384x1536 ![] bcast_S_S16384x1536
        (Host.divf (constant (F := Ideal) S_ .f32 0x3D93CD3A#32) (Host.log (constant S_ .f32 0x40000000#32)))) (ix2 i c) = _
  rw [hp, hs, EReal.coe_mul]

theorem keysIn_at (H : Holds a qn qr kn kr v g) (j : Fin 16384) (c : Fin 1536) :
    padded kn (toHeads kr) (ix2 j c) = ((a.k j ⟨c.val / 256, by omega⟩ ⟨c.val % 256, by omega⟩ : ℝ) : EReal) := by
  rw [padded_at]
  unfold Nums.k cat
  dsimp only
  split_ifs
  · exact H.kn _ _ _
  · rw [toHeads_at]; exact H.kr _ _
  · rfl

theorem sideBySide_at (x : Nope) (i : Fin 16384) (c : Fin 768) :
    sideBySide x (ix2 i c) = x (ix3 i ⟨c.val / 128, by omega⟩ ⟨c.val % 128, by omega⟩) := by
  unfold sideBySide
  pointwise

theorem lseRows_at (H : Holds a qn qr kn kr v g) (h : Fin 6) (i : Fin 16384) :
    lseRows (masked qn qr kn (toHeads kr)) (ix2 h i) = (a.lse2 h i : EReal) := by
  obtain ⟨M, hM⟩ := largest_real H
  have hs := rowSum_exps_at H hM h i
  have hp : 0 < a.Z h i * Real.exp (-M h i) := mul_pos (a.Z_pos h i) (Real.exp_pos _)
  refine (lseOf_at _ _ h i).trans ?_
  rw [hM, hs, ofBits_two, log_two, Ideal.div_coe log2_ne,
    show Ideal.log ((a.Z h i * Real.exp (-M h i) : ℝ) : EReal) = ((Real.log (a.Z h i * Real.exp (-M h i)) : ℝ) : EReal) from
      if_neg (not_le.mpr hp), ← EReal.coe_add, ← EReal.coe_mul, Real.log_mul (a.Z_pos h i).ne' (Real.exp_pos _).ne',
    Real.log_exp]
  refine congrArg ((↑) : ℝ → EReal) ?_
  unfold Nums.lse2
  rw [mul_one_div, add_comm, add_assoc, neg_add_cancel, add_zero]

/-- The packed product of a query and a key, over the 256 columns, is the score's two products. -/
theorem sum_q_k (a : Nums) (h : Fin 6) (i j : Fin 16384) :
    ∑ d : Fin 256, a.q i h d * (c0 / Real.log 2) * a.k j h d = a.sc h i j / Real.log 2 := by
  have h1 : ∀ f : Fin 256 → ℝ, ∑ d, f d = ∑ d : Fin 128, f ⟨d.val, by omega⟩
      + (∑ d : Fin 64, f ⟨128 + d.val, by omega⟩ + ∑ d : Fin 64, f ⟨192 + d.val, by omega⟩) := fun f => by
    rw [show ∑ d : Fin 64, f ⟨128 + d.val, by omega⟩ + ∑ d : Fin 64, f ⟨192 + d.val, by omega⟩
        = ∑ d : Fin 128, f ⟨128 + d.val, by omega⟩ from (Fin.sum_univ_add (a := 64) (b := 64)
          (fun d : Fin (64 + 64) => f ⟨128 + d.val, by omega⟩)).symm]
    exact Fin.sum_univ_add (a := 128) (b := 128) f
  rw [h1]
  have e1 : ∀ d : Fin 128, a.q i h ⟨d.val, by omega⟩ = a.qn i h d := fun d => by unfold Nums.q cat; exact dif_pos d.isLt
  have e2 : ∀ d : Fin 128, a.k j h ⟨d.val, by omega⟩ = a.kn j h d := fun d => by unfold Nums.k cat; exact dif_pos d.isLt
  have e3 : ∀ d : Fin 64, a.q i h ⟨128 + d.val, by omega⟩ = a.qr i h d := fun d => by
    unfold Nums.q cat
    rw [dif_neg (by simp), dif_pos (by simp; omega)]
    congr 1; apply Fin.ext; simp
  have e4 : ∀ d : Fin 64, a.k j h ⟨128 + d.val, by omega⟩ = a.kr j d := fun d => by
    unfold Nums.k cat
    rw [dif_neg (by simp), dif_pos (by simp; omega)]
    congr 1; apply Fin.ext; simp
  have e5 : ∀ d : Fin 64, a.q i h ⟨192 + d.val, by omega⟩ = 0 := fun d => by
    unfold Nums.q cat
    rw [dif_neg (by simp; omega), dif_neg (by simp)]
  simp only [e1, e2, e3, e4, e5]
  unfold Nums.sc
  have e6 : ∀ x y : ℝ, x * (c0 / Real.log 2) * y = x * y * (c0 / Real.log 2) := fun x y => by ring
  simp only [e6, ← Finset.sum_mul, zero_mul, Finset.sum_const_zero]
  ring

end Cert.Att

end
-- ==== Proof.Att.DqEntry.lean ====
/- What the query gradient's call is handed, as functions of the arguments. -/
module

public import proofs.«01_k».proof.Proof.Gen.KernelIdeal.Value
public import proofs.«01_k».proof.Proof.Att.Inputs
public import Idealize.ShloMosaic.Lib.Pipeline.ValueKit
public import Idealize.ShloMosaic.Lib.Claim
public import Idealize.ShloMosaic.Lib.StableHlo.RunRead

@[expose] public section

noncomputable section

namespace Cert.Att

open Idealize.ShloMosaic Idealize.ShloMosaic.TcCoe Idealize.SL.Sem Cert.KernelIdeal Cert.KernelIdeal.Gen

variable (m : (ℓ : Loc nD τ sig) → Buf (Elt Ideal) ℓ) (c : Dev nD)

/-- The arguments: the queries' two parts, the keys', the rotary key, the values, the output's cotangent. -/
abbrev aQn : Nope := m ((c.tc : Thread nD τ).loc main_arg0)
abbrev aQr : Rope := m ((c.tc : Thread nD τ).loc main_arg1)
abbrev aKn : Nope := m ((c.tc : Thread nD τ).loc main_arg2)
abbrev aKr : Rope1 := m ((c.tc : Thread nD τ).loc main_arg3)
abbrev aV : Nope := m ((c.tc : Thread nD τ).loc main_arg4)
abbrev aG : Nope := m ((c.tc : Thread nD τ).loc main_arg5)

theorem V_q : (V m c main_v61 : FVec Ideal S16384x1536 .bf16) = queriesIn (aQn m c) (aQr m c) := by
  entry_read
  rfl

theorem V_k : (V m c main_v65 : FVec Ideal S16384x1536 .bf16) = padded (aKn m c) (toHeads (aKr m c)) := by
  entry_read
  rfl

theorem V_v : (V m c main_v67 : FVec Ideal S16384x768 .bf16) = sideBySide (aV m c) := by
  entry_read
  rfl

theorem V_do : (V m c main_v70 : FVec Ideal S16384x768 .bf16) = sideBySide (aG m c) := by
  entry_read
  rfl

set_option maxRecDepth 100000 in
theorem V_o : (V m c main_v68 : FVec Ideal S16384x768 .bf16)
    = sideBySide (mix (aV m c) (weights (exps0 (aQn m c) (aQr m c) (aKn m c) (toHeads (aKr m c))))) := by
  unfold V
  unfold_abbrev_sides
  after_reads_simp
  rfl

set_option maxRecDepth 100000 in
theorem V_lse : (V m c main_v53 : FVec Ideal S6x16384x1 .f32)
    = shapeCast S6x16384x1 (lseRows (masked (aQn m c) (aQr m c) (aKn m c) (toHeads (aKr m c)))) shapeCasts_S6x16384_S6x16384x1 := by
  unfold V
  unfold_abbrev_sides
  after_reads_simp
  rfl

end Cert.Att

end
-- ==== Proof.Att.DqPay.lean ====
/- One key block's step of the query gradient's kernel, and the backward sums, read at an index of the block. -/
module

public import proofs.«01_k».proof.Proof.Gen.KernelIdeal.Skeleton
public import proofs.«01_k».proof.Proof.Att.Inputs

@[expose] public section

noncomputable section

namespace Cert.Att

open Idealize.ShloMosaic Idealize.ShloMosaic.TcCoe Cert.KernelIdeal Cert.KernelIdeal.Gen

/-- An array of numbers [1024, n] holds real numbers. -/
abbrev Reals2 {n : ℕ} (x : (⟨2, ![1024, n]⟩ : Shape).Idx → EReal) (X : Fin 1024 → Fin n → ℝ) : Prop :=
  ∀ p d, x (ix2 p d) = (X p d : EReal)

/-- What key `j` of a block adds to the gradient of the query in row `p`, before the scale. -/
def dqTerm (Q K : Fin 1024 → Fin 256 → ℝ) (G V : Fin 1024 → Fin 128 → ℝ) (L D : Fin 1024 → Fin 1 → ℝ) (p j : Fin 1024)
    (d : Fin 256) : ℝ :=
  Real.rpow 2 (∑ e, Q p e * K j e - L p 0) * (∑ e, G p e * V j e - D p 0) * K j d

theorem exp2_real (r : ℝ) : FloatOps.exp2 (F := Ideal) (φ := .f32) (r : EReal) = ((Real.rpow 2 r : ℝ) : EReal) :=
  Ideal.exp2_coe r

/-- The kernel's stand-in for a masked score. -/
theorem mask_bot : (Named.named κ "mask" 0xF149F2CA#32 : Ideal .f32) = (⊥ : EReal) :=
  IdealRules.named_const.ideal_named_scalar _ _ _ _ rfl

/-- A number below 1024 shifted by 6, as a word. -/
theorem shift_at : ∀ x : Fin 1024, IntOp.shrui .vector (BitVec.ofNat 32 x.val) 6#32 = BitVec.ofNat 32 (x.val / 64) := by
  decide +kernel

theorem sle_at : ∀ x y : Fin 16, IntOp.cmpi .sle (BitVec.ofNat 32 x.val) (BitVec.ofNat 32 y.val)
    = BitVec.ofBool (decide (x.val ≤ y.val)) := by
  decide +kernel

/-- The kernel's comparison of two places' chunks. -/
theorem chunks_at (x y : Fin 1024) : IntOp.cmpi .sle (IntOp.shrui .vector (BitVec.ofNat 32 x.val) 6#32)
    (IntOp.shrui .vector (BitVec.ofNat 32 y.val) 6#32) = BitVec.ofBool (decide (x.val / 64 ≤ y.val / 64)) := by
  rw [shift_at, shift_at]
  exact sle_at ⟨x.val / 64, by omega⟩ ⟨y.val / 64, by omega⟩

/-- Two places' equality, as the kernel computes it. -/
theorem eq_at (x y : Fin 1024) : IntOp.cmpi .eq (BitVec.ofNat 32 x.val) (BitVec.ofNat 32 y.val)
    = BitVec.ofBool (decide (x = y)) := by
  show BitVec.ofBool (BitVec.ofNat 32 x.val == BitVec.ofNat 32 y.val) = _
  congr 1
  by_cases h : x = y
  · subst h; simp
  · rw [decide_eq_false h, beq_eq_false_iff_ne]
    intro e
    have := congrArg BitVec.toNat e
    rw [BitVec.toNat_ofNat, BitVec.toNat_ofNat] at this
    exact h (Fin.ext (by omega))

theorem pay7_at {v1 : FVec Ideal S1024x256 .bf16} {v3 : FVec Ideal S1024x128 .bf16} {v5 v12 : FVec Ideal S1024x1 .f32}
    {v76 : Vec Ideal S1024x256 .bf16} {v85 : Vec Ideal S1024x128 .bf16} {v91 : Vec Ideal S1024x256 .f32}
    {Q K A : Fin 1024 → Fin 256 → ℝ} {G V : Fin 1024 → Fin 128 → ℝ} {L D : Fin 1024 → Fin 1 → ℝ}
    (h1 : Reals2 v1 Q) (h3 : Reals2 v3 G) (h5 : Reals2 v5 L) (h12 : Reals2 v12 D) (hk : Reals2 v76 K) (hv : Reals2 v85 V)
    (ha : Reals2 v91 A) (p : Fin 1024) (d : Fin 256) :
    k0_pay7 v1 v3 v5 v12 v76 v85 v91 (ix2 p d) = ((A p d + ∑ j, dqTerm Q K G V L D p j d : ℝ) : EReal) := by
  pointwise [k0_pay7]
  rw [ha, sum_of_real _ (fun j => dqTerm Q K G V L D p j d), ← EReal.coe_add]
  intro j
  rw [sum_of_real _ (fun e => Q p e * K j e) fun e => by rw [h1, hk, EReal.coe_mul],
    sum_of_real _ (fun e => G p e * V j e) fun e => by rw [h3, hv, EReal.coe_mul], h5, h12, hk, ← EReal.coe_sub,
    ← EReal.coe_sub, exp2_real, ← EReal.coe_mul, ← EReal.coe_mul]
  rfl

theorem pay9_at {v1 : FVec Ideal S1024x256 .bf16} {v3 : FVec Ideal S1024x128 .bf16} {v5 v12 : FVec Ideal S1024x1 .f32}
    {v76 : Vec Ideal S1024x256 .bf16} {v85 : Vec Ideal S1024x128 .bf16} {v91 : Vec Ideal S1024x256 .f32}
    {Q K A : Fin 1024 → Fin 256 → ℝ} {G V : Fin 1024 → Fin 128 → ℝ} {L D : Fin 1024 → Fin 1 → ℝ}
    (h1 : Reals2 v1 Q) (h3 : Reals2 v3 G) (h5 : Reals2 v5 L) (h12 : Reals2 v12 D) (hk : Reals2 v76 K) (hv : Reals2 v85 V)
    (ha : Reals2 v91 A) (p : Fin 1024) (d : Fin 256) :
    k0_pay9 v1 v3 v5 v12 v76 v85 v91 (ix2 p d)
      = ((A p d + ∑ j : Fin 1024, (if j.val / 64 ≤ p.val / 64 then dqTerm Q K G V L D p j d else 0) : ℝ) : EReal) := by
  pointwise [k0_pay9]
  rw [ha, sum_of_real _ (fun j : Fin 1024 => if j.val / 64 ≤ p.val / 64 then dqTerm Q K G V L D p j d else 0), ← EReal.coe_add]
  intro j
  rw [sum_of_real _ (fun e => Q p e * K j e) fun e => by rw [h1, hk, EReal.coe_mul],
    sum_of_real _ (fun e => G p e * V j e) fun e => by rw [h3, hv, EReal.coe_mul], h5, h12, hk, chunks_at, mask_bot,
    ← EReal.coe_sub]
  by_cases hs : j.val / 64 ≤ p.val / 64
  · rw [if_pos hs, decide_eq_true hs]
    change FloatOps.exp2 (F := Ideal) (φ := .f32) (((_ : ℝ) : EReal) - ((_ : ℝ) : EReal)) * _ * _ = _
    rw [← EReal.coe_sub, exp2_real, ← EReal.coe_mul, ← EReal.coe_mul]
    rfl
  · rw [if_neg hs, decide_eq_false hs]
    change Ideal.exp2 ((⊥ : EReal) - ((_ : ℝ) : EReal)) * _ * _ = _
    rw [EReal.bot_sub, Ideal.exp2_bot, zero_mul, zero_mul]
    rfl

theorem pay4_at {x y : Vec Ideal S1024x128 .bf16} {X Y : Fin 1024 → Fin 128 → ℝ} (hx : Reals2 x X) (hy : Reals2 y Y)
    (p : Fin 1024) (z : Fin 1) : k0_pay4 x y (ix2 p z) = ((∑ e, Y p e * X p e : ℝ) : EReal) := by
  pointwise [k0_pay4, k0_pay2]
  exact sum_of_real _ _ fun e => by rw [hx, hy, EReal.coe_mul]

theorem pay10_at {x : Vec Ideal S1024x256 .f32} {X : Fin 1024 → Fin 256 → ℝ} (hx : Reals2 x X)
    (p : Fin 1024) (d : Fin 256) : k0_pay10 x (ix2 p d) = ((X p d * c0 : ℝ) : EReal) := by
  pointwise [k0_pay10]
  rw [hx, ofBits_c0, EReal.coe_mul]

theorem pay5_at {x y : Vec Ideal S1024x128 .bf16} {X Y : Fin 1024 → Fin 128 → ℝ} (hx : Reals2 x X) (hy : Reals2 y Y)
    (p : Fin 1024) : k0_pay5 x y (ix4 0 0 0 p) = ((∑ e, Y p e * X p e : ℝ) : EReal) := by
  pointwise [k0_pay5]
  rw [Finset.sum_eq_single p]
  · rw [eq_at, decide_eq_true rfl]
    exact pay4_at hx hy p 0
  · intro j _ hj
    rw [eq_at, decide_eq_false hj]
    rfl
  · exact fun h => absurd (Finset.mem_univ p) h

end Cert.Att

end
-- ==== Proof.Att.DqLoop.lean ====
/- The query gradient's accumulator after any number of trips of the loop over the key blocks before the query's own. -/
module

public import proofs.«01_k».proof.Proof.Gen.KernelIdeal.Loops
public import proofs.«01_k».proof.Proof.Att.DqPay
public import Idealize.ShloMosaic.Lib.Pipeline.ValueKit
public import Idealize.ShloMosaic.Lib.Pipeline.ReadBack

@[expose] public section

noncomputable section

namespace Cert.Att

open Idealize.ShloMosaic Idealize.ShloMosaic.TcCoe Idealize.SL.Sem Cert.KernelIdeal Cert.KernelIdeal.Gen

variable (c : Dev nD) (i : grid0.Coords) (arg2 : Memref sig .tc .vmem S1024x256 .bf16) (harg2 : arg2.IsWhole) (arg3 : Memref sig .tc .vmem S16384x256 .bf16) (harg3 : arg3.IsWhole) (arg4 : Memref sig .tc .vmem S16384x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1024x128 .bf16) (harg7 : arg7.IsWhole) (arg8 : Memref sig .tc .vmem S1024x256 .bf16) (harg8 : arg8.IsWhole) (arg9 : Memref sig .tc .vmem S1x1x1x1024 .f32) (harg9 : arg9.IsWhole) (arg10 : Memref sig .tc .vmem S1024x256 .f32) (harg10 : arg10.IsWhole) (arg1 : BitVec 32)
  (v1 : FVec Ideal S1024x256 .bf16) (v3 : FVec Ideal S1024x128 .bf16) (v5 : FVec Ideal S1024x1 .f32) (v12 : FVec Ideal S1024x1 .f32) (z33 v33 : BitVec 32)

theorem tripL_eq (X3 : BufTy.Contents (Elt Ideal) arg3.view.ty) (X4 : BufTy.Contents (Elt Ideal) arg4.view.ty)
    (k : Fin (k0_t1_loop i).trips) (f : BufTy.Contents (Elt Ideal) arg10.view.ty) :
    tripL_k0_t1 (F := Ideal) Variants.none c none i arg2 harg2 arg3 harg3 arg4 harg4 arg5 harg5 arg6 harg6 arg7 harg7 arg8 harg8 arg9 harg9 arg10 harg10 arg1 v1 v3 v5 v12 z33 v33 X3 X4 k f
      = [⟨Rect.unit (s := S1024x256) ![0, 0] S1024x256.size inb_S1024x256_S1024x256_0_0,
          k0_pay7 v1 v3 v5 v12
            (View.readAt (Elt Ideal) arg3.view (Rect.unit (s := S16384x256) (k0_off1 i k) S1024x256.size (k0_off1_inb i k)).toLoadRect X3)
            (View.readAt (Elt Ideal) arg4.view (Rect.unit (s := S16384x128) (k0_off2 i k) S1024x128.size (k0_off2_inb i k)).toLoadRect X4)
            (View.readAt (Elt Ideal) arg10.view (Rect.unit (s := S1024x256) ![0, 0] S1024x256.size inb_S1024x256_S1024x256_0_0).toLoadRect f)⟩] := by
  unfold tripL_k0_t1 trip_k0_t1
  rfl

/-- The pieces stored before trip `n`, the zero fill last. -/
abbrev pieces (X3 : BufTy.Contents (Elt Ideal) arg3.view.ty) (X4 : BufTy.Contents (Elt Ideal) arg4.view.ty) (n : ℕ) : List (View.Piece (Elt Ideal) S1024x256 .f32) :=
  pb_k0_t1 (F := Ideal) Variants.none c none i arg2 harg2 arg3 harg3 arg4 harg4 arg5 harg5 arg6 harg6 arg7 harg7 arg8 harg8 arg9 harg9 arg10 harg10 arg1 v1 v3 v5 v12 z33 v33 X3 X4
    (arg10.view.writes (Elt Ideal) arg10.view.junk [⟨Rect.unit (s := S1024x256) ![0, 0] S1024x256.size inb_S1024x256_S1024x256_0_0, (k0_pay6 (F := Ideal) : S1024x256.Idx → Elt Ideal .f32)⟩]) n
  ++ [⟨Rect.unit (s := S1024x256) ![0, 0] S1024x256.size inb_S1024x256_S1024x256_0_0, (k0_pay6 (F := Ideal) : S1024x256.Idx → Elt Ideal .f32)⟩]

variable {Q : Fin 1024 → Fin 256 → ℝ} {K : ℕ → Fin 1024 → Fin 256 → ℝ} {G : Fin 1024 → Fin 128 → ℝ} {V : ℕ → Fin 1024 → Fin 128 → ℝ} {L D : Fin 1024 → Fin 1 → ℝ}

theorem acc_at (h1 : Reals2 v1 Q) (h3 : Reals2 v3 G) (h5 : Reals2 v5 L) (h12 : Reals2 v12 D)
    (X3 : BufTy.Contents (Elt Ideal) arg3.view.ty) (X4 : BufTy.Contents (Elt Ideal) arg4.view.ty)
    (hk : ∀ k : Fin (k0_t1_loop i).trips, Reals2 (View.readAt (Elt Ideal) arg3.view (Rect.unit (s := S16384x256) (k0_off1 i k) S1024x256.size (k0_off1_inb i k)).toLoadRect X3) (K k.val))
    (hv : ∀ k : Fin (k0_t1_loop i).trips, Reals2 (View.readAt (Elt Ideal) arg4.view (Rect.unit (s := S16384x128) (k0_off2 i k) S1024x128.size (k0_off2_inb i k)).toLoadRect X4) (V k.val))
    (n : ℕ) (hn : n ≤ (k0_t1_loop i).trips) :
    Reals2 (arg10.view.readCov (pieces c i arg2 harg2 arg3 harg3 arg4 harg4 arg5 harg5 arg6 harg6 arg7 harg7 arg8 harg8 arg9 harg9 arg10 harg10 arg1 v1 v3 v5 v12 z33 v33 X3 X4 n)
      (Rect.unit (s := S1024x256) ![0, 0] S1024x256.size inb_S1024x256_S1024x256_0_0).toLoadRect)
      (fun p d => ∑ b ∈ Finset.range n, ∑ j, dqTerm Q (K b) G (V b) L D p j d) := by
  induction n with
  | zero =>
    intro p d
    unfold pieces
    rw [pb_k0_t1.eq_1, List.nil_append, View.readCov_fill _ _ _ _ _ (by decide)]
    dsimp only
    rw [View.ld_unit_lit' _ _ (by decide), Finset.sum_range_zero]
    pointwise [k0_pay6]
    rfl
  | succ n ih =>
    have ih := ih (by omega)
    have e := pb_k0_t1_succ (F := Ideal) Variants.none c none i arg2 harg2 arg3 harg3 arg4 harg4 arg5 harg5 arg6 harg6 arg7 harg7 arg8 harg8 arg9 harg9 arg10 harg10 arg1 v1 v3 v5 v12 z33 v33 X3 X4
      (arg10.view.writes (Elt Ideal) arg10.view.junk [⟨Rect.unit (s := S1024x256) ![0, 0] S1024x256.size inb_S1024x256_S1024x256_0_0, (k0_pay6 (F := Ideal) : S1024x256.Idx → Elt Ideal .f32)⟩]) ⟨n, hn⟩
    rw [tripL_eq, ← View.writes_append] at e
    intro p d
    unfold pieces
    rw [e, List.append_assoc, List.singleton_append, View.readCov_fill _ _ _ _ _ (by decide)]
    dsimp only
    rw [View.ld_unit_lit' _ _ (by decide), Finset.sum_range_succ]
    exact pay7_at h1 h3 h5 h12 (hk ⟨n, hn⟩) (hv ⟨n, hn⟩) ih p d

end Cert.Att

end
-- ==== Proof.Att.DqBlock.lean ====
/- The query gradient's blocks: what a grid point reads of the arrays it is handed, and what it leaves. -/
module

public import proofs.«01_k».proof.Proof.Att.DqEntry
public import proofs.«01_k».proof.Proof.Att.DqLoop
public import Idealize.ShloMosaic.Lib.LoopRemainder

@[expose] public section

noncomputable section

namespace Cert.Att

open Idealize.ShloMosaic Idealize.ShloMosaic.TcCoe Idealize.SL.Sem Cert.KernelIdeal Cert.KernelIdeal.Gen

variable {m : (ℓ : Loc nD τ sig) → Buf (Elt Ideal) ℓ} {c : Dev nD}

/-- The head and the query block of a grid point. -/
theorem idx : ∀ t : Fin cfg0.N,
    win0_0.index t = ![(grid0.coords t 1).val, (grid0.coords t 0).val] ∧ win0_1.index t = ![0, (grid0.coords t 0).val]
    ∧ win0_2.index t = ![0, (grid0.coords t 0).val] ∧ win0_3.index t = ![(grid0.coords t 1).val, (grid0.coords t 0).val]
    ∧ win0_4.index t = ![(grid0.coords t 0).val, (grid0.coords t 1).val, 0]
    ∧ win0_5.index t = ![(grid0.coords t 1).val, (grid0.coords t 0).val]
    ∧ win0_6.index t = ![(grid0.coords t 1).val, (grid0.coords t 0).val]
    ∧ win0_7.index t = ![(grid0.coords t 0).val, (grid0.coords t 1).val, 0, 0] :=
  (by decide +kernel : ∀ t : Fin grid0.N, _)

/-- The head of a grid point. -/
abbrev hd (t : Fin cfg0.N) : Fin 6 := grid0.coords t 0
/-- The query block of a grid point. -/
abbrev qb (t : Fin cfg0.N) : Fin 16 := grid0.coords t 1
/-- The query in row `p` of a block. -/
abbrev row (b : Fin 16) (p : Fin 1024) : Fin 16384 := ⟨b.val * 1024 + p.val, by omega⟩

theorem blk_q (t : Fin cfg0.N) (p : Fin 1024) (d : Fin 256) :
    iblk m c 0 t (ix2 p d) = (V m c main_v61 : FVec Ideal S16384x1536 .bf16) (ix2 (row (qb t) p) ⟨(hd t).val * 256 + d.val, by omega⟩) := by
  blk_point [iblk, idx t]

theorem blk_k (t : Fin cfg0.N) (p : Fin 16384) (d : Fin 256) :
    iblk m c 1 t (ix2 p d) = (V m c main_v65 : FVec Ideal S16384x1536 .bf16) (ix2 p ⟨(hd t).val * 256 + d.val, by omega⟩) := by
  blk_point [iblk, idx t]

theorem blk_v (t : Fin cfg0.N) (p : Fin 16384) (d : Fin 128) :
    iblk m c 2 t (ix2 p d) = (V m c main_v67 : FVec Ideal S16384x768 .bf16) (ix2 p ⟨(hd t).val * 128 + d.val, by omega⟩) := by
  blk_point [iblk, idx t]

theorem blk_do (t : Fin cfg0.N) (p : Fin 1024) (d : Fin 128) :
    iblk m c 3 t (ix2 p d) = (V m c main_v70 : FVec Ideal S16384x768 .bf16) (ix2 (row (qb t) p) ⟨(hd t).val * 128 + d.val, by omega⟩) := by
  blk_point [iblk, idx t]

theorem blk_lse (t : Fin cfg0.N) (p : Fin 1024) :
    iblk m c 4 t (ix3 0 p 0) = (V m c main_v53 : FVec Ideal S6x16384x1 .f32) (ix3 (hd t) (row (qb t) p) 0) := by
  blk_point [iblk, idx t]
  exact Nat.add_zero _

theorem blk_o (t : Fin cfg0.N) (p : Fin 1024) (d : Fin 128) :
    iblk m c 5 t (ix2 p d) = (V m c main_v68 : FVec Ideal S16384x768 .bf16) (ix2 (row (qb t) p) ⟨(hd t).val * 128 + d.val, by omega⟩) := by
  have e : ∀ X : FVec Ideal S16384x768 .bf16, ((cfg0.win 5).blk t).view.read (Elt Ideal) X (ix2 p d)
      = X (ix2 (row (qb t) p) ⟨(hd t).val * 128 + d.val, by omega⟩) := fun X => by
    blk_point [idx t]
  exact e _

end Cert.Att

end
-- ==== Proof.Att.Blocks.lean ====
/- Sums over the 16384 tokens taken by blocks of 1024, and the terms of the attention's gradients that no query sees. -/
module

public import proofs.«01_k».proof.Proof.Att.Math
public import Mathlib.Algebra.BigOperators.Fin
public import Mathlib.Logic.Equiv.Fin.Basic

@[expose] public section

noncomputable section

namespace Cert.Att

open scoped BigOperators

/-- Token `p` of block `b`. -/
def tok (b : ℕ) (p : Fin 1024) : Fin 16384 := ⟨(b * 1024 + p.val) % 16384, by omega⟩

theorem tok_val (b : ℕ) (hb : b < 16) (p : Fin 1024) : (tok b p).val = b * 1024 + p.val := by
  show (b * 1024 + p.val) % 16384 = _
  omega

theorem sum_tok (f : Fin 16384 → ℝ) : ∑ j, f j = ∑ b ∈ Finset.range 16, ∑ p, f (tok b p) := by
  rw [Finset.sum_range (fun b => ∑ p, f (tok b p)), ← Fintype.sum_prod_type' (fun (b : Fin 16) p => f (tok b.val p))]
  refine (Fintype.sum_equiv (finProdFinEquiv (m := 16) (n := 1024)) _ _ fun x => ?_).symm
  refine congrArg f (Fin.ext ?_)
  rw [tok_val _ x.1.isLt]
  show _ = x.2.val + 1024 * x.1.val
  omega

/-- A sum whose terms after block `n` are 0: the blocks before it, and its own. -/
theorem sum_upto (f : Fin 16384 → ℝ) (n : ℕ) (hn : n < 16) (h0 : ∀ b, n < b → b < 16 → ∀ p, f (tok b p) = 0) :
    ∑ j, f j = ∑ b ∈ Finset.range n, ∑ p, f (tok b p) + ∑ p, f (tok n p) := by
  rw [sum_tok, ← Finset.sum_range_succ (fun b => ∑ p, f (tok b p))]
  refine (Finset.sum_subset (Finset.range_subset_range.mpr (by omega)) fun b hb hb' => ?_).symm
  rw [Finset.mem_range] at hb hb'
  exact Finset.sum_eq_zero fun p _ => h0 b (by omega) hb p

/-- A sum whose terms before block `n` are 0: its own block, and the blocks after it. -/
theorem sum_from (f : Fin 16384 → ℝ) (n : ℕ) (hn : n < 16) (h0 : ∀ b, b < n → ∀ p, f (tok b p) = 0) :
    ∑ j, f j = ∑ p, f (tok n p) + ∑ b ∈ Finset.range (15 - n), ∑ p, f (tok (n + 1 + b) p) := by
  have e : 16 = n + (1 + (15 - n)) := by omega
  rw [sum_tok, e, Finset.sum_range_add, Finset.sum_range_add, Finset.sum_range_one,
    Finset.sum_eq_zero fun b hb => Finset.sum_eq_zero fun p _ => h0 b (Finset.mem_range.mp hb) p, zero_add]
  simp only [add_assoc, add_zero]

theorem sees_lt {b b' : ℕ} (h : b' < b) (hb : b < 16) (p j : Fin 1024) : Sees (tok b p) (tok b' j) := by
  show (tok b' j).val / 64 ≤ (tok b p).val / 64
  rw [tok_val _ hb, tok_val _ (by omega)]; omega

theorem not_sees_lt {b b' : ℕ} (h : b < b') (hb : b' < 16) (p j : Fin 1024) : ¬ Sees (tok b p) (tok b' j) := by
  show ¬ (tok b' j).val / 64 ≤ (tok b p).val / 64
  rw [tok_val _ hb, tok_val _ (by omega)]; omega

theorem sees_same {b : ℕ} (hb : b < 16) (p j : Fin 1024) : Sees (tok b p) (tok b j) ↔ j.val / 64 ≤ p.val / 64 := by
  show (tok b j).val / 64 ≤ (tok b p).val / 64 ↔ _
  rw [tok_val _ hb, tok_val _ hb]; omega

end Cert.Att

end
-- ==== Proof.Att.DqValue.lean ====
/- What a grid point of the query gradient's call leaves: the gradient of its block of queries, and their backward sums. -/
module

public import proofs.«01_k».proof.Proof.Att.DqBlock
public import proofs.«01_k».proof.Proof.Att.Blocks

@[expose] public section

noncomputable section

namespace Cert.Att

open Idealize.ShloMosaic Idealize.ShloMosaic.TcCoe Idealize.SL.Sem Cert.KernelIdeal Cert.KernelIdeal.Gen

variable {m : (ℓ : Loc nD τ sig) → Buf (Elt Ideal) ℓ} {c : Dev nD} {a : Nums}

/-- The arguments hold the real numbers of `a`. -/
abbrev HoldsAt (m : (ℓ : Loc nD τ sig) → Buf (Elt Ideal) ℓ) (c : Dev nD) (a : Nums) : Prop :=
  Holds a (aQn m c) (aQr m c) (aKn m c) (aKr m c) (aV m c) (aG m c)

theorem row_eq (b : Fin 16) (p : Fin 1024) : row b p = tok b.val p := Fin.ext (tok_val _ b.isLt p).symm

theorem real_q (H : HoldsAt m c a) (t : Fin cfg0.N) : Reals2 (k0_pay1 (iblk m c 0 t))
    (fun p d => a.q (tok (qb t).val p) (hd t) d * (c0 / Real.log 2)) := by
  intro p d
  have e : k0_pay1 (iblk m c 0 t) (ix2 p d) = iblk m c 0 t (ix2 p d) := by pointwise [k0_pay1]
  rw [e, blk_q, V_q, queriesIn_at H, row_eq]
  congr 3 <;> apply Fin.ext <;> simp <;> omega

theorem real_do' (H : HoldsAt m c a) (t : Fin cfg0.N) : Reals2 (iblk m c 3 t : Vec Ideal S1024x128 .bf16) (fun p d => a.g (tok (qb t).val p) (hd t) d) := by
  intro p d
  rw [blk_do, V_do, sideBySide_at, H.g, row_eq]
  congr 2 <;> apply Fin.ext <;> simp <;> omega

theorem real_do (H : HoldsAt m c a) (t : Fin cfg0.N) : Reals2 (k0_pay2 (iblk m c 3 t))
    (fun p d => a.g (tok (qb t).val p) (hd t) d) := by
  intro p d
  have e : k0_pay2 (iblk m c 3 t) (ix2 p d) = iblk m c 3 t (ix2 p d) := by pointwise [k0_pay2]
  exact e.trans (real_do' H t p d)

theorem real_o (H : HoldsAt m c a) (hO : ∀ i h d, mix (aV m c) (weights (exps0 (aQn m c) (aQr m c) (aKn m c) (toHeads (aKr m c)))) (ix3 i h d) = (a.o i h d : EReal))
    (t : Fin cfg0.N) : Reals2 (iblk m c 5 t : Vec Ideal S1024x128 .bf16) (fun p d => a.o (tok (qb t).val p) (hd t) d) := by
  intro p d
  rw [blk_o, V_o, sideBySide_at, hO, row_eq]
  congr 2 <;> apply Fin.ext <;> simp <;> omega

theorem real_lse (H : HoldsAt m c a) (t : Fin cfg0.N) : Reals2 (k0_pay3 (iblk m c 4 t))
    (fun p _ => a.lse2 (hd t) (tok (qb t).val p)) := by
  intro p d
  have e : k0_pay3 (iblk m c 4 t) (ix2 p d) = iblk m c 4 t (ix3 0 p 0) := by pointwise [k0_pay3]
  have e' : ∀ X : FVec Ideal S6x16384 .f32, ∀ h i, shapeCast S6x16384x1 X shapeCasts_S6x16384_S6x16384x1 (ix3 h i 0) = X (ix2 h i) := by
    intro X h i; pointwise
  rw [e, blk_lse, V_lse, e', lseRows_at H, row_eq]

theorem real_k (H : HoldsAt m c a) (t : Fin cfg0.N) (off : Fin 2 → ℕ) (b : ℕ) (hb : b < 16) (ho : off = ![1024 * b, 0])
    (inb : ∀ x, off x + S1024x256.size x ≤ S16384x256.size x) :
    Reals2 (View.ld (iblk m c 1 t : Vec Ideal S16384x256 .bf16) (Rect.unit (s := S16384x256) off S1024x256.size inb)) (fun p d => a.k (tok b p) (hd t) d) := by
  subst ho
  intro p d
  refine (View.ld_unit_apply_of (iblk m c 1 t : Vec Ideal S16384x256 .bf16) _ _ inb (ix2 p d) (ix2 (tok b p) d) ?_).trans ?_
  · intro x
    match x with
    | ⟨0, _⟩ => show (tok b p).val = 1024 * b + p.val; rw [tok_val _ hb]; omega
    | ⟨1, _⟩ => show d.val = 0 + d.val; omega
  · rw [blk_k, V_k, keysIn_at H]
    congr 2 <;> apply Fin.ext <;> simp <;> omega

theorem real_v (H : HoldsAt m c a) (t : Fin cfg0.N) (off : Fin 2 → ℕ) (b : ℕ) (hb : b < 16) (ho : off = ![1024 * b, 0])
    (inb : ∀ x, off x + S1024x128.size x ≤ S16384x128.size x) :
    Reals2 (View.ld (iblk m c 2 t : Vec Ideal S16384x128 .bf16) (Rect.unit (s := S16384x128) off S1024x128.size inb)) (fun p d => a.v (tok b p) (hd t) d) := by
  subst ho
  intro p d
  refine (View.ld_unit_apply_of (iblk m c 2 t : Vec Ideal S16384x128 .bf16) _ _ inb (ix2 p d) (ix2 (tok b p) d) ?_).trans ?_
  · intro x
    match x with
    | ⟨0, _⟩ => show (tok b p).val = 1024 * b + p.val; rw [tok_val _ hb]; omega
    | ⟨1, _⟩ => show d.val = 0 + d.val; omega
  · rw [blk_v, V_v, sideBySide_at, H.v]
    congr 2 <;> apply Fin.ext <;> simp <;> omega

/-- A term of a query's gradient, of a key that the query sees. -/
theorem dqTerm_eq (a : Nums) (h : Fin 6) (b b' : ℕ) (p j : Fin 1024) (d : Fin 256) (hs : Sees (tok b p) (tok b' j)) :
    dqTerm (fun p d => a.q (tok b p) h d * (c0 / Real.log 2)) (fun p d => a.k (tok b' p) h d)
      (fun p d => a.g (tok b p) h d) (fun p d => a.v (tok b' p) h d) (fun p _ => a.lse2 h (tok b p)) (fun p _ => a.del h (tok b p)) p j d
      = a.ds h (tok b p) (tok b' j) * a.k (tok b' j) h d := by
  unfold dqTerm
  rw [sum_q_k, a.rpow_P h _ _ hs]
  rfl

/-- A query's gradient by key blocks: the blocks before its own, and its own under the mask. -/
theorem dq_sum (a : Nums) (h : Fin 6) (b : ℕ) (hb : b < 16) (p : Fin 1024) (d : Fin 256) :
    ∑ b' ∈ Finset.range b, ∑ j, dqTerm (fun p d => a.q (tok b p) h d * (c0 / Real.log 2)) (fun p d => a.k (tok b' p) h d)
        (fun p d => a.g (tok b p) h d) (fun p d => a.v (tok b' p) h d) (fun p _ => a.lse2 h (tok b p)) (fun p _ => a.del h (tok b p)) p j d
      + ∑ j : Fin 1024, (if j.val / 64 ≤ p.val / 64 then
          dqTerm (fun p d => a.q (tok b p) h d * (c0 / Real.log 2)) (fun p d => a.k (tok b p) h d)
            (fun p d => a.g (tok b p) h d) (fun p d => a.v (tok b p) h d) (fun p _ => a.lse2 h (tok b p)) (fun p _ => a.del h (tok b p)) p j d
        else 0)
      = ∑ j, a.ds h (tok b p) j * a.k j h d := by
  rw [sum_upto (fun j => a.ds h (tok b p) j * a.k j h d) b hb fun b' h1 h2 j => by
    rw [ds_of_not a h _ _ (not_sees_lt h1 h2 p j), zero_mul]]
  congr 1
  · refine Finset.sum_congr rfl fun b' h' => Finset.sum_congr rfl fun j _ => ?_
    exact dqTerm_eq a h b b' p j d (sees_lt (Finset.mem_range.mp h') hb p j)
  · refine Finset.sum_congr rfl fun j _ => ?_
    by_cases hs : j.val / 64 ≤ p.val / 64
    · rw [if_pos hs]; exact dqTerm_eq a h b b p j d ((sees_same hb p j).mpr hs)
    · rw [if_neg hs, ds_of_not a h _ _ (fun hh => hs ((sees_same hb p j).mp hh)), zero_mul]

theorem trips_eq (t : Fin cfg0.N) : (k0_t1_loop (grid0.coords t)).trips = (qb t).val := by
  have h : ∀ b : Fin 16, Scf.trips 0#32 (Scalar.addi 0#32 (Scalar.muli (Scalar.divsi (Scalar.subi (BitVec.ofNat 32 b.val) 0#32) 1#32) 1#32)) 1#32 = b.val := by
    decide +kernel
  exact h (qb t)

/-- The backward sums, as the kernel holds them. -/
theorem real_del (H : HoldsAt m c a) (hO : ∀ i h d, mix (aV m c) (weights (exps0 (aQn m c) (aQr m c) (aKn m c) (toHeads (aKr m c)))) (ix3 i h d) = (a.o i h d : EReal))
    (t : Fin cfg0.N) : Reals2 (k0_pay4 (iblk m c 3 t) (iblk m c 5 t)) (fun p _ => a.del (hd t) (tok (qb t).val p)) := fun p z =>
  pay4_at (real_do' H t) (real_o H hO t) p z

set_option pp.deepTerms false in
set_option pp.proofs false in
theorem after6 (H : HoldsAt m c a) (hO : ∀ i h d, mix (aV m c) (weights (exps0 (aQn m c) (aQr m c) (aKn m c) (toHeads (aKr m c)))) (ix3 i h d) = (a.o i h d : EReal))
    (t : Fin cfg0.N) : Reals2 ((dats m 0 c).after 6 t : Vec Ideal S1024x256 .bf16)
      (fun p d => (∑ j, a.ds (hd t) (tok (qb t).val p) j * a.k j (hd t) d) * c0) := by
  intro p d
  rw [after0_6]
  simp only [outsAt0]
  frame_out
  refine pay10_at (X := fun p d => ∑ j, a.ds (hd t) (tok (qb t).val p) j * a.k j (hd t) d) ?_ p d
  intro p d
  dsimp only
  rw [← dq_sum a (hd t) (qb t).val (qb t).isLt p d]
  refine pay9_at (real_q H t) (real_do H t) (real_lse H t) (real_del H hO t)
    (real_k H t _ (qb t).val (qb t).isLt (k0_off5_eq _) _) (real_v H t _ (qb t).val (qb t).isLt (k0_off6_eq _) _)
    (A := fun p d => ∑ b ∈ Finset.range (qb t).val, ∑ j, dqTerm _ (fun p d => a.k (tok b p) (hd t) d) _ (fun p d => a.v (tok b p) (hd t) d) _ _ p j d) ?_ p d
  rw [Scf.rem_trips, pb_k0_t2.eq_1, List.nil_append]
  intro p d
  have hlt : ∀ k : Fin (k0_t1_loop (grid0.coords t)).trips, k.val < 16 := fun k =>
    lt_trans (lt_of_lt_of_eq k.isLt (trips_eq t)) (qb t).isLt
  refine (acc_at (K := fun b p d => a.k (tok b p) (hd t) d) (V := fun b p d => a.v (tok b p) (hd t) d) c (grid0.coords t)
    (ms0_0 t) _ (ms0_1 t) _ (ms0_2 t) _ (ms0_3 t) _ (ms0_4 t) _ (ms0_5 t) _ (ms0_6 t) _ (ms0_7 t) _ scM0_0 _ _ _ _ _ _ _ _
    (real_q H t) (real_do H t) (real_lse H t) (real_del H hO t) _ _ ?_ ?_ _ le_rfl p d).trans ?_
  · intro k
    rw [View.readAt_eq_ld, Memref.IsWhole.read_unread]
    exact real_k H t _ k.val (hlt k) (k0_off1_eq _ k) _
  · intro k
    rw [View.readAt_eq_ld, Memref.IsWhole.read_unread]
    exact real_v H t _ k.val (hlt k) (k0_off2_eq _ k) _
  · dsimp only
    rw [trips_eq]

theorem after7 (H : HoldsAt m c a) (hO : ∀ i h d, mix (aV m c) (weights (exps0 (aQn m c) (aQr m c) (aKn m c) (toHeads (aKr m c)))) (ix3 i h d) = (a.o i h d : EReal))
    (t : Fin cfg0.N) (p : Fin 1024) : ((dats m 0 c).after 7 t : Vec Ideal S1x1x1x1024 .f32) (ix4 0 0 0 p)
      = (a.del (hd t) (tok (qb t).val p) : EReal) := by
  rw [after0_7]
  simp only [outsAt0]
  frame_out
  exact pay5_at (real_do' H t) (real_o H hO t) p

end Cert.Att

end
-- ==== Proof.Att.Ref1.lean ====
/- The first reference's results are the functions of Proof/Att/Host.lean, and read as the real gradient. -/
module

public import proofs.«01_k».proof.Proof.Gen.ReferenceIdeal.Run
public import proofs.«01_k».proof.Proof.Att.HostRead

@[expose] public section

noncomputable section

namespace Cert.Att

open Idealize.ShloMosaic Idealize.ShloMosaic.TcCoe Idealize.SL.Sem Cert.ReferenceIdeal Cert.ReferenceIdeal.Gen

/-- The reference's scores' gradient, of its arguments. -/
def ref1Scores (qn : Nope) (qr : Rope) (kn : Nope) (kr : Rope1) (v g : Nope) : Pairs :=
  dScores (dWeights g v) (exps0 qn qr kn (toHeads kr))

def ref1Dq (qn : Nope) (qr : Rope) (kn : Nope) (kr : Rope1) (v g : Nope) : FVec Ideal S16384x1536 .bf16 :=
  padded (dqNope (ref1Scores qn qr kn kr v g) kn) (dqRope (ref1Scores qn qr kn kr v g) (toHeads kr))

def ref1Delta (qn : Nope) (qr : Rope) (kn : Nope) (kr : Rope1) (v g : Nope) : FVec Ideal S6x16x1x1024 .f32 :=
  deltaRows (mix v (weights (exps0 qn qr kn (toHeads kr)))) g

set_option maxRecDepth 8192 in
theorem ref1_out1 (m : (ℓ : Loc nD τ sig) → Buf (Elt Ideal) ℓ) (c : Dev nD) :
    Value.res_out1 m c = ref1Delta (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold Value.res_out1 Value.res_main_v79
  rfl

set_option maxRecDepth 8192 in
theorem ref1_out0 (m : (ℓ : Loc nD τ sig) → Buf (Elt Ideal) ℓ) (c : Dev nD) :
    Value.res_out0 m c = ref1Dq (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold Value.res_out0 Value.res_main_v75
  rfl

variable {a : Nums} {qn : Nope} {qr : Rope} {kn : Nope} {kr : Rope1} {v g : Nope}

theorem ref1Scores_at (H : Holds a qn qr kn kr v g) (h : Fin 6) (i j : Fin 16384) :
    ref1Scores qn qr kn kr v g (ix3 h i j) = ((a.ds h i j * c0 : ℝ) : EReal) := by
  obtain ⟨M, hM⟩ := largest_real H
  exact dScores_at H (largest'_at hM) h i j

theorem ref1Dq_at (H : Holds a qn qr kn kr v g) (i : Fin 16384) (c : Fin 1536) :
    ref1Dq qn qr kn kr v g (ix2 i c)
      = ((cat 0 (fun d => ∑ j, a.ds ⟨c.val / 256, by omega⟩ i j * c0 * a.kn j ⟨c.val / 256, by omega⟩ d)
          (fun d => ∑ j, a.ds ⟨c.val / 256, by omega⟩ i j * c0 * a.kr j d) ⟨c.val % 256, by omega⟩ : ℝ) : EReal) := by
  unfold ref1Dq
  rw [padded_at]
  unfold cat
  dsimp only
  split_ifs
  · exact dqNope_at H (ref1Scores_at H) _ _ _
  · exact dqRope_at H (ref1Scores_at H) _ _ _
  · rfl

theorem ref1O_at (H : Holds a qn qr kn kr v g) (i : Fin 16384) (h : Fin 6) (d : Fin 128) :
    mix v (weights (exps0 qn qr kn (toHeads kr))) (ix3 i h d) = (a.o i h d : EReal) := by
  obtain ⟨M, hM⟩ := largest_real H
  exact mix_at H (weights_at H (largest'_at hM)) i h d

theorem ref1Delta_at (H : Holds a qn qr kn kr v g) (h : Fin 6) (b : Fin 16) (p : Fin 1024) :
    ref1Delta qn qr kn kr v g (ix4 h b 0 p) = (a.del h ⟨b.val * 1024 + p.val, by omega⟩ : EReal) :=
  deltaRows_at H (ref1O_at H) h b p

end Cert.Att

end
-- ==== Proof.Att.DqArray.lean ====
/- The query gradient's call returns the reference's arrays. -/
module

public import proofs.«01_k».proof.Proof.Att.DqValue
public import proofs.«01_k».proof.Proof.Att.Ref1

@[expose] public section

noncomputable section

namespace Cert.Att

open Idealize.ShloMosaic Idealize.ShloMosaic.TcCoe Idealize.SL.Sem Cert.KernelIdeal Cert.KernelIdeal.Gen

variable {m : (ℓ : Loc nD τ sig) → Buf (Elt Ideal) ℓ} {c : Dev nD} {a : Nums}

/-- The reference's query gradient is the sum over the keys, scaled. -/
theorem ref1Dq_eq {qn : Nope} {qr : Rope} {kn : Nope} {kr : Rope1} {v g : Nope} (H : Holds a qn qr kn kr v g) (i : Fin 16384)
    (h : Fin 6) (d : Fin 256) : ref1Dq qn qr kn kr v g (ix2 i ⟨h.val * 256 + d.val, by omega⟩)
      = (((∑ j, a.ds h i j * a.k j h d) * c0 : ℝ) : EReal) := by
  have e1 : (⟨(h.val * 256 + d.val) / 256, by omega⟩ : Fin 6) = h := Fin.ext (by show (h.val * 256 + d.val) / 256 = h.val; omega)
  have e2 : (⟨(h.val * 256 + d.val) % 256, by omega⟩ : Fin 256) = d := Fin.ext (by show (h.val * 256 + d.val) % 256 = d.val; omega)
  rw [ref1Dq_at H]
  simp only [e1, e2]
  refine congrArg ((↑) : ℝ → EReal) ?_
  unfold Nums.k cat
  split_ifs
  · rw [Finset.sum_mul]; exact Finset.sum_congr rfl fun j _ => by ring
  · rw [Finset.sum_mul]; exact Finset.sum_congr rfl fun j _ => by ring
  · simp

theorem out6 (H : HoldsAt m c a) : (dats m 0 c).arrAt 6 cfg0.N
    = ref1Dq (aQn m c) (aQr m c) (aKn m c) (aKr m c) (aV m c) (aG m c) := by
  refine (dats m 0 c).arrAt_eq_of_covers 6 _ (by decide +kernel) fun t hf y => ?_
  obtain ⟨p, d, rfl⟩ : ∃ p d, y = ix2 p d := ⟨y 0, y 1, eq_ix2 y⟩
  have e : ∀ X : FVec Ideal S16384x1536 .bf16, ((cfg0.win 6).blk t).view.read (Elt Ideal) X (ix2 p d)
      = X (ix2 (row (qb t) p) ⟨(hd t).val * 256 + d.val, by omega⟩) := fun X => by
    blk_point [idx t]
  refine Eq.trans ?_ ((e (ref1Dq (aQn m c) (aQr m c) (aKn m c) (aKr m c) (aV m c) (aG m c))).trans (ref1Dq_eq H _ _ _)).symm
  rw [row_eq]
  exact after6 H (ref1O_at H) t p d

theorem out7 (H : HoldsAt m c a) : (dats m 0 c).arrAt 7 cfg0.N
    = ref1Delta (aQn m c) (aQr m c) (aKn m c) (aKr m c) (aV m c) (aG m c) := by
  refine (dats m 0 c).arrAt_eq_of_covers 7 _ (by decide +kernel) fun t hf y => ?_
  obtain ⟨p, rfl⟩ : ∃ p, y = ix4 0 0 0 p := ⟨y 3, by
    rw [eq_ix4 y]; congr 1 <;> apply Fin.ext <;> simp⟩
  have e : ∀ X : FVec Ideal S6x16x1x1024 .f32, ((cfg0.win 7).blk t).view.read (Elt Ideal) X (ix4 0 0 0 p)
      = X (ix4 (hd t) (qb t) 0 p) := fun X => by
    blk_point [idx t] <;> exact Nat.add_zero _
  refine Eq.trans ?_ ((e (ref1Delta (aQn m c) (aQr m c) (aKn m c) (aKr m c) (aV m c) (aG m c))).trans (ref1Delta_at H _ _ _)).symm
  exact (after7 H (ref1O_at H) t p).trans (by rw [← row_eq])

end Cert.Att

end
-- ==== Proof.Att.Finite.lean ====
/- Arrays that the precondition holds of hold real numbers. -/
module

public import proofs.«01_k».proof.Proof.Att.Inputs
public import proofs.«01_k».proof.Proof.Gen.Pre_finite
public import Idealize.ShloMosaic.Lib.ReduceAll

@[expose] public section

noncomputable section

namespace Cert.Att

open Idealize.ShloMosaic Idealize.ShloMosaic.TcCoe

theorem ofBits_top : Ideal.ofBits .f32 0x7F800000#32 = ⊤ := by
  simp [Ideal.ofBits, Ideal.ieee]

/-- A number whose absolute value is below infinity is its real number. -/
theorem real_of_abs (x : EReal) (h : (FloatOps.cmpf (F := Ideal) .olt (FloatOps.absf (F := Ideal) (φ := .f32) x) (FloatOps.ofBits .f32 0x7F800000#32)) = 1#1) :
    x = ((x.toReal : ℝ) : EReal) := by
  have h' : max x (-x) < Ideal.ofBits .f32 0x7F800000#32 := by
    have e : BitVec.ofBool (decide (max x (-x) < Ideal.ofBits .f32 0x7F800000#32)) = 1#1 := h
    by_contra hn
    rw [decide_eq_false hn] at e
    exact absurd e (by decide)
  rw [ofBits_top] at h'
  exact (EReal.coe_toReal (fun e => by simp [e] at h') (fun e => by simp [e] at h')).symm

/-- If all of an array's absolute values are below infinity, its numbers are real. -/
theorem real_of_all {s : Shape} {ds : List (Fin s.rank)} (x : FVec Ideal s .f32) (hb : Pre_finite.S_.BroadcastsInDim s ![]) (hr : s.ReducesTo ds Pre_finite.S_)
    (hS : 0 < Pre_finite.S_.numel) (j : Pre_finite.S_.Idx)
    (h : Host.reduce IntOp.andi (cmpf .olt (Host.absf x) (broadcastInDim s ![] hb (constant Pre_finite.S_ .f32 0x7F800000#32)))
      (constantI Pre_finite.S_ 1 1#1) hr hS j = 1#1) (i : s.Idx) : x i = (((x i : EReal).toReal : ℝ) : EReal) :=
  real_of_abs _ (Host.reduce_andi_all _ _ _ _ j h i)

/-- The real numbers of six arrays. -/
def numsOf (qn : Nope) (qr : Rope) (kn : Nope) (kr : Rope1) (v g : Nope) : Nums where
  qn i h d := (qn (ix3 i h d) : EReal).toReal
  qr i h d := (qr (ix3 i h d) : EReal).toReal
  kn i h d := (kn (ix3 i h d) : EReal).toReal
  kr i d := (kr (ix2 i d) : EReal).toReal
  v i h d := (v (ix3 i h d) : EReal).toReal
  g i h d := (g (ix3 i h d) : EReal).toReal

theorem holds_of_finite (qn : Nope) (qr : Rope) (kn : Nope) (kr : Rope1) (v g : Nope)
    (h : Pre_finite.fn (F := Ideal) qn qr kn kr v g = fun _ => 1#1) : Holds (numsOf qn qr kn kr v g) qn qr kn kr v g := by
  have h0 := congrFun h ix0
  unfold Pre_finite.fn Pre_finite.fn_part1 at h0
  simp only [andi, IntOp.andi_eq_one] at h0
  obtain ⟨⟨⟨⟨⟨h1, h2⟩, h3⟩, h4⟩, h5⟩, h6⟩ := h0
  exact ⟨fun _ _ _ => real_of_all _ _ _ _ _ h1 _, fun _ _ _ => real_of_all _ _ _ _ _ h2 _, fun _ _ _ => real_of_all _ _ _ _ _ h3 _,
    fun _ _ => real_of_all _ _ _ _ _ h4 _, fun _ _ _ => real_of_all _ _ _ _ _ h5 _, fun _ _ _ => real_of_all _ _ _ _ _ h6 _⟩

end Cert.Att

end
-- ==== Proof.Att.Claim1.lean ====
/- The claims of program 1: its runs end with the semaphores at zero and the arguments kept, the masked score's literal
   stands for minus infinity, and the query gradient's call returns the reference's arrays. -/
module

public import proofs.«01_k».proof.Defs
public import proofs.«01_k».proof.Proof.Att.DqArray
public import proofs.«01_k».proof.Proof.Att.Finite
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Att

open Idealize.ShloMosaic Idealize.ShloMosaic.TcCoe Idealize.SL.Sem

theorem quiet1 : Cert.quiescent_Kernel (hKernel := Cert.Kernel.Gen.facts) := fun m ρ _ => Cert.Kernel.Gen.frame m ρ

theorem quiet1Ideal : Cert.quiescent_KernelIdeal (hKernelIdeal := Cert.KernelIdeal.Gen.facts) :=
  fun m ρ _ => Cert.KernelIdeal.Gen.frame m ρ

theorem quiet1IdealPre : Cert.quiescent_KernelIdeal_pre_finite (hKernelIdeal := Cert.KernelIdeal.Gen.facts) (hPre_finite := Cert.Pre_finite.Gen.facts) :=
  fun m ρ _ => Cert.KernelIdeal.Gen.frame m ρ

theorem quietRef1 : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩) (Cert.ReferenceIdeal.Value.run m ρ)

theorem quietRef1Pre : Cert.quiescent_ReferenceIdeal_pre_finite (hReferenceIdeal := Cert.ReferenceIdeal.Gen.facts) (hPre_finite := Cert.Pre_finite.Gen.facts) :=
  fun m ρ _ => quietRef1 m ρ trivial

theorem keeps1 : Cert.preserves_Kernel_KernelIdeal :=
  IdealRules.named_const.statement Cert.KernelIdeal.κ "mask" .f32 0xF149F2CA#32 ⊥ rfl

theorem equal1 : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre heq
  have H : ∀ c, HoldsAt m c _ := fun c => holds_of_finite _ _ _ _ _ _ (hpre c)
  refine ⟨fun c => (Cert.KernelIdeal.Gen.dats m 0 c).arrAt 6 Cert.KernelIdeal.cfg0.N,
    fun c => (Cert.KernelIdeal.Gen.dats m 0 c).arrAt 7 Cert.KernelIdeal.cfg0.N,
    Cert.KernelIdeal.Value.run_blocks m g, ?_⟩
  refine (θ_run Cert.ReferenceIdeal.defs _ _).mono (fun r h c => ⟨(h c).1.trans ?_, (h c).2.1.trans ?_, (h c).2.2⟩) (Cert.ReferenceIdeal.Value.run m' g')
  · obtain ⟨e0, e1, e2, e3, e4, e5⟩ := heq c
    refine (ref1_out0 m' c).trans ?_
    rw [e0, e1, e2, e3, e4, e5]
    exact (out6 (H c)).symm
  · obtain ⟨e0, e1, e2, e3, e4, e5⟩ := heq c
    refine (ref1_out1 m' c).trans ?_
    rw [e0, e1, e2, e3, e4, e5]
    exact (out7 (H c)).symm

end Cert.Att

end
-- ==== Proof.Att.DkvEntry.lean ====
/- What the key and value gradients' call is handed, as functions of the arguments. -/
module

public import proofs.«01_k».proof.Proof.Gen.Kernel2Ideal.Value
public import proofs.«01_k».proof.Proof.Att.Inputs
public import Idealize.ShloMosaic.Lib.Pipeline.ValueKit
public import Idealize.ShloMosaic.Lib.Claim
public import Idealize.ShloMosaic.Lib.StableHlo.RunRead

@[expose] public section

noncomputable section

namespace Cert.Att.Dkv

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The arguments: the queries' two parts, the keys', the rotary key, the values, the output's cotangent. -/
abbrev aQn : Nope := m ((c.tc : Thread nD τ).loc main_arg0)
abbrev aQr : Rope := m ((c.tc : Thread nD τ).loc main_arg1)
abbrev aKn : Nope := m ((c.tc : Thread nD τ).loc main_arg2)
abbrev aKr : Rope1 := m ((c.tc : Thread nD τ).loc main_arg3)
abbrev aV : Nope := m ((c.tc : Thread nD τ).loc main_arg4)
abbrev aG : Nope := m ((c.tc : Thread nD τ).loc main_arg5)

theorem V_q : (V m c main_v64 : FVec Ideal S16384x1536 .bf16) = queriesIn (aQn m c) (aQr m c) := by
  entry_read
  rfl

theorem V_k : (V m c main_v68 : FVec Ideal S16384x1536 .bf16) = padded (aKn m c) (toHeads (aKr m c)) := by
  entry_read
  rfl

theorem V_v : (V m c main_v70 : FVec Ideal S16384x768 .bf16) = sideBySide (aV m c) := by
  entry_read
  rfl

theorem V_do : (V m c main_v72 : FVec Ideal S16384x768 .bf16) = sideBySide (aG m c) := by
  entry_read
  rfl

set_option maxRecDepth 100000 in
theorem V_del : (V m c main_v56 : FVec Ideal S6x16x1x1024 .f32)
    = deltaRows (mix (aV m c) (weights (exps0 (aQn m c) (aQr m c) (aKn m c) (toHeads (aKr m c))))) (aG m c) := by
  unfold V
  unfold_abbrev_sides
  after_reads_simp
  rfl

set_option maxRecDepth 100000 in
theorem V_lse : (V m c main_v52 : FVec Ideal S6x16x1x1024 .f32)
    = shapeCast S6x16x1x1024 (lseRows (masked (aQn m c) (aQr m c) (aKn m c) (toHeads (aKr m c)))) shapeCasts_S6x16384_S6x16x1x1024 := by
  unfold V
  unfold_abbrev_sides
  after_reads_simp
  rfl

end Cert.Att.Dkv

end
-- ==== Proof.Att.DkvPay.lean ====
/- One query block's step of the key and value gradients' kernel, read at an index of the block. -/
module

public import proofs.«01_k».proof.Proof.Gen.Kernel2Ideal.Skeleton
public import proofs.«01_k».proof.Proof.Att.DqPay

@[expose] public section

noncomputable section

namespace Cert.Att.Dkv

open Idealize.ShloMosaic Idealize.ShloMosaic.TcCoe Cert.Kernel2Ideal Cert.Kernel2Ideal.Gen

/-- A row of 1024 numbers holds real numbers. -/
abbrev RealsRow (x : S1x1x1x1024.Idx → EReal) (X : Fin 1024 → ℝ) : Prop := ∀ i, x (ix4 0 0 0 i) = (X i : EReal)

/-- The weight of key `p` for query `i`. -/
def wt (K Q : Fin 1024 → Fin 256 → ℝ) (L : Fin 1024 → ℝ) (p i : Fin 1024) : ℝ :=
  Real.rpow 2 (∑ e, K p e * Q i e - L i)

/-- The gradient of the score of key `p` for query `i`. -/
def dst (K Q : Fin 1024 → Fin 256 → ℝ) (V G : Fin 1024 → Fin 128 → ℝ) (L D : Fin 1024 → ℝ) (p i : Fin 1024) : ℝ :=
  wt K Q L p i * (∑ e, V p e * G i e - D i)

/-- The kernel's stand-in for a masked score. -/
theorem mask_bot : (Named.named κ "mask" 0xF149F2CA#32 : Ideal .f32) = (⊥ : EReal) :=
  IdealRules.named_const.ideal_named_scalar _ _ _ _ rfl

/-- The kernel's natural logarithm of 2. -/
theorem ln2_real : (Named.named κ "ln2" 0x3F317218#32 : Ideal .f32) = ((Real.log 2 : ℝ) : EReal) :=
  IdealRules.named_const.ideal_named_scalar _ _ _ _ rfl

variable {v1 : FVec Ideal S1024x256 .bf16} {v3 : FVec Ideal S1024x128 .bf16} {v76 : Vec Ideal S1024x256 .bf16}
  {v81 : Vec Ideal S1024x128 .bf16} {v85 v92 : Vec Ideal S1x1x1x1024 .f32} {v97 : Vec Ideal S1024x128 .f32}
  {v104 : Vec Ideal S1024x256 .f32}
  {K Q A : Fin 1024 → Fin 256 → ℝ} {V G B : Fin 1024 → Fin 128 → ℝ} {L D : Fin 1024 → ℝ}

theorem pay5_at (h1 : Reals2 v1 K) (hq : Reals2 v76 Q) (hl : RealsRow v85 L) (p i : Fin 1024) :
    k0_pay5 v1 v76 v85 (ix2 p i) = (wt K Q L p i : EReal) := by
  pointwise [k0_pay5, k0_pay3]
  rw [sum_of_real _ (fun e => K p e * Q i e) fun e => by rw [h1, hq, EReal.coe_mul], hl, ← EReal.coe_sub, exp2_real]
  rfl

theorem pay6_at (h1 : Reals2 v1 K) (hq : Reals2 v76 Q) (hg : Reals2 v81 G) (hl : RealsRow v85 L) (hb : Reals2 v97 B)
    (p : Fin 1024) (d : Fin 128) :
    k0_pay6 v1 v76 v81 v85 v97 (ix2 p d) = ((B p d + ∑ i, wt K Q L p i * G i d : ℝ) : EReal) := by
  have e := pay5_at h1 hq hl
  revert e
  generalize hX : k0_pay5 v1 v76 v85 = X
  intro e
  unfold k0_pay6
  rw [hX]
  pointwise [k0_pay4]
  rw [hb, sum_of_real _ (fun i => wt K Q L p i * G i d) fun i => by rw [e, hg, EReal.coe_mul], ← EReal.coe_add]

theorem pay7_at (h1 : Reals2 v1 K) (h3 : Reals2 v3 V) (hq : Reals2 v76 Q) (hg : Reals2 v81 G) (hl : RealsRow v85 L)
    (hd : RealsRow v92 D) (ha : Reals2 v104 A) (p : Fin 1024) (d : Fin 256) :
    k0_pay24 (k0_pay7 v1 v3 v76 v81 v85 v92 v104) (ix2 p d)
      = ((A p d + ∑ i, dst K Q V G L D p i * Q i d : ℝ) : EReal) := by
  have e := pay5_at h1 hq hl
  revert e
  generalize hX : k0_pay5 v1 v76 v85 = X
  intro e
  unfold k0_pay7
  rw [hX]
  pointwise [k0_pay24, k0_pay3, k0_pay4]
  rw [ha, sum_of_real _ (fun i => dst K Q V G L D p i * Q i d), ← EReal.coe_add]
  intro i
  rw [sum_of_real _ (fun e => V p e * G i e) fun e => by rw [h3, hg, EReal.coe_mul], e, hd, hq, ← EReal.coe_sub,
    ← EReal.coe_mul, ← EReal.coe_mul]
  rfl

/-- The masked weight of key `p` of the query block of its own. -/
def wt' (K Q : Fin 1024 → Fin 256 → ℝ) (L : Fin 1024 → ℝ) (p i : Fin 1024) : ℝ :=
  if p.val / 64 ≤ i.val / 64 then wt K Q L p i else 0

theorem pay21_at {v0 : Vec Ideal S1024x256 .bf16} (h0 : Reals2 v0 K) (hq : Reals2 v76 Q) (hl : RealsRow v85 L) (p i : Fin 1024) :
    k0_pay21 (k0_pay19 v0 v76) (k0_pay20 v85) (ix2 p i) = (wt' K Q L p i : EReal) := by
  pointwise [k0_pay21, k0_pay19, k0_pay20, k0_pay13, k0_pay17]
  rw [sum_of_real _ (fun e => K p e * Q i e) fun e => by rw [h0, hq, EReal.coe_mul], hl, chunks_at, mask_bot]
  unfold wt'
  by_cases hs : p.val / 64 ≤ i.val / 64
  · rw [if_pos hs, decide_eq_true hs]
    change FloatOps.exp2 (F := Ideal) (φ := .f32) (((_ : ℝ) : EReal) - ((_ : ℝ) : EReal)) = _
    rw [← EReal.coe_sub, exp2_real]
    rfl
  · rw [if_neg hs, decide_eq_false hs]
    change Ideal.exp2 ((⊥ : EReal) - ((_ : ℝ) : EReal)) = _
    rw [EReal.bot_sub, Ideal.exp2_bot]
    rfl

theorem pay22_at {v0 : Vec Ideal S1024x256 .bf16} (h0 : Reals2 v0 K) (hq : Reals2 v76 Q) (hl : RealsRow v85 L)
    (hg : Reals2 v81 G) (hb : Reals2 v97 B) (p : Fin 1024) (d : Fin 128) :
    k0_pay22 (k0_pay18 v81) (k0_pay19 v0 v76) (k0_pay20 v85) v97 (ix2 p d)
      = ((B p d + ∑ i, wt' K Q L p i * G i d : ℝ) : EReal) := by
  have e := pay21_at h0 hq hl
  revert e
  generalize k0_pay19 v0 v76 = Y
  generalize k0_pay20 v85 = Z
  unfold k0_pay22
  generalize k0_pay21 Y Z = X
  intro e
  pointwise [k0_pay18]
  rw [hb, sum_of_real _ (fun i => wt' K Q L p i * G i d) fun i => by rw [e, hg, EReal.coe_mul], ← EReal.coe_add]

theorem pay23_at {v0 : Vec Ideal S1024x256 .bf16} {v2 : Vec Ideal S1024x128 .bf16} (h0 : Reals2 v0 K) (h2 : Reals2 v2 V)
    (hq : Reals2 v76 Q) (hg : Reals2 v81 G) (hl : RealsRow v85 L) (hd : RealsRow v92 D) (ha : Reals2 v104 A)
    (p : Fin 1024) (d : Fin 256) :
    k0_pay23 (k0_pay14 v2) (k0_pay17 v76) (k0_pay18 v81) (k0_pay19 v0 v76) (k0_pay20 v85) v92 v104 (ix2 p d)
      = ((A p d + ∑ i, wt' K Q L p i * (∑ e, V p e * G i e - D i) * Q i d : ℝ) : EReal) := by
  have e := pay21_at h0 hq hl
  revert e
  generalize k0_pay19 v0 v76 = Y
  generalize k0_pay20 v85 = Z
  unfold k0_pay23
  generalize k0_pay21 Y Z = X
  intro e
  pointwise [k0_pay18, k0_pay17, k0_pay14]
  rw [ha, sum_of_real _ (fun i => wt' K Q L p i * (∑ e, V p e * G i e - D i) * Q i d), ← EReal.coe_add]
  intro i
  rw [sum_of_real _ (fun e => V p e * G i e) fun e => by rw [h2, hg, EReal.coe_mul], e, hd, hq, ← EReal.coe_sub,
    ← EReal.coe_mul, ← EReal.coe_mul]

theorem pay1_at {x : Vec Ideal S1024x256 .f32} (hx : Reals2 x A) (p : Fin 1024) (d : Fin 256) :
    k0_pay1 (k0_pay26 x) (ix2 p d) = ((A p d * Real.log 2 : ℝ) : EReal) := by
  pointwise [k0_pay1, k0_pay26]
  rw [hx, ln2_real, EReal.coe_mul]

theorem pay2_at {x : Vec Ideal S1024x128 .f32} (hx : Reals2 x B) (p : Fin 1024) (d : Fin 128) :
    k0_pay2 x (ix2 p d) = (B p d : EReal) := by
  pointwise [k0_pay2]
  exact hx p d

end Cert.Att.Dkv

end
-- ==== Proof.Att.DkvLoop.lean ====
/- The key and value gradients' accumulators after any number of trips of the loop over the query blocks after the key's own. -/
module

public import proofs.«01_k».proof.Proof.Gen.Kernel2Ideal.Loops
public import proofs.«01_k».proof.Proof.Att.DkvPay
public import Idealize.ShloMosaic.Lib.Pipeline.ValueKit
public import Idealize.ShloMosaic.Lib.Pipeline.ReadBack

@[expose] public section

noncomputable section

namespace Cert.Att.Dkv

open Idealize.ShloMosaic Idealize.ShloMosaic.TcCoe Idealize.SL.Sem Cert.Kernel2Ideal Cert.Kernel2Ideal.Gen

variable (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S16384x256 .bf16) (harg4 : arg4.IsWhole) (arg5 : Memref sig .tc .vmem S16384x128 .bf16) (harg5 : arg5.IsWhole) (arg6 : Memref sig .tc .vmem S1x16x1x1024 .f32) (harg6 : arg6.IsWhole) (arg7 : Memref sig .tc .vmem S1x16x1x1024 .f32) (harg7 : arg7.IsWhole) (arg8 : Memref sig .tc .vmem S1024x256 .bf16) (harg8 : arg8.IsWhole) (arg9 : Memref sig .tc .vmem S1024x128 .bf16) (harg9 : arg9.IsWhole) (arg10 : Memref sig .tc .vmem S1024x256 .f32) (harg10 : arg10.IsWhole) (arg11 : Memref sig .tc .vmem S1024x128 .f32) (harg11 : arg11.IsWhole) (arg1 : BitVec 32)
  (v1 : FVec Ideal S1024x256 .bf16) (v3 : FVec Ideal S1024x128 .bf16) (v16 : FVec Ideal S1024x256 .bf16) (v21 : FVec Ideal S1024x128 .bf16) (v31 : FVec Ideal S1024x1024 .f32) (v34 : FVec Ideal S1x1024 .f32) (v59 : BitVec 32)

theorem tripL_eq (X4 : BufTy.Contents (Elt Ideal) arg4.view.ty) (X5 : BufTy.Contents (Elt Ideal) arg5.view.ty) (X6 : BufTy.Contents (Elt Ideal) arg6.view.ty) (X7 : BufTy.Contents (Elt Ideal) arg7.view.ty)
    (k : Fin (k0_t1_loop i).trips) (f : BufTy.Contents (Elt Ideal) arg10.view.ty) (f' : BufTy.Contents (Elt Ideal) arg11.view.ty) :
    tripL_k0_t1 (F := Ideal) Variants.none c none i arg2 harg2 arg3 harg3 arg4 harg4 arg5 harg5 arg6 harg6 arg7 harg7 arg8 harg8 arg9 harg9 arg10 harg10 arg11 harg11 arg1 v1 v3 v16 v21 v31 v34 v59 X4 X5 X6 X7 k f f'
      = ([⟨Rect.unit (s := S1024x256) ![0, 0] S1024x256.size inb_S1024x256_S1024x256_0_0,
          k0_pay24 (k0_pay7 v1 v3
            (View.readAt (Elt Ideal) arg4.view (Rect.unit (s := S16384x256) (k0_off4 i k) S1024x256.size (k0_off4_inb i k)).toLoadRect X4)
            (View.readAt (Elt Ideal) arg5.view (Rect.unit (s := S16384x128) (k0_off5 i k) S1024x128.size (k0_off5_inb i k)).toLoadRect X5)
            (View.readAt (Elt Ideal) arg6.view (Rect.unit (s := S1x16x1x1024) (k0_off6 i k) S1x1x1x1024.size (k0_off6_inb i k)).toLoadRect X6)
            (View.readAt (Elt Ideal) arg7.view (Rect.unit (s := S1x16x1x1024) (k0_off6 i k) S1x1x1x1024.size (k0_off6_inb i k)).toLoadRect X7)
            (View.readAt (Elt Ideal) arg10.view (Rect.unit (s := S1024x256) ![0, 0] S1024x256.size inb_S1024x256_S1024x256_0_0).toLoadRect f))⟩],
         [⟨Rect.unit (s := S1024x128) ![0, 0] S1024x128.size inb_S1024x128_S1024x128_0_0,
          k0_pay6 v1
            (View.readAt (Elt Ideal) arg4.view (Rect.unit (s := S16384x256) (k0_off4 i k) S1024x256.size (k0_off4_inb i k)).toLoadRect X4)
            (View.readAt (Elt Ideal) arg5.view (Rect.unit (s := S16384x128) (k0_off5 i k) S1024x128.size (k0_off5_inb i k)).toLoadRect X5)
            (View.readAt (Elt Ideal) arg6.view (Rect.unit (s := S1x16x1x1024) (k0_off6 i k) S1x1x1x1024.size (k0_off6_inb i k)).toLoadRect X6)
            (View.readAt (Elt Ideal) arg11.view (Rect.unit (s := S1024x128) ![0, 0] S1024x128.size inb_S1024x128_S1024x128_0_0).toLoadRect f')⟩]) := by
  unfold tripL_k0_t1 trip_k0_t1
  rfl

variable {K : Fin 1024 → Fin 256 → ℝ} {Q : ℕ → Fin 1024 → Fin 256 → ℝ} {V : Fin 1024 → Fin 128 → ℝ} {G : ℕ → Fin 1024 → Fin 128 → ℝ} {L D : ℕ → Fin 1024 → ℝ}
  {A0 : Fin 1024 → Fin 256 → ℝ} {B0 : Fin 1024 → Fin 128 → ℝ}

/-- The accumulators before trip `n`, over what the loop found. -/
theorem acc_at (h1 : Reals2 v1 K) (h3 : Reals2 v3 V)
    (X4 : BufTy.Contents (Elt Ideal) arg4.view.ty) (X5 : BufTy.Contents (Elt Ideal) arg5.view.ty) (X6 : BufTy.Contents (Elt Ideal) arg6.view.ty) (X7 : BufTy.Contents (Elt Ideal) arg7.view.ty)
    (hq : ∀ k : Fin (k0_t1_loop i).trips, Reals2 (View.readAt (Elt Ideal) arg4.view (Rect.unit (s := S16384x256) (k0_off4 i k) S1024x256.size (k0_off4_inb i k)).toLoadRect X4) (Q k.val))
    (hg : ∀ k : Fin (k0_t1_loop i).trips, Reals2 (View.readAt (Elt Ideal) arg5.view (Rect.unit (s := S16384x128) (k0_off5 i k) S1024x128.size (k0_off5_inb i k)).toLoadRect X5) (G k.val))
    (hl : ∀ k : Fin (k0_t1_loop i).trips, RealsRow (View.readAt (Elt Ideal) arg6.view (Rect.unit (s := S1x16x1x1024) (k0_off6 i k) S1x1x1x1024.size (k0_off6_inb i k)).toLoadRect X6) (L k.val))
    (hd : ∀ k : Fin (k0_t1_loop i).trips, RealsRow (View.readAt (Elt Ideal) arg7.view (Rect.unit (s := S1x16x1x1024) (k0_off6 i k) S1x1x1x1024.size (k0_off6_inb i k)).toLoadRect X7) (D k.val))
    (B10 : List (View.Piece (Elt Ideal) S1024x256 .f32)) (B11 : List (View.Piece (Elt Ideal) S1024x128 .f32))
    (h10 : Reals2 (arg10.view.readCov B10 (Rect.unit (s := S1024x256) ![0, 0] S1024x256.size inb_S1024x256_S1024x256_0_0).toLoadRect) A0)
    (h11 : Reals2 (arg11.view.readCov B11 (Rect.unit (s := S1024x128) ![0, 0] S1024x128.size inb_S1024x128_S1024x128_0_0).toLoadRect) B0)
    (n : ℕ) (hn : n ≤ (k0_t1_loop i).trips) :
    Reals2 (arg10.view.readCov ((pb_k0_t1 (F := Ideal) Variants.none c none i arg2 harg2 arg3 harg3 arg4 harg4 arg5 harg5 arg6 harg6 arg7 harg7 arg8 harg8 arg9 harg9 arg10 harg10 arg11 harg11 arg1 v1 v3 v16 v21 v31 v34 v59 X4 X5 X6 X7 (arg10.view.writes (Elt Ideal) arg10.view.junk B10) (arg11.view.writes (Elt Ideal) arg11.view.junk B11) n).1 ++ B10) (Rect.unit (s := S1024x256) ![0, 0] S1024x256.size inb_S1024x256_S1024x256_0_0).toLoadRect)
      (fun p d => A0 p d + ∑ b ∈ Finset.range n, ∑ j, dst K (Q b) V (G b) (L b) (D b) p j * Q b j d)
    ∧ Reals2 (arg11.view.readCov ((pb_k0_t1 (F := Ideal) Variants.none c none i arg2 harg2 arg3 harg3 arg4 harg4 arg5 harg5 arg6 harg6 arg7 harg7 arg8 harg8 arg9 harg9 arg10 harg10 arg11 harg11 arg1 v1 v3 v16 v21 v31 v34 v59 X4 X5 X6 X7 (arg10.view.writes (Elt Ideal) arg10.view.junk B10) (arg11.view.writes (Elt Ideal) arg11.view.junk B11) n).2 ++ B11) (Rect.unit (s := S1024x128) ![0, 0] S1024x128.size inb_S1024x128_S1024x128_0_0).toLoadRect)
      (fun p d => B0 p d + ∑ b ∈ Finset.range n, ∑ j, wt K (Q b) (L b) p j * G b j d) := by
  induction n with
  | zero =>
    rw [pb_k0_t1.eq_1, List.nil_append, List.nil_append]
    refine ⟨fun p d => ?_, fun p d => ?_⟩
    · dsimp only; rw [Finset.sum_range_zero, add_zero]; exact h10 p d
    · dsimp only; rw [Finset.sum_range_zero, add_zero]; exact h11 p d
  | succ n ih =>
    have ih := ih (by omega)
    have e := pb_k0_t1_succ (F := Ideal) Variants.none c none i arg2 harg2 arg3 harg3 arg4 harg4 arg5 harg5 arg6 harg6 arg7 harg7 arg8 harg8 arg9 harg9 arg10 harg10 arg11 harg11 arg1 v1 v3 v16 v21 v31 v34 v59 X4 X5 X6 X7 (arg10.view.writes (Elt Ideal) arg10.view.junk B10) (arg11.view.writes (Elt Ideal) arg11.view.junk B11) ⟨n, hn⟩
    rw [tripL_eq, ← View.writes_append, ← View.writes_append] at e
    have e1 := congrArg Prod.fst e
    have e2 := congrArg Prod.snd e
    dsimp only at e1 e2
    refine ⟨fun p d => ?_, fun p d => ?_⟩
    · rw [e1, List.append_assoc, List.singleton_append, View.readCov_fill _ _ _ _ _ (by decide)]
      dsimp only
      rw [View.ld_unit_lit' _ _ (by decide), Finset.sum_range_succ, ← add_assoc]
      exact pay7_at h1 h3 (hq ⟨n, hn⟩) (hg ⟨n, hn⟩) (hl ⟨n, hn⟩) (hd ⟨n, hn⟩) ih.1 p d
    · rw [e2, List.append_assoc, List.singleton_append, View.readCov_fill _ _ _ _ _ (by decide)]
      dsimp only
      rw [View.ld_unit_lit' _ _ (by decide), Finset.sum_range_succ, ← add_assoc]
      exact pay6_at h1 (hq ⟨n, hn⟩) (hg ⟨n, hn⟩) (hl ⟨n, hn⟩) ih.2 p d

end Cert.Att.Dkv

end
-- ==== Proof.Att.DkvBlock.lean ====
/- The key and value gradients' blocks: what a grid point reads of the arrays it is handed. -/
module

public import proofs.«01_k».proof.Proof.Att.DkvEntry
public import proofs.«01_k».proof.Proof.Att.DkvLoop
public import proofs.«01_k».proof.Proof.Att.Blocks
public import proofs.«01_k».proof.Proof.Att.Ref1
public import Idealize.ShloMosaic.Lib.LoopRemainder

@[expose] public section

noncomputable section

namespace Cert.Att.Dkv

open Idealize.ShloMosaic Idealize.ShloMosaic.TcCoe Idealize.SL.Sem Cert.Kernel2Ideal Cert.Kernel2Ideal.Gen

variable {m : (ℓ : Loc nD τ sig) → Buf (Elt Ideal) ℓ} {c : Dev nD} {a : Nums}

/-- The head and the key block of a grid point. -/
theorem idx : ∀ t : Fin cfg0.N,
    win0_0.index t = ![(grid0.coords t 1).val, (grid0.coords t 0).val] ∧ win0_1.index t = ![(grid0.coords t 1).val, (grid0.coords t 0).val]
    ∧ win0_2.index t = ![0, (grid0.coords t 0).val] ∧ win0_3.index t = ![0, (grid0.coords t 0).val]
    ∧ win0_4.index t = ![(grid0.coords t 0).val, 0, 0, 0] ∧ win0_5.index t = ![(grid0.coords t 0).val, 0, 0, 0]
    ∧ win0_6.index t = ![(grid0.coords t 1).val, (grid0.coords t 0).val]
    ∧ win0_7.index t = ![(grid0.coords t 1).val, (grid0.coords t 0).val] :=
  (by decide +kernel : ∀ t : Fin grid0.N, _)

/-- The head of a grid point. -/
abbrev hd (t : Fin cfg0.N) : Fin 6 := grid0.coords t 0
/-- The key block of a grid point. -/
abbrev kb (t : Fin cfg0.N) : Fin 16 := grid0.coords t 1
/-- The token in row `p` of a block. -/
abbrev row (b : Fin 16) (p : Fin 1024) : Fin 16384 := ⟨b.val * 1024 + p.val, by omega⟩

theorem row_eq (b : Fin 16) (p : Fin 1024) : row b p = tok b.val p := Fin.ext (tok_val _ b.isLt p).symm

theorem blk_k (t : Fin cfg0.N) (p : Fin 1024) (d : Fin 256) :
    iblk m c 0 t (ix2 p d) = (V m c main_v68 : FVec Ideal S16384x1536 .bf16) (ix2 (row (kb t) p) ⟨(hd t).val * 256 + d.val, by omega⟩) := by
  blk_point [iblk, idx t]

theorem blk_v (t : Fin cfg0.N) (p : Fin 1024) (d : Fin 128) :
    iblk m c 1 t (ix2 p d) = (V m c main_v70 : FVec Ideal S16384x768 .bf16) (ix2 (row (kb t) p) ⟨(hd t).val * 128 + d.val, by omega⟩) := by
  blk_point [iblk, idx t]

theorem blk_q (t : Fin cfg0.N) (p : Fin 16384) (d : Fin 256) :
    iblk m c 2 t (ix2 p d) = (V m c main_v64 : FVec Ideal S16384x1536 .bf16) (ix2 p ⟨(hd t).val * 256 + d.val, by omega⟩) := by
  blk_point [iblk, idx t]

theorem blk_do (t : Fin cfg0.N) (p : Fin 16384) (d : Fin 128) :
    iblk m c 3 t (ix2 p d) = (V m c main_v72 : FVec Ideal S16384x768 .bf16) (ix2 p ⟨(hd t).val * 128 + d.val, by omega⟩) := by
  blk_point [iblk, idx t]

theorem blk_lse (t : Fin cfg0.N) (b : Fin 16) (p : Fin 1024) :
    iblk m c 4 t (ix4 0 b 0 p) = (V m c main_v52 : FVec Ideal S6x16x1x1024 .f32) (ix4 (hd t) b 0 p) := by
  have e : ∀ X : FVec Ideal S6x16x1x1024 .f32, ((cfg0.win 4).blk t).view.read (Elt Ideal) X (ix4 0 b 0 p)
      = X (ix4 (hd t) b 0 p) := fun X => by
    blk_point [idx t] <;> exact Nat.add_zero _
  exact e _

theorem blk_del (t : Fin cfg0.N) (b : Fin 16) (p : Fin 1024) :
    iblk m c 5 t (ix4 0 b 0 p) = (V m c main_v56 : FVec Ideal S6x16x1x1024 .f32) (ix4 (hd t) b 0 p) := by
  have e : ∀ X : FVec Ideal S6x16x1x1024 .f32, ((cfg0.win 5).blk t).view.read (Elt Ideal) X (ix4 0 b 0 p)
      = X (ix4 (hd t) b 0 p) := fun X => by
    blk_point [idx t] <;> exact Nat.add_zero _
  exact e _

/-- The arguments hold the real numbers of `a`. -/
abbrev HoldsAt (m : (ℓ : Loc nD τ sig) → Buf (Elt Ideal) ℓ) (c : Dev nD) (a : Nums) : Prop :=
  Holds a (aQn m c) (aQr m c) (aKn m c) (aKr m c) (aV m c) (aG m c)

theorem real_k (H : HoldsAt m c a) (t : Fin cfg0.N) : Reals2 (iblk m c 0 t : Vec Ideal S1024x256 .bf16)
    (fun p d => a.k (tok (kb t).val p) (hd t) d) := by
  intro p d
  rw [blk_k, V_k, keysIn_at H, row_eq]
  congr 2 <;> apply Fin.ext <;> simp <;> omega

theorem real_v (H : HoldsAt m c a) (t : Fin cfg0.N) : Reals2 (iblk m c 1 t : Vec Ideal S1024x128 .bf16)
    (fun p d => a.v (tok (kb t).val p) (hd t) d) := by
  intro p d
  rw [blk_v, V_v, sideBySide_at, H.v, row_eq]
  congr 2 <;> apply Fin.ext <;> simp <;> omega

theorem real_k' (H : HoldsAt m c a) (t : Fin cfg0.N) : Reals2 (k0_pay13 (iblk m c 0 t))
    (fun p d => a.k (tok (kb t).val p) (hd t) d) := by
  intro p d
  have e : k0_pay13 (iblk m c 0 t) (ix2 p d) = iblk m c 0 t (ix2 p d) := by pointwise [k0_pay13]
  exact e.trans (real_k H t p d)

theorem real_v' (H : HoldsAt m c a) (t : Fin cfg0.N) : Reals2 (k0_pay14 (iblk m c 1 t))
    (fun p d => a.v (tok (kb t).val p) (hd t) d) := by
  intro p d
  have e : k0_pay14 (iblk m c 1 t) (ix2 p d) = iblk m c 1 t (ix2 p d) := by pointwise [k0_pay14]
  exact e.trans (real_v H t p d)

theorem real_q (H : HoldsAt m c a) (t : Fin cfg0.N) (off : Fin 2 → ℕ) (b : ℕ) (hb : b < 16) (ho : off = ![1024 * b, 0])
    (inb : ∀ x, off x + S1024x256.size x ≤ S16384x256.size x) :
    Reals2 (View.ld (iblk m c 2 t : Vec Ideal S16384x256 .bf16) (Rect.unit (s := S16384x256) off S1024x256.size inb))
      (fun p d => a.q (tok b p) (hd t) d * (c0 / Real.log 2)) := by
  subst ho
  intro p d
  refine (View.ld_unit_apply_of (iblk m c 2 t : Vec Ideal S16384x256 .bf16) _ _ inb (ix2 p d) (ix2 (tok b p) d) ?_).trans ?_
  · intro x
    match x with
    | ⟨0, _⟩ => show (tok b p).val = 1024 * b + p.val; rw [tok_val _ hb]; omega
    | ⟨1, _⟩ => show d.val = 0 + d.val; omega
  · rw [blk_q, V_q, queriesIn_at H]
    congr 3 <;> apply Fin.ext <;> simp <;> omega

theorem real_do (H : HoldsAt m c a) (t : Fin cfg0.N) (off : Fin 2 → ℕ) (b : ℕ) (hb : b < 16) (ho : off = ![1024 * b, 0])
    (inb : ∀ x, off x + S1024x128.size x ≤ S16384x128.size x) :
    Reals2 (View.ld (iblk m c 3 t : Vec Ideal S16384x128 .bf16) (Rect.unit (s := S16384x128) off S1024x128.size inb))
      (fun p d => a.g (tok b p) (hd t) d) := by
  subst ho
  intro p d
  refine (View.ld_unit_apply_of (iblk m c 3 t : Vec Ideal S16384x128 .bf16) _ _ inb (ix2 p d) (ix2 (tok b p) d) ?_).trans ?_
  · intro x
    match x with
    | ⟨0, _⟩ => show (tok b p).val = 1024 * b + p.val; rw [tok_val _ hb]; omega
    | ⟨1, _⟩ => show d.val = 0 + d.val; omega
  · rw [blk_do, V_do, sideBySide_at, H.g]
    congr 2 <;> apply Fin.ext <;> simp <;> omega

/-- A row of a block of rows. -/
theorem ld_row (X : Vec Ideal S1x16x1x1024 .f32) (off : Fin 4 → ℕ) (b : ℕ) (hb : b < 16) (ho : off = ![0, b, 0, 0])
    (inb : ∀ x, off x + S1x1x1x1024.size x ≤ S1x16x1x1024.size x) (p : Fin 1024) :
    View.ld X (Rect.unit (s := S1x16x1x1024) off S1x1x1x1024.size inb) (ix4 0 0 0 p) = X (ix4 0 ⟨b, hb⟩ 0 p) := by
  subst ho
  refine View.ld_unit_apply_of X _ _ inb (ix4 0 0 0 p) (ix4 0 ⟨b, hb⟩ 0 p) ?_
  intro x
  match x with
  | ⟨0, _⟩ => rfl
  | ⟨1, _⟩ => rfl
  | ⟨2, _⟩ => rfl
  | ⟨3, _⟩ => show p.val = 0 + p.val; omega

theorem real_lse (H : HoldsAt m c a) (t : Fin cfg0.N) (off : Fin 4 → ℕ) (b : ℕ) (hb : b < 16) (ho : off = ![0, b, 0, 0])
    (inb : ∀ x, off x + S1x1x1x1024.size x ≤ S1x16x1x1024.size x) :
    RealsRow (View.ld (iblk m c 4 t : Vec Ideal S1x16x1x1024 .f32) (Rect.unit (s := S1x16x1x1024) off S1x1x1x1024.size inb))
      (fun i => a.lse2 (hd t) (tok b i)) := by
  intro i
  have e' : ∀ X : FVec Ideal S6x16384 .f32, ∀ h (b : Fin 16) (i : Fin 1024),
      shapeCast S6x16x1x1024 X shapeCasts_S6x16384_S6x16x1x1024 (ix4 h b 0 i) = X (ix2 h (row b i)) := by
    intro X h b i; pointwise
  rw [ld_row _ off b hb ho inb i, blk_lse, V_lse, e', lseRows_at H, row_eq]

theorem real_del (H : HoldsAt m c a) (t : Fin cfg0.N) (off : Fin 4 → ℕ) (b : ℕ) (hb : b < 16) (ho : off = ![0, b, 0, 0])
    (inb : ∀ x, off x + S1x1x1x1024.size x ≤ S1x16x1x1024.size x) :
    RealsRow (View.ld (iblk m c 5 t : Vec Ideal S1x16x1x1024 .f32) (Rect.unit (s := S1x16x1x1024) off S1x1x1x1024.size inb))
      (fun i => a.del (hd t) (tok b i)) := by
  intro i
  rw [ld_row _ off b hb ho inb i, blk_del, V_del, deltaRows_at H (ref1O_at H)]
  exact congrArg (fun x => ((a.del (hd t) x : ℝ) : EReal)) (row_eq ⟨b, hb⟩ i)

end Cert.Att.Dkv

end
-- ==== Proof.Att.DkvValue.lean ====
/- What a grid point of the key and value gradients' call leaves: the gradients of its block of keys and values. -/
module

public import proofs.«01_k».proof.Proof.Att.DkvBlock

@[expose] public section

noncomputable section

namespace Cert.Att.Dkv

open Idealize.ShloMosaic Idealize.ShloMosaic.TcCoe Idealize.SL.Sem Cert.Kernel2Ideal Cert.Kernel2Ideal.Gen

variable {m : (ℓ : Loc nD τ sig) → Buf (Elt Ideal) ℓ} {c : Dev nD} {a : Nums}

theorem trips_eq (t : Fin cfg0.N) : (k0_t1_loop (grid0.coords t)).trips = 15 - (kb t).val := by
  have h : ∀ b : Fin 16, Scf.trips (Scalar.addi (BitVec.ofNat 32 b.val) 1#32)
      (Scalar.addi (Scalar.addi (BitVec.ofNat 32 b.val) 1#32) (Scalar.muli (Scalar.divsi (Scalar.subi 16#32 (Scalar.addi (BitVec.ofNat 32 b.val) 1#32)) 1#32) 1#32)) 1#32
      = 15 - b.val := by
    decide +kernel
  exact h (kb t)

/-- A weight of a query that sees the key. -/
theorem wt_eq (a : Nums) (h : Fin 6) (b b' : ℕ) (p i : Fin 1024) (hs : Sees (tok b' i) (tok b p)) :
    wt (fun p d => a.k (tok b p) h d) (fun p d => a.q (tok b' p) h d * (c0 / Real.log 2)) (fun i => a.lse2 h (tok b' i)) p i
      = a.P h (tok b' i) (tok b p) := by
  unfold wt
  rw [← a.rpow_P h _ _ hs, ← sum_q_k]
  exact congrArg (fun x => Real.rpow 2 (x - _)) (Finset.sum_congr rfl fun e _ => mul_comm _ _)

/-- A key's weights, masked in the query block of its own. -/
theorem wt'_eq (a : Nums) (h : Fin 6) (b : ℕ) (hb : b < 16) (p i : Fin 1024) :
    wt' (fun p d => a.k (tok b p) h d) (fun p d => a.q (tok b p) h d * (c0 / Real.log 2)) (fun i => a.lse2 h (tok b i)) p i
      = a.P h (tok b i) (tok b p) := by
  unfold wt'
  by_cases hs : p.val / 64 ≤ i.val / 64
  · rw [if_pos hs]; exact wt_eq a h b b p i ((sees_same hb i p).mpr hs)
  · rw [if_neg hs, a.P_of_not h _ _ fun hh => hs ((sees_same hb i p).mp hh)]

/-- A value's gradient by query blocks: its own under the mask, and the blocks after it. -/
theorem dv_sum (a : Nums) (h : Fin 6) (b : ℕ) (hb : b < 16) (p : Fin 1024) (d : Fin 128) :
    (0 + ∑ i, wt' (fun p d => a.k (tok b p) h d) (fun p d => a.q (tok b p) h d * (c0 / Real.log 2))
        (fun i => a.lse2 h (tok b i)) p i * a.g (tok b i) h d)
      + ∑ n ∈ Finset.range (15 - b), ∑ i, wt (fun p d => a.k (tok b p) h d)
          (fun p d => a.q (tok (b + 1 + n) p) h d * (c0 / Real.log 2)) (fun i => a.lse2 h (tok (b + 1 + n) i)) p i
          * a.g (tok (b + 1 + n) i) h d
      = ∑ i, a.P h i (tok b p) * a.g i h d := by
  rw [sum_from (fun i => a.P h i (tok b p) * a.g i h d) b hb fun b' h' i => by
    rw [a.P_of_not h _ _ (not_sees_lt h' hb i p), zero_mul], zero_add]
  congr 1
  · exact Finset.sum_congr rfl fun i _ => by rw [wt'_eq a h b hb]
  · refine Finset.sum_congr rfl fun n hn => Finset.sum_congr rfl fun i _ => ?_
    have := Finset.mem_range.mp hn
    rw [wt_eq a h b (b + 1 + n) p i (sees_lt (by omega) (by omega) i p)]

/-- A key's gradient by query blocks, before its scale: its own under the mask, and the blocks after it. -/
theorem dk_sum (a : Nums) (h : Fin 6) (b : ℕ) (hb : b < 16) (p : Fin 1024) (d : Fin 256) :
    (0 + ∑ i, wt' (fun p d => a.k (tok b p) h d) (fun p d => a.q (tok b p) h d * (c0 / Real.log 2))
        (fun i => a.lse2 h (tok b i)) p i * (∑ e, a.v (tok b p) h e * a.g (tok b i) h e - a.del h (tok b i))
        * (a.q (tok b i) h d * (c0 / Real.log 2)))
      + ∑ n ∈ Finset.range (15 - b), ∑ i, dst (fun p d => a.k (tok b p) h d)
          (fun p d => a.q (tok (b + 1 + n) p) h d * (c0 / Real.log 2)) (fun p d => a.v (tok b p) h d)
          (fun p d => a.g (tok (b + 1 + n) p) h d) (fun i => a.lse2 h (tok (b + 1 + n) i))
          (fun i => a.del h (tok (b + 1 + n) i)) p i * (a.q (tok (b + 1 + n) i) h d * (c0 / Real.log 2))
      = ∑ i, a.ds h i (tok b p) * (a.q i h d * (c0 / Real.log 2)) := by
  have hdP : ∀ i j, ∑ e, a.v j h e * a.g i h e = a.dP h i j := fun i j => Finset.sum_congr rfl fun e _ => mul_comm _ _
  rw [sum_from (fun i => a.ds h i (tok b p) * (a.q i h d * (c0 / Real.log 2))) b hb fun b' h' i => by
    rw [ds_of_not a h _ _ (not_sees_lt h' hb i p), zero_mul], zero_add]
  congr 1
  · exact Finset.sum_congr rfl fun i _ => by rw [wt'_eq a h b hb, hdP]; rfl
  · refine Finset.sum_congr rfl fun n hn => Finset.sum_congr rfl fun i _ => ?_
    have := Finset.mem_range.mp hn
    unfold dst
    rw [wt_eq a h b (b + 1 + n) p i (sees_lt (by omega) (by omega) i p), hdP]
    rfl

theorem zero10 : Reals2 (k0_pay15 (F := Ideal)) fun _ _ => 0 := by
  intro p d
  pointwise [k0_pay15]
  rfl

theorem zero11 : Reals2 (k0_pay16 (F := Ideal)) fun _ _ => 0 := by
  intro p d
  pointwise [k0_pay16]
  rfl

/-- The key gradient before its scale, from the query block of the key's own. -/
def dk0 (a : Nums) (h : Fin 6) (b : ℕ) : Fin 1024 → Fin 256 → ℝ := fun p d => 0 + ∑ i, wt' (fun p d => a.k (tok b p) h d) (fun p d => a.q (tok b p) h d * (c0 / Real.log 2))
        (fun i => a.lse2 h (tok b i)) p i * (∑ e, a.v (tok b p) h e * a.g (tok b i) h e - a.del h (tok b i))
        * (a.q (tok b i) h d * (c0 / Real.log 2))

/-- The value gradient, from the query block of the value's own. -/
def dv0 (a : Nums) (h : Fin 6) (b : ℕ) : Fin 1024 → Fin 128 → ℝ := fun p d => 0 + ∑ i, wt' (fun p d => a.k (tok b p) h d) (fun p d => a.q (tok b p) h d * (c0 / Real.log 2))
        (fun i => a.lse2 h (tok b i)) p i * a.g (tok b i) h d

/-- The key gradients' accumulator at the loop's entry. -/
theorem diag10 (H : HoldsAt m c a) (t : Fin cfg0.N) (X : Vec Ideal S1024x256 .f32) (hX : Reals2 X fun _ _ => 0) :
    Reals2 (k0_pay23 (k0_pay14 (iblk m c 1 t))
      (k0_pay17 (View.ld (iblk m c 2 t : Vec Ideal S16384x256 .bf16) (Rect.unit (s := S16384x256) (k0_off1 (grid0.coords t)) S1024x256.size (k0_off1_inb _))))
      (k0_pay18 (View.ld (iblk m c 3 t : Vec Ideal S16384x128 .bf16) (Rect.unit (s := S16384x128) (k0_off2 (grid0.coords t)) S1024x128.size (k0_off2_inb _))))
      (k0_pay19 (iblk m c 0 t) (View.ld (iblk m c 2 t : Vec Ideal S16384x256 .bf16) (Rect.unit (s := S16384x256) (k0_off1 (grid0.coords t)) S1024x256.size (k0_off1_inb _))))
      (k0_pay20 (View.ld (iblk m c 4 t : Vec Ideal S1x16x1x1024 .f32) (Rect.unit (s := S1x16x1x1024) (k0_off3 (grid0.coords t)) S1x1x1x1024.size (k0_off3_inb _))))
      (View.ld (iblk m c 5 t : Vec Ideal S1x16x1x1024 .f32) (Rect.unit (s := S1x16x1x1024) (k0_off3 (grid0.coords t)) S1x1x1x1024.size (k0_off3_inb _))) X)
    (dk0 a (hd t) (kb t).val) := fun p d =>
  pay23_at (real_k H t) (real_v H t) (real_q H t _ (kb t).val (kb t).isLt (k0_off1_eq _) _)
    (real_do H t _ (kb t).val (kb t).isLt (k0_off2_eq _) _) (real_lse H t _ (kb t).val (kb t).isLt (k0_off3_eq _) _)
    (real_del H t _ (kb t).val (kb t).isLt (k0_off3_eq _) _) hX p d

/-- The value gradients' accumulator at the loop's entry. -/
theorem diag11 (H : HoldsAt m c a) (t : Fin cfg0.N) (X : Vec Ideal S1024x128 .f32) (hX : Reals2 X fun _ _ => 0) :
    Reals2 (k0_pay22
      (k0_pay18 (View.ld (iblk m c 3 t : Vec Ideal S16384x128 .bf16) (Rect.unit (s := S16384x128) (k0_off2 (grid0.coords t)) S1024x128.size (k0_off2_inb _))))
      (k0_pay19 (iblk m c 0 t) (View.ld (iblk m c 2 t : Vec Ideal S16384x256 .bf16) (Rect.unit (s := S16384x256) (k0_off1 (grid0.coords t)) S1024x256.size (k0_off1_inb _))))
      (k0_pay20 (View.ld (iblk m c 4 t : Vec Ideal S1x16x1x1024 .f32) (Rect.unit (s := S1x16x1x1024) (k0_off3 (grid0.coords t)) S1x1x1x1024.size (k0_off3_inb _)))) X)
    (dv0 a (hd t) (kb t).val) := fun p d =>
  pay22_at (real_k H t) (real_q H t _ (kb t).val (kb t).isLt (k0_off1_eq _) _)
    (real_lse H t _ (kb t).val (kb t).isLt (k0_off3_eq _) _) (real_do H t _ (kb t).val (kb t).isLt (k0_off2_eq _) _) hX p d

theorem trip_q (H : HoldsAt m c a) (t : Fin cfg0.N) (k : Fin (k0_t1_loop (grid0.coords t)).trips) :
    Reals2 (View.readAt (Elt Ideal) (ms0_2 t).view (Rect.unit (s := S16384x256) (k0_off4 (grid0.coords t) k) S1024x256.size (k0_off4_inb _ k)).toLoadRect ((hs0_2 t).unread (iblk m c 2 t)))
      (fun p d => a.q (tok ((kb t).val + 1 + k.val) p) (hd t) d * (c0 / Real.log 2)) := by
  have := lt_of_lt_of_eq k.isLt (trips_eq t)
  rw [View.readAt_eq_ld, Memref.IsWhole.read_unread]
  refine real_q H t _ ((kb t).val + 1 + k.val) (by omega) ((k0_off4_eq _ k).trans ?_) _
  have e : 1024 * (grid0.coords t 1).val + 1024 * k.val + 1024 = 1024 * ((kb t).val + 1 + k.val) := by show 1024 * (kb t).val + 1024 * k.val + 1024 = 1024 * ((kb t).val + 1 + k.val); omega
  rw [e]

theorem trip_do (H : HoldsAt m c a) (t : Fin cfg0.N) (k : Fin (k0_t1_loop (grid0.coords t)).trips) :
    Reals2 (View.readAt (Elt Ideal) (ms0_3 t).view (Rect.unit (s := S16384x128) (k0_off5 (grid0.coords t) k) S1024x128.size (k0_off5_inb _ k)).toLoadRect ((hs0_3 t).unread (iblk m c 3 t)))
      (fun p d => a.g (tok ((kb t).val + 1 + k.val) p) (hd t) d) := by
  have := lt_of_lt_of_eq k.isLt (trips_eq t)
  rw [View.readAt_eq_ld, Memref.IsWhole.read_unread]
  refine real_do H t _ ((kb t).val + 1 + k.val) (by omega) ((k0_off5_eq _ k).trans ?_) _
  have e : 1024 * (grid0.coords t 1).val + 1024 * k.val + 1024 = 1024 * ((kb t).val + 1 + k.val) := by show 1024 * (kb t).val + 1024 * k.val + 1024 = 1024 * ((kb t).val + 1 + k.val); omega
  rw [e]

theorem trip_lse (H : HoldsAt m c a) (t : Fin cfg0.N) (k : Fin (k0_t1_loop (grid0.coords t)).trips) :
    RealsRow (View.readAt (Elt Ideal) (ms0_4 t).view (Rect.unit (s := S1x16x1x1024) (k0_off6 (grid0.coords t) k) S1x1x1x1024.size (k0_off6_inb _ k)).toLoadRect ((hs0_4 t).unread (iblk m c 4 t)))
      (fun i => a.lse2 (hd t) (tok ((kb t).val + 1 + k.val) i)) := by
  have := lt_of_lt_of_eq k.isLt (trips_eq t)
  rw [View.readAt_eq_ld, Memref.IsWhole.read_unread]
  refine real_lse H t _ ((kb t).val + 1 + k.val) (by omega) ((k0_off6_eq _ k).trans ?_) _
  have e : (grid0.coords t 1).val + k.val + 1 = (kb t).val + 1 + k.val := by show (kb t).val + k.val + 1 = (kb t).val + 1 + k.val; omega
  rw [e]

theorem trip_del (H : HoldsAt m c a) (t : Fin cfg0.N) (k : Fin (k0_t1_loop (grid0.coords t)).trips) :
    RealsRow (View.readAt (Elt Ideal) (ms0_5 t).view (Rect.unit (s := S1x16x1x1024) (k0_off6 (grid0.coords t) k) S1x1x1x1024.size (k0_off6_inb _ k)).toLoadRect ((hs0_5 t).unread (iblk m c 5 t)))
      (fun i => a.del (hd t) (tok ((kb t).val + 1 + k.val) i)) := by
  have := lt_of_lt_of_eq k.isLt (trips_eq t)
  rw [View.readAt_eq_ld, Memref.IsWhole.read_unread]
  refine real_del H t _ ((kb t).val + 1 + k.val) (by omega) ((k0_off6_eq _ k).trans ?_) _
  have e : (grid0.coords t 1).val + k.val + 1 = (kb t).val + 1 + k.val := by show (kb t).val + k.val + 1 = (kb t).val + 1 + k.val; omega
  rw [e]

theorem entry10 (x : S1024x256.Idx → Elt Ideal .f32) (z : List (View.Piece (Elt Ideal) S1024x256 .f32)) {A : Fin 1024 → Fin 256 → ℝ} (hx : Reals2 x A) :
    Reals2 (scM0_0.view.readCov (⟨Rect.unit (s := S1024x256) ![0, 0] S1024x256.size inb_S1024x256_S1024x256_0_0, x⟩ :: z)
      (Rect.unit (s := S1024x256) ![0, 0] S1024x256.size inb_S1024x256_S1024x256_0_0).toLoadRect) A := by
  intro p d
  rw [View.readCov_fill _ _ _ _ _ (by decide)]
  dsimp only
  rw [View.ld_unit_lit' _ _ (by decide)]
  exact hx p d

theorem entry11 (x : S1024x128.Idx → Elt Ideal .f32) (z : List (View.Piece (Elt Ideal) S1024x128 .f32)) {A : Fin 1024 → Fin 128 → ℝ} (hx : Reals2 x A) :
    Reals2 (scM0_1.view.readCov (⟨Rect.unit (s := S1024x128) ![0, 0] S1024x128.size inb_S1024x128_S1024x128_0_0, x⟩ :: z)
      (Rect.unit (s := S1024x128) ![0, 0] S1024x128.size inb_S1024x128_S1024x128_0_0).toLoadRect) A := by
  intro p d
  rw [View.readCov_fill _ _ _ _ _ (by decide)]
  dsimp only
  rw [View.ld_unit_lit' _ _ (by decide)]
  exact hx p d

theorem after7 (H : HoldsAt m c a) (t : Fin cfg0.N) : Reals2 ((dats m 0 c).after 7 t : Vec Ideal S1024x128 .bf16)
      (fun p d => ∑ i, a.P (hd t) i (tok (kb t).val p) * a.g i (hd t) d) := by
  intro p d
  rw [after0_7]
  simp only [outsAt0]
  frame_out
  refine pay2_at (B := fun p d => ∑ i, a.P (hd t) i (tok (kb t).val p) * a.g i (hd t) d) ?_ p d
  rw [Scf.rem_trips, pb_k0_t2.eq_1, List.nil_append]
  intro p d
  refine ((acc_at c (grid0.coords t) (ms0_0 t) _ (ms0_1 t) _ (ms0_2 t) _ (ms0_3 t) _ (ms0_4 t) _ (ms0_5 t) _ (ms0_6 t) _ (ms0_7 t) _
    scM0_0 _ scM0_1 _ _ _ _ _ _ _ _ _
    (Q := fun b p d => a.q (tok ((kb t).val + 1 + b) p) (hd t) d * (c0 / Real.log 2))
    (G := fun b p d => a.g (tok ((kb t).val + 1 + b) p) (hd t) d)
    (L := fun b i => a.lse2 (hd t) (tok ((kb t).val + 1 + b) i)) (D := fun b i => a.del (hd t) (tok ((kb t).val + 1 + b) i))
    (real_k' H t) (real_v' H t) _ _ _ _ ?_ ?_ ?_ ?_ _ _ (A0 := dk0 a (hd t) (kb t).val) (B0 := dv0 a (hd t) (kb t).val) ?_ ?_ _ le_rfl).2 p d).trans ?_
  · exact trip_q H t
  · exact trip_do H t
  · exact trip_lse H t
  · exact trip_del H t
  · exact entry10 _ _ (diag10 H t _ zero10)
  · exact entry11 _ _ (diag11 H t _ zero11)
  · dsimp only
    rw [trips_eq]
    exact congrArg ((↑) : ℝ → EReal) (dv_sum a (hd t) (kb t).val (kb t).isLt p d)

theorem after6 (H : HoldsAt m c a) (t : Fin cfg0.N) : Reals2 ((dats m 0 c).after 6 t : Vec Ideal S1024x256 .bf16)
      (fun p d => (∑ i, a.ds (hd t) i (tok (kb t).val p) * (a.q i (hd t) d * (c0 / Real.log 2))) * Real.log 2) := by
  intro p d
  rw [after0_6]
  simp only [outsAt0]
  frame_out
  refine pay1_at (A := fun p d => ∑ i, a.ds (hd t) i (tok (kb t).val p) * (a.q i (hd t) d * (c0 / Real.log 2))) ?_ p d
  rw [Scf.rem_trips, pb_k0_t2.eq_1, List.nil_append]
  intro p d
  refine ((acc_at c (grid0.coords t) (ms0_0 t) _ (ms0_1 t) _ (ms0_2 t) _ (ms0_3 t) _ (ms0_4 t) _ (ms0_5 t) _ (ms0_6 t) _ (ms0_7 t) _
    scM0_0 _ scM0_1 _ _ _ _ _ _ _ _ _
    (Q := fun b p d => a.q (tok ((kb t).val + 1 + b) p) (hd t) d * (c0 / Real.log 2))
    (G := fun b p d => a.g (tok ((kb t).val + 1 + b) p) (hd t) d)
    (L := fun b i => a.lse2 (hd t) (tok ((kb t).val + 1 + b) i)) (D := fun b i => a.del (hd t) (tok ((kb t).val + 1 + b) i))
    (real_k' H t) (real_v' H t) _ _ _ _ ?_ ?_ ?_ ?_ _ _ (A0 := dk0 a (hd t) (kb t).val) (B0 := dv0 a (hd t) (kb t).val) ?_ ?_ _ le_rfl).1 p d).trans ?_
  · exact trip_q H t
  · exact trip_do H t
  · exact trip_lse H t
  · exact trip_del H t
  · exact entry10 _ _ (diag10 H t _ zero10)
  · exact entry11 _ _ (diag11 H t _ zero11)
  · dsimp only
    rw [trips_eq]
    exact congrArg ((↑) : ℝ → EReal) (dk_sum a (hd t) (kb t).val (kb t).isLt p d)

end Cert.Att.Dkv

end
-- ==== Proof.Att.Ref2.lean ====
/- The second reference's results, the gradients of the keys and values, are functions of Proof/Att/Host.lean, and read as
   the real gradients. -/
module

public import proofs.«01_k».proof.Proof.Gen.Reference2Ideal.Run
public import proofs.«01_k».proof.Proof.Att.Inputs

@[expose] public section

noncomputable section

namespace Cert.Att

open Idealize.ShloMosaic Idealize.ShloMosaic.TcCoe Idealize.SL.Sem Cert.Reference2Ideal Cert.Reference2Ideal.Gen

/-- The gradients of the keys, from the scores', and of the values, from the weights. -/
def dkNope (s : Pairs) (qn : Nope) : Nope :=
  transpose S16384x6x128 [1, 0, 2] (Host.dotGeneral dot_S6x16384x16384_S16384x6x128_S6x16384x128_1_0_2_2_0_1 none s qn)
    transposes_S6x16384x128_S16384x6x128_1_0_2

def dkRope (s : Pairs) (qr : Rope) : Rope :=
  transpose S16384x6x64 [1, 0, 2] (Host.dotGeneral dot_S6x16384x16384_S16384x6x64_S6x16384x64_1_0_2_2_0_1 none s qr)
    transposes_S6x16384x64_S16384x6x64_1_0_2

def dvHeads (g : Nope) (p : Pairs) : Nope :=
  transpose S16384x6x128 [2, 0, 1] (Host.dotGeneral dot_S6x128x16384_S6x16384x16384_S6x128x16384_2_1_1_2_0_0 none
    (transpose S6x128x16384 [1, 2, 0] g transposes_S16384x6x128_S6x128x16384_1_2_0) p) transposes_S6x128x16384_S16384x6x128_2_0_1

def ref2Dk (qn : Nope) (qr : Rope) (kn : Nope) (kr : Rope1) (v g : Nope) : FVec Ideal S16384x1536 .bf16 :=
  padded (dkNope (dScores (dWeights g v) (exps0 qn qr kn (toHeads kr))) qn) (dkRope (dScores (dWeights g v) (exps0 qn qr kn (toHeads kr))) qr)

def ref2Dv (qn : Nope) (qr : Rope) (kn : Nope) (kr : Rope1) (g : Nope) : FVec Ideal S16384x768 .bf16 :=
  truncf .bf16 (shapeCast S16384x768 (dvHeads g (weights (exps0 qn qr kn (toHeads kr)))) shapeCasts_S16384x6x128_S16384x768) bitsLt_bf16_f32

set_option maxRecDepth 8192 in
theorem ref2_out0 (m : (ℓ : Loc nD τ sig) → Buf (Elt Ideal) ℓ) (c : Dev nD) :
    Value.res_out0 m c = ref2Dk (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold Value.res_out0 Value.res_main_v75
  rfl

set_option maxRecDepth 8192 in
theorem ref2_out1 (m : (ℓ : Loc nD τ sig) → Buf (Elt Ideal) ℓ) (c : Dev nD) :
    Value.res_out1 m c = ref2Dv (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg5)) := by
  unfold Value.res_out1 Value.res_main_v77
  rfl

variable {a : Nums} {qn : Nope} {qr : Rope} {kn : Nope} {kr : Rope1} {v g : Nope}

theorem ref2Scores_at (H : Holds a qn qr kn kr v g) (h : Fin 6) (i j : Fin 16384) :
    dScores (dWeights g v) (exps0 qn qr kn (toHeads kr)) (ix3 h i j) = ((a.ds h i j * c0 : ℝ) : EReal) := by
  obtain ⟨M, hM⟩ := largest_real H
  exact dScores_at H (largest'_at hM) h i j

/-- The gradient of a head's key, its 256 columns. -/
theorem ref2Dk_at (H : Holds a qn qr kn kr v g) (j : Fin 16384) (h : Fin 6) (d : Fin 256) :
    ref2Dk qn qr kn kr v g (ix2 j ⟨h.val * 256 + d.val, by omega⟩)
      = ((∑ i, a.ds h i j * c0 * a.q i h d : ℝ) : EReal) := by
  have e1 : (⟨(h.val * 256 + d.val) / 256, by omega⟩ : Fin 6) = h := Fin.ext (by show (h.val * 256 + d.val) / 256 = h.val; omega)
  have e2 : (⟨(h.val * 256 + d.val) % 256, by omega⟩ : Fin 256) = d := Fin.ext (by show (h.val * 256 + d.val) % 256 = d.val; omega)
  have s0 := ref2Scores_at H
  unfold ref2Dk
  rw [padded_at]
  simp only [e1, e2]
  unfold Nums.q cat
  generalize dScores (dWeights g v) (exps0 qn qr kn (toHeads kr)) = s at *
  split_ifs
  · unfold dkNope
    pointwise
    exact sum_of_real _ _ fun i => by rw [H.qn, s0, ← EReal.coe_mul]
  · unfold dkRope
    pointwise
    exact sum_of_real _ _ fun i => by rw [H.qr, s0, ← EReal.coe_mul]
  · simp

/-- The gradient of a head's value. -/
theorem ref2Dv_at (H : Holds a qn qr kn kr v g) (j : Fin 16384) (h : Fin 6) (d : Fin 128) :
    ref2Dv qn qr kn kr g (ix2 j ⟨h.val * 128 + d.val, by omega⟩) = ((∑ i, a.P h i j * a.g i h d : ℝ) : EReal) := by
  have e1 : (⟨(h.val * 128 + d.val) / 128, by omega⟩ : Fin 6) = h := Fin.ext (by show (h.val * 128 + d.val) / 128 = h.val; omega)
  have e2 : (⟨(h.val * 128 + d.val) % 128, by omega⟩ : Fin 128) = d := Fin.ext (by show (h.val * 128 + d.val) % 128 = d.val; omega)
  obtain ⟨M, hM⟩ := largest_real H
  have s0 : ∀ h i j, weights (exps0 qn qr kn (toHeads kr)) (ix3 h i j) = (a.P h i j : EReal) := weights_at H (largest'_at hM)
  unfold ref2Dv dvHeads
  generalize weights (exps0 qn qr kn (toHeads kr)) = p at *
  pointwise
  refine sum_of_real _ _ fun i => ?_
  rw [H.g, s0, ← EReal.coe_mul, mul_comm]

end Cert.Att

end
-- ==== Proof.Att.DkvArray.lean ====
/- The key and value gradients' call returns the reference's arrays. -/
module

public import proofs.«01_k».proof.Proof.Att.DkvValue
public import proofs.«01_k».proof.Proof.Att.Ref2

@[expose] public section

noncomputable section

namespace Cert.Att.Dkv

open Idealize.ShloMosaic Idealize.ShloMosaic.TcCoe Idealize.SL.Sem Cert.Kernel2Ideal Cert.Kernel2Ideal.Gen

variable {m : (ℓ : Loc nD τ sig) → Buf (Elt Ideal) ℓ} {c : Dev nD} {a : Nums}

theorem out6 (H : HoldsAt m c a) : (dats m 0 c).arrAt 6 cfg0.N
    = ref2Dk (aQn m c) (aQr m c) (aKn m c) (aKr m c) (aV m c) (aG m c) := by
  refine (dats m 0 c).arrAt_eq_of_covers 6 _ (by decide +kernel) fun t hf y => ?_
  obtain ⟨p, d, rfl⟩ : ∃ p d, y = ix2 p d := ⟨y 0, y 1, eq_ix2 y⟩
  have e : ∀ X : FVec Ideal S16384x1536 .bf16, ((cfg0.win 6).blk t).view.read (Elt Ideal) X (ix2 p d)
      = X (ix2 (row (kb t) p) ⟨(hd t).val * 256 + d.val, by omega⟩) := fun X => by
    blk_point [idx t]
  refine Eq.trans ?_ ((e (ref2Dk (aQn m c) (aQr m c) (aKn m c) (aKr m c) (aV m c) (aG m c))).trans (ref2Dk_at H _ _ _)).symm
  rw [row_eq]
  refine (after6 H t p d).trans (congrArg ((↑) : ℝ → EReal) ?_)
  have h2 : Real.log 2 ≠ 0 := (Real.log_pos one_lt_two).ne'
  dsimp only
  rw [Finset.sum_mul]
  exact Finset.sum_congr rfl fun i _ => by field_simp

theorem out7 (H : HoldsAt m c a) : (dats m 0 c).arrAt 7 cfg0.N
    = ref2Dv (aQn m c) (aQr m c) (aKn m c) (aKr m c) (aG m c) := by
  refine (dats m 0 c).arrAt_eq_of_covers 7 _ (by decide +kernel) fun t hf y => ?_
  obtain ⟨p, d, rfl⟩ : ∃ p d, y = ix2 p d := ⟨y 0, y 1, eq_ix2 y⟩
  have e : ∀ X : FVec Ideal S16384x768 .bf16, ((cfg0.win 7).blk t).view.read (Elt Ideal) X (ix2 p d)
      = X (ix2 (row (kb t) p) ⟨(hd t).val * 128 + d.val, by omega⟩) := fun X => by
    blk_point [idx t]
  refine Eq.trans ?_ ((e (ref2Dv (aQn m c) (aQr m c) (aKn m c) (aKr m c) (aG m c))).trans (ref2Dv_at H _ _ _)).symm
  rw [row_eq]
  exact after7 H t p d

end Cert.Att.Dkv

end
-- ==== Proof.Att.Claim2.lean ====
/- The claims of program 2: its runs end with the semaphores at zero and the arguments kept, its named literals
   stand for what they are named after, and the key and value gradients' call returns the reference's arrays. -/
module

public import proofs.«01_k».proof.Defs
public import proofs.«01_k».proof.Proof.Att.DkvArray
public import proofs.«01_k».proof.Proof.Att.Finite
public import proofs.«01_k».proof.Proof.Gen.Kernel2.Frame
public import proofs.«01_k».proof.Proof.Gen.Kernel2Ideal.Frame
public import proofs.«01_k».proof.Proof.Gen.Reference2Ideal.Run
public import Idealize.ShloMosaic.Lib.Quiescent

@[expose] public section

noncomputable section

namespace Cert.Att

open Idealize.ShloMosaic Idealize.ShloMosaic.TcCoe Idealize.SL.Sem

theorem quiet2 : Cert.quiescent_Kernel2 (hKernel2 := Cert.Kernel2.Gen.facts) := fun m ρ _ => Cert.Kernel2.Gen.frame m ρ

theorem quiet2Ideal : Cert.quiescent_Kernel2Ideal (hKernel2Ideal := Cert.Kernel2Ideal.Gen.facts) :=
  fun m ρ _ => Cert.Kernel2Ideal.Gen.frame m ρ

theorem quietRef2 : Cert.quiescent_Reference2Ideal (hReference2Ideal := Cert.Reference2Ideal.Gen.facts) := fun m ρ _ =>
  (θ_run Cert.Reference2Ideal.defs _ _).mono
    (fun r h => ⟨fun c => (h c).2.2, Idealize.ShloMosaic.sem_eq_zero_of_no_sems (by decide) r.2⟩) (Cert.Reference2Ideal.Value.run m ρ)

theorem keeps2 : Cert.preserves_Kernel2_Kernel2Ideal :=
  ⟨IdealRules.named_const.statement Cert.Kernel2Ideal.κ "mask" .f32 0xF149F2CA#32 ⊥ rfl,
    IdealRules.named_const.statement Cert.Kernel2Ideal.κ "ln2" .f32 0x3F317218#32 ((Real.log 2 : ℝ) : EReal) rfl⟩

theorem quiet2IdealPre : Cert.quiescent_Kernel2Ideal_pre_finite (hKernel2Ideal := Cert.Kernel2Ideal.Gen.facts) (hPre_finite := Cert.Pre_finite.Gen.facts) :=
  fun m ρ _ => Cert.Kernel2Ideal.Gen.frame m ρ

theorem quietRef2Pre : Cert.quiescent_Reference2Ideal_pre_finite (hReference2Ideal := Cert.Reference2Ideal.Gen.facts) (hPre_finite := Cert.Pre_finite.Gen.facts) :=
  fun m ρ _ => quietRef2 m ρ trivial

theorem equal2 : Cert.algebraic_Kernel2Ideal_Reference2Ideal_pre_finite (hKernel2Ideal := Cert.Kernel2Ideal.Gen.facts)
    (hReference2Ideal := Cert.Reference2Ideal.Gen.facts) (hPre_finite := Cert.Pre_finite.Gen.facts) := by
  intro m g m' g' hpre heq
  have H : ∀ c, Dkv.HoldsAt m c _ := fun c => holds_of_finite _ _ _ _ _ _ (hpre c)
  refine ⟨fun c => (Cert.Kernel2Ideal.Gen.dats m 0 c).arrAt 6 Cert.Kernel2Ideal.cfg0.N,
    fun c => (Cert.Kernel2Ideal.Gen.dats m 0 c).arrAt 7 Cert.Kernel2Ideal.cfg0.N,
    Cert.Kernel2Ideal.Value.run_blocks m g, ?_⟩
  refine (θ_run Cert.Reference2Ideal.defs _ _).mono (fun r h c => ⟨(h c).1.trans ?_, (h c).2.1.trans ?_, (h c).2.2⟩) (Cert.Reference2Ideal.Value.run m' g')
  · obtain ⟨e0, e1, e2, e3, e4, e5⟩ := heq c
    refine (ref2_out0 m' c).trans ?_
    rw [e0, e1, e2, e3, e4, e5]
    exact (Dkv.out6 (H c)).symm
  · obtain ⟨e0, e1, e2, e3, e4, e5⟩ := heq c
    refine (ref2_out1 m' c).trans ?_
    rw [e0, e1, e2, e3, e5]
    exact (Dkv.out7 (H c)).symm

end Cert.Att

end
-- ==== Proof.Att.FwdEntry.lean ====
/- What the attention's forward call is handed, as functions of the arguments. -/
module

public import proofs.«01_k».proof.Proof.Gen.Kernel3Ideal.Value
public import proofs.«01_k».proof.Proof.Att.Inputs
public import Idealize.ShloMosaic.Lib.Pipeline.ValueKit
public import Idealize.ShloMosaic.Lib.Claim
public import Idealize.ShloMosaic.Lib.StableHlo.RunRead

@[expose] public section

noncomputable section

namespace Cert.Att.Fwd

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- The arguments: the queries' two parts, the keys', the rotary key, the values. -/
abbrev aQn : Nope := m ((c.tc : Thread nD τ).loc main_arg0)
abbrev aQr : Rope := m ((c.tc : Thread nD τ).loc main_arg1)
abbrev aKn : Nope := m ((c.tc : Thread nD τ).loc main_arg2)
abbrev aKr : Rope1 := m ((c.tc : Thread nD τ).loc main_arg3)
abbrev aV : Nope := m ((c.tc : Thread nD τ).loc main_arg4)

set_option maxRecDepth 100000 in
theorem V_q : (V m c main_v9 : FVec Ideal S16384x1536 .bf16) = queriesIn (aQn m c) (aQr m c) := by
  unfold V
  unfold_abbrev_sides
  after_reads_simp
  rfl

set_option maxRecDepth 100000 in
theorem V_k : (V m c main_v13 : FVec Ideal S16384x1536 .bf16) = padded (aKn m c) (toHeads (aKr m c)) := by
  unfold V
  unfold_abbrev_sides
  after_reads_simp
  rfl

theorem V_v : (V m c main_v15 : FVec Ideal S16384x768 .bf16) = sideBySide (aV m c) := by
  entry_read
  rfl

end Cert.Att.Fwd

end
-- ==== Proof.Att.Softmax.lean ====
/- A softmax's row taken a block of keys at a time: the running largest score, the running sum of powers of two and the
   running weighted sum, each held against the largest score so far. -/
module

public import proofs.«01_k».proof.Proof.Att.HostRead

@[expose] public section

noncomputable section

namespace Cert.Att.Fwd

open Idealize.ShloMosaic Idealize.ShloMosaic.TcCoe

/-- A score, and its power of two: a real number, or `-inf` with power 0. -/
def Score (s : EReal) (e : ℝ) : Prop := (∃ r : ℝ, s = (r : EReal) ∧ e = (2 : ℝ) ^ r) ∨ (s = ⊥ ∧ e = 0)

/-- A row's running values: nothing seen, or the sums `z` and `w` held against the largest score `M`. -/
def RowSt (m l : EReal) (acc : Fin 128 → EReal) (z : ℝ) (w : Fin 128 → ℝ) : Prop :=
  (m = ⊥ ∧ l = 0 ∧ (∀ d, acc d = 0) ∧ z = 0 ∧ ∀ d, w d = 0)
  ∨ ∃ M : ℝ, m = (M : EReal) ∧ l = ((z * (2 : ℝ) ^ (-M) : ℝ) : EReal) ∧ ∀ d, acc d = ((w d * (2 : ℝ) ^ (-M) : ℝ) : EReal)

theorem exp2_of (x y : ℝ) : Ideal.exp2 ((x : EReal) - (y : EReal)) = (((2 : ℝ) ^ x * (2 : ℝ) ^ (-y) : ℝ) : EReal) := by
  rw [← EReal.coe_sub, Ideal.exp2_coe, ← Real.rpow_add two_pos, ← sub_eq_add_neg]
  rfl

theorem Score.exp2 {s : EReal} {e : ℝ} (h : Score s e) (M : ℝ) :
    Ideal.exp2 (s - (M : EReal)) = ((e * (2 : ℝ) ^ (-M) : ℝ) : EReal) := by
  obtain ⟨r, rfl, rfl⟩ | ⟨rfl, rfl⟩ := h
  · exact exp2_of r M
  · rw [EReal.bot_sub, Ideal.exp2_bot, zero_mul]; rfl

theorem Score.ne_top {s : EReal} {e : ℝ} (h : Score s e) : s ≠ ⊤ := by
  obtain ⟨r, rfl, _⟩ | ⟨rfl, _⟩ := h
  · exact EReal.coe_ne_top r
  · exact bot_ne_top

/-- What rescaling by the new largest score makes of a row's sums. -/
theorem RowSt.rescale {m l : EReal} {acc : Fin 128 → EReal} {z : ℝ} {w : Fin 128 → ℝ} (h : RowSt m l acc z w) (R : ℝ) :
    ∃ M : ℝ, max m (R : EReal) = (M : EReal)
      ∧ Ideal.exp2 (m - (M : EReal)) * l = ((z * (2 : ℝ) ^ (-M) : ℝ) : EReal)
      ∧ ∀ d, Ideal.exp2 (m - (M : EReal)) * acc d = ((w d * (2 : ℝ) ^ (-M) : ℝ) : EReal) := by
  obtain ⟨rfl, rfl, ha, rfl, hw⟩ | ⟨M0, rfl, rfl, ha⟩ := h
  · refine ⟨R, max_eq_right bot_le, ?_, fun d => ?_⟩
    · rw [mul_zero, zero_mul]; rfl
    · rw [ha, hw, mul_zero, zero_mul]; rfl
  · refine ⟨max M0 R, ?_, ?_, fun d => ?_⟩
    · rcases le_total M0 R with h | h
      · rw [max_eq_right h, max_eq_right (EReal.coe_le_coe_iff.mpr h)]
      · rw [max_eq_left h, max_eq_left (EReal.coe_le_coe_iff.mpr h)]
    all_goals
      have e : (2 : ℝ) ^ M0 * (2 : ℝ) ^ (-M0) = 1 := by rw [← Real.rpow_add two_pos, add_neg_cancel, Real.rpow_zero]
    · rw [exp2_of, ← EReal.coe_mul]
      refine congrArg ((↑) : ℝ → EReal) ?_
      rw [show (2 : ℝ) ^ M0 * (2 : ℝ) ^ (-max M0 R) * (z * (2 : ℝ) ^ (-M0))
        = ((2 : ℝ) ^ M0 * (2 : ℝ) ^ (-M0)) * (z * (2 : ℝ) ^ (-max M0 R)) by ring, e, one_mul]
    · rw [exp2_of, ha, ← EReal.coe_mul]
      refine congrArg ((↑) : ℝ → EReal) ?_
      rw [show (2 : ℝ) ^ M0 * (2 : ℝ) ^ (-max M0 R) * (w d * (2 : ℝ) ^ (-M0))
        = ((2 : ℝ) ^ M0 * (2 : ℝ) ^ (-M0)) * (w d * (2 : ℝ) ^ (-max M0 R)) by ring, e, one_mul]

/-- One block's step on a row. -/
theorem RowSt.step {m l : EReal} {acc : Fin 128 → EReal} {z : ℝ} {w : Fin 128 → ℝ} (h : RowSt m l acc z w)
    {N : ℕ} {s : Fin N → EReal} {e : Fin N → ℝ} (hs : ∀ j, Score (s j) (e j)) (j0 : Fin N) (h0 : s j0 ≠ ⊥)
    {v : Fin N → Fin 128 → EReal} {v' : Fin N → Fin 128 → ℝ} (hv : ∀ j d, v j d = (v' j d : EReal))
    {m' l' : EReal} {acc' : Fin 128 → EReal} (hm : m' = max m (Finset.univ.fold max ⊥ s))
    (hl : l' = Ideal.exp2 (m - m') * l + ∑ j, Ideal.exp2 (s j - m'))
    (ha : ∀ d, acc' d = Ideal.exp2 (m - m') * acc d + ∑ j, Ideal.exp2 (s j - m') * v j d) :
    RowSt m' l' acc' (z + ∑ j, e j) fun d => w d + ∑ j, e j * v' j d := by
  obtain ⟨R, hR⟩ := fold_max_real s (fun k => (hs k).ne_top) j0 h0
  obtain ⟨M, hM, h1, h2⟩ := h.rescale R
  rw [hR, hM] at hm
  subst hm
  refine Or.inr ⟨M, rfl, ?_, fun d => ?_⟩
  · rw [hl, h1, sum_of_real _ (fun j => e j * (2 : ℝ) ^ (-M)) fun j => (hs j).exp2 M, ← EReal.coe_add, ← Finset.sum_mul,
      ← add_mul]
  · rw [ha, h2, sum_of_real _ (fun j => e j * v' j d * (2 : ℝ) ^ (-M)) fun j => by
        rw [(hs j).exp2 M, hv, ← EReal.coe_mul]; exact congrArg ((↑) : ℝ → EReal) (by ring),
      ← EReal.coe_add, ← Finset.sum_mul, ← add_mul]

/-- The quotient a row ends with. -/
theorem RowSt.quot {m l : EReal} {acc : Fin 128 → EReal} {z : ℝ} {w : Fin 128 → ℝ} (h : RowSt m l acc z w) (hz : 0 < z)
    (d : Fin 128) : Ideal.div (acc d) l = ((w d / z : ℝ) : EReal) := by
  obtain ⟨_, _, _, h0, _⟩ | ⟨M, _, rfl, ha⟩ := h
  · exact absurd h0 hz.ne'
  · have hp : (0 : ℝ) < (2 : ℝ) ^ (-M) := Real.rpow_pos_of_pos two_pos _
    rw [ha, Ideal.div_coe (mul_pos hz hp).ne', ← EReal.coe_mul]
    refine congrArg ((↑) : ℝ → EReal) ?_
    field_simp

/-- The logarithm a row ends with. -/
theorem RowSt.lse {m l : EReal} {acc : Fin 128 → EReal} {z : ℝ} {w : Fin 128 → ℝ} (h : RowSt m l acc z w) (hz : 0 < z) :
    m + Ideal.div (Ideal.log l) ((Real.log 2 : ℝ) : EReal) = ((Real.log z / Real.log 2 : ℝ) : EReal) := by
  have h2 : Real.log 2 ≠ 0 := (Real.log_pos one_lt_two).ne'
  obtain ⟨_, _, _, h0, _⟩ | ⟨M, rfl, rfl, _⟩ := h
  · exact absurd h0 hz.ne'
  · have hp : (0 : ℝ) < (2 : ℝ) ^ (-M) := Real.rpow_pos_of_pos two_pos _
    rw [Ideal.div_coe h2, show Ideal.log ((z * (2 : ℝ) ^ (-M) : ℝ) : EReal) = ((Real.log (z * (2 : ℝ) ^ (-M)) : ℝ) : EReal) from
      if_neg (not_le.mpr (mul_pos hz hp)), ← EReal.coe_mul, ← EReal.coe_add, Real.log_mul hz.ne' hp.ne', Real.log_rpow two_pos]
    refine congrArg ((↑) : ℝ → EReal) ?_
    field_simp
    ring

/-- A row's largest entry, at any extent. -/
theorem rowMax_at {N : Nat} (x : FVec Ideal ⟨2, ![N, N]⟩ .f32) (h : Shape.Reduces ⟨2, ![N, N]⟩ [1] ⟨1, ![N]⟩) (p : Fin N) :
    multiReduction .maximumf [1] ⟨1, ![N]⟩ x 0xFF800000#32 h (.inl rfl) rfl (ix1 p)
      = Finset.univ.fold max (Ideal.ofBits .f32 0xFF800000#32) fun k : Fin N => x (ix2 p k) := by
  pointwise

end Cert.Att.Fwd

end
-- ==== Proof.Att.FwdPay.lean ====
/- One key block's step of the attention's forward kernel, read at a row of the block. -/
module

public import proofs.«01_k».proof.Proof.Gen.Kernel3Ideal.Skeleton
public import proofs.«01_k».proof.Proof.Att.Softmax
public import proofs.«01_k».proof.Proof.Att.DqPay

@[expose] public section

noncomputable section

namespace Cert.Att.Fwd

open Idealize.ShloMosaic Idealize.ShloMosaic.TcCoe Cert.Kernel3Ideal Cert.Kernel3Ideal.Gen

/-- The kernel's stand-in for a masked score. -/
theorem mask_bot : (Named.named κ "mask" 0xF149F2CA#32 : Ideal .f32) = (⊥ : EReal) :=
  IdealRules.named_const.ideal_named_scalar _ _ _ _ rfl

/-- The kernel's natural logarithm of 2. -/
theorem ln2_real : (Named.named κ "ln2" 0x3F317218#32 : Ideal .f32) = ((Real.log 2 : ℝ) : EReal) :=
  IdealRules.named_const.ideal_named_scalar _ _ _ _ rfl

abbrev Col := FVec Ideal S1024x1 .f32
abbrev Sq := FVec Ideal S1024x1024 .f32
abbrev Acc := FVec Ideal S1024x128 .f32

/-- The running largest scores after a block of scores `s`. -/
def newM (s : Sq) (x : Col) : Col :=
  maximumf x (shapeCast S1024x1 (multiReduction .maximumf [1] S1024 s 0xFF800000#32 reduces_S1024x1024_S1024 (.inl rfl) rfl) shapeCasts_S1024_S1024x1)

/-- The rescaling of the sums so far. -/
def scale (s : Sq) (x : Col) : Col := exp2 (subf x (newM s x))

/-- The block's powers of two. -/
def pows (s : Sq) (x : Col) : Sq := exp2 (subf s (broadcastTo S1024x1024 (newM s x) broadcasts_S1024x1_S1024x1024))

def newL (s : Sq) (x y : Col) : Col :=
  shapeCast S1024x1 (addf (mulf (scale s x) y)
    (shapeCast S1024x1 (multiReduction .add [1] S1024 (pows s x) 0x00000000#32 reduces_S1024x1024_S1024 (.inl rfl) rfl) shapeCasts_S1024_S1024x1))
    shapeCasts_S1024x1_S1024x1

def newA (s : Sq) (x : Col) (a : Acc) (v : FVec Ideal S1024x128 .bf16) : Acc :=
  shapeCast S1024x128 (addf (mulf (broadcastTo S1024x128 (scale s x) broadcasts_S1024x1_S1024x128) a)
    (matmul dot_S1024x1024_S1024x128_S1024x128_1_0_0_1_n_n none (truncf .bf16 (pows s x) bitsLt_bf16_f32)
      (shapeCast S1024x128 v shapeCasts_S1024x128_S1024x128) (constant S1024x128 .f32 0x00000000#32))) shapeCasts_S1024x128_S1024x128

variable (s : Sq) (x y : Col) (a : Acc) (v : FVec Ideal S1024x128 .bf16)

theorem maxCol_at (R : FVec Ideal S1024 .f32) (p : Fin 1024) :
    (maximumf x (shapeCast S1024x1 R shapeCasts_S1024_S1024x1) : Col) (ix2 p 0) = max (x (ix2 p 0)) (R (ix1 p)) := by
  pointwise

theorem newM_at (p : Fin 1024) : newM s x (ix2 p 0) = max (x (ix2 p 0)) (Finset.univ.fold max ⊥ fun k => s (ix2 p k)) := by
  unfold newM
  refine (maxCol_at x _ p).trans (congrArg (max (x (ix2 p 0))) ?_)
  refine (rowMax_at s reduces_S1024x1024_S1024 p).trans ?_
  rw [ofBits_bot]

theorem scale_at (p : Fin 1024) : scale s x (ix2 p 0) = Ideal.exp2 (x (ix2 p 0) - newM s x (ix2 p 0)) := by
  unfold scale
  generalize newM s x = X
  rfl

theorem pows_at (p j : Fin 1024) : pows s x (ix2 p j) = Ideal.exp2 (s (ix2 p j) - newM s x (ix2 p 0)) := by
  unfold pows
  generalize newM s x = X
  pointwise
  rfl

theorem newL_at (p : Fin 1024) : newL s x y (ix2 p 0)
    = Ideal.exp2 (x (ix2 p 0) - newM s x (ix2 p 0)) * y (ix2 p 0) + ∑ j, Ideal.exp2 (s (ix2 p j) - newM s x (ix2 p 0)) := by
  have e1 := scale_at s x p
  have e2 := pows_at s x p
  unfold newL
  generalize scale s x = X at *
  generalize pows s x = Y at *
  pointwise
  rw [e1]
  simp only [e2]

theorem newA_at (p : Fin 1024) (d : Fin 128) : newA s x a v (ix2 p d)
    = Ideal.exp2 (x (ix2 p 0) - newM s x (ix2 p 0)) * a (ix2 p d)
      + ∑ j, Ideal.exp2 (s (ix2 p j) - newM s x (ix2 p 0)) * v (ix2 j d) := by
  have e1 := scale_at s x p
  have e2 := pows_at s x p
  unfold newA
  generalize scale s x = X at *
  generalize pows s x = Y at *
  pointwise
  rw [e1]
  simp only [e2]

/-- The running values of a block's rows. -/
def State (x y : Vec Ideal S1024x1 .f32) (a : Vec Ideal S1024x128 .f32) (z : Fin 1024 → ℝ) (w : Fin 1024 → Fin 128 → ℝ) : Prop :=
  ∀ p, RowSt (x (ix2 p 0)) (y (ix2 p 0)) (fun d => a (ix2 p d)) (z p) (w p)

variable {s x y a v}

/-- One block's step. -/
theorem State.step {z : Fin 1024 → ℝ} {w : Fin 1024 → Fin 128 → ℝ} (h : State x y a z w) {e : Fin 1024 → Fin 1024 → ℝ}
    (hs : ∀ p j, Score (s (ix2 p j)) (e p j)) (h0 : ∀ p, s (ix2 p p) ≠ ⊥) {V : Fin 1024 → Fin 128 → ℝ} (hv : Reals2 v V) :
    State (shapeCast S1024x1 (newM s x) shapeCasts_S1024x1_S1024x1) (newL s x y) (newA s x a v)
      (fun p => z p + ∑ j, e p j) (fun p d => w p d + ∑ j, e p j * V j d) := fun p => by
  have e1 : shapeCast S1024x1 (newM s x) shapeCasts_S1024x1_S1024x1 (ix2 p 0) = newM s x (ix2 p 0) := by
    generalize newM s x = X
    pointwise
  exact (h p).step (s := fun j => s (ix2 p j)) (hs p) p (h0 p) (v := fun j d => v (ix2 j d)) hv
    (e1.trans (newM_at s x p)) (by rw [e1]; exact newL_at s x y p) (fun d => by rw [e1]; exact newA_at s x a v p d)

variable {v0 : Vec Ideal S1024x256 .bf16} {v22 : Vec Ideal S1024x256 .bf16} {Q K : Fin 1024 → Fin 256 → ℝ}

/-- A pair's power of two. -/
def pw (Q K : Fin 1024 → Fin 256 → ℝ) (p j : Fin 1024) : ℝ := (2 : ℝ) ^ (∑ e, Q p e * K j e)

/-- A pair's power of two in the query block's own key block. -/
def pw' (Q K : Fin 1024 → Fin 256 → ℝ) (p j : Fin 1024) : ℝ := if j.val / 64 ≤ p.val / 64 then pw Q K p j else 0

theorem pay5_at (h0 : Reals2 v0 Q) (hk : Reals2 v22 K) (p j : Fin 1024) :
    k0_pay5 (k0_pay17 v0) v22 (ix2 p j) = ((∑ e, Q p e * K j e : ℝ) : EReal) := by
  pointwise [k0_pay5, k0_pay17]
  exact sum_of_real _ (fun e => Q p e * K j e) fun e => by rw [h0, hk, EReal.coe_mul]

theorem pay25_at (h0 : Reals2 v0 Q) (hk : Reals2 v22 K) (p j : Fin 1024) :
    k0_pay25 (k0_pay23 v0 v22) k0_pay24 (ix2 p j)
      = if j.val / 64 ≤ p.val / 64 then ((∑ e, Q p e * K j e : ℝ) : EReal) else ⊥ := by
  have e : k0_pay23 v0 v22 (ix2 p j) = ((∑ e, Q p e * K j e : ℝ) : EReal) := pay5_at h0 hk p j
  revert e
  generalize k0_pay23 v0 v22 = X
  intro e
  pointwise [k0_pay25, k0_pay24]
  rw [chunks_at, mask_bot, e]
  by_cases hs : j.val / 64 ≤ p.val / 64
  · rw [if_pos hs, decide_eq_true hs]; rfl
  · rw [if_neg hs, decide_eq_false hs]; rfl

/-- A trip's step. -/
theorem State.trip {z : Fin 1024 → ℝ} {w : Fin 1024 → Fin 128 → ℝ} (h : State x y a z w) (h0 : Reals2 v0 Q)
    (hk : Reals2 v22 K) {V : Fin 1024 → Fin 128 → ℝ} (hv : Reals2 v V) :
    State (k0_pay21 (k0_pay6 (k0_pay17 v0) v22 x)) (k0_pay9 (k0_pay17 v0) v22 x y) (k0_pay10 (k0_pay17 v0) v22 x a v)
      (fun p => z p + ∑ j, pw Q K p j) (fun p d => w p d + ∑ j, pw Q K p j * V j d) :=
  h.step (s := k0_pay5 (k0_pay17 v0) v22) (fun p j => Or.inl ⟨_, pay5_at h0 hk p j, rfl⟩)
    (fun p => by rw [pay5_at h0 hk]; exact EReal.coe_ne_bot _) hv

/-- The step of the query block's own keys. -/
theorem State.diag {z : Fin 1024 → ℝ} {w : Fin 1024 → Fin 128 → ℝ} (h : State x y a z w) (h0 : Reals2 v0 Q)
    (hk : Reals2 v22 K) {V : Fin 1024 → Fin 128 → ℝ} (hv : Reals2 v V) :
    State (k0_pay31 (k0_pay23 v0 v22) k0_pay24 x) (k0_pay29 (k0_pay23 v0 v22) k0_pay24 x y)
      (k0_pay30 (k0_pay23 v0 v22) k0_pay24 x a v)
      (fun p => z p + ∑ j, pw' Q K p j) (fun p d => w p d + ∑ j, pw' Q K p j * V j d) := by
  refine h.step (s := k0_pay25 (k0_pay23 v0 v22) k0_pay24) (fun p j => ?_)
    (fun p => by rw [pay25_at h0 hk, if_pos le_rfl]; exact EReal.coe_ne_bot _) hv
  unfold pw'
  rw [pay25_at h0 hk]
  split_ifs
  · exact Or.inl ⟨_, rfl, rfl⟩
  · exact Or.inr ⟨rfl, rfl⟩

theorem start : State (k0_pay18 (F := Ideal)) (k0_pay19 (F := Ideal)) (k0_pay20 (F := Ideal)) (fun _ => 0) (fun _ _ => 0) := by
  refine fun p => Or.inl ⟨?_, ?_, fun d => ?_, rfl, fun _ => rfl⟩
  · pointwise [k0_pay18]; exact mask_bot
  · pointwise [k0_pay19]
  · pointwise [k0_pay20]

theorem pay1_at {z : Fin 1024 → ℝ} {w : Fin 1024 → Fin 128 → ℝ} (h : State x y a z w) (hz : ∀ p, 0 < z p) (p : Fin 1024)
    (d : Fin 128) : k0_pay1 (F := Ideal) a y (ix2 p d) = ((w p d / z p : ℝ) : EReal) := by
  refine Eq.trans ?_ ((h p).quot (hz p) d)
  pointwise [k0_pay1]

theorem pay2_at {z : Fin 1024 → ℝ} {w : Fin 1024 → Fin 128 → ℝ} (h : State x y a z w) (hz : ∀ p, 0 < z p) (p : Fin 1024) :
    k0_pay2 (F := Ideal) x y (ix2 p 0) = ((Real.log (z p) / Real.log 2 : ℝ) : EReal) := by
  refine Eq.trans ?_ ((h p).lse (hz p))
  pointwise [k0_pay2]
  rw [ln2_real]

theorem pay3_at {z : Fin 1024 → ℝ} {w : Fin 1024 → Fin 128 → ℝ} (h : State x y a z w) (hz : ∀ p, 0 < z p) (p : Fin 1024) :
    k0_pay3 (F := Ideal) x y (ix3 0 p 0) = ((Real.log (z p) / Real.log 2 : ℝ) : EReal) := by
  refine Eq.trans ?_ (pay2_at h hz p)
  unfold k0_pay3
  generalize k0_pay2 (F := Ideal) x y = X
  pointwise

theorem pay4_at {z : Fin 1024 → ℝ} {w : Fin 1024 → Fin 128 → ℝ} (h : State x y a z w) (hz : ∀ p, 0 < z p) (p : Fin 1024) :
    k0_pay4 (F := Ideal) x y (ix4 0 0 0 p) = ((Real.log (z p) / Real.log 2 : ℝ) : EReal) := by
  refine Eq.trans ?_ (pay2_at h hz p)
  unfold k0_pay4
  generalize k0_pay2 (F := Ideal) x y = X
  pointwise
  rw [Finset.sum_eq_single p]
  · rw [eq_at, decide_eq_true rfl]
    rfl
  · intro j _ hj
    rw [eq_at, decide_eq_false hj]
    rfl
  · exact fun h => absurd (Finset.mem_univ p) h

end Cert.Att.Fwd

end
-- ==== Proof.Att.FwdLoop.lean ====
/- The forward kernel's running values after any number of trips of the loop over the key blocks before the query's own. -/
module

public import proofs.«01_k».proof.Proof.Gen.Kernel3Ideal.Loops
public import proofs.«01_k».proof.Proof.Att.FwdPay
public import Idealize.ShloMosaic.Lib.Pipeline.ValueKit
public import Idealize.ShloMosaic.Lib.Pipeline.ReadBack

@[expose] public section

noncomputable section

namespace Cert.Att.Fwd

open Idealize.ShloMosaic Idealize.ShloMosaic.TcCoe Idealize.SL.Sem Cert.Kernel3Ideal Cert.Kernel3Ideal.Gen

/-- A column read back after it was stored whole. -/
theorem fillCol (arg : Memref sig .tc .vmem S1024x1 .f32) (x : S1024x1.Idx → Elt Ideal .f32) (z : List (View.Piece (Elt Ideal) S1024x1 .f32)) :
    arg.view.readCov (⟨Rect.unit (s := S1024x1) ![0, 0] S1024x1.size inb_S1024x1_S1024x1_0_0, x⟩ :: z)
      (Rect.unit (s := S1024x1) ![0, 0] S1024x1.size inb_S1024x1_S1024x1_0_0).toLoadRect = x := by
  rw [View.readCov_fill _ _ _ _ _ (by decide)]
  dsimp only
  rw [View.ld_unit_lit' _ _ (by decide)]

/-- An accumulator read back after it was stored whole. -/
theorem fillAcc (arg : Memref sig .tc .vmem S1024x128 .f32) (x : S1024x128.Idx → Elt Ideal .f32) (z : List (View.Piece (Elt Ideal) S1024x128 .f32)) :
    arg.view.readCov (⟨Rect.unit (s := S1024x128) ![0, 0] S1024x128.size inb_S1024x128_S1024x128_0_0, x⟩ :: z)
      (Rect.unit (s := S1024x128) ![0, 0] S1024x128.size inb_S1024x128_S1024x128_0_0).toLoadRect = x := by
  rw [View.readCov_fill _ _ _ _ _ (by decide)]
  dsimp only
  rw [View.ld_unit_lit' _ _ (by decide)]

variable (c : Dev nD) (i : grid0.Coords) (arg2 : Memref sig .tc .vmem S1024x256 .bf16) (harg2 : arg2.IsWhole) (arg3 : Memref sig .tc .vmem S16384x256 .bf16) (harg3 : arg3.IsWhole) (arg4 : Memref sig .tc .vmem S16384x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
  (v0 : Vec Ideal S1024x256 .bf16)

theorem tripL_eq (X3 : BufTy.Contents (Elt Ideal) arg3.view.ty) (X4 : BufTy.Contents (Elt Ideal) arg4.view.ty)
    (k : Fin (k0_t1_loop i).trips) (f8 : BufTy.Contents (Elt Ideal) arg8.view.ty) (f9 : BufTy.Contents (Elt Ideal) arg9.view.ty) (f10 : BufTy.Contents (Elt Ideal) arg10.view.ty) :
    tripL_k0_t1 (F := Ideal) Variants.none c none i arg2 harg2 arg3 harg3 arg4 harg4 arg5 harg5 arg6 harg6 arg7 harg7 arg8 harg8 arg9 harg9 arg10 harg10 v0 X3 X4 k f8 f9 f10
      = ([⟨Rect.unit (s := S1024x1) ![0, 0] S1024x1.size inb_S1024x1_S1024x1_0_0,
          k0_pay21 (k0_pay6 (k0_pay17 v0)
            (View.readAt (Elt Ideal) arg3.view (Rect.unit (s := S16384x256) (k0_off1 i k) S1024x256.size (k0_off1_inb i k)).toLoadRect X3)
            (View.readAt (Elt Ideal) arg8.view (Rect.unit (s := S1024x1) ![0, 0] S1024x1.size inb_S1024x1_S1024x1_0_0).toLoadRect f8))⟩],
         [⟨Rect.unit (s := S1024x1) ![0, 0] S1024x1.size inb_S1024x1_S1024x1_0_0,
          k0_pay9 (k0_pay17 v0)
            (View.readAt (Elt Ideal) arg3.view (Rect.unit (s := S16384x256) (k0_off1 i k) S1024x256.size (k0_off1_inb i k)).toLoadRect X3)
            (View.readAt (Elt Ideal) arg8.view (Rect.unit (s := S1024x1) ![0, 0] S1024x1.size inb_S1024x1_S1024x1_0_0).toLoadRect f8)
            (View.readAt (Elt Ideal) arg9.view (Rect.unit (s := S1024x1) ![0, 0] S1024x1.size inb_S1024x1_S1024x1_0_0).toLoadRect f9)⟩],
         [⟨Rect.unit (s := S1024x128) ![0, 0] S1024x128.size inb_S1024x128_S1024x128_0_0,
          k0_pay10 (k0_pay17 v0)
            (View.readAt (Elt Ideal) arg3.view (Rect.unit (s := S16384x256) (k0_off1 i k) S1024x256.size (k0_off1_inb i k)).toLoadRect X3)
            (View.readAt (Elt Ideal) arg8.view (Rect.unit (s := S1024x1) ![0, 0] S1024x1.size inb_S1024x1_S1024x1_0_0).toLoadRect f8)
            (View.readAt (Elt Ideal) arg10.view (Rect.unit (s := S1024x128) ![0, 0] S1024x128.size inb_S1024x128_S1024x128_0_0).toLoadRect f10)
            (View.readAt (Elt Ideal) arg4.view (Rect.unit (s := S16384x128) (k0_off2 i k) S1024x128.size (k0_off2_inb i k)).toLoadRect X4)⟩]) := by
  unfold tripL_k0_t1 trip_k0_t1
  rfl

variable {Q : Fin 1024 → Fin 256 → ℝ} {K : ℕ → Fin 1024 → Fin 256 → ℝ} {V : ℕ → Fin 1024 → Fin 128 → ℝ}

/-- The running values before trip `n`. -/
theorem state_at (h0 : Reals2 v0 Q)
    (X3 : BufTy.Contents (Elt Ideal) arg3.view.ty) (X4 : BufTy.Contents (Elt Ideal) arg4.view.ty)
    (hk : ∀ k : Fin (k0_t1_loop i).trips, Reals2 (View.readAt (Elt Ideal) arg3.view (Rect.unit (s := S16384x256) (k0_off1 i k) S1024x256.size (k0_off1_inb i k)).toLoadRect X3) (K k.val))
    (hv : ∀ k : Fin (k0_t1_loop i).trips, Reals2 (View.readAt (Elt Ideal) arg4.view (Rect.unit (s := S16384x128) (k0_off2 i k) S1024x128.size (k0_off2_inb i k)).toLoadRect X4) (V k.val))
    (B8 B9 : List (View.Piece (Elt Ideal) S1024x1 .f32)) (B10 : List (View.Piece (Elt Ideal) S1024x128 .f32))
    (hB : State (arg8.view.readCov B8 (Rect.unit (s := S1024x1) ![0, 0] S1024x1.size inb_S1024x1_S1024x1_0_0).toLoadRect)
      (arg9.view.readCov B9 (Rect.unit (s := S1024x1) ![0, 0] S1024x1.size inb_S1024x1_S1024x1_0_0).toLoadRect)
      (arg10.view.readCov B10 (Rect.unit (s := S1024x128) ![0, 0] S1024x128.size inb_S1024x128_S1024x128_0_0).toLoadRect) (fun _ => 0) (fun _ _ => 0))
    (n : ℕ) (hn : n ≤ (k0_t1_loop i).trips) :
    State (arg8.view.readCov ((pb_k0_t1 (F := Ideal) Variants.none c none i arg2 harg2 arg3 harg3 arg4 harg4 arg5 harg5 arg6 harg6 arg7 harg7 arg8 harg8 arg9 harg9 arg10 harg10 v0 X3 X4 (arg8.view.writes (Elt Ideal) arg8.view.junk B8) (arg9.view.writes (Elt Ideal) arg9.view.junk B9) (arg10.view.writes (Elt Ideal) arg10.view.junk B10) n).1 ++ B8) (Rect.unit (s := S1024x1) ![0, 0] S1024x1.size inb_S1024x1_S1024x1_0_0).toLoadRect)
      (arg9.view.readCov ((pb_k0_t1 (F := Ideal) Variants.none c none i arg2 harg2 arg3 harg3 arg4 harg4 arg5 harg5 arg6 harg6 arg7 harg7 arg8 harg8 arg9 harg9 arg10 harg10 v0 X3 X4 (arg8.view.writes (Elt Ideal) arg8.view.junk B8) (arg9.view.writes (Elt Ideal) arg9.view.junk B9) (arg10.view.writes (Elt Ideal) arg10.view.junk B10) n).2.1 ++ B9) (Rect.unit (s := S1024x1) ![0, 0] S1024x1.size inb_S1024x1_S1024x1_0_0).toLoadRect)
      (arg10.view.readCov ((pb_k0_t1 (F := Ideal) Variants.none c none i arg2 harg2 arg3 harg3 arg4 harg4 arg5 harg5 arg6 harg6 arg7 harg7 arg8 harg8 arg9 harg9 arg10 harg10 v0 X3 X4 (arg8.view.writes (Elt Ideal) arg8.view.junk B8) (arg9.view.writes (Elt Ideal) arg9.view.junk B9) (arg10.view.writes (Elt Ideal) arg10.view.junk B10) n).2.2 ++ B10) (Rect.unit (s := S1024x128) ![0, 0] S1024x128.size inb_S1024x128_S1024x128_0_0).toLoadRect)
      (fun p => ∑ b ∈ Finset.range n, ∑ j, pw Q (K b) p j) (fun p d => ∑ b ∈ Finset.range n, ∑ j, pw Q (K b) p j * V b j d) := by
  induction n with
  | zero =>
    rw [pb_k0_t1.eq_1, List.nil_append, List.nil_append, List.nil_append]
    simp only [Finset.range_zero, Finset.sum_empty]
    exact hB
  | succ n ih =>
    have ih := ih (by omega)
    have e := pb_k0_t1_succ (F := Ideal) Variants.none c none i arg2 harg2 arg3 harg3 arg4 harg4 arg5 harg5 arg6 harg6 arg7 harg7 arg8 harg8 arg9 harg9 arg10 harg10 v0 X3 X4 (arg8.view.writes (Elt Ideal) arg8.view.junk B8) (arg9.view.writes (Elt Ideal) arg9.view.junk B9) (arg10.view.writes (Elt Ideal) arg10.view.junk B10) ⟨n, hn⟩
    rw [tripL_eq, ← View.writes_append, ← View.writes_append, ← View.writes_append] at e
    have e1 := congrArg Prod.fst e
    have e2 := congrArg (fun x => x.2.1) e
    have e3 := congrArg (fun x => x.2.2) e
    dsimp only at e1 e2 e3
    rw [e1, e2, e3, List.append_assoc, List.singleton_append, List.append_assoc, List.singleton_append, List.append_assoc, List.singleton_append,
      fillCol, fillCol, fillAcc]
    simp only [Finset.sum_range_succ]
    exact ih.trip h0 (hk ⟨n, hn⟩) (hv ⟨n, hn⟩)

end Cert.Att.Fwd

end
-- ==== Proof.Att.FwdBlock.lean ====
/- The forward call's blocks: what a grid point reads of the arrays it is handed. -/
module

public import proofs.«01_k».proof.Proof.Att.FwdEntry
public import proofs.«01_k».proof.Proof.Att.FwdLoop
public import proofs.«01_k».proof.Proof.Att.Blocks
public import Idealize.ShloMosaic.Lib.LoopRemainder

@[expose] public section

noncomputable section

namespace Cert.Att.Fwd

open Idealize.ShloMosaic Idealize.ShloMosaic.TcCoe Idealize.SL.Sem Cert.Kernel3Ideal Cert.Kernel3Ideal.Gen

variable {m : (ℓ : Loc nD τ sig) → Buf (Elt Ideal) ℓ} {c : Dev nD} {a : Nums} {g : Nope}

/-- The head and the query block of a grid point. -/
theorem idx : ∀ t : Fin cfg0.N,
    win0_0.index t = ![(grid0.coords t 1).val, (grid0.coords t 0).val] ∧ win0_1.index t = ![0, (grid0.coords t 0).val]
    ∧ win0_2.index t = ![0, (grid0.coords t 0).val] ∧ win0_3.index t = ![(grid0.coords t 1).val, (grid0.coords t 0).val]
    ∧ win0_4.index t = ![(grid0.coords t 0).val, (grid0.coords t 1).val, 0]
    ∧ win0_5.index t = ![(grid0.coords t 0).val, (grid0.coords t 1).val, 0, 0] :=
  (by decide +kernel : ∀ t : Fin grid0.N, _)

/-- The head of a grid point. -/
abbrev hd (t : Fin cfg0.N) : Fin 6 := grid0.coords t 0
/-- The query block of a grid point. -/
abbrev qb (t : Fin cfg0.N) : Fin 16 := grid0.coords t 1
/-- The token in row `p` of a block. -/
abbrev row (b : Fin 16) (p : Fin 1024) : Fin 16384 := ⟨b.val * 1024 + p.val, by omega⟩

theorem row_eq (b : Fin 16) (p : Fin 1024) : row b p = tok b.val p := Fin.ext (tok_val _ b.isLt p).symm

theorem blk_q (t : Fin cfg0.N) (p : Fin 1024) (d : Fin 256) :
    iblk m c 0 t (ix2 p d) = (V m c main_v9 : FVec Ideal S16384x1536 .bf16) (ix2 (row (qb t) p) ⟨(hd t).val * 256 + d.val, by omega⟩) := by
  blk_point [iblk, idx t]

theorem blk_k (t : Fin cfg0.N) (p : Fin 16384) (d : Fin 256) :
    iblk m c 1 t (ix2 p d) = (V m c main_v13 : FVec Ideal S16384x1536 .bf16) (ix2 p ⟨(hd t).val * 256 + d.val, by omega⟩) := by
  blk_point [iblk, idx t]

theorem blk_v (t : Fin cfg0.N) (p : Fin 16384) (d : Fin 128) :
    iblk m c 2 t (ix2 p d) = (V m c main_v15 : FVec Ideal S16384x768 .bf16) (ix2 p ⟨(hd t).val * 128 + d.val, by omega⟩) := by
  blk_point [iblk, idx t]

/-- The arguments hold the real numbers of `a`. -/
abbrev HoldsAt (m : (ℓ : Loc nD τ sig) → Buf (Elt Ideal) ℓ) (c : Dev nD) (a : Nums) (g : Nope) : Prop :=
  Holds a (aQn m c) (aQr m c) (aKn m c) (aKr m c) (aV m c) g

theorem real_q (H : HoldsAt m c a g) (t : Fin cfg0.N) : Reals2 (iblk m c 0 t : Vec Ideal S1024x256 .bf16)
    (fun p d => a.q (tok (qb t).val p) (hd t) d * (c0 / Real.log 2)) := by
  intro p d
  rw [blk_q, V_q, queriesIn_at H, row_eq]
  congr 3 <;> apply Fin.ext <;> simp <;> omega

theorem real_k (H : HoldsAt m c a g) (t : Fin cfg0.N) (off : Fin 2 → ℕ) (b : ℕ) (hb : b < 16) (ho : off = ![1024 * b, 0])
    (inb : ∀ x, off x + S1024x256.size x ≤ S16384x256.size x) :
    Reals2 (View.ld (iblk m c 1 t : Vec Ideal S16384x256 .bf16) (Rect.unit (s := S16384x256) off S1024x256.size inb))
      (fun p d => a.k (tok b p) (hd t) d) := by
  subst ho
  intro p d
  refine (View.ld_unit_apply_of (iblk m c 1 t : Vec Ideal S16384x256 .bf16) _ _ inb (ix2 p d) (ix2 (tok b p) d) ?_).trans ?_
  · intro x
    match x with
    | ⟨0, _⟩ => show (tok b p).val = 1024 * b + p.val; rw [tok_val _ hb]; omega
    | ⟨1, _⟩ => show d.val = 0 + d.val; omega
  · rw [blk_k, V_k, keysIn_at H]
    congr 2 <;> apply Fin.ext <;> simp <;> omega

theorem real_v (H : HoldsAt m c a g) (t : Fin cfg0.N) (off : Fin 2 → ℕ) (b : ℕ) (hb : b < 16) (ho : off = ![1024 * b, 0])
    (inb : ∀ x, off x + S1024x128.size x ≤ S16384x128.size x) :
    Reals2 (View.ld (iblk m c 2 t : Vec Ideal S16384x128 .bf16) (Rect.unit (s := S16384x128) off S1024x128.size inb))
      (fun p d => a.v (tok b p) (hd t) d) := by
  subst ho
  intro p d
  refine (View.ld_unit_apply_of (iblk m c 2 t : Vec Ideal S16384x128 .bf16) _ _ inb (ix2 p d) (ix2 (tok b p) d) ?_).trans ?_
  · intro x
    match x with
    | ⟨0, _⟩ => show (tok b p).val = 1024 * b + p.val; rw [tok_val _ hb]; omega
    | ⟨1, _⟩ => show d.val = 0 + d.val; omega
  · rw [blk_v, V_v, sideBySide_at, H.v]
    congr 2 <;> apply Fin.ext <;> simp <;> omega

end Cert.Att.Fwd

end
-- ==== Proof.Att.FwdValue.lean ====
/- What a grid point of the forward call leaves: its block of the attention's output and of the denominators' logarithms. -/
module

public import proofs.«01_k».proof.Proof.Att.FwdBlock

@[expose] public section

noncomputable section

namespace Cert.Att.Fwd

open Idealize.ShloMosaic Idealize.ShloMosaic.TcCoe Idealize.SL.Sem Cert.Kernel3Ideal Cert.Kernel3Ideal.Gen

variable {m : (ℓ : Loc nD τ sig) → Buf (Elt Ideal) ℓ} {c : Dev nD} {a : Nums} {g : Nope}

theorem trips_eq (t : Fin cfg0.N) : (k0_t1_loop (grid0.coords t)).trips = (qb t).val := by
  have h : ∀ b : Fin 16, Scf.trips 0#32
      (Scalar.addi 0#32 (Scalar.muli (Scalar.divsi (Scalar.subi (BitVec.ofNat 32 b.val) 0#32) 1#32) 1#32)) 1#32 = b.val := by
    decide +kernel
  exact h (qb t)

/-- A pair's power of two is its exponential. -/
theorem pw_eq (a : Nums) (h : Fin 6) (b b' : ℕ) (p j : Fin 1024) (hs : Sees (tok b p) (tok b' j)) :
    pw (fun p d => a.q (tok b p) h d * (c0 / Real.log 2)) (fun p d => a.k (tok b' p) h d) p j = a.E h (tok b p) (tok b' j) := by
  have h2 : Real.log 2 ≠ 0 := (Real.log_pos one_lt_two).ne'
  unfold pw Nums.E
  rw [if_pos hs, sum_q_k, Real.rpow_def_of_pos two_pos]
  congr 1
  field_simp

theorem pw'_eq (a : Nums) (h : Fin 6) (b : ℕ) (hb : b < 16) (p j : Fin 1024) :
    pw' (fun p d => a.q (tok b p) h d * (c0 / Real.log 2)) (fun p d => a.k (tok b p) h d) p j = a.E h (tok b p) (tok b j) := by
  unfold pw'
  by_cases hs : j.val / 64 ≤ p.val / 64
  · rw [if_pos hs]; exact pw_eq a h b b p j ((sees_same hb p j).mpr hs)
  · rw [if_neg hs]; unfold Nums.E; rw [if_neg fun hh => hs ((sees_same hb p j).mp hh)]

/-- A query's weighted sum of exponentials by key blocks: the blocks before its own, and its own under the mask. -/
theorem sum_E (a : Nums) (h : Fin 6) (b : ℕ) (hb : b < 16) (p : Fin 1024) (f : Fin 16384 → ℝ) :
    ∑ b' ∈ Finset.range b, ∑ j, pw (fun p d => a.q (tok b p) h d * (c0 / Real.log 2)) (fun p d => a.k (tok b' p) h d) p j * f (tok b' j)
      + ∑ j, pw' (fun p d => a.q (tok b p) h d * (c0 / Real.log 2)) (fun p d => a.k (tok b p) h d) p j * f (tok b j)
      = ∑ j, a.E h (tok b p) j * f j := by
  rw [sum_upto (fun j => a.E h (tok b p) j * f j) b hb fun b' h1 h2 j => by
    unfold Nums.E; rw [if_neg (not_sees_lt h1 h2 p j), zero_mul]]
  congr 1
  · refine Finset.sum_congr rfl fun n hn => Finset.sum_congr rfl fun j _ => ?_
    rw [pw_eq a h b n p j (sees_lt (Finset.mem_range.mp hn) hb p j)]
  · exact Finset.sum_congr rfl fun j _ => by rw [pw'_eq a h b hb]

theorem sum_Z (a : Nums) (h : Fin 6) (b : ℕ) (hb : b < 16) (p : Fin 1024) :
    ∑ b' ∈ Finset.range b, ∑ j, pw (fun p d => a.q (tok b p) h d * (c0 / Real.log 2)) (fun p d => a.k (tok b' p) h d) p j
      + ∑ j, pw' (fun p d => a.q (tok b p) h d * (c0 / Real.log 2)) (fun p d => a.k (tok b p) h d) p j
      = a.Z h (tok b p) := by
  have e := sum_E a h b hb p fun _ => 1
  simp only [mul_one] at e
  exact e

theorem o_eq (a : Nums) (h : Fin 6) (i : Fin 16384) (d : Fin 128) : (∑ j, a.E h i j * a.v j h d) / a.Z h i = a.o i h d := by
  unfold Nums.o Nums.P
  rw [Finset.sum_div]
  exact Finset.sum_congr rfl fun j _ => by ring

theorem trip_k (H : HoldsAt m c a g) (t : Fin cfg0.N) (k : Fin (k0_t1_loop (grid0.coords t)).trips) :
    Reals2 (View.readAt (Elt Ideal) (ms0_1 t).view (Rect.unit (s := S16384x256) (k0_off1 (grid0.coords t) k) S1024x256.size (k0_off1_inb _ k)).toLoadRect ((hs0_1 t).unread (iblk m c 1 t)))
      (fun p d => a.k (tok k.val p) (hd t) d) := by
  have := lt_of_lt_of_eq k.isLt (trips_eq t)
  rw [View.readAt_eq_ld, Memref.IsWhole.read_unread]
  exact real_k H t _ k.val (by omega) (k0_off1_eq _ k) _

theorem trip_v (H : HoldsAt m c a g) (t : Fin cfg0.N) (k : Fin (k0_t1_loop (grid0.coords t)).trips) :
    Reals2 (View.readAt (Elt Ideal) (ms0_2 t).view (Rect.unit (s := S16384x128) (k0_off2 (grid0.coords t) k) S1024x128.size (k0_off2_inb _ k)).toLoadRect ((hs0_2 t).unread (iblk m c 2 t)))
      (fun p d => a.v (tok k.val p) (hd t) d) := by
  have := lt_of_lt_of_eq k.isLt (trips_eq t)
  rw [View.readAt_eq_ld, Memref.IsWhole.read_unread]
  exact real_v H t _ k.val (by omega) (k0_off2_eq _ k) _

/-- A block's denominators. -/
def zOf (a : Nums) (h : Fin 6) (b : ℕ) : Fin 1024 → ℝ := fun p => a.Z h (tok b p)

/-- A block's weighted sums. -/
def wOf (a : Nums) (h : Fin 6) (b : ℕ) : Fin 1024 → Fin 128 → ℝ := fun p d => ∑ j, a.E h (tok b p) j * a.v j h d

theorem zOf_pos (a : Nums) (h : Fin 6) (b : ℕ) (p : Fin 1024) : 0 < zOf a h b p := a.Z_pos h _

theorem entry : State
    (scM0_0.view.readCov [⟨Rect.unit (s := S1024x1) ![0, 0] S1024x1.size inb_S1024x1_S1024x1_0_0, k0_pay18 (F := Ideal)⟩]
      (Rect.unit (s := S1024x1) ![0, 0] S1024x1.size inb_S1024x1_S1024x1_0_0).toLoadRect)
    (scM0_1.view.readCov [⟨Rect.unit (s := S1024x1) ![0, 0] S1024x1.size inb_S1024x1_S1024x1_0_0, k0_pay19 (F := Ideal)⟩]
      (Rect.unit (s := S1024x1) ![0, 0] S1024x1.size inb_S1024x1_S1024x1_0_0).toLoadRect)
    (scM0_2.view.readCov [⟨Rect.unit (s := S1024x128) ![0, 0] S1024x128.size inb_S1024x128_S1024x128_0_0, k0_pay20 (F := Ideal)⟩]
      (Rect.unit (s := S1024x128) ![0, 0] S1024x128.size inb_S1024x128_S1024x128_0_0).toLoadRect) (fun _ => 0) (fun _ _ => 0) := by
  rw [fillCol, fillCol, fillAcc]
  exact start

/-- The step of the query block's own keys ends with the row's sums. -/
theorem last (H : HoldsAt m c a g) (t : Fin cfg0.N) {x y : Vec Ideal S1024x1 .f32} {s : Vec Ideal S1024x128 .f32}
    (h : State x y s
      (fun p => ∑ b ∈ Finset.range (k0_t1_loop (grid0.coords t)).trips, ∑ j, pw (fun p d => a.q (tok (qb t).val p) (hd t) d * (c0 / Real.log 2)) (fun p d => a.k (tok b p) (hd t) d) p j)
      (fun p d => ∑ b ∈ Finset.range (k0_t1_loop (grid0.coords t)).trips, ∑ j, pw (fun p d => a.q (tok (qb t).val p) (hd t) d * (c0 / Real.log 2)) (fun p d => a.k (tok b p) (hd t) d) p j * a.v (tok b j) (hd t) d)) :
    State
      (k0_pay31 (k0_pay23 (iblk m c 0 t) (View.ld (iblk m c 1 t : Vec Ideal S16384x256 .bf16) (Rect.unit (s := S16384x256) (k0_off5 (grid0.coords t)) S1024x256.size (k0_off5_inb _)))) k0_pay24 x)
      (k0_pay29 (k0_pay23 (iblk m c 0 t) (View.ld (iblk m c 1 t : Vec Ideal S16384x256 .bf16) (Rect.unit (s := S16384x256) (k0_off5 (grid0.coords t)) S1024x256.size (k0_off5_inb _)))) k0_pay24 x y)
      (k0_pay30 (k0_pay23 (iblk m c 0 t) (View.ld (iblk m c 1 t : Vec Ideal S16384x256 .bf16) (Rect.unit (s := S16384x256) (k0_off5 (grid0.coords t)) S1024x256.size (k0_off5_inb _)))) k0_pay24 x s
        (View.ld (iblk m c 2 t : Vec Ideal S16384x128 .bf16) (Rect.unit (s := S16384x128) (k0_off6 (grid0.coords t)) S1024x128.size (k0_off6_inb _))))
      (zOf a (hd t) (qb t).val) (wOf a (hd t) (qb t).val) := by
  have d := h.diag (real_q H t) (real_k H t _ (qb t).val (qb t).isLt (k0_off5_eq _) (k0_off5_inb _))
    (real_v H t _ (qb t).val (qb t).isLt (k0_off6_eq _) (k0_off6_inb _))
  have e1 := fun p => sum_Z a (hd t) (qb t).val (qb t).isLt p
  have e2 := fun p d => sum_E a (hd t) (qb t).val (qb t).isLt p fun j => a.v j (hd t) d
  rw [trips_eq] at d
  simp only [e1, e2] at d
  exact d

theorem after3 (H : HoldsAt m c a g) (t : Fin cfg0.N) : Reals2 ((dats m 0 c).after 3 t : Vec Ideal S1024x128 .bf16)
      (fun p d => wOf a (hd t) (qb t).val p d / zOf a (hd t) (qb t).val p) := by
  intro p d
  rw [after0_3]
  simp only [outsAt0]
  frame_out
  rw [Scf.rem_trips, pb_k0_t2.eq_1, List.nil_append, List.nil_append, List.nil_append]
  refine pay1_at (last H t (state_at c (grid0.coords t) (ms0_0 t) _ (ms0_1 t) _ (ms0_2 t) _ (ms0_3 t) _ (ms0_4 t) _ (ms0_5 t) _
    scM0_0 _ scM0_1 _ scM0_2 _ _ (Q := fun p d => a.q (tok (qb t).val p) (hd t) d * (c0 / Real.log 2))
    (K := fun b p d => a.k (tok b p) (hd t) d) (V := fun b p d => a.v (tok b p) (hd t) d) ?_ _ _ ?_ ?_ _ _ _ ?_ _ le_rfl)) ?_ p d
  · exact real_q H t
  · exact trip_k H t
  · exact trip_v H t
  · exact entry
  · exact zOf_pos a (hd t) (qb t).val

theorem after4 (H : HoldsAt m c a g) (t : Fin cfg0.N) (p : Fin 1024) : ((dats m 0 c).after 4 t : Vec Ideal S1x1024x1 .f32) (ix3 0 p 0)
      = ((Real.log (zOf a (hd t) (qb t).val p) / Real.log 2 : ℝ) : EReal) := by
  rw [after0_4]
  simp only [outsAt0]
  frame_out
  rw [Scf.rem_trips, pb_k0_t2.eq_1, List.nil_append, List.nil_append]
  refine pay3_at (last H t (state_at c (grid0.coords t) (ms0_0 t) _ (ms0_1 t) _ (ms0_2 t) _ (ms0_3 t) _ (ms0_4 t) _ (ms0_5 t) _
    scM0_0 _ scM0_1 _ scM0_2 _ _ (Q := fun p d => a.q (tok (qb t).val p) (hd t) d * (c0 / Real.log 2))
    (K := fun b p d => a.k (tok b p) (hd t) d) (V := fun b p d => a.v (tok b p) (hd t) d) ?_ _ _ ?_ ?_ _ _ _ ?_ _ le_rfl)) ?_ p
  · exact real_q H t
  · exact trip_k H t
  · exact trip_v H t
  · exact entry
  · exact zOf_pos a (hd t) (qb t).val

theorem after5 (H : HoldsAt m c a g) (t : Fin cfg0.N) (p : Fin 1024) : ((dats m 0 c).after 5 t : Vec Ideal S1x1x1x1024 .f32) (ix4 0 0 0 p)
      = ((Real.log (zOf a (hd t) (qb t).val p) / Real.log 2 : ℝ) : EReal) := by
  rw [after0_5]
  simp only [outsAt0]
  frame_out
  rw [Scf.rem_trips, pb_k0_t2.eq_1, List.nil_append, List.nil_append]
  refine pay4_at (last H t (state_at c (grid0.coords t) (ms0_0 t) _ (ms0_1 t) _ (ms0_2 t) _ (ms0_3 t) _ (ms0_4 t) _ (ms0_5 t) _
    scM0_0 _ scM0_1 _ scM0_2 _ _ (Q := fun p d => a.q (tok (qb t).val p) (hd t) d * (c0 / Real.log 2))
    (K := fun b p d => a.k (tok b p) (hd t) d) (V := fun b p d => a.v (tok b p) (hd t) d) ?_ _ _ ?_ ?_ _ _ _ ?_ _ le_rfl)) ?_ p
  · exact real_q H t
  · exact trip_k H t
  · exact trip_v H t
  · exact entry
  · exact zOf_pos a (hd t) (qb t).val

end Cert.Att.Fwd

end
-- ==== Proof.Att.Ref3.lean ====
/- The third reference's results, the attention's output and the base-2 logarithms of its denominators, are functions of
   Proof/Att/Host.lean, and read as the real numbers. -/
module

public import proofs.«01_k».proof.Proof.Gen.Reference3Ideal.Run
public import proofs.«01_k».proof.Proof.Att.Ref1
public import proofs.«01_k».proof.Proof.Att.Inputs

@[expose] public section

noncomputable section

namespace Cert.Att

open Idealize.ShloMosaic Idealize.ShloMosaic.TcCoe Idealize.SL.Sem Cert.Reference3Ideal Cert.Reference3Ideal.Gen

def ref3O (qn : Nope) (qr : Rope) (kn : Nope) (kr : Rope1) (v : Nope) : FVec Ideal S16384x768 .bf16 :=
  sideBySide (mix v (weights (exps0 qn qr kn (toHeads kr))))

def ref3Col (qn : Nope) (qr : Rope) (kn : Nope) (kr : Rope1) : FVec Ideal S6x16384x1 .f32 :=
  shapeCast S6x16384x1 (lseRows (masked qn qr kn (toHeads kr))) shapeCasts_S6x16384_S6x16384x1

def ref3Row (qn : Nope) (qr : Rope) (kn : Nope) (kr : Rope1) : FVec Ideal S6x16x1x1024 .f32 :=
  shapeCast S6x16x1x1024 (lseRows (masked qn qr kn (toHeads kr))) shapeCasts_S6x16384_S6x16x1x1024

set_option maxRecDepth 8192 in
theorem ref3_out0 (m : (ℓ : Loc nD τ sig) → Buf (Elt Ideal) ℓ) (c : Dev nD) :
    Value.res_out0 m c = ref3O (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v53
  rfl

set_option maxRecDepth 8192 in
theorem ref3_out1 (m : (ℓ : Loc nD τ sig) → Buf (Elt Ideal) ℓ) (c : Dev nD) :
    Value.res_out1 m c = ref3Col (m ((c.tc : Thread nD τ).loc main_arg0)) (m ((c.tc : Thread nD τ).loc main_arg1))
      (m ((c.tc : Thread nD τ).loc main_arg2)) (m ((c.tc : Thread nD τ).loc main_arg3)) := by
  unfold Value.res_out1 Value.res_main_v54
  rfl

set_option maxRecDepth 8192 in
theorem ref3_out2 (m : (ℓ : Loc nD τ sig) → Buf (Elt Ideal) ℓ) (c : Dev nD) :
    Value.res_out2 m c = ref3Row (m ((c.tc : Thread nD τ).loc main_arg0)) (m ((c.tc : Thread nD τ).loc main_arg1))
      (m ((c.tc : Thread nD τ).loc main_arg2)) (m ((c.tc : Thread nD τ).loc main_arg3)) := by
  unfold Value.res_out2 Value.res_main_v55
  rfl

variable {a : Nums} {qn : Nope} {qr : Rope} {kn : Nope} {kr : Rope1} {v g : Nope}

theorem ref3O_at (H : Holds a qn qr kn kr v g) (i : Fin 16384) (h : Fin 6) (d : Fin 128) :
    ref3O qn qr kn kr v (ix2 i ⟨h.val * 128 + d.val, by omega⟩) = (a.o i h d : EReal) := by
  have e1 : (⟨(h.val * 128 + d.val) / 128, by omega⟩ : Fin 6) = h := Fin.ext (by show (h.val * 128 + d.val) / 128 = h.val; omega)
  have e2 : (⟨(h.val * 128 + d.val) % 128, by omega⟩ : Fin 128) = d := Fin.ext (by show (h.val * 128 + d.val) % 128 = d.val; omega)
  unfold ref3O
  rw [sideBySide_at]
  simp only [e1, e2]
  exact ref1O_at H i h d

theorem ref3Col_at (H : Holds a qn qr kn kr v g) (h : Fin 6) (i : Fin 16384) :
    ref3Col qn qr kn kr (ix3 h i 0) = (a.lse2 h i : EReal) := by
  have e : ∀ X : FVec Ideal S6x16384 .f32, shapeCast S6x16384x1 X shapeCasts_S6x16384_S6x16384x1 (ix3 h i 0) = X (ix2 h i) := by
    intro X; pointwise
  exact (e _).trans (lseRows_at H h i)

theorem ref3Row_at (H : Holds a qn qr kn kr v g) (h : Fin 6) (b : Fin 16) (p : Fin 1024) :
    ref3Row qn qr kn kr (ix4 h b 0 p) = (a.lse2 h ⟨b.val * 1024 + p.val, by omega⟩ : EReal) := by
  have e : ∀ X : FVec Ideal S6x16384 .f32, shapeCast S6x16x1x1024 X shapeCasts_S6x16384_S6x16x1x1024 (ix4 h b 0 p)
      = X (ix2 h ⟨b.val * 1024 + p.val, by omega⟩) := by
    intro X; pointwise
  exact (e _).trans (lseRows_at H h _)

end Cert.Att

end
-- ==== Proof.Att.FwdArray.lean ====
/- The attention's forward call returns the reference's arrays. -/
module

public import proofs.«01_k».proof.Proof.Att.FwdValue
public import proofs.«01_k».proof.Proof.Att.Ref3

@[expose] public section

noncomputable section

namespace Cert.Att.Fwd

open Idealize.ShloMosaic Idealize.ShloMosaic.TcCoe Idealize.SL.Sem Cert.Kernel3Ideal Cert.Kernel3Ideal.Gen

variable {m : (ℓ : Loc nD τ sig) → Buf (Elt Ideal) ℓ} {c : Dev nD} {a : Nums} {g : Nope}

theorem out3 (H : HoldsAt m c a g) : (dats m 0 c).arrAt 3 cfg0.N
    = ref3O (aQn m c) (aQr m c) (aKn m c) (aKr m c) (aV m c) := by
  refine (dats m 0 c).arrAt_eq_of_covers 3 _ (by decide +kernel) fun t hf y => ?_
  obtain ⟨p, d, rfl⟩ : ∃ p d, y = ix2 p d := ⟨y 0, y 1, eq_ix2 y⟩
  have e : ∀ X : FVec Ideal S16384x768 .bf16, ((cfg0.win 3).blk t).view.read (Elt Ideal) X (ix2 p d)
      = X (ix2 (row (qb t) p) ⟨(hd t).val * 128 + d.val, by omega⟩) := fun X => by
    blk_point [idx t]
  refine Eq.trans ?_ ((e (ref3O (aQn m c) (aQr m c) (aKn m c) (aKr m c) (aV m c))).trans (ref3O_at H _ _ _)).symm
  rw [row_eq]
  exact (after3 H t p d).trans (congrArg ((↑) : ℝ → EReal) (o_eq a _ _ _))

theorem out4 (H : HoldsAt m c a g) : (dats m 0 c).arrAt 4 cfg0.N = ref3Col (aQn m c) (aQr m c) (aKn m c) (aKr m c) := by
  refine (dats m 0 c).arrAt_eq_of_covers 4 _ (by decide +kernel) fun t hf y => ?_
  obtain ⟨p, rfl⟩ : ∃ p : Fin 1024, y = ix3 0 p 0 := by
    refine ⟨y 1, (eq_ix3 y).trans ?_⟩
    rw [show y 0 = (0 : Fin 1) from Subsingleton.elim (α := Fin 1) _ _, show y 2 = (0 : Fin 1) from Subsingleton.elim (α := Fin 1) _ _]
  have e : ∀ X : FVec Ideal S6x16384x1 .f32, ((cfg0.win 4).blk t).view.read (Elt Ideal) X (ix3 0 p 0)
      = X (ix3 (hd t) (row (qb t) p) 0) := fun X => by
    blk_point [idx t] <;> exact Nat.add_zero _
  refine Eq.trans ?_ ((e (ref3Col (aQn m c) (aQr m c) (aKn m c) (aKr m c))).trans (ref3Col_at H _ _)).symm
  rw [row_eq]
  exact after4 H t p

theorem out5 (H : HoldsAt m c a g) : (dats m 0 c).arrAt 5 cfg0.N = ref3Row (aQn m c) (aQr m c) (aKn m c) (aKr m c) := by
  refine (dats m 0 c).arrAt_eq_of_covers 5 _ (by decide +kernel) fun t hf y => ?_
  obtain ⟨p, rfl⟩ : ∃ p : Fin 1024, y = ix4 0 0 0 p := by
    refine ⟨y 3, (eq_ix4 y).trans ?_⟩
    rw [show y 0 = (0 : Fin 1) from Subsingleton.elim (α := Fin 1) _ _, show y 1 = (0 : Fin 1) from Subsingleton.elim (α := Fin 1) _ _,
      show y 2 = (0 : Fin 1) from Subsingleton.elim (α := Fin 1) _ _]
  have e : ∀ X : FVec Ideal S6x16x1x1024 .f32, ((cfg0.win 5).blk t).view.read (Elt Ideal) X (ix4 0 0 0 p)
      = X (ix4 (hd t) (qb t) 0 p) := fun X => by
    blk_point [idx t] <;> exact Nat.add_zero _
  refine Eq.trans ?_ ((e (ref3Row (aQn m c) (aQr m c) (aKn m c) (aKr m c))).trans (ref3Row_at H _ _ _)).symm
  refine (after5 H t p).trans (congrArg (fun x => ((a.lse2 (hd t) x : ℝ) : EReal)) (row_eq (qb t) p).symm)

end Cert.Att.Fwd

end
-- ==== Proof.Att.Finite3.lean ====
/- Arrays that the precondition of program 3 holds of hold real numbers. -/
module

public import proofs.«01_k».proof.Proof.Att.Finite
public import proofs.«01_k».proof.Proof.Gen.Pre_finite3

@[expose] public section

noncomputable section

namespace Cert.Att

open Idealize.ShloMosaic Idealize.ShloMosaic.TcCoe

theorem holds_of_finite3 (qn : Nope) (qr : Rope) (kn : Nope) (kr : Rope1) (v : Nope)
    (h : Pre_finite3.fn (F := Ideal) qn qr kn kr v = fun _ => 1#1) :
    Holds (numsOf qn qr kn kr v (fun _ => (0 : EReal))) qn qr kn kr v (fun _ => (0 : EReal)) := by
  have h0 := congrFun h ix0
  unfold Pre_finite3.fn Pre_finite3.fn_part1 at h0
  simp only [andi, IntOp.andi_eq_one] at h0
  obtain ⟨⟨⟨⟨h1, h2⟩, h3⟩, h4⟩, h5⟩ := h0
  exact ⟨fun _ _ _ => real_of_all _ _ _ _ _ h1 _, fun _ _ _ => real_of_all _ _ _ _ _ h2 _, fun _ _ _ => real_of_all _ _ _ _ _ h3 _,
    fun _ _ => real_of_all _ _ _ _ _ h4 _, fun _ _ _ => real_of_all _ _ _ _ _ h5 _, fun _ _ _ => (by simp [numsOf])⟩

end Cert.Att

end
-- ==== Proof.Att.Claim3.lean ====
/- The claims of program 3: its runs end with the semaphores at zero and the arguments kept, its named literals
   stand for what they are named after, and the attention's forward call returns the reference's arrays. -/
module

public import proofs.«01_k».proof.Defs
public import proofs.«01_k».proof.Proof.Att.FwdArray
public import proofs.«01_k».proof.Proof.Att.Finite3
public import proofs.«01_k».proof.Proof.Gen.Kernel3.Frame
public import proofs.«01_k».proof.Proof.Gen.Kernel3Ideal.Frame
public import proofs.«01_k».proof.Proof.Gen.Reference3Ideal.Run
public import Idealize.ShloMosaic.Lib.Quiescent

@[expose] public section

noncomputable section

namespace Cert.Att

open Idealize.ShloMosaic Idealize.ShloMosaic.TcCoe Idealize.SL.Sem

theorem quiet3 : Cert.quiescent_Kernel3 (hKernel3 := Cert.Kernel3.Gen.facts) := fun m ρ _ => Cert.Kernel3.Gen.frame m ρ

theorem quiet3Ideal : Cert.quiescent_Kernel3Ideal (hKernel3Ideal := Cert.Kernel3Ideal.Gen.facts) :=
  fun m ρ _ => Cert.Kernel3Ideal.Gen.frame m ρ

theorem quietRef3 : Cert.quiescent_Reference3Ideal (hReference3Ideal := Cert.Reference3Ideal.Gen.facts) := fun m ρ _ =>
  (θ_run Cert.Reference3Ideal.defs _ _).mono
    (fun r h => ⟨fun c => (h c).2.2.2, Idealize.ShloMosaic.sem_eq_zero_of_no_sems (by decide) r.2⟩) (Cert.Reference3Ideal.Value.run m ρ)

theorem keeps3 : Cert.preserves_Kernel3_Kernel3Ideal :=
  ⟨IdealRules.named_const.statement Cert.Kernel3Ideal.κ "mask" .f32 0xF149F2CA#32 ⊥ rfl,
    IdealRules.named_const.statement Cert.Kernel3Ideal.κ "ln2" .f32 0x3F317218#32 ((Real.log 2 : ℝ) : EReal) rfl⟩

theorem quiet3IdealPre : Cert.quiescent_Kernel3Ideal_pre_finite3 (hKernel3Ideal := Cert.Kernel3Ideal.Gen.facts) (hPre_finite3 := Cert.Pre_finite3.Gen.facts) :=
  fun m ρ _ => Cert.Kernel3Ideal.Gen.frame m ρ

theorem quietRef3Pre : Cert.quiescent_Reference3Ideal_pre_finite3 (hReference3Ideal := Cert.Reference3Ideal.Gen.facts) (hPre_finite3 := Cert.Pre_finite3.Gen.facts) :=
  fun m ρ _ => quietRef3 m ρ trivial

theorem equal3 : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre heq
  have H : ∀ c, Fwd.HoldsAt m c _ _ := fun c => holds_of_finite3 _ _ _ _ _ (hpre c)
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N,
    fun c => (Cert.Kernel3Ideal.Gen.dats m 0 c).arrAt 5 Cert.Kernel3Ideal.cfg0.N,
    Cert.Kernel3Ideal.Value.run_blocks m g, ?_⟩
  refine (θ_run Cert.Reference3Ideal.defs _ _).mono (fun r h c => ⟨(h c).1.trans ?_, (h c).2.1.trans ?_, (h c).2.2.1.trans ?_, (h c).2.2.2⟩)
    (Cert.Reference3Ideal.Value.run m' g')
  · obtain ⟨e0, e1, e2, e3, e4⟩ := heq c
    refine (ref3_out0 m' c).trans ?_
    rw [e0, e1, e2, e3, e4]
    exact (Fwd.out3 (H c)).symm
  · obtain ⟨e0, e1, e2, e3, e4⟩ := heq c
    refine (ref3_out1 m' c).trans ?_
    rw [e0, e1, e2, e3]
    exact (Fwd.out4 (H c)).symm
  · obtain ⟨e0, e1, e2, e3, e4⟩ := heq c
    refine (ref3_out2 m' c).trans ?_
    rw [e0, e1, e2, e3]
    exact (Fwd.out5 (H c)).symm

end Cert.Att

end
-- ==== Proof.Ffn.Host.lean ====
/- What the host's lines of the feed-forward layer compute, as functions of its arguments: the two halves of the first
   product, the gate's logistic, the hidden array, and the gradient of the first product. The programs' own composed terms
   are these functions by definition. Below they are read at an index. -/
module

public import proofs.«01_k».proof.Proof.Gen.Reference4Ideal
public import proofs.«01_k».proof.Proof.Gen.Reference6Ideal
public import proofs.«01_k».proof.Proof.Gen.Reference8Ideal
public import Idealize.ShloMosaic.PureOps.Ideal
public import Idealize.ShloMosaic.Lib.Pointwise
public import Idealize.ShloMosaic.Lib.ValueIdx
public import Idealize.ShloMosaic.Lib.IdealHost
public import Idealize.ShloMosaic.PureOps.Ideal.Laws

@[expose] public section

noncomputable section

namespace Cert.Ffn

open Idealize.ShloMosaic Idealize.ShloMosaic.TcCoe Cert.Reference6Ideal Cert.Reference6Ideal.Gen

/-- The tokens' rows, the two weights, the first product, and one of its halves. -/
abbrev Rows := FVec Ideal S16384x1024 .f32
abbrev Wgu := FVec Ideal S1024x5632 .f32
abbrev Wd := FVec Ideal S2816x1024 .f32
abbrev Gu := FVec Ideal S16384x5632 .f32
abbrev Hid := FVec Ideal S16384x2816 .f32

/-- The first product: the gate's columns, then the other factor's. -/
def gu (x : Rows) (w : Wgu) : Gu := Host.dotGeneral dot_S16384x1024_S1024x5632_S16384x5632_1_0_0_1_n_n none x w
def gate (a : Gu) : Hid := extractStridedSlice S16384x2816 ![0, 0] a slices_S16384x5632_S16384x2816_0_0
def up (a : Gu) : Hid := extractStridedSlice S16384x2816 ![0, 2816] a slices_S16384x5632_S16384x2816_0_2816

abbrev one : Hid := broadcastInDim S16384x2816 ![] bcast_S_S16384x2816 (constant S_ .f32 0x3F800000#32)

/-- The logistic of the gate. -/
def logistic (g : Hid) : Hid := Host.divf one (addf one (Host.exp (Host.negf g)))

/-- What the second product starts from. -/
def hidden (a : Gu) : Hid := mulf (mulf (gate a) (logistic (gate a))) (up a)

/-- Half of an array of rows. -/
def half (d : Rows) : Rows := mulf (broadcastInDim S16384x1024 ![] bcast_S_S16384x1024 (constant S_ .f32 0x3F000000#32)) d

/-- The gradient of the hidden array. -/
def dhid (d : Rows) (w : Wd) : Hid := Host.dotGeneral dot_S16384x1024_S2816x1024_S16384x2816_1_1_0_0_n_n none (half d) w

/-- The gradients of the first product's halves. -/
def dgate (a : Gu) (h : Hid) : Hid :=
  addf (mulf (mulf h (up a)) (logistic (gate a))) (mulf (mulf (gate a) (mulf h (up a))) (mulf (logistic (gate a)) (subf one (logistic (gate a)))))
def dup (a : Gu) (h : Hid) : Hid := mulf (mulf (gate a) (logistic (gate a))) h

/-- The gradient of the first product. -/
def dgu (a : Gu) (h : Hid) : Gu :=
  concatenate S16384x5632 1 [⟨S16384x2816, dgate a h⟩, ⟨S16384x2816, dup a h⟩] concatenates_S16384x2816_S16384x2816_S16384x5632_d1

/-- The columns in 8 shards of 704. -/
def shards (a : Gu) : FVec Ideal Cert.Reference8Ideal.S8x16384x704 .f32 :=
  transpose Cert.Reference8Ideal.S8x16384x704 [1, 0, 2]
    (shapeCast Cert.Reference8Ideal.S16384x8x704 a Cert.Reference8Ideal.Gen.shapeCasts_S16384x5632_S16384x8x704)
    Cert.Reference8Ideal.Gen.transposes_S16384x8x704_S8x16384x704_1_0_2

/-- The columns of the two halves, each in 4 shards of 704. -/
def pairs (a : Gu) : FVec Ideal Cert.Reference4Ideal.S2x4x16384x704 .f32 :=
  shapeCast Cert.Reference4Ideal.S2x4x16384x704 (shards a) Cert.Reference4Ideal.Gen.shapeCasts_S8x16384x704_S2x4x16384x704

/-- The first weight's columns in 8 shards of 704. -/
def wshards (w : Wgu) : FVec Ideal S8x1024x704 .f32 :=
  transpose S8x1024x704 [1, 0, 2] (shapeCast S1024x8x704 w shapeCasts_S1024x5632_S1024x8x704) transposes_S1024x8x704_S8x1024x704_1_0_2

theorem ofBits_one : Ideal.ofBits .f32 0x3F800000#32 = 1 := by
  have h1 : (BitVec.extractLsb' 23 8 0x3F800000#32).toNat = 127 := by decide
  have h2 : (BitVec.extractLsb' 0 23 0x3F800000#32).toNat = 0 := by decide
  have h3 : (BitVec.extractLsb' (8 + 23) 1 0x3F800000#32 == 1#1) = false := by decide
  simp only [Ideal.ofBits, Ideal.ieee, h1, h2, h3]
  norm_num

theorem ofBits_half : Ideal.ofBits .f32 0x3F000000#32 = ((1 / 2 : ℝ) : EReal) := by
  have h1 : (BitVec.extractLsb' 23 8 0x3F000000#32).toNat = 126 := by decide
  have h2 : (BitVec.extractLsb' 0 23 0x3F000000#32).toNat = 0 := by decide
  have h3 : (BitVec.extractLsb' (8 + 23) 1 0x3F000000#32 == 1#1) = false := by decide
  simp only [Ideal.ofBits, Ideal.ieee, h1, h2, h3]
  norm_num

theorem gu_at (x : Rows) (w : Wgu) (i : Fin 16384) (f : Fin 5632) : gu x w (ix2 i f) = ∑ k : Fin 1024, x (ix2 i k) * w (ix2 k f) := by
  unfold gu; pointwise

theorem shards_at (a : Gu) (j : Fin 8) (i : Fin 16384) (f : Fin 704) : shards a (ix3 j i f) = a (ix2 i ⟨j.val * 704 + f.val, by omega⟩) := by
  unfold shards; pointwise

theorem wshards_at (w : Wgu) (j : Fin 8) (p : Fin 1024) (f : Fin 704) : wshards w (ix3 j p f) = w (ix2 p ⟨j.val * 704 + f.val, by omega⟩) := by
  unfold wshards; pointwise

theorem half_at (d : Rows) (i : Fin 16384) (q : Fin 1024) : half d (ix2 i q) = ((1 / 2 : ℝ) : EReal) * d (ix2 i q) := by
  unfold half
  pointwise
  rw [ofBits_half]

theorem gate_at (a : Gu) (i : Fin 16384) (f : Fin 2816) : gate a (ix2 i f) = a (ix2 i ⟨f.val, by omega⟩) := by
  unfold gate; pointwise

theorem up_at (a : Gu) (i : Fin 16384) (f : Fin 2816) : up a (ix2 i f) = a (ix2 i ⟨2816 + f.val, by omega⟩) := by
  unfold up; pointwise

theorem logistic_at (g : Hid) (i : Fin 16384) (f : Fin 2816) : logistic g (ix2 i f) = Ideal.logistic (g (ix2 i f)) := by
  unfold logistic
  pointwise
  exact (Ideal.logistic_def _).symm

theorem hidden_at (a : Gu) (i : Fin 16384) (f : Fin 2816) :
    hidden a (ix2 i f) = gate a (ix2 i f) * Ideal.logistic (gate a (ix2 i f)) * up a (ix2 i f) := by
  rw [← logistic_at]
  rfl

theorem pairs_gate (a : Gu) (j : Fin 4) (i : Fin 16384) (f : Fin 704) :
    pairs a (ix4 0 j i f) = gate a (ix2 i ⟨j.val * 704 + f.val, by omega⟩) := by
  unfold pairs gate shards; pointwise

theorem pairs_up (a : Gu) (j : Fin 4) (i : Fin 16384) (f : Fin 704) :
    pairs a (ix4 1 j i f) = up a (ix2 i ⟨j.val * 704 + f.val, by omega⟩) := by
  unfold pairs up shards
  pointwise
  exact congrArg a (congrArg (ix2 i) (Fin.ext (show (4 + j.val) * 704 + f.val = 2816 + (j.val * 704 + f.val) by omega)))

end Cert.Ffn

end
-- ==== Proof.Ffn.DguStep.lean ====
/- What a grid point of the call that computes the gradient of the first product leaves in its output block. -/
module

public import proofs.«01_k».proof.Proof.Gen.Kernel4Ideal.Value
public import proofs.«01_k».proof.Proof.Ffn.Host
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Ffn.Dgu

open Idealize.ShloMosaic Idealize.ShloMosaic.TcCoe Idealize.SL.Sem Cert.Kernel4Ideal Cert.Kernel4Ideal.Gen

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable (c : Dev nD) (i : grid0.Coords) (a3 : Memref sig .tc .vmem S1024x1024 .f32) (h3 : a3.IsWhole)
  (a4 : Memref sig .tc .vmem S1x704x1024 .bf16) (h4 : a4.IsWhole) (a5 : Memref sig .tc .vmem S2x1x1024x704 .bf16) (h5 : a5.IsWhole)
  (a6 : Memref sig .tc .vmem S2x1x1024x704 .bf16) (h6 : a6.IsWhole) (a7 : Memref sig .tc .vmem S1024x704 .f32) (h7 : a7.IsWhole)
  (x : Vec Ideal S1024x1024 .f32) (y : Vec Ideal S1x704x1024 .bf16) (z : Vec Ideal S2x1x1024x704 .bf16)

theorem only (hc0 : cond0_0 i) (hc1 : cond0_1 i) :
    out0_A_3 c i a3 h3 a4 h4 a5 h5 a6 h6 a7 h7 hc0 hc1 x y z = k0_pay3 (k0_pay2 x (k0_pay1 (F := Ideal)) y) z := by
  unfold out0_A_3
  rw [View.read_writes_eq_canon _ _ _ (cover0_A_3 c i a3 h3 a4 h4 a5 h5 a6 h6 a7 h7 hc0 hc1 x y z)]
  unfold kernelRun0_A
  dsimp only
  sl_unfold_words
  rw [View.canon_unit_zero (S := S2x1x1024x704) hz4]
  simp only [View.readCov_cons_toLoadRect, View.readAt_eq_ld, h3.read_unread, h4.read_unread, h5.read_unread,
    View.ld_unit_zero (S := S1024x1024) hz, View.ld_unit_zero (S := S1x704x1024) hz3, View.ld_unit_zero (S := S2x1x1024x704) hz4, shapeCast_self]

end

theorem add_at (x : Vec Ideal S1024x1024 .f32) (y : Vec Ideal S1x704x1024 .bf16) (r : Fin 1024) (f : Fin 704) :
    (k0_pay2 (F := Ideal) x (k0_pay1 (F := Ideal)) y) (ix2 r f) = ∑ q : Fin 1024, x (ix2 r q) * y (ix3 0 f q) := by
  pointwise [k0_pay2, k0_pay1]

theorem gate_out (s : Vec Ideal S1024x704 .f32) (z : Vec Ideal S2x1x1024x704 .bf16) (r : Fin 1024) (f : Fin 704) :
    (k0_pay3 (F := Ideal) s z) (ix4 0 0 r f) = s (ix2 r f) * ((1 / 2 : ℝ) : EReal) * z (ix4 1 0 r f) * Ideal.logistic (z (ix4 0 0 r f))
      * (1 + z (ix4 0 0 r f) * (1 - Ideal.logistic (z (ix4 0 0 r f)))) := by
  pointwise [k0_pay3]
  rw [ofBits_half]

theorem up_out (s : Vec Ideal S1024x704 .f32) (z : Vec Ideal S2x1x1024x704 .bf16) (r : Fin 1024) (f : Fin 704) :
    (k0_pay3 (F := Ideal) s z) (ix4 1 0 r f) = s (ix2 r f) * ((1 / 2 : ℝ) : EReal) * z (ix4 0 0 r f) * Ideal.logistic (z (ix4 0 0 r f)) := by
  pointwise [k0_pay3]
  rw [ofBits_half]

theorem dgate_at (a : Gu) (h : Hid) (i : Fin 16384) (f : Fin 2816) : dgate a h (ix2 i f)
    = h (ix2 i f) * up a (ix2 i f) * Ideal.logistic (gate a (ix2 i f))
      + gate a (ix2 i f) * (h (ix2 i f) * up a (ix2 i f)) * (Ideal.logistic (gate a (ix2 i f)) * (1 - Ideal.logistic (gate a (ix2 i f)))) := by
  unfold dgate
  rw [← logistic_at]
  pointwise

theorem dup_at (a : Gu) (h : Hid) (i : Fin 16384) (f : Fin 2816) :
    dup a h (ix2 i f) = gate a (ix2 i f) * Ideal.logistic (gate a (ix2 i f)) * h (ix2 i f) := by
  unfold dup
  rw [← logistic_at]
  pointwise

theorem gate_dgu (a : Gu) (h : Hid) (i : Fin 16384) (f : Fin 2816) : gate (dgu a h) (ix2 i f) = dgate a h (ix2 i f) := by
  unfold gate dgu
  pointwise

theorem up_dgu (a : Gu) (h : Hid) (i : Fin 16384) (f : Fin 2816) : up (dgu a h) (ix2 i f) = dup a h (ix2 i f) := by
  unfold up dgu
  pointwise

theorem dhid_at (d : Rows) (w : Wd) (i : Fin 16384) (f : Fin 2816) :
    dhid d w (ix2 i f) = ∑ q : Fin 1024, half d (ix2 i q) * w (ix2 f q) := by
  unfold dhid
  pointwise

end Cert.Ffn.Dgu

end
-- ==== Proof.Ffn.Sums.lean ====
/- Sums taken block by block: a value that a run of grid points accumulates is the sum of the points' terms. -/
module

public import Idealize.ShloMosaic.PureOps.Ideal
public import Idealize.ShloMosaic.Lib.Pointwise.Sums
public import Mathlib.Algebra.BigOperators.Fin

@[expose] public section

noncomputable section

namespace Cert.Ffn

open scoped BigOperators

/-- What starts from its own term at every `K`-th point, and adds its term to what the point before left elsewhere, is at
    point `K * q + k` the sum of the terms since `K * q`. -/
theorem run_sum {M : Type} [AddCommMonoid M] {N K : ℕ} (S : (n : ℕ) → n < N → M) (T : ℕ → M)
    (start : ∀ n h, n % K = 0 → S n h = T n)
    (step : ∀ n h (h' : n + 1 < N), (n + 1) % K ≠ 0 → S (n + 1) h' = S n h + T (n + 1)) (q k : ℕ) (hk : k < K) (h : K * q + k < N) :
    S (K * q + k) h = ∑ j ∈ Finset.range (k + 1), T (K * q + j) := by
  induction k with
  | zero =>
    rw [start _ _ (by simp)]
    simp
  | succ k ih =>
    rw [Finset.sum_range_succ, ← ih (by omega) (by omega)]
    refine step (K * q + k) _ h ?_
    rw [show K * q + k + 1 = k + 1 + K * q by omega, Nat.add_mul_mod_self_left, Nat.mod_eq_of_lt hk]
    omega

/-- Multiplying a sum of extended reals by a real number that is not negative. -/
theorem mul_sum {ι : Type} (s : Finset ι) (r : ℝ) (hr : 0 ≤ r) (f : ι → EReal) : ∑ i ∈ s, (r : EReal) * f i = (r : EReal) * ∑ i ∈ s, f i := by
  classical
  induction s using Finset.induction_on with
  | empty => simp
  | insert a s ha ih =>
    rw [Finset.sum_insert ha, Finset.sum_insert ha, ih]
    exact (EReal.left_distrib_of_nonneg_of_ne_top (by exact_mod_cast hr) (EReal.coe_ne_top r) _ _).symm

end Cert.Ffn

end
-- ==== Proof.Ffn.Dgu.lean ====
/- The call that computes the gradient of the first product returns the gradients of its two halves, of finite arguments. -/
module

public import proofs.«01_k».proof.Proof.Ffn.DguStep
public import proofs.«01_k».proof.Proof.Ffn.Sums
public import proofs.«01_k».proof.Proof.Gen.Reference4Ideal.Run
public import proofs.«01_k».proof.Proof.Att.Finite
public import proofs.«01_k».proof.Proof.Gen.Pre_finite4
public import Idealize.ShloMosaic.Lib.Claim
public import Idealize.ShloMosaic.Lib.StableHlo.RunRead

@[expose] public section

noncomputable section

namespace Cert.Ffn.Dgu

open Idealize.ShloMosaic Idealize.ShloMosaic.TcCoe Idealize.SL.Sem Cert.Kernel4Ideal Cert.Kernel4Ideal.Gen

variable (m : (ℓ : Loc nD τ sig) → Buf (Elt Ideal) ℓ) (c : Dev nD)

abbrev aX : Rows := m ((c.tc : Thread nD τ).loc main_arg0)
abbrev aW : Wgu := m ((c.tc : Thread nD τ).loc main_arg1)
abbrev aV : Wd := m ((c.tc : Thread nD τ).loc main_arg2)
abbrev aD : Rows := m ((c.tc : Thread nD τ).loc main_arg3)

theorem V_g : (V m c main_v4 : FVec Ideal S2x4x16384x704 .bf16) = pairs (gu (aX m c) (aW m c)) := by
  entry_read
  rfl

theorem V_w : (V m c main_v6 : FVec Ideal S4x704x1024 .bf16)
    = shapeCast S4x704x1024 (aV m c) Cert.Kernel4Ideal.Gen.shapeCasts_S2816x1024_S4x704x1024 := by
  entry_read
  rfl

theorem V_d : (V m c main_arg3 : FVec Ideal S16384x1024 .f32) = aD m c := by
  entry_read
  rfl

/-- The block indices of a grid point. -/
theorem idx : ∀ t : Fin cfg0.N,
    win0_0.index t = ![t.val % 16, 0] ∧ win0_1.index t = ![t.val / 16, 0, 0] ∧ win0_2.index t = ![0, t.val / 16, t.val % 16, 0]
      ∧ win0_3.index t = ![0, t.val / 16, t.val % 16, 0] :=
  (by decide +kernel : ∀ t : Fin grid0.N, _)

theorem lt64 (t : Fin cfg0.N) : t.val < 64 := lt_of_lt_of_eq t.isLt N_0

theorem blk_d (t : Fin cfg0.N) (r : Fin 1024) (q : Fin 1024) :
    iblk m c 0 t (ix2 r q) = (V m c main_arg3 : FVec Ideal S16384x1024 .f32) (ix2 ⟨t.val % 16 * 1024 + r.val, by omega⟩ q) := by
  blk_point [iblk, idx t]

theorem blk_w (t : Fin cfg0.N) (f : Fin 704) (q : Fin 1024) :
    iblk m c 1 t (ix3 0 f q) = (V m c main_v6 : FVec Ideal S4x704x1024 .bf16) (ix3 ⟨t.val / 16, by have := lt64 t; omega⟩ f q) := by
  blk_point [iblk, idx t]

theorem blk_g (t : Fin cfg0.N) (e : Fin 2) (r : Fin 1024) (f : Fin 704) :
    iblk m c 2 t (ix4 e 0 r f) = (V m c main_v4 : FVec Ideal S2x4x16384x704 .bf16)
      (ix4 e ⟨t.val / 16, by have := lt64 t; omega⟩ ⟨t.val % 16 * 1024 + r.val, by omega⟩ f) := by
  blk_point [iblk, idx t]

theorem w_at (w : Wd) (j : Fin 4) (f : Fin 704) (q : Fin 1024) :
    (shapeCast S4x704x1024 w Cert.Kernel4Ideal.Gen.shapeCasts_S2816x1024_S4x704x1024) (ix3 j f q) = w (ix2 ⟨j.val * 704 + f.val, by omega⟩ q) := by
  pointwise

/-- An extended real that is a real number. -/
def IsReal (a : EReal) : Prop := ∃ r : ℝ, a = r

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    rw [Finset.sum_insert ha]
    obtain ⟨r, hr⟩ := h a
    obtain ⟨q, hq⟩ := ih
    exact ⟨r + q, by rw [hr, hq, EReal.coe_add]⟩

/-- Every element of every argument is a real number. -/
structure Holds (x : Rows) (w : Wgu) (v : Wd) (d : Rows) : Prop where
  x : ∀ i q, IsReal (x (ix2 i q))
  w : ∀ i q, IsReal (w (ix2 i q))
  v : ∀ i q, IsReal (v (ix2 i q))
  d : ∀ i q, IsReal (d (ix2 i q))

theorem holds_of_finite (x : Rows) (w : Wgu) (v : Wd) (d : Rows) (h : Pre_finite4.fn (F := Ideal) x w v d = fun _ => 1#1) : Holds x w v d := by
  have h0 := congrFun h ix0
  unfold Pre_finite4.fn Pre_finite4.fn_part1 at h0
  simp only [andi, IntOp.andi_eq_one] at h0
  obtain ⟨⟨⟨h1, h2⟩, h3⟩, h4⟩ := h0
  exact ⟨fun _ _ => ⟨_, Cert.Att.real_of_all _ _ _ _ _ h1 _⟩, fun _ _ => ⟨_, Cert.Att.real_of_all _ _ _ _ _ h2 _⟩,
    fun _ _ => ⟨_, Cert.Att.real_of_all _ _ _ _ _ h3 _⟩, fun _ _ => ⟨_, Cert.Att.real_of_all _ _ _ _ _ h4 _⟩⟩

section
variable {x : Rows} {w : Wgu} {v : Wd} {d : Rows} (H : Holds x w v d)
include H

theorem gu_real (i : Fin 16384) (f : Fin 5632) : IsReal (gu x w (ix2 i f)) := by
  rw [gu_at]
  exact IsReal.sum _ _ fun k => (H.x i k).mul (H.w k f)

theorem gate_real (i : Fin 16384) (f : Fin 2816) : IsReal (gate (gu x w) (ix2 i f)) := by
  rw [gate_at]
  exact gu_real H _ _

theorem up_real (i : Fin 16384) (f : Fin 2816) : IsReal (up (gu x w) (ix2 i f)) := by
  rw [up_at]
  exact gu_real H _ _

theorem dhid_real (i : Fin 16384) (f : Fin 2816) : IsReal (dhid d v (ix2 i f)) := by
  rw [dhid_at]
  refine IsReal.sum _ _ fun q => IsReal.mul ?_ (H.v f q)
  rw [half_at]
  exact IsReal.mul ⟨_, rfl⟩ (H.d i q)

end

/-- The two forms of the gate's derivative agree on real numbers. -/
theorem gate_forms {h u g : EReal} (hh : IsReal h) (hu : IsReal u) (hg : IsReal g) :
    h * u * Ideal.logistic g * (1 + g * (1 - Ideal.logistic g))
      = h * u * Ideal.logistic g + g * (h * u) * (Ideal.logistic g * (1 - Ideal.logistic g)) := by
  obtain ⟨h, rfl⟩ := hh
  obtain ⟨u, rfl⟩ := hu
  obtain ⟨g, rfl⟩ := hg
  rw [Ideal.logistic_coe]
  generalize (1 + Real.exp (-g))⁻¹ = s
  have e : (1 : EReal) = ((1 : ℝ) : EReal) := rfl
  simp only [e, ← EReal.coe_mul, ← EReal.coe_add, ← EReal.coe_sub]
  exact congrArg _ (by ring)

/-- The kernel's product, halved, is the reference's product of the halved rows. -/
theorem half_sum (d : Rows) (v : Wd) (i : Fin 16384) (f : Fin 2816) :
    (∑ q : Fin 1024, d (ix2 i q) * v (ix2 f q)) * ((1 / 2 : ℝ) : EReal) = dhid d v (ix2 i f) := by
  rw [dhid_at, mul_comm, ← mul_sum _ _ (by norm_num)]
  refine Finset.sum_congr rfl fun q _ => ?_
  rw [half_at, mul_assoc]

/-- The token and the hidden column of an entry of a grid pointss block. -/
abbrev tok (t : Fin cfg0.N) (r : Fin 1024) : Fin 16384 := ⟨t.val % 16 * 1024 + r.val, by omega⟩
abbrev col (t : Fin cfg0.N) (f : Fin 704) : Fin 2816 := ⟨t.val / 16 * 704 + f.val, by have := lt64 t; omega⟩

theorem prod_eq (t : Fin cfg0.N) (r : Fin 1024) (f : Fin 704) :
    (k0_pay2 (F := Ideal) (iblk m c 0 t) (k0_pay1 (F := Ideal)) (iblk m c 1 t)) (ix2 r f) * ((1 / 2 : ℝ) : EReal)
      = dhid (aD m c) (aV m c) (ix2 (tok t r) (col t f)) := by
  rw [add_at, ← half_sum]
  refine congrArg (· * ((1 / 2 : ℝ) : EReal)) (Finset.sum_congr (M := EReal) rfl fun q _ => ?_)
  rw [blk_d, blk_w, V_d, V_w, w_at]

/-- The reference's result: the gradients of the first product's halves, each in 4 shards of 704 columns. -/
def ref (x : Rows) (w : Wgu) (v : Wd) (d : Rows) : FVec Ideal Cert.Reference4Ideal.S2x4x16384x704 .bf16 :=
  truncf .bf16 (pairs (dgu (gu x w) (dhid d v))) Cert.Reference4Ideal.Gen.bitsLt_bf16_f32

theorem truncf_at (X : FVec Ideal Cert.Reference4Ideal.S2x4x16384x704 .f32) (i : Cert.Reference4Ideal.S2x4x16384x704.Idx) :
    (truncf .bf16 X Cert.Reference4Ideal.Gen.bitsLt_bf16_f32 : FVec Ideal Cert.Reference4Ideal.S2x4x16384x704 .bf16) i = X i := rfl

theorem ref_at (x : Rows) (w : Wgu) (v : Wd) (d : Rows) (i : Cert.Reference4Ideal.S2x4x16384x704.Idx) :
    ref x w v d i = pairs (dgu (gu x w) (dhid d v)) i := truncf_at _ i

variable {m c}

theorem block (H : Holds (aX m c) (aW m c) (aV m c) (aD m c)) (t : Fin cfg0.N) (e : Fin 2) (r : Fin 1024) (f : Fin 704) :
    (outsAt0 m c t) (ix4 e 0 r f)
      = ref (aX m c) (aW m c) (aV m c) (aD m c) (ix4 e ⟨t.val / 16, by have := lt64 t; omega⟩ ⟨t.val % 16 * 1024 + r.val, by omega⟩ f) := by
  have h0 : ∀ e, iblk m c 2 t (ix4 e 0 r f) = pairs (gu (aX m c) (aW m c)) (ix4 e ⟨t.val / 16, by have := lt64 t; omega⟩ (tok t r) f) := by
    intro e
    rw [blk_g, V_g]
  unfold outsAt0
  rw [only, ref_at]
  match e with
  | 0 =>
    rw [gate_out, h0, h0, pairs_gate, pairs_up, pairs_gate, gate_dgu, dgate_at, prod_eq]
    exact gate_forms (dhid_real H _ _) (up_real H _ _) (gate_real H _ _)
  | 1 =>
    rw [up_out, h0, pairs_gate, pairs_up, up_dgu, dup_at, prod_eq, mul_assoc, mul_comm]

theorem split (y : S2x1x1024x704.Idx) : ∃ (e : Fin 2) (r : Fin 1024) (f : Fin 704), y = ix4 e 0 r f := by
  refine ⟨y 0, y 2, y 3, (eq_ix4 y).trans ?_⟩
  exact congrArg (fun v : Fin 1 => (ix4 (y 0) v (y 2) (y 3) : S2x1x1024x704.Idx)) (Subsingleton.elim (α := Fin 1) (y 1) 0)

theorem blk_out (X : FVec Ideal S2x4x16384x704 .bf16) (t : Fin cfg0.N) (e : Fin 2) (r : Fin 1024) (f : Fin 704) :
    ((cfg0.win 3).blk t).view.read (Elt Ideal) X (ix4 e 0 r f)
      = X (ix4 e ⟨t.val / 16, by have := lt64 t; omega⟩ ⟨t.val % 16 * 1024 + r.val, by omega⟩ f) := by
  blk_point [idx t]

theorem point (H : Holds (aX m c) (aW m c) (aV m c) (aD m c)) (t : Fin cfg0.N) (e : Fin 2) (r : Fin 1024) (f : Fin 704) :
    (outsAt0 m c t) (ix4 e 0 r f) = ((cfg0.win 3).blk t).view.read (Elt Ideal) (ref (aX m c) (aW m c) (aV m c) (aD m c)) (ix4 e 0 r f) := by
  rw [blk_out, block H]

theorem points (H : Holds (aX m c) (aW m c) (aV m c) (aD m c)) (t : Fin cfg0.N) (y : S2x1x1024x704.Idx) :
    (outsAt0 m c t) y = ((cfg0.win 3).blk t).view.read (Elt Ideal) (ref (aX m c) (aW m c) (aV m c) (aD m c)) y := by
  obtain ⟨e, r, f, rfl⟩ := split y
  exact point H t e r f

/-- The blocks of all the points are the whole array. -/
theorem arr_eq (X : FVec Ideal S2x4x16384x704 .bf16)
    (h : ∀ (t : Fin cfg0.N) (y : S2x1x1024x704.Idx), (outsAt0 m c t) y = ((cfg0.win 3).blk t).view.read (Elt Ideal) X y) :
    (dats m 0 c).arrAt 3 cfg0.N = X := by
  refine (dats m 0 c).arrAt_eq_of_covers 3 _ (by decide +kernel) fun t hf y => ?_
  refine (congrFun (after0_3 m c t) _).trans ?_
  exact h t y

theorem out3 (H : Holds (aX m c) (aW m c) (aV m c) (aD m c)) :
    (dats m 0 c).arrAt 3 cfg0.N = ref (aX m c) (aW m c) (aV m c) (aD m c) :=
  arr_eq _ fun t y => points H t y

end Cert.Ffn.Dgu

end
-- ==== Proof.Ffn.Claim4.lean ====
/- The claims of program 4: its runs end with the semaphores at zero and the arguments kept, and the call returns the
   reference's gradient of the first product. -/
module

public import proofs.«01_k».proof.Defs
public import proofs.«01_k».proof.Proof.Ffn.Dgu
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent

@[expose] public section

noncomputable section

namespace Cert.Ffn

open Idealize.ShloMosaic Idealize.ShloMosaic.TcCoe Idealize.SL.Sem

theorem quiet4 : Cert.quiescent_Kernel4 (hKernel4 := Cert.Kernel4.Gen.facts) := fun m ρ _ => Cert.Kernel4.Gen.frame m ρ

theorem quiet4Ideal : Cert.quiescent_Kernel4Ideal (hKernel4Ideal := Cert.Kernel4Ideal.Gen.facts) := fun m ρ _ => Cert.Kernel4Ideal.Gen.frame m ρ

theorem quietRef4 : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩) (Cert.Reference4Ideal.Value.run m ρ)

theorem keeps4 : Cert.preserves_Kernel4_Kernel4Ideal := trivial

theorem quiet4IdealPre : Cert.quiescent_Kernel4Ideal_pre_finite4 (hKernel4Ideal := Cert.Kernel4Ideal.Gen.facts) (hPre_finite4 := Cert.Pre_finite4.Gen.facts) :=
  fun m ρ _ => Cert.Kernel4Ideal.Gen.frame m ρ

theorem quietRef4Pre : Cert.quiescent_Reference4Ideal_pre_finite4 (hReference4Ideal := Cert.Reference4Ideal.Gen.facts) (hPre_finite4 := Cert.Pre_finite4.Gen.facts) :=
  fun m ρ _ => quietRef4 m ρ trivial

set_option maxRecDepth 8192 in
theorem equal4 : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' hpre heq
  refine ⟨fun c => (Cert.Kernel4Ideal.Gen.dats m 0 c).arrAt 3 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run m' g')
  obtain ⟨e0, e1, e2, e3⟩ := heq c
  refine Eq.trans (b := Dgu.ref (m' ((c.tc : Thread _ _).loc Cert.Reference4Ideal.main_arg0)) (m' ((c.tc : Thread _ _).loc Cert.Reference4Ideal.main_arg1)) (m' ((c.tc : Thread _ _).loc Cert.Reference4Ideal.main_arg2)) (m' ((c.tc : Thread _ _).loc Cert.Reference4Ideal.main_arg3))) rfl ?_
  rw [e0, e1, e2, e3]
  exact (Dgu.out3 (Dgu.holds_of_finite _ _ _ _ (hpre c))).symm

end Cert.Ffn

end
-- ==== Proof.Ffn.DwdStep.lean ====
/- What a grid point of the call that computes the gradient of the second weight leaves in its scratch and in its output block. -/
module

public import proofs.«01_k».proof.Proof.Gen.Kernel5Ideal.Value
public import proofs.«01_k».proof.Proof.Ffn.Host
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Ffn.Dwd

open Idealize.ShloMosaic Idealize.ShloMosaic.TcCoe Idealize.SL.Sem Cert.Kernel5Ideal Cert.Kernel5Ideal.Gen

theorem hz : (![0, 0] : Fin 2 → Nat) = fun _ => 0 := funext fun a => by fin_cases a <;> rfl
theorem hz3 : (![0, 0, 0] : Fin 3 → Nat) = fun _ => 0 := funext fun a => by fin_cases a <;> rfl

/-- The chunk of 512 rows from row `k` of the two halves' block, and of the other factor's block. -/
abbrev xs (x : Vec Ideal S2x1x2048x704 .bf16) (k : ℕ) (h : ∀ a, (![0, 0, k, 0] : Fin 4 → Nat) a + S2x1x512x704.size a ≤ S2x1x2048x704.size a) :
    Vec Ideal S2x1x512x704 .bf16 := View.ld x (Rect.unit ![0, 0, k, 0] S2x1x512x704.size h)
abbrev ys (y : Vec Ideal S2048x1024 .f32) (k : ℕ) (h : ∀ a, (![k, 0] : Fin 2 → Nat) a + S512x1024.size a ≤ S2048x1024.size a) :
    Vec Ideal S512x1024 .f32 := View.ld y (Rect.unit ![k, 0] S512x1024.size h)

/-- The four chunks' products added to what the scratch held. -/
def acc (x : Vec Ideal S2x1x2048x704 .bf16) (y : Vec Ideal S2048x1024 .f32) (s : Vec Ideal S704x1024 .f32) : Vec Ideal S704x1024 .f32 :=
  k0_pay1 (k0_pay8 (xs x 1536 inb_S2x1x2048x704_S2x1x512x704_0_0_1536_0))
    (k0_pay7 (xs x 1024 inb_S2x1x2048x704_S2x1x512x704_0_0_1024_0)
      (k0_pay6 (k0_pay5 (xs x 512 inb_S2x1x2048x704_S2x1x512x704_0_0_512_0))
        (k0_pay4 (xs x 0 inb_S2x1x2048x704_S2x1x512x704_0_0_0_0) s (ys y 0 inb_S2048x1024_S512x1024_0_0))
        (ys y 512 inb_S2048x1024_S512x1024_512_0))
      (ys y 1024 inb_S2048x1024_S512x1024_1024_0))
    (ys y 1536 inb_S2048x1024_S512x1024_1536_0)

section
variable (c : Dev nD) (i : grid0.Coords) (a3 : Memref sig .tc .vmem S2x1x2048x704 .bf16) (h3 : a3.IsWhole)
  (a4 : Memref sig .tc .vmem S2048x1024 .f32) (h4 : a4.IsWhole) (a5 : Memref sig .tc .vmem S1x704x1024 .f32) (h5 : a5.IsWhole)
  (a6 : Memref sig .tc .vmem S704x1024 .f32) (h6 : a6.IsWhole) (x : Vec Ideal S2x1x2048x704 .bf16) (y : Vec Ideal S2048x1024 .f32)
  (s : Vec Ideal S704x1024 .f32)

theorem first (hc0 : cond0_0 i) (hc1 : ¬cond0_1 i) : sout0_A_0 c i a3 h3 a4 h4 a5 h5 a6 h6 hc0 hc1 x y = acc x y (k0_pay3 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S704x1024) hz]
  simp only [View.readCov_cons_toLoadRect, View.readAt_eq_ld, h3.read_unread, h4.read_unread, h6.read_unread,
    View.ld_unit_zero (S := S704x1024) hz, shapeCast_self]
  rfl

theorem next (hc0 : ¬cond0_0 i) (hc1 : ¬cond0_1 i) : sout0_B_0 c i a3 h3 a4 h4 a5 h5 a6 h6 hc0 hc1 x y s = acc x y s := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_cons_unit_zero (S := S704x1024) hz]
  simp only [View.readCov_cons_toLoadRect, View.readAt_eq_ld, h3.read_unread, h4.read_unread, h6.read_unread,
    View.ld_unit_zero (S := S704x1024) hz, shapeCast_self]
  rfl

theorem last (hc0 : ¬cond0_0 i) (hc1 : cond0_1 i) : sout0_C_0 c i a3 h3 a4 h4 a5 h5 a6 h6 hc0 hc1 x y s = acc x y s := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_cons_unit_zero (S := S704x1024) hz]
  simp only [View.readCov_cons_toLoadRect, View.readAt_eq_ld, h3.read_unread, h4.read_unread, h6.read_unread,
    View.ld_unit_zero (S := S704x1024) hz, shapeCast_self]
  rfl

theorem flush (hc0 : ¬cond0_0 i) (hc1 : cond0_1 i) : out0_C_2 c i a3 h3 a4 h4 a5 h5 a6 h6 hc0 hc1 x y s = k0_pay2 (acc x y s) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1x704x1024) hz3]
  simp only [View.readCov_cons_toLoadRect, View.readAt_eq_ld, h3.read_unread, h4.read_unread, h6.read_unread,
    View.ld_unit_zero (S := S704x1024) hz, shapeCast_self]
  rfl

end

theorem zero_at (f : Fin 704) (q : Fin 1024) : (k0_pay3 (F := Ideal)) (ix2 f q) = 0 := by
  pointwise [k0_pay3]

theorem out_at (s : Vec Ideal S704x1024 .f32) (f : Fin 704) (q : Fin 1024) :
    (k0_pay2 (F := Ideal) s) (ix3 0 f q) = s (ix2 f q) * ((1 / 2 : ℝ) : EReal) := by
  pointwise [k0_pay2]
  rw [ofBits_half]

/-- The hidden entry of a row of a chunk. -/
def hid (v : Vec Ideal S2x1x512x704 .bf16) (r : Fin 512) (f : Fin 704) : EReal :=
  v (ix4 0 0 r f) * Ideal.logistic (v (ix4 0 0 r f)) * v (ix4 1 0 r f)

theorem pay4_at (v : Vec Ideal S2x1x512x704 .bf16) (s : Vec Ideal S704x1024 .f32) (d : Vec Ideal S512x1024 .f32) (f : Fin 704) (q : Fin 1024) :
    (k0_pay4 (F := Ideal) v s d) (ix2 f q) = s (ix2 f q) + ∑ r : Fin 512, hid v r f * d (ix2 r q) := by
  unfold hid
  pointwise [k0_pay4]

theorem pay6_at (v : Vec Ideal S2x1x512x704 .bf16) (s : Vec Ideal S704x1024 .f32) (d : Vec Ideal S512x1024 .f32) (f : Fin 704) (q : Fin 1024) :
    (k0_pay6 (F := Ideal) (k0_pay5 v) s d) (ix2 f q) = s (ix2 f q) + ∑ r : Fin 512, hid v r f * d (ix2 r q) := by
  unfold hid
  pointwise [k0_pay6, k0_pay5]

theorem pay7_at (v : Vec Ideal S2x1x512x704 .bf16) (s : Vec Ideal S704x1024 .f32) (d : Vec Ideal S512x1024 .f32) (f : Fin 704) (q : Fin 1024) :
    (k0_pay7 (F := Ideal) v s d) (ix2 f q) = s (ix2 f q) + ∑ r : Fin 512, hid v r f * d (ix2 r q) := by
  unfold hid
  pointwise [k0_pay7]

theorem pay1_at (v : Vec Ideal S2x1x512x704 .bf16) (s : Vec Ideal S704x1024 .f32) (d : Vec Ideal S512x1024 .f32) (f : Fin 704) (q : Fin 1024) :
    (k0_pay1 (F := Ideal) (k0_pay8 v) s d) (ix2 f q) = s (ix2 f q) + ∑ r : Fin 512, hid v r f * d (ix2 r q) := by
  unfold hid
  pointwise [k0_pay1, k0_pay8]

theorem xs_at (x : Vec Ideal S2x1x2048x704 .bf16) (k : ℕ) (h) (e : Fin 2) (r : Fin 512) (f : Fin 704) (i : Fin 2048) (hi : i.val = k + r.val) :
    xs x k h (ix4 e 0 r f) = x (ix4 e 0 i f) := by
  refine View.ld_unit_apply_of x _ _ h (ix4 e 0 r f) (ix4 e 0 i f) fun a => ?_
  fin_cases a
  · exact (Nat.zero_add _).symm
  · rfl
  · exact hi
  · exact (Nat.zero_add _).symm

theorem ys_at (y : Vec Ideal S2048x1024 .f32) (k : ℕ) (h) (r : Fin 512) (q : Fin 1024) (i : Fin 2048) (hi : i.val = k + r.val) :
    ys y k h (ix2 r q) = y (ix2 i q) := by
  refine View.ld_unit_apply_of y _ _ h (ix2 r q) (ix2 i q) fun a => ?_
  fin_cases a
  · exact hi
  · exact (Nat.zero_add _).symm

/-- The term of row `i` of a block. -/
def row (x : Vec Ideal S2x1x2048x704 .bf16) (y : Vec Ideal S2048x1024 .f32) (f : Fin 704) (q : Fin 1024) (i : Fin 2048) : EReal :=
  x (ix4 0 0 i f) * Ideal.logistic (x (ix4 0 0 i f)) * x (ix4 1 0 i f) * y (ix2 i q)

theorem chunk (x : Vec Ideal S2x1x2048x704 .bf16) (y : Vec Ideal S2048x1024 .f32) (k : ℕ) (h) (h') (f : Fin 704) (q : Fin 1024) (r : Fin 512)
    (i : Fin 2048) (hi : i.val = k + r.val) : hid (xs x k h) r f * ys y k h' (ix2 r q) = row x y f q i := by
  unfold hid row
  rw [xs_at x k h 0 r f i hi, xs_at x k h 1 r f i hi, ys_at y k h' r q i hi]

theorem acc_at (x : Vec Ideal S2x1x2048x704 .bf16) (y : Vec Ideal S2048x1024 .f32) (s : Vec Ideal S704x1024 .f32) (f : Fin 704) (q : Fin 1024) :
    acc x y s (ix2 f q) = s (ix2 f q) + ∑ i : Fin 2048, row x y f q i := by
  unfold acc
  rw [pay1_at, pay7_at, pay6_at, pay4_at, Fin.sum_univ_tiles 4 512 (by norm_num) (row x y f q), Fin.sum_univ_four, add_assoc, add_assoc, add_assoc]
  refine congrArg _ ?_
  rw [add_assoc, add_assoc]
  refine congrArg₂ _ (Finset.sum_congr rfl fun r _ => chunk x y _ _ _ f q r _ ?_) (congrArg₂ _ (Finset.sum_congr rfl fun r _ => chunk x y _ _ _ f q r _ ?_)
    (congrArg₂ _ (Finset.sum_congr rfl fun r _ => chunk x y _ _ _ f q r _ ?_) (Finset.sum_congr rfl fun r _ => chunk x y _ _ _ f q r _ ?_))) <;> rfl

end Cert.Ffn.Dwd

end
-- ==== Proof.Ffn.Dwd.lean ====
/- The call that computes the gradient of the second weight returns the transposed product of half the rows' gradient with
   the hidden array. -/
module

public import proofs.«01_k».proof.Proof.Ffn.DwdStep
public import proofs.«01_k».proof.Proof.Ffn.Sums
public import proofs.«01_k».proof.Proof.Gen.Reference5Ideal.Run
public import Idealize.ShloMosaic.Lib.Claim
public import Idealize.ShloMosaic.Lib.StableHlo.RunRead

@[expose] public section

noncomputable section

namespace Cert.Ffn.Dwd

open Idealize.ShloMosaic Idealize.ShloMosaic.TcCoe Idealize.SL.Sem Cert.Kernel5Ideal Cert.Kernel5Ideal.Gen

variable (m : (ℓ : Loc nD τ sig) → Buf (Elt Ideal) ℓ) (c : Dev nD)

abbrev aX : Rows := m ((c.tc : Thread nD τ).loc main_arg0)
abbrev aW : Wgu := m ((c.tc : Thread nD τ).loc main_arg1)
abbrev aD : Rows := m ((c.tc : Thread nD τ).loc main_arg3)

theorem V_g : (V m c main_v4 : FVec Ideal S2x4x16384x704 .bf16) = pairs (gu (aX m c) (aW m c)) := by
  entry_read
  rfl

theorem V_d : (V m c main_arg3 : FVec Ideal S16384x1024 .f32) = aD m c := by
  entry_read
  rfl

/-- The block indices of a grid point. -/
theorem idx : ∀ t : Fin cfg0.N,
    win0_0.index t = ![0, t.val / 8, t.val % 8, 0] ∧ win0_1.index t = ![t.val % 8, 0] ∧ win0_2.index t = ![t.val / 8, 0, 0] :=
  (by decide +kernel : ∀ t : Fin grid0.N, _)

theorem lt32 (t : Fin cfg0.N) : t.val < 32 := lt_of_lt_of_eq t.isLt N_0

theorem blk_g (t : Fin cfg0.N) (e : Fin 2) (r : Fin 2048) (f : Fin 704) :
    iblk m c 0 t (ix4 e 0 r f) = (V m c main_v4 : FVec Ideal S2x4x16384x704 .bf16)
      (ix4 e ⟨t.val / 8, by have := lt32 t; omega⟩ ⟨t.val % 8 * 2048 + r.val, by omega⟩ f) := by
  blk_point [iblk, idx t]

theorem blk_d (t : Fin cfg0.N) (r : Fin 2048) (q : Fin 1024) :
    iblk m c 1 t (ix2 r q) = (V m c main_arg3 : FVec Ideal S16384x1024 .f32) (ix2 ⟨t.val % 8 * 2048 + r.val, by omega⟩ q) := by
  blk_point [iblk, idx t]

/-- The term of token `i` in the entry (f, q) of the product. -/
def term (f : ℕ) (q : Fin 1024) (i : ℕ) : EReal :=
  hidden (gu (aX m c) (aW m c)) (ix2 ⟨i % 16384, by omega⟩ ⟨f % 2816, by omega⟩) * aD m c (ix2 ⟨i % 16384, by omega⟩ q)

/-- The part of the product that grid point `n` adds. -/
def part (f : Fin 704) (q : Fin 1024) (n : ℕ) : EReal := ∑ r : Fin 2048, term m c (n / 8 * 704 + f.val) q (n % 8 * 2048 + r.val)

theorem add_eq (t : Fin cfg0.N) (s : Vec Ideal S704x1024 .f32) (f : Fin 704) (q : Fin 1024) :
    acc (iblk m c 0 t) (iblk m c 1 t) s (ix2 f q) = s (ix2 f q) + part m c f q t.val := by
  have ht := lt32 t
  rw [acc_at]
  refine congrArg _ (Finset.sum_congr rfl fun r _ => ?_)
  unfold row term
  have h1 : (t.val % 8 * 2048 + r.val) % 16384 = t.val % 8 * 2048 + r.val := by omega
  have h2 : (t.val / 8 * 704 + f.val) % 2816 = t.val / 8 * 704 + f.val := by omega
  rw [blk_g, blk_g, blk_d, V_g, V_d, pairs_gate, pairs_up, hidden_at]
  simp only [h1, h2]

/-- What the scratch holds after a grid point. -/
theorem scratch (f : Fin 704) (q : Fin 1024) (j k : ℕ) (hk : k < 8) (h : 8 * j + k < cfg0.N) :
    (outsAt0 m c (8 * j + k) h).2 (ix2 f q) = ∑ l ∈ Finset.range (k + 1), part m c f q (8 * j + l) := by
  refine run_sum (fun n h => (outsAt0 m c n h).2 (ix2 f q)) (part m c f q) (fun n h h0 => ?_) (fun n h h' h0 => ?_) j k hk h
  · rw [outsAt0_A m c ⟨n, h⟩ h0 (by dsimp only; omega)]
    dsimp only
    rw [first, add_eq, zero_at, zero_add]
  · by_cases h1 : (n + 1) % 8 = 7
    · rw [outsAt0_C m c ⟨n + 1, h'⟩ h0 h1]
      dsimp only
      rw [last, add_eq]
      rfl
    · rw [outsAt0_B m c ⟨n + 1, h'⟩ h0 h1]
      dsimp only
      rw [next, add_eq]
      rfl

/-- What the last point of a run leaves in the output's block. -/
theorem block (t : Fin cfg0.N) (ht : t.val % 8 = 7) (f : Fin 704) (q : Fin 1024) :
    (outsAt0 m c t.val t.isLt).1 (ix3 0 f q) = (∑ i : Fin 16384, term m c (t.val / 8 * 704 + f.val) q i.val) * ((1 / 2 : ℝ) : EReal) := by
  have e : (outsAt0 m c t.val t.isLt).1 (ix3 0 f q) = (outsAt0 m c t.val t.isLt).2 (ix2 f q) * ((1 / 2 : ℝ) : EReal) := by
    rw [outsAt0_C m c t (by omega) ht]
    dsimp only
    rw [flush, last, out_at]
  have e2 : ∀ n h, n = t.val → (outsAt0 m c n h).2 (ix2 f q) = (outsAt0 m c t.val t.isLt).2 (ix2 f q) := by
    intro n h hn; subst hn; rfl
  have hl := lt32 t
  have hd : t.val = 8 * (t.val / 8) + 7 := by omega
  rw [e, ← e2 (8 * (t.val / 8) + 7) (by rw [← hd]; exact t.isLt) hd.symm, scratch m c f q _ 7 (by omega),
    Fin.sum_univ_tiles 8 2048 (by norm_num) fun i => term m c (t.val / 8 * 704 + f.val) q i.val, Finset.sum_range]
  refine congrArg (· * ((1 / 2 : ℝ) : EReal)) (Finset.sum_congr (M := EReal) rfl fun j _ => ?_)
  unfold part
  have h1 : (8 * (t.val / 8) + j.val) / 8 = t.val / 8 := by omega
  have h2 : (8 * (t.val / 8) + j.val) % 8 = j.val := by omega
  rw [h1, h2]

/-- The reference's result: the transposed product of half the rows' gradient with the hidden array, in 4 shards of 704 rows. -/
def ref (x : Rows) (w : Wgu) (d : Rows) : FVec Ideal Cert.Reference5Ideal.S4x704x1024 .f32 :=
  shapeCast Cert.Reference5Ideal.S4x704x1024 (transpose Cert.Reference5Ideal.S2816x1024 [1, 0]
    (Host.dotGeneral Cert.Reference5Ideal.dot_S16384x1024_S16384x2816_S1024x2816_0_0_1_1_n_n none (half d) (hidden (gu x w)))
    Cert.Reference5Ideal.Gen.transposes_S1024x2816_S2816x1024_1_0) Cert.Reference5Ideal.Gen.shapeCasts_S2816x1024_S4x704x1024

theorem ref_at (x : Rows) (w : Wgu) (d : Rows) (j : Fin 4) (f : Fin 704) (q : Fin 1024) : ref x w d (ix3 j f q)
    = ∑ i : Fin 16384, half d (ix2 i q) * hidden (gu x w) (ix2 i ⟨j.val * 704 + f.val, by omega⟩) := by
  unfold ref
  pointwise

theorem out2 : (dats m 0 c).arrAt 2 cfg0.N = ref (aX m c) (aW m c) (aD m c) := by
  refine (dats m 0 c).arrAt_eq_of_covers 2 _ (by decide +kernel) fun t hf y => ?_
  have hl := lt32 t
  obtain ⟨f, q, rfl⟩ : ∃ (f : Fin 704) (q : Fin 1024), y = ix3 0 f q := by
    refine ⟨y 1, y 2, (eq_ix3 y).trans ?_⟩
    rw [show y 0 = (0 : Fin 1) from Subsingleton.elim (α := Fin 1) _ _]
  have e : ∀ X : FVec Ideal S4x704x1024 .f32, ((cfg0.win 2).blk t).view.read (Elt Ideal) X (ix3 0 f q)
      = X (ix3 ⟨t.val / 8, by omega⟩ f q) := fun X => by
    blk_point [idx t] <;> exact Nat.add_zero _
  refine Eq.trans ?_ ((e (ref (aX m c) (aW m c) (aD m c))).trans (ref_at _ _ _ _ _ _)).symm
  refine (congrFun (after0_2 m c t) _).trans ?_
  refine (block m c t ((flush0_2 t).mp hf) f q).trans ?_
  rw [mul_comm, ← mul_sum _ _ (by norm_num)]
  refine Finset.sum_congr (M := EReal) rfl fun i _ => ?_
  rw [half_at, mul_assoc]
  unfold term
  refine congrArg _ (mul_comm _ _ |>.trans ?_)
  congr 3 <;> congr 1 <;> (try dsimp only) <;> omega

end Cert.Ffn.Dwd

end
-- ==== Proof.Ffn.Claim5.lean ====
/- The claims of program 5: its runs end with the semaphores at zero and the arguments kept, and the call returns the
   reference's gradient of the second weight. -/
module

public import proofs.«01_k».proof.Defs
public import proofs.«01_k».proof.Proof.Ffn.Dwd
public import proofs.«01_k».proof.Proof.Gen.Kernel5.Frame
public import proofs.«01_k».proof.Proof.Gen.Kernel5Ideal.Value
public import proofs.«01_k».proof.Proof.Gen.Reference5Ideal.Run
public import Idealize.ShloMosaic.Lib.Quiescent

@[expose] public section

noncomputable section

namespace Cert.Ffn

open Idealize.ShloMosaic Idealize.ShloMosaic.TcCoe Idealize.SL.Sem

theorem quiet5 : Cert.quiescent_Kernel5 (hKernel5 := Cert.Kernel5.Gen.facts) := fun m ρ _ => Cert.Kernel5.Gen.frame m ρ

theorem quiet5Ideal : Cert.quiescent_Kernel5Ideal (hKernel5Ideal := Cert.Kernel5Ideal.Gen.facts) := fun m ρ _ => Cert.Kernel5Ideal.Gen.frame m ρ

theorem quietRef5 : Cert.quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩) (Cert.Reference5Ideal.Value.run m ρ)

theorem keeps5 : Cert.preserves_Kernel5_Kernel5Ideal := trivial

set_option maxRecDepth 8192 in
theorem equal5 : Cert.algebraic_Kernel5Ideal_Reference5Ideal (hKernel5Ideal := Cert.Kernel5Ideal.Gen.facts)
    (hReference5Ideal := Cert.Reference5Ideal.Gen.facts) := by
  intro m g m' g' hpre heq
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ⟨(h c).1.trans ?_, (h c).2⟩) (Cert.Reference5Ideal.Value.run m' g')
  obtain ⟨e0, e1, e2, e3⟩ := heq c
  refine Eq.trans (b := Dwd.ref (m' ((c.tc : Thread _ _).loc Cert.Reference5Ideal.main_arg0)) (m' ((c.tc : Thread _ _).loc Cert.Reference5Ideal.main_arg1)) (m' ((c.tc : Thread _ _).loc Cert.Reference5Ideal.main_arg3))) rfl ?_
  rw [e0, e1, e3]
  exact (Dwd.out2 m c).symm

end Cert.Ffn

end
-- ==== Proof.Ffn.DwguStep.lean ====
/- What a grid point of the call that computes the gradient of the first weight leaves in its scratch and in its output block. -/
module

public import proofs.«01_k».proof.Proof.Gen.Kernel6Ideal.Value
public import proofs.«01_k».proof.Proof.Ffn.Host
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Ffn.Dwgu

open Idealize.ShloMosaic Idealize.ShloMosaic.TcCoe Idealize.SL.Sem Cert.Kernel6Ideal Cert.Kernel6Ideal.Gen

theorem hz : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a3 : Memref sig .tc .vmem S2048x1024 .bf16) (h3 : a3.IsWhole)
  (a4 : Memref sig .tc .vmem S1x2048x704 .bf16) (h4 : a4.IsWhole) (a5 : Memref sig .tc .vmem S1x1024x704 .f32) (h5 : a5.IsWhole)
  (a6 : Memref sig .tc .vmem S1024x704 .f32) (h6 : a6.IsWhole) (x : Vec Ideal S2048x1024 .bf16) (y : Vec Ideal S1x2048x704 .bf16)
  (s : Vec Ideal S1024x704 .f32)

theorem first (hc0 : cond0_0 i) (hc1 : ¬cond0_1 i) : sout0_A_0 c i a3 h3 a4 h4 a5 h5 a6 h6 hc0 hc1 x y = k0_pay2 x (k0_pay1 (F := Ideal)) y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x704) hz, View.readCov_unit_zero (S := S1024x704) _ hz]
  simp only [View.readAt_eq_ld, h3.read_unread, h4.read_unread, View.ld_unit_zero (S := S2048x1024) hz, View.ld_unit_zero (S := S1x2048x704) hz3, shapeCast_self]

theorem next (hc0 : ¬cond0_0 i) (hc1 : ¬cond0_1 i) : sout0_B_0 c i a3 h3 a4 h4 a5 h5 a6 h6 hc0 hc1 x y s = k0_pay2 x s y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S1024x704) hz]
  simp only [View.readAt_eq_ld, h3.read_unread, h4.read_unread, h6.read_unread, View.ld_unit_zero (S := S2048x1024) hz,
    View.ld_unit_zero (S := S1x2048x704) hz3, View.ld_unit_zero (S := S1024x704) hz, shapeCast_self]

theorem last (hc0 : ¬cond0_0 i) (hc1 : cond0_1 i) : sout0_C_0 c i a3 h3 a4 h4 a5 h5 a6 h6 hc0 hc1 x y s = k0_pay2 x s y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x704) hz]
  simp only [View.readAt_eq_ld, h3.read_unread, h4.read_unread, h6.read_unread, View.ld_unit_zero (S := S2048x1024) hz,
    View.ld_unit_zero (S := S1x2048x704) hz3, View.ld_unit_zero (S := S1024x704) hz, shapeCast_self]

theorem flush (hc0 : ¬cond0_0 i) (hc1 : cond0_1 i) : out0_C_2 c i a3 h3 a4 h4 a5 h5 a6 h6 hc0 hc1 x y s = k0_pay3 (k0_pay2 x s y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1x1024x704) hz3, View.readCov_unit_zero (S := S1024x704) _ hz]
  simp only [View.readAt_eq_ld, h3.read_unread, h4.read_unread, h6.read_unread, View.ld_unit_zero (S := S2048x1024) hz,
    View.ld_unit_zero (S := S1x2048x704) hz3, View.ld_unit_zero (S := S1024x704) hz, shapeCast_self]

end

theorem zero_at (p : Fin 1024) (f : Fin 704) : (k0_pay1 (F := Ideal)) (ix2 p f) = 0 := by
  pointwise [k0_pay1]

theorem add_at (x : Vec Ideal S2048x1024 .bf16) (s : Vec Ideal S1024x704 .f32) (y : Vec Ideal S1x2048x704 .bf16) (p : Fin 1024) (f : Fin 704) :
    (k0_pay2 (F := Ideal) x s y) (ix2 p f) = s (ix2 p f) + ∑ r : Fin 2048, x (ix2 r p) * y (ix3 0 r f) := by
  pointwise [k0_pay2]

theorem out_at (s : Vec Ideal S1024x704 .f32) (p : Fin 1024) (f : Fin 704) :
    (k0_pay3 (F := Ideal) s) (ix3 0 p f) = s (ix2 p f) := by
  pointwise [k0_pay3]

end Cert.Ffn.Dwgu

end
-- ==== Proof.Ffn.Dwgu.lean ====
/- The call that computes the gradient of the first weight returns the tokens' rows times the gradient of the first product. -/
module

public import proofs.«01_k».proof.Proof.Ffn.DwguStep
public import proofs.«01_k».proof.Proof.Ffn.Sums
public import proofs.«01_k».proof.Proof.Gen.Reference6Ideal.Run
public import Idealize.ShloMosaic.Lib.Claim
public import Idealize.ShloMosaic.Lib.StableHlo.RunRead

@[expose] public section

noncomputable section

namespace Cert.Ffn.Dwgu

open Idealize.ShloMosaic Idealize.ShloMosaic.TcCoe Idealize.SL.Sem Cert.Kernel6Ideal Cert.Kernel6Ideal.Gen

variable (m : (ℓ : Loc nD τ sig) → Buf (Elt Ideal) ℓ) (c : Dev nD)

abbrev aX : Rows := m ((c.tc : Thread nD τ).loc main_arg0)
abbrev aW : Wgu := m ((c.tc : Thread nD τ).loc main_arg1)
abbrev aV : Wd := m ((c.tc : Thread nD τ).loc main_arg2)
abbrev aD : Rows := m ((c.tc : Thread nD τ).loc main_arg3)

/-- The gradient of the first product. -/
def G : Gu := dgu (gu (aX m c) (aW m c)) (dhid (aD m c) (aV m c))

theorem V_x : (V m c main_v18 : FVec Ideal S16384x1024 .bf16) = aX m c := by
  entry_read
  rfl

set_option maxRecDepth 100000 in
theorem V_g : (V m c main_v17 : FVec Ideal S8x16384x704 .bf16) = shards (G m c) := by
  unfold V
  unfold_abbrev_sides
  after_reads_simp
  rfl

/-- The block indices of a grid point. -/
theorem idx : ∀ t : Fin cfg0.N,
    win0_0.index t = ![t.val % 8, 0] ∧ win0_1.index t = ![t.val / 8, t.val % 8, 0] ∧ win0_2.index t = ![t.val / 8, 0, 0] :=
  (by decide +kernel : ∀ t : Fin grid0.N, _)

theorem lt64 (t : Fin cfg0.N) : t.val < 64 := lt_of_lt_of_eq t.isLt N_0

theorem blk_x (t : Fin cfg0.N) (r : Fin 2048) (p : Fin 1024) :
    iblk m c 0 t (ix2 r p) = (V m c main_v18 : FVec Ideal S16384x1024 .bf16) (ix2 ⟨t.val % 8 * 2048 + r.val, by omega⟩ p) := by
  blk_point [iblk, idx t]

theorem blk_g (t : Fin cfg0.N) (r : Fin 2048) (f : Fin 704) :
    iblk m c 1 t (ix3 0 r f) = (V m c main_v17 : FVec Ideal S8x16384x704 .bf16)
      (ix3 ⟨t.val / 8, by have := lt64 t; omega⟩ ⟨t.val % 8 * 2048 + r.val, by omega⟩ f) := by
  blk_point [iblk, idx t]

/-- The term of token `i` in the entry (p, q) of the product. -/
def term (p : Fin 1024) (q : ℕ) (i : ℕ) : EReal :=
  aX m c (ix2 ⟨i % 16384, by omega⟩ p) * G m c (ix2 ⟨i % 16384, by omega⟩ ⟨q % 5632, by omega⟩)

/-- The part of the product that grid point `n` adds. -/
def part (p : Fin 1024) (f : Fin 704) (n : ℕ) : EReal := ∑ r : Fin 2048, term m c p (n / 8 * 704 + f.val) (n % 8 * 2048 + r.val)

theorem add_eq (t : Fin cfg0.N) (s : Vec Ideal S1024x704 .f32) (p : Fin 1024) (f : Fin 704) :
    (k0_pay2 (F := Ideal) (iblk m c 0 t) s (iblk m c 1 t)) (ix2 p f) = s (ix2 p f) + part m c p f t.val := by
  have ht := lt64 t
  rw [add_at]
  refine congrArg _ (Finset.sum_congr rfl fun r _ => ?_)
  rw [blk_x, blk_g, V_x, V_g, shards_at]
  unfold term
  congr 3 <;> congr 1 <;> (try dsimp only) <;> omega

/-- What the scratch holds after a grid point. -/
theorem scratch (p : Fin 1024) (f : Fin 704) (q k : ℕ) (hk : k < 8) (h : 8 * q + k < cfg0.N) :
    (outsAt0 m c (8 * q + k) h).2 (ix2 p f) = ∑ j ∈ Finset.range (k + 1), part m c p f (8 * q + j) := by
  refine run_sum (fun n h => (outsAt0 m c n h).2 (ix2 p f)) (part m c p f) (fun n h h0 => ?_) (fun n h h' h0 => ?_) q k hk h
  · rw [outsAt0_A m c ⟨n, h⟩ h0 (by dsimp only; omega)]
    dsimp only
    rw [first, add_eq, zero_at, zero_add]
  · by_cases h1 : (n + 1) % 8 = 7
    · rw [outsAt0_C m c ⟨n + 1, h'⟩ h0 h1]
      dsimp only
      rw [last, add_eq]
      rfl
    · rw [outsAt0_B m c ⟨n + 1, h'⟩ h0 h1]
      dsimp only
      rw [next, add_eq]
      rfl

/-- What the last point of a run leaves in the output's block. -/
theorem block (t : Fin cfg0.N) (ht : t.val % 8 = 7) (p : Fin 1024) (f : Fin 704) :
    (outsAt0 m c t.val t.isLt).1 (ix3 0 p f) = ∑ i : Fin 16384, term m c p (t.val / 8 * 704 + f.val) i.val := by
  have e : (outsAt0 m c t.val t.isLt).1 (ix3 0 p f) = (outsAt0 m c t.val t.isLt).2 (ix2 p f) := by
    rw [outsAt0_C m c t (by omega) ht]
    dsimp only
    rw [flush, last, out_at]
  have e2 : ∀ n h, n = t.val → (outsAt0 m c n h).2 (ix2 p f) = (outsAt0 m c t.val t.isLt).2 (ix2 p f) := by
    intro n h hn; subst hn; rfl
  have hl := lt64 t
  have hd : t.val = 8 * (t.val / 8) + 7 := by omega
  rw [e, ← e2 (8 * (t.val / 8) + 7) (by rw [← hd]; exact t.isLt) hd.symm, scratch m c p f _ 7 (by omega),
    Fin.sum_univ_tiles 8 2048 (by norm_num) fun i => term m c p (t.val / 8 * 704 + f.val) i.val, Finset.sum_range]
  refine Finset.sum_congr rfl fun j _ => ?_
  unfold part
  have h1 : (8 * (t.val / 8) + j.val) / 8 = t.val / 8 := by omega
  have h2 : (8 * (t.val / 8) + j.val) % 8 = j.val := by omega
  rw [h1, h2]

/-- The reference's result: the transposed product of the gradient with the rows, in 8 shards of 704 columns. -/
def ref (x : Rows) (w : Wgu) (v : Wd) (d : Rows) : FVec Ideal Cert.Reference6Ideal.S8x1024x704 .f32 :=
  wshards (transpose Cert.Reference6Ideal.S1024x5632 [1, 0]
    (Host.dotGeneral Cert.Reference6Ideal.dot_S16384x5632_S16384x1024_S5632x1024_0_0_1_1_n_n none (dgu (gu x w) (dhid d v)) x)
    Cert.Reference6Ideal.Gen.transposes_S5632x1024_S1024x5632_1_0)

set_option maxRecDepth 8192 in
theorem ref_out (m : (ℓ : Loc Cert.Reference6Ideal.nD Cert.Reference6Ideal.τ Cert.Reference6Ideal.sig) → Buf (Elt Ideal) ℓ)
    (c : Dev Cert.Reference6Ideal.nD) : Cert.Reference6Ideal.Value.res_out0 m c
      = ref (m ((c.tc : Thread _ _).loc Cert.Reference6Ideal.main_arg0)) (m ((c.tc : Thread _ _).loc Cert.Reference6Ideal.main_arg1))
        (m ((c.tc : Thread _ _).loc Cert.Reference6Ideal.main_arg2)) (m ((c.tc : Thread _ _).loc Cert.Reference6Ideal.main_arg3)) := by
  unfold Cert.Reference6Ideal.Value.res_out0 Cert.Reference6Ideal.Value.res_main_v21
  rfl

theorem ref_at (x : Rows) (w : Wgu) (v : Wd) (d : Rows) (j : Fin 8) (p : Fin 1024) (f : Fin 704) : ref x w v d (ix3 j p f)
    = ∑ i : Fin 16384, dgu (gu x w) (dhid d v) (ix2 i ⟨j.val * 704 + f.val, by omega⟩) * x (ix2 i p) := by
  unfold ref
  rw [wshards_at]
  pointwise

theorem out2 : (dats m 0 c).arrAt 2 cfg0.N = ref (aX m c) (aW m c) (aV m c) (aD m c) := by
  refine (dats m 0 c).arrAt_eq_of_covers 2 _ (by decide +kernel) fun t hf y => ?_
  have hl := lt64 t
  obtain ⟨p, f, rfl⟩ : ∃ (p : Fin 1024) (f : Fin 704), y = ix3 0 p f := by
    refine ⟨y 1, y 2, (eq_ix3 y).trans ?_⟩
    rw [show y 0 = (0 : Fin 1) from Subsingleton.elim (α := Fin 1) _ _]
  have e : ∀ X : FVec Ideal S8x1024x704 .f32, ((cfg0.win 2).blk t).view.read (Elt Ideal) X (ix3 0 p f)
      = X (ix3 ⟨t.val / 8, by omega⟩ p f) := fun X => by
    blk_point [idx t] <;> exact Nat.add_zero _
  refine Eq.trans ?_ ((e (ref (aX m c) (aW m c) (aV m c) (aD m c))).trans (ref_at _ _ _ _ _ _ _)).symm
  refine (congrFun (after0_2 m c t) _).trans ?_
  refine (block m c t ((flush0_2 t).mp hf) p f).trans (Finset.sum_congr (M := EReal) rfl fun i _ => ?_)
  unfold term
  rw [mul_comm]
  congr 3 <;> congr 1 <;> (try dsimp only) <;> omega

end Cert.Ffn.Dwgu

end
-- ==== Proof.Ffn.Claim6.lean ====
/- The claims of program 6: its runs end with the semaphores at zero and the arguments kept, and the call returns the
   reference's gradient of the first weight. -/
module

public import proofs.«01_k».proof.Defs
public import proofs.«01_k».proof.Proof.Ffn.Dwgu
public import proofs.«01_k».proof.Proof.Gen.Kernel6.Frame
public import proofs.«01_k».proof.Proof.Gen.Kernel6Ideal.Value
public import proofs.«01_k».proof.Proof.Gen.Reference6Ideal.Run
public import Idealize.ShloMosaic.Lib.Quiescent

@[expose] public section

noncomputable section

namespace Cert.Ffn

open Idealize.ShloMosaic Idealize.ShloMosaic.TcCoe Idealize.SL.Sem

theorem quiet6 : Cert.quiescent_Kernel6 (hKernel6 := Cert.Kernel6.Gen.facts) := fun m ρ _ => Cert.Kernel6.Gen.frame m ρ

theorem quiet6Ideal : Cert.quiescent_Kernel6Ideal (hKernel6Ideal := Cert.Kernel6Ideal.Gen.facts) := fun m ρ _ => Cert.Kernel6Ideal.Gen.frame m ρ

theorem quietRef6 : Cert.quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩) (Cert.Reference6Ideal.Value.run m ρ)

theorem keeps6 : Cert.preserves_Kernel6_Kernel6Ideal := trivial

set_option maxRecDepth 8192 in
theorem equal6 : Cert.algebraic_Kernel6Ideal_Reference6Ideal (hKernel6Ideal := Cert.Kernel6Ideal.Gen.facts)
    (hReference6Ideal := Cert.Reference6Ideal.Gen.facts) := by
  intro m g m' g' hpre heq
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ⟨(h c).1.trans ?_, (h c).2⟩) (Cert.Reference6Ideal.Value.run m' g')
  obtain ⟨e0, e1, e2, e3⟩ := heq c
  refine Eq.trans (b := Dwgu.ref (m' ((c.tc : Thread _ _).loc Cert.Reference6Ideal.main_arg0)) (m' ((c.tc : Thread _ _).loc Cert.Reference6Ideal.main_arg1)) (m' ((c.tc : Thread _ _).loc Cert.Reference6Ideal.main_arg2)) (m' ((c.tc : Thread _ _).loc Cert.Reference6Ideal.main_arg3))) rfl ?_
  rw [e0, e1, e2, e3]
  exact (Dwgu.out2 m c).symm

end Cert.Ffn

end
-- ==== Proof.Ffn.DnStep.lean ====
/- What a grid point of the call that computes the gradient of the normalised rows leaves in its scratch and in its output block. -/
module

public import proofs.«01_k».proof.Proof.Gen.Kernel7Ideal.Value
public import proofs.«01_k».proof.Proof.Ffn.Host
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Ffn.Dn

open Idealize.ShloMosaic Idealize.ShloMosaic.TcCoe Idealize.SL.Sem Cert.Kernel7Ideal Cert.Kernel7Ideal.Gen

theorem hz : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a3 : Memref sig .tc .vmem S1x2048x704 .bf16) (h3 : a3.IsWhole)
  (a4 : Memref sig .tc .vmem S1x1024x704 .bf16) (h4 : a4.IsWhole) (a5 : Memref sig .tc .vmem S2048x1024 .bf16) (h5 : a5.IsWhole)
  (a6 : Memref sig .tc .vmem S2048x1024 .f32) (h6 : a6.IsWhole) (x : Vec Ideal S1x2048x704 .bf16) (y : Vec Ideal S1x1024x704 .bf16)
  (s : Vec Ideal S2048x1024 .f32)

theorem first (hc0 : cond0_0 i) (hc1 : ¬cond0_1 i) : sout0_A_0 c i a3 h3 a4 h4 a5 h5 a6 h6 hc0 hc1 x y = k0_pay2 x (k0_pay1 (F := Ideal)) y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S1x2048x704) hz3, View.ld_unit_zero (S := S1x1024x704) hz3, shapeCast_self]

theorem next (hc0 : ¬cond0_0 i) (hc1 : ¬cond0_1 i) : sout0_B_0 c i a3 h3 a4 h4 a5 h5 a6 h6 hc0 hc1 x y s = k0_pay2 x s y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S2048x1024) hz]
  simp only [View.readAt_eq_ld, h3.read_unread, h4.read_unread, h6.read_unread, View.ld_unit_zero (S := S1x2048x704) hz3,
    View.ld_unit_zero (S := S1x1024x704) hz3, View.ld_unit_zero (S := S2048x1024) hz, shapeCast_self]

theorem last (hc0 : ¬cond0_0 i) (hc1 : cond0_1 i) : sout0_C_0 c i a3 h3 a4 h4 a5 h5 a6 h6 hc0 hc1 x y s = k0_pay2 x s y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S2048x1024) hz]
  simp only [View.readAt_eq_ld, h3.read_unread, h4.read_unread, h6.read_unread, View.ld_unit_zero (S := S1x2048x704) hz3,
    View.ld_unit_zero (S := S1x1024x704) hz3, View.ld_unit_zero (S := S2048x1024) hz, shapeCast_self]

theorem flush (hc0 : ¬cond0_0 i) (hc1 : cond0_1 i) : out0_C_2 c i a3 h3 a4 h4 a5 h5 a6 h6 hc0 hc1 x y s = k0_pay3 (k0_pay2 x s y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S2048x1024) hz, View.readCov_unit_zero (S := S2048x1024) _ hz]
  simp only [View.readAt_eq_ld, h3.read_unread, h4.read_unread, h6.read_unread, View.ld_unit_zero (S := S1x2048x704) hz3,
    View.ld_unit_zero (S := S1x1024x704) hz3, View.ld_unit_zero (S := S2048x1024) hz, shapeCast_self]

end

theorem zero_at (p : Fin 2048) (q : Fin 1024) : (k0_pay1 (F := Ideal)) (ix2 p q) = 0 := by
  pointwise [k0_pay1]

theorem add_at (x : Vec Ideal S1x2048x704 .bf16) (s : Vec Ideal S2048x1024 .f32) (y : Vec Ideal S1x1024x704 .bf16) (p : Fin 2048) (q : Fin 1024) :
    (k0_pay2 (F := Ideal) x s y) (ix2 p q) = s (ix2 p q) + ∑ f : Fin 704, x (ix3 0 p f) * y (ix3 0 q f) := by
  pointwise [k0_pay2]

theorem out_at (s : Vec Ideal S2048x1024 .f32) (p : Fin 2048) (q : Fin 1024) : (k0_pay3 (F := Ideal) s) (ix2 p q) = s (ix2 p q) := by
  pointwise [k0_pay3]

end Cert.Ffn.Dn

end
-- ==== Proof.Ffn.Dn.lean ====
/- The call that computes the gradient of the normalised rows returns the gradient of the first product times the transposed weight. -/
module

public import proofs.«01_k».proof.Proof.Ffn.DnStep
public import proofs.«01_k».proof.Proof.Ffn.Sums
public import proofs.«01_k».proof.Proof.Gen.Reference7Ideal.Run
public import Idealize.ShloMosaic.Lib.Claim
public import Idealize.ShloMosaic.Lib.StableHlo.RunRead

@[expose] public section

noncomputable section

namespace Cert.Ffn.Dn

open Idealize.ShloMosaic Idealize.ShloMosaic.TcCoe Idealize.SL.Sem Cert.Kernel7Ideal Cert.Kernel7Ideal.Gen

variable (m : (ℓ : Loc nD τ sig) → Buf (Elt Ideal) ℓ) (c : Dev nD)

abbrev aX : Rows := m ((c.tc : Thread nD τ).loc main_arg0)
abbrev aW : Wgu := m ((c.tc : Thread nD τ).loc main_arg1)
abbrev aV : Wd := m ((c.tc : Thread nD τ).loc main_arg2)
abbrev aD : Rows := m ((c.tc : Thread nD τ).loc main_arg3)

/-- The gradient of the first product. -/
def G : Gu := dgu (gu (aX m c) (aW m c)) (dhid (aD m c) (aV m c))

set_option maxRecDepth 100000 in
theorem V_g : (V m c main_v17 : FVec Ideal S8x16384x704 .bf16) = shards (G m c) := by
  unfold V
  unfold_abbrev_sides
  after_reads_simp
  rfl

set_option maxRecDepth 100000 in
theorem V_w : (V m c main_v20 : FVec Ideal S8x1024x704 .bf16) = wshards (aW m c) := by
  unfold V
  unfold_abbrev_sides
  after_reads_simp
  rfl

/-- The block indices of a grid point. -/
theorem idx : ∀ t : Fin cfg0.N,
    win0_0.index t = ![t.val % 8, t.val / 8, 0] ∧ win0_1.index t = ![t.val % 8, 0, 0] ∧ win0_2.index t = ![t.val / 8, 0] :=
  (by decide +kernel : ∀ t : Fin grid0.N, _)

theorem lt64 (t : Fin cfg0.N) : t.val < 64 := lt_of_lt_of_eq t.isLt N_0

theorem blk_g (t : Fin cfg0.N) (p : Fin 2048) (f : Fin 704) :
    iblk m c 0 t (ix3 0 p f) = (V m c main_v17 : FVec Ideal S8x16384x704 .bf16)
      (ix3 ⟨t.val % 8, by omega⟩ ⟨t.val / 8 * 2048 + p.val, by have := lt64 t; omega⟩ f) := by
  blk_point [iblk, idx t]

theorem blk_w (t : Fin cfg0.N) (q : Fin 1024) (f : Fin 704) :
    iblk m c 1 t (ix3 0 q f) = (V m c main_v20 : FVec Ideal S8x1024x704 .bf16) (ix3 ⟨t.val % 8, by omega⟩ q f) := by
  blk_point [iblk, idx t]

/-- The term of column `k` in the entry (i, q) of the product. -/
def term (i : ℕ) (q : Fin 1024) (k : ℕ) : EReal :=
  G m c (ix2 ⟨i % 16384, by omega⟩ ⟨k % 5632, by omega⟩) * aW m c (ix2 q ⟨k % 5632, by omega⟩)

/-- The part of the product that grid point `n` adds. -/
def part (p : Fin 2048) (q : Fin 1024) (n : ℕ) : EReal := ∑ f : Fin 704, term m c (n / 8 * 2048 + p.val) q (n % 8 * 704 + f.val)

theorem add_eq (t : Fin cfg0.N) (s : Vec Ideal S2048x1024 .f32) (p : Fin 2048) (q : Fin 1024) :
    (k0_pay2 (F := Ideal) (iblk m c 0 t) s (iblk m c 1 t)) (ix2 p q) = s (ix2 p q) + part m c p q t.val := by
  have ht := lt64 t
  rw [add_at]
  refine congrArg _ (Finset.sum_congr rfl fun f _ => ?_)
  rw [blk_g, blk_w, V_g, V_w, shards_at, wshards_at]
  unfold term
  congr 3 <;> congr 1 <;> (try dsimp only) <;> omega

/-- What the scratch holds after a grid point. -/
theorem scratch (p : Fin 2048) (q : Fin 1024) (b k : ℕ) (hk : k < 8) (h : 8 * b + k < cfg0.N) :
    (outsAt0 m c (8 * b + k) h).2 (ix2 p q) = ∑ j ∈ Finset.range (k + 1), part m c p q (8 * b + j) := by
  refine run_sum (fun n h => (outsAt0 m c n h).2 (ix2 p q)) (part m c p q) (fun n h h0 => ?_) (fun n h h' h0 => ?_) b k hk h
  · rw [outsAt0_A m c ⟨n, h⟩ h0 (by dsimp only; omega)]
    dsimp only
    rw [first, add_eq, zero_at, zero_add]
  · by_cases h1 : (n + 1) % 8 = 7
    · rw [outsAt0_C m c ⟨n + 1, h'⟩ h0 h1]
      dsimp only
      rw [last, add_eq]
      rfl
    · rw [outsAt0_B m c ⟨n + 1, h'⟩ h0 h1]
      dsimp only
      rw [next, add_eq]
      rfl

/-- What the last point of a run leaves in the output's block. -/
theorem block (t : Fin cfg0.N) (ht : t.val % 8 = 7) (p : Fin 2048) (q : Fin 1024) :
    (outsAt0 m c t.val t.isLt).1 (ix2 p q) = ∑ k : Fin 5632, term m c (t.val / 8 * 2048 + p.val) q k.val := by
  have e : (outsAt0 m c t.val t.isLt).1 (ix2 p q) = (outsAt0 m c t.val t.isLt).2 (ix2 p q) := by
    rw [outsAt0_C m c t (by omega) ht]
    dsimp only
    rw [flush, last, out_at]
  have e2 : ∀ n h, n = t.val → (outsAt0 m c n h).2 (ix2 p q) = (outsAt0 m c t.val t.isLt).2 (ix2 p q) := by
    intro n h hn; subst hn; rfl
  have hl := lt64 t
  have hd : t.val = 8 * (t.val / 8) + 7 := by omega
  rw [e, ← e2 (8 * (t.val / 8) + 7) (by rw [← hd]; exact t.isLt) hd.symm, scratch m c p q _ 7 (by omega),
    Fin.sum_univ_tiles 8 704 (by norm_num) fun k => term m c (t.val / 8 * 2048 + p.val) q k.val, Finset.sum_range]
  refine Finset.sum_congr rfl fun j _ => ?_
  unfold part
  have h1 : (8 * (t.val / 8) + j.val) / 8 = t.val / 8 := by omega
  have h2 : (8 * (t.val / 8) + j.val) % 8 = j.val := by omega
  rw [h1, h2]

/-- The reference's result: the gradient of the first product times the transposed weight. -/
def ref (x : Rows) (w : Wgu) (v : Wd) (d : Rows) : FVec Ideal Cert.Reference7Ideal.S16384x1024 .bf16 :=
  truncf .bf16 (Host.dotGeneral Cert.Reference7Ideal.dot_S16384x5632_S1024x5632_S16384x1024_1_1_0_0_n_n none (dgu (gu x w) (dhid d v)) w)
    Cert.Reference7Ideal.Gen.bitsLt_bf16_f32

theorem ref_at (x : Rows) (w : Wgu) (v : Wd) (d : Rows) (i : Fin 16384) (q : Fin 1024) : ref x w v d (ix2 i q)
    = ∑ k : Fin 5632, dgu (gu x w) (dhid d v) (ix2 i k) * w (ix2 q k) := by
  unfold ref
  pointwise

theorem out2 : (dats m 0 c).arrAt 2 cfg0.N = ref (aX m c) (aW m c) (aV m c) (aD m c) := by
  refine (dats m 0 c).arrAt_eq_of_covers 2 _ (by decide +kernel) fun t hf y => ?_
  have hl := lt64 t
  obtain ⟨p, q, rfl⟩ : ∃ (p : Fin 2048) (q : Fin 1024), y = ix2 p q := ⟨y 0, y 1, eq_ix2 y⟩
  have e : ∀ X : FVec Ideal S16384x1024 .bf16, ((cfg0.win 2).blk t).view.read (Elt Ideal) X (ix2 p q)
      = X (ix2 ⟨t.val / 8 * 2048 + p.val, by omega⟩ q) := fun X => by
    blk_point [idx t]
  refine Eq.trans ?_ ((e (ref (aX m c) (aW m c) (aV m c) (aD m c))).trans (ref_at _ _ _ _ _ _)).symm
  refine (congrFun (after0_2 m c t) _).trans ?_
  refine (block m c t ((flush0_2 t).mp hf) p q).trans (Finset.sum_congr (M := EReal) rfl fun k _ => ?_)
  unfold term
  congr 3 <;> congr 1 <;> (try dsimp only) <;> omega

end Cert.Ffn.Dn

end
-- ==== Proof.Ffn.Claim7.lean ====
/- The claims of program 7: its runs end with the semaphores at zero and the arguments kept, and the call returns the
   reference's gradient of the rows. -/
module

public import proofs.«01_k».proof.Defs
public import proofs.«01_k».proof.Proof.Ffn.Dn
public import proofs.«01_k».proof.Proof.Gen.Kernel7.Frame
public import proofs.«01_k».proof.Proof.Gen.Kernel7Ideal.Value
public import proofs.«01_k».proof.Proof.Gen.Reference7Ideal.Run
public import Idealize.ShloMosaic.Lib.Quiescent

@[expose] public section

noncomputable section

namespace Cert.Ffn

open Idealize.ShloMosaic Idealize.ShloMosaic.TcCoe Idealize.SL.Sem

theorem quiet7 : Cert.quiescent_Kernel7 (hKernel7 := Cert.Kernel7.Gen.facts) := fun m ρ _ => Cert.Kernel7.Gen.frame m ρ

theorem quiet7Ideal : Cert.quiescent_Kernel7Ideal (hKernel7Ideal := Cert.Kernel7Ideal.Gen.facts) := fun m ρ _ => Cert.Kernel7Ideal.Gen.frame m ρ

theorem quietRef7 : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩) (Cert.Reference7Ideal.Value.run m ρ)

theorem keeps7 : Cert.preserves_Kernel7_Kernel7Ideal := trivial

set_option maxRecDepth 8192 in
theorem equal7 : Cert.algebraic_Kernel7Ideal_Reference7Ideal (hKernel7Ideal := Cert.Kernel7Ideal.Gen.facts)
    (hReference7Ideal := Cert.Reference7Ideal.Gen.facts) := by
  intro m g m' g' hpre heq
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ⟨(h c).1.trans ?_, (h c).2⟩) (Cert.Reference7Ideal.Value.run m' g')
  obtain ⟨e0, e1, e2, e3⟩ := heq c
  refine Eq.trans (b := Dn.ref (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3))) rfl ?_
  rw [e0, e1, e2, e3]
  exact (Dn.out2 m c).symm

end Cert.Ffn

end
-- ==== Proof.Ffn.FirstStep.lean ====
/- What a grid point of the call that computes the first product leaves in its output block. -/
module

public import proofs.«01_k».proof.Proof.Gen.Kernel8Ideal.Value
public import proofs.«01_k».proof.Proof.Ffn.Host
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Ffn.First

open Idealize.ShloMosaic Idealize.ShloMosaic.TcCoe Idealize.SL.Sem Cert.Kernel8Ideal Cert.Kernel8Ideal.Gen

theorem hz : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a3 : Memref sig .tc .vmem S2048x1024 .bf16) (h3 : a3.IsWhole)
  (a4 : Memref sig .tc .vmem S1x1024x704 .bf16) (h4 : a4.IsWhole) (a5 : Memref sig .tc .vmem S1x2048x704 .bf16) (h5 : a5.IsWhole)
  (a6 : Memref sig .tc .vmem S2048x704 .f32) (h6 : a6.IsWhole) (x : Vec Ideal S2048x1024 .bf16) (y : Vec Ideal S1x1024x704 .bf16)

theorem flush (hc0 : cond0_0 i) (hc1 : cond0_1 i) : out0_A_2 c i a3 h3 a4 h4 a5 h5 a6 h6 hc0 hc1 x y = k0_pay3 (k0_pay2 x (k0_pay1 (F := Ideal)) y) := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero (S := S1x2048x704) hz3]
  simp only [View.readCov_unit_zero (S := S2048x704) _ hz, View.readCov_cons_toLoadRect, View.readAt_eq_ld, h3.read_unread, h4.read_unread,
    View.ld_unit_zero (S := S2048x1024) hz, View.ld_unit_zero (S := S1x1024x704) hz3, shapeCast_self]

end

theorem block_at (x : Vec Ideal S2048x1024 .bf16) (y : Vec Ideal S1x1024x704 .bf16) (p : Fin 2048) (f : Fin 704) :
    (k0_pay3 (F := Ideal) (k0_pay2 x (k0_pay1 (F := Ideal)) y)) (ix3 0 p f) = ∑ k : Fin 1024, x (ix2 p k) * y (ix3 0 k f) := by
  pointwise [k0_pay3, k0_pay2, k0_pay1]

end Cert.Ffn.First

end
-- ==== Proof.Ffn.First.lean ====
/- The call that computes the first product returns it in 8 shards of 704 columns. -/
module

public import proofs.«01_k».proof.Proof.Ffn.FirstStep
public import proofs.«01_k».proof.Proof.Gen.Reference8Ideal.Run
public import Idealize.ShloMosaic.Lib.Claim
public import Idealize.ShloMosaic.Lib.StableHlo.RunRead

@[expose] public section

noncomputable section

namespace Cert.Ffn.First

open Idealize.ShloMosaic Idealize.ShloMosaic.TcCoe Idealize.SL.Sem Cert.Kernel8Ideal Cert.Kernel8Ideal.Gen

variable (m : (ℓ : Loc nD τ sig) → Buf (Elt Ideal) ℓ) (c : Dev nD)

abbrev aX : Rows := m ((c.tc : Thread nD τ).loc main_arg0)
abbrev aW : Wgu := m ((c.tc : Thread nD τ).loc main_arg1)

theorem V_x : (V m c main_v0 : FVec Ideal S16384x1024 .bf16) = aX m c := by
  entry_read
  rfl

theorem V_w : (V m c main_v3 : FVec Ideal S8x1024x704 .bf16) = wshards (aW m c) := by
  entry_read
  rfl

/-- The block indices of a grid point. -/
theorem idx : ∀ t : Fin cfg0.N,
    win0_0.index t = ![t.val % 8, 0] ∧ win0_1.index t = ![t.val / 8, 0, 0] ∧ win0_2.index t = ![t.val / 8, t.val % 8, 0] :=
  (by decide +kernel : ∀ t : Fin grid0.N, _)

theorem lt64 (t : Fin cfg0.N) : t.val < 64 := lt_of_lt_of_eq t.isLt N_0

theorem blk_x (t : Fin cfg0.N) (p : Fin 2048) (k : Fin 1024) :
    iblk m c 0 t (ix2 p k) = (V m c main_v0 : FVec Ideal S16384x1024 .bf16) (ix2 ⟨t.val % 8 * 2048 + p.val, by omega⟩ k) := by
  blk_point [iblk, idx t]

theorem blk_w (t : Fin cfg0.N) (k : Fin 1024) (f : Fin 704) :
    iblk m c 1 t (ix3 0 k f) = (V m c main_v3 : FVec Ideal S8x1024x704 .bf16) (ix3 ⟨t.val / 8, by have := lt64 t; omega⟩ k f) := by
  blk_point [iblk, idx t]

/-- The reference's result: the first product in 8 shards of 704 columns. -/
def ref (x : Rows) (w : Wgu) : FVec Ideal Cert.Reference8Ideal.S8x16384x704 .bf16 :=
  truncf .bf16 (shards (gu x w)) Cert.Reference8Ideal.Gen.bitsLt_bf16_f32

theorem ref_at (x : Rows) (w : Wgu) (j : Fin 8) (i : Fin 16384) (f : Fin 704) : ref x w (ix3 j i f)
    = ∑ k : Fin 1024, x (ix2 i k) * w (ix2 k ⟨j.val * 704 + f.val, by omega⟩) :=
  (shards_at (gu x w) j i f).trans (gu_at x w i _)

theorem out2 : (dats m 0 c).arrAt 2 cfg0.N = ref (aX m c) (aW m c) := by
  refine (dats m 0 c).arrAt_eq_of_covers 2 _ (by decide +kernel) fun t hf y => ?_
  have hl := lt64 t
  obtain ⟨p, f, rfl⟩ : ∃ (p : Fin 2048) (f : Fin 704), y = ix3 0 p f := by
    refine ⟨y 1, y 2, (eq_ix3 y).trans ?_⟩
    rw [show y 0 = (0 : Fin 1) from Subsingleton.elim (α := Fin 1) _ _]
  have e : ∀ X : FVec Ideal S8x16384x704 .bf16, ((cfg0.win 2).blk t).view.read (Elt Ideal) X (ix3 0 p f)
      = X (ix3 ⟨t.val / 8, by omega⟩ ⟨t.val % 8 * 2048 + p.val, by omega⟩ f) := fun X => by
    blk_point [idx t] <;> exact Nat.add_zero _
  refine Eq.trans ?_ ((e (ref (aX m c) (aW m c))).trans (ref_at _ _ _ _ _)).symm
  refine (congrFun (after0_2 m c t) _).trans ?_
  have e3 : outsAt0 m c t (ix3 0 p f) = ∑ k : Fin 1024, aX m c (ix2 ⟨t.val % 8 * 2048 + p.val, by omega⟩ k)
      * aW m c (ix2 k ⟨t.val / 8 * 704 + f.val, by omega⟩) := by
    unfold outsAt0
    rw [flush, block_at]
    refine Finset.sum_congr rfl fun k _ => ?_
    rw [blk_x, blk_w, V_x, V_w, wshards_at]
  exact e3

end Cert.Ffn.First

end
-- ==== Proof.Ffn.Claim8.lean ====
/- The claims of program 8: its runs end with the semaphores at zero and the arguments kept, and the call returns the
   reference's first product. -/
module

public import proofs.«01_k».proof.Defs
public import proofs.«01_k».proof.Proof.Ffn.First
public import proofs.«01_k».proof.Proof.Gen.Kernel8.Frame
public import proofs.«01_k».proof.Proof.Gen.Kernel8Ideal.Value
public import proofs.«01_k».proof.Proof.Gen.Reference8Ideal.Run
public import Idealize.ShloMosaic.Lib.Quiescent

@[expose] public section

noncomputable section

namespace Cert.Ffn

open Idealize.ShloMosaic Idealize.ShloMosaic.TcCoe Idealize.SL.Sem

theorem quiet8 : Cert.quiescent_Kernel8 (hKernel8 := Cert.Kernel8.Gen.facts) := fun m ρ _ => Cert.Kernel8.Gen.frame m ρ

theorem quiet8Ideal : Cert.quiescent_Kernel8Ideal (hKernel8Ideal := Cert.Kernel8Ideal.Gen.facts) := fun m ρ _ => Cert.Kernel8Ideal.Gen.frame m ρ

theorem quietRef8 : Cert.quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩) (Cert.Reference8Ideal.Value.run m ρ)

theorem keeps8 : Cert.preserves_Kernel8_Kernel8Ideal := trivial

set_option maxRecDepth 8192 in
theorem equal8 : Cert.algebraic_Kernel8Ideal_Reference8Ideal (hKernel8Ideal := Cert.Kernel8Ideal.Gen.facts)
    (hReference8Ideal := Cert.Reference8Ideal.Gen.facts) := by
  intro m g m' g' hpre heq
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ⟨(h c).1.trans ?_, (h c).2⟩) (Cert.Reference8Ideal.Value.run m' g')
  obtain ⟨e0, e1⟩ := heq c
  refine Eq.trans (b := First.ref (m' ((c.tc : Thread _ _).loc Cert.Reference8Ideal.main_arg0)) (m' ((c.tc : Thread _ _).loc Cert.Reference8Ideal.main_arg1))) rfl ?_
  rw [e0, e1]
  exact (First.out2 m c).symm

end Cert.Ffn

end
-- ==== Proof.Ffn.DownStep.lean ====
/- What a grid point of the call that multiplies by the second weight leaves in its scratch and in its output block. -/
module

public import proofs.«01_k».proof.Proof.Gen.Kernel9Ideal.Value
public import proofs.«01_k».proof.Proof.Ffn.Host
public import Idealize.ShloMosaic.Lib.Pointwise
public import Idealize.ShloMosaic.Lib.ValueIdx
public import Idealize.ShloMosaic.Lib.Pipeline.ValueKit
public import Idealize.ShloMosaic.Lib.Pipeline.ReadBack
public import Idealize.ShloMosaic.Lib.Tactic
public import Idealize.ShloMosaic.PureOps.Ideal.Laws

@[expose] public section

noncomputable section

namespace Cert.Ffn.Down

open Idealize.ShloMosaic Idealize.ShloMosaic.TcCoe Idealize.SL.Sem Cert.Kernel9Ideal Cert.Kernel9Ideal.Gen

theorem hz : (![0, 0] : Fin 2 → Nat) = fun _ => 0 := funext fun a => by fin_cases a <;> rfl
theorem hz3 : (![0, 0, 0] : Fin 3 → Nat) = fun _ => 0 := funext fun a => by fin_cases a <;> rfl

/-- The chunk of 256 rows from row `k` of the two halves' block, and of the scratch. -/
abbrev xs (x : Vec Ideal S2x1x1024x704 .bf16) (k : ℕ) (h : ∀ a, (![0, 0, k, 0] : Fin 4 → Nat) a + S2x1x256x704.size a ≤ S2x1x1024x704.size a) :
    Vec Ideal S2x1x256x704 .bf16 := View.ld x (Rect.unit ![0, 0, k, 0] S2x1x256x704.size h)
abbrev ss (s : Vec Ideal S1024x1024 .f32) (k : ℕ) (h : ∀ a, (![k, 0] : Fin 2 → Nat) a + S256x1024.size a ≤ S1024x1024.size a) :
    Vec Ideal S256x1024 .f32 := View.ld s (Rect.unit ![k, 0] S256x1024.size h)

/-- The four chunks stored over the scratch, each its own product added to what the scratch held. -/
def pieces (x : Vec Ideal S2x1x1024x704 .bf16) (y : Vec Ideal S1x704x1024 .bf16) (s : Vec Ideal S1024x1024 .f32) :
    List (View.Piece (Elt Ideal) S1024x1024 .f32) :=
  [⟨Rect.unit ![768, 0] S256x1024.size inb_S1024x1024_S256x1024_768_0,
      k0_pay1 (k0_pay9 (xs x 768 inb_S2x1x1024x704_S2x1x256x704_0_0_768_0)) (k0_pay10 (xs x 768 inb_S2x1x1024x704_S2x1x256x704_0_0_768_0))
        (ss s 768 inb_S1024x1024_S256x1024_768_0) y⟩,
    ⟨Rect.unit ![512, 0] S256x1024.size inb_S1024x1024_S256x1024_512_0,
      k0_pay7 (xs x 512 inb_S2x1x1024x704_S2x1x256x704_0_0_512_0) (ss s 512 inb_S1024x1024_S256x1024_512_0) y⟩,
    ⟨Rect.unit ![256, 0] S256x1024.size inb_S1024x1024_S256x1024_256_0,
      k0_pay6 (k0_pay5 (xs x 256 inb_S2x1x1024x704_S2x1x256x704_0_0_256_0)) (ss s 256 inb_S1024x1024_S256x1024_256_0) y⟩,
    ⟨Rect.unit ![0, 0] S256x1024.size inb_S1024x1024_S256x1024_0_0,
      k0_pay4 (xs x 0 inb_S2x1x1024x704_S2x1x256x704_0_0_0_0) (ss s 0 inb_S1024x1024_S256x1024_0_0) y⟩]

theorem pieces_cover (x : Vec Ideal S2x1x1024x704 .bf16) (y : Vec Ideal S1x704x1024 .bf16) (s : Vec Ideal S1024x1024 .f32) (j : S1024x1024.Idx) :
    ∃ p ∈ pieces x y s, j ∈ p.1.set := View.cover_of_tiledL (pieces x y s) S256x1024.size (by sl_kernel_rfl) j

/-- Pieces that agree with one function and cover an index hide what was stored before them there. -/
theorem canon_append (G : Vec Ideal S1024x1024 .f32) (M : List (View.Piece (Elt Ideal) S1024x1024 .f32)) :
    ∀ (L : List (View.Piece (Elt Ideal) S1024x1024 .f32)) (_ : ∀ p ∈ L, ∀ x : p.1.shape.Idx, p.2 x = G (p.1.emb x)) (j : S1024x1024.Idx)
      (_ : ∃ p ∈ L, j ∈ p.1.set), View.canon (L ++ M) j = G j
  | [], _, _, hj => by obtain ⟨p, hp, _⟩ := hj; exact absurd hp List.not_mem_nil
  | p :: L, hL, j, hj => by
    rw [List.cons_append]
    by_cases hm : j ∈ p.1.set
    · obtain ⟨x, hx⟩ := p.1.exists_idx_of_mem hm
      have hx' : j = p.1.emb x := hx.symm
      rw [hx']
      exact (View.canon_cons_emb p.1 p.2 (L ++ M) x).trans (hL p List.mem_cons_self x)
    · rw [View.canon_cons_of_not_mem _ _ hm]
      refine canon_append G M L (fun q hq => hL q (List.mem_cons_of_mem _ hq)) j ?_
      obtain ⟨q, hq, hjq⟩ := hj
      rcases List.mem_cons.mp hq with rfl | hq'
      · exact absurd hjq hm
      · exact ⟨q, hq', hjq⟩

/-- The hidden entry of a row of a block. -/
def hid {n : ℕ} (v : Vec Ideal (⟨4, ![2, 1, n, 704]⟩ : Shape) .bf16) (r : Fin n) (f : Fin 704) : EReal :=
  v (ix4 0 0 r f) * Ideal.logistic (v (ix4 0 0 r f)) * v (ix4 1 0 r f)

/-- The block's product added to what the scratch held. -/
def acc (x : Vec Ideal S2x1x1024x704 .bf16) (y : Vec Ideal S1x704x1024 .bf16) (s : Vec Ideal S1024x1024 .f32) : Vec Ideal S1024x1024 .f32 :=
  fun j => (s j : EReal) + ∑ f : Fin 704, hid (n := 1024) x (j 0) f * y (ix3 0 f (j 1))

theorem pay4_at (v : Vec Ideal S2x1x256x704 .bf16) (s : Vec Ideal S256x1024 .f32) (y : Vec Ideal S1x704x1024 .bf16) (r : Fin 256) (q : Fin 1024) :
    (k0_pay4 (F := Ideal) v s y) (ix2 r q) = s (ix2 r q) + ∑ f : Fin 704, hid v r f * y (ix3 0 f q) := by
  unfold hid
  pointwise [k0_pay4]

theorem pay6_at (v : Vec Ideal S2x1x256x704 .bf16) (s : Vec Ideal S256x1024 .f32) (y : Vec Ideal S1x704x1024 .bf16) (r : Fin 256) (q : Fin 1024) :
    (k0_pay6 (F := Ideal) (k0_pay5 v) s y) (ix2 r q) = s (ix2 r q) + ∑ f : Fin 704, hid v r f * y (ix3 0 f q) := by
  unfold hid
  pointwise [k0_pay6, k0_pay5]

theorem pay7_at (v : Vec Ideal S2x1x256x704 .bf16) (s : Vec Ideal S256x1024 .f32) (y : Vec Ideal S1x704x1024 .bf16) (r : Fin 256) (q : Fin 1024) :
    (k0_pay7 (F := Ideal) v s y) (ix2 r q) = s (ix2 r q) + ∑ f : Fin 704, hid v r f * y (ix3 0 f q) := by
  unfold hid
  pointwise [k0_pay7]

theorem pay1_at (v : Vec Ideal S2x1x256x704 .bf16) (s : Vec Ideal S256x1024 .f32) (y : Vec Ideal S1x704x1024 .bf16) (r : Fin 256) (q : Fin 1024) :
    (k0_pay1 (F := Ideal) (k0_pay9 v) (k0_pay10 v) s y) (ix2 r q) = s (ix2 r q) + ∑ f : Fin 704, hid v r f * y (ix3 0 f q) := by
  unfold hid
  pointwise [k0_pay1, k0_pay9, k0_pay10, k0_pay8]

theorem xs_at (x : Vec Ideal S2x1x1024x704 .bf16) (k : ℕ) (h) (e : Fin 2) (r : Fin 256) (f : Fin 704) (i : Fin 1024) (hi : i.val = k + r.val) :
    xs x k h (ix4 e 0 r f) = x (ix4 e 0 i f) := by
  refine View.ld_unit_apply_of x _ _ h (ix4 e 0 r f) (ix4 e 0 i f) fun a => ?_
  fin_cases a
  · exact (Nat.zero_add _).symm
  · rfl
  · exact hi
  · exact (Nat.zero_add _).symm

/-- A chunk's product is the block's, at the chunk's rows. -/
theorem chunk (x : Vec Ideal S2x1x1024x704 .bf16) (y : Vec Ideal S1x704x1024 .bf16) (s : Vec Ideal S1024x1024 .f32) (k : ℕ) (h) (h')
    (w : Vec Ideal S256x1024 .f32)
    (hw : ∀ r q, w (ix2 r q) = ss s k h' (ix2 r q) + ∑ f : Fin 704, hid (xs x k h) r f * y (ix3 0 f q)) (j : S256x1024.Idx) :
    w j = acc x y s ((Rect.unit (s := S1024x1024) ![k, 0] S256x1024.size h').emb j) := by
  obtain ⟨r, q, rfl⟩ : ∃ (r : Fin 256) (q : Fin 1024), j = ix2 r q := ⟨j 0, j 1, eq_ix2 j⟩
  have hk : k + r.val < 1024 := by
    have h0 := h' 0
    have h1 : k + 256 ≤ 1024 := h0
    omega
  have e : (Rect.unit (s := S1024x1024) ![k, 0] S256x1024.size h').emb (ix2 r q) = (ix2 ⟨k + r.val, hk⟩ q : S1024x1024.Idx) := by
    funext a
    refine Fin.ext ((Rect.idx_unit_val (s := S1024x1024) ![k, 0] S256x1024.size h' (ix2 r q) a).trans ?_)
    fin_cases a
    · rfl
    · exact Nat.zero_add _
  rw [hw, e]
  unfold acc
  refine congrArg₂ _ (congrArg s e) (Finset.sum_congr (M := EReal) rfl fun f _ => ?_)
  unfold hid
  rw [xs_at x k h 0 r f ⟨k + r.val, hk⟩ rfl, xs_at x k h 1 r f ⟨k + r.val, hk⟩ rfl]
  rfl

theorem pieces_acc (x : Vec Ideal S2x1x1024x704 .bf16) (y : Vec Ideal S1x704x1024 .bf16) (s : Vec Ideal S1024x1024 .f32) :
    ∀ p ∈ pieces x y s, ∀ j : p.1.shape.Idx, p.2 j = acc x y s (p.1.emb j) := by
  intro p hp
  unfold pieces at hp
  rcases List.mem_cons.mp hp with rfl | hp
  · exact chunk x y s 768 _ _ _ fun r q => pay1_at _ _ _ r q
  rcases List.mem_cons.mp hp with rfl | hp
  · exact chunk x y s 512 _ _ _ fun r q => pay7_at _ _ _ r q
  rcases List.mem_cons.mp hp with rfl | hp
  · exact chunk x y s 256 _ _ _ fun r q => pay6_at _ _ _ r q
  rcases List.mem_cons.mp hp with rfl | hp
  · exact chunk x y s 0 _ _ _ fun r q => pay4_at _ _ _ r q
  · exact absurd hp List.not_mem_nil

/-- The scratch after the four stores, over what was stored before. -/
theorem canon_pieces (x : Vec Ideal S2x1x1024x704 .bf16) (y : Vec Ideal S1x704x1024 .bf16) (s : Vec Ideal S1024x1024 .f32)
    (M : List (View.Piece (Elt Ideal) S1024x1024 .f32)) : View.canon (pieces x y s ++ M) = acc x y s :=
  funext fun j => canon_append (acc x y s) M (pieces x y s) (pieces_acc x y s) j (pieces_cover x y s j)

section
variable (c : Dev nD) (i : grid0.Coords) (a3 : Memref sig .tc .vmem S2x1x1024x704 .bf16) (h3 : a3.IsWhole)
  (a4 : Memref sig .tc .vmem S1x704x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x : Vec Ideal S2x1x1024x704 .bf16) (y : Vec Ideal S1x704x1024 .bf16) (z : Vec Ideal S1024x1024 .f32) (s : Vec Ideal S1024x1024 .f32)

theorem first (hc0 : cond0_0 i) (hc1 : ¬cond0_1 i) :
    sout0_A_0 c i a3 h3 a4 h4 a5 h5 a6 h6 a7 h7 hc0 hc1 x y z = acc x y (k0_pay3 (F := Ideal)) := by
  unfold sout0_A_0
  rw [View.read_writes_eq_canon _ _ _ (scover0_A_0 c i a3 h3 a4 h4 a5 h5 a6 h6 a7 h7 hc0 hc1 x y z)]
  unfold kernelRun0_A
  dsimp only
  sl_unfold_words
  simp (config := { decide := true }) only [View.readCov_skip, View.readCov_cons_toLoadRect, View.readCov_fill, View.readAt_eq_ld, h3.read_unread,
    h4.read_unread, h5.read_unread, h7.read_unread, View.ld_unit_zero (S := S1x704x1024) hz3, View.ld_unit_zero (S := S1024x1024) hz, shapeCast_self]
  exact canon_pieces x y (k0_pay3 (F := Ideal)) [⟨Rect.unit ![0, 0] S1024x1024.size inb_S1024x1024_S1024x1024_0_0, k0_pay3 (F := Ideal)⟩]

theorem next (hc0 : ¬cond0_0 i) (hc1 : ¬cond0_1 i) : sout0_B_0 c i a3 h3 a4 h4 a5 h5 a6 h6 a7 h7 hc0 hc1 x y z s = acc x y s := by
  unfold sout0_B_0
  rw [View.read_writes_eq_canon _ _ _ (scover0_B_0 c i a3 h3 a4 h4 a5 h5 a6 h6 a7 h7 hc0 hc1 x y z s)]
  unfold kernelRun0_B
  dsimp only
  sl_unfold_words
  simp (config := { decide := true }) only [View.readCov_skip, View.readCov_cons_toLoadRect, View.readCov_fill, View.readAt_eq_ld, h3.read_unread,
    h4.read_unread, h5.read_unread, h7.read_unread, View.ld_unit_zero (S := S1x704x1024) hz3, View.ld_unit_zero (S := S1024x1024) hz, shapeCast_self]
  exact canon_pieces x y s []

theorem last (hc0 : ¬cond0_0 i) (hc1 : cond0_1 i) : sout0_C_0 c i a3 h3 a4 h4 a5 h5 a6 h6 a7 h7 hc0 hc1 x y z s = acc x y s := by
  unfold sout0_C_0
  rw [View.read_writes_eq_canon _ _ _ (scover0_C_0 c i a3 h3 a4 h4 a5 h5 a6 h6 a7 h7 hc0 hc1 x y z s)]
  unfold kernelRun0_C
  dsimp only
  sl_unfold_words
  simp (config := { decide := true }) only [View.readCov_skip, View.readCov_cons_toLoadRect, View.readCov_fill, View.readAt_eq_ld, h3.read_unread,
    h4.read_unread, h5.read_unread, h7.read_unread, View.ld_unit_zero (S := S1x704x1024) hz3, View.ld_unit_zero (S := S1024x1024) hz, shapeCast_self]
  exact canon_pieces x y s []

theorem flush (hc0 : ¬cond0_0 i) (hc1 : cond0_1 i) : out0_C_3 c i a3 h3 a4 h4 a5 h5 a6 h6 a7 h7 hc0 hc1 x y z s = k0_pay2 (acc x y s) z := by
  unfold out0_C_3
  rw [View.read_writes_eq_canon _ _ _ (cover0_C_3 c i a3 h3 a4 h4 a5 h5 a6 h6 a7 h7 hc0 hc1 x y z s)]
  unfold kernelRun0_C
  dsimp only
  sl_unfold_words
  rw [View.canon_unit_zero (S := S1024x1024) hz]
  simp (config := { decide := true }) only [View.readCov_skip, View.readCov_cons_toLoadRect, View.readCov_fill, View.readAt_eq_ld, h3.read_unread,
    h4.read_unread, h5.read_unread, h7.read_unread, View.ld_unit_zero (S := S1x704x1024) hz3, View.ld_unit_zero (S := S1024x1024) hz, shapeCast_self]
  refine congrArg (fun v => k0_pay2 v z) ?_
  refine (View.readCov_eq_canon_ld a7.view (pieces x y s) _ (pieces_cover x y s)).trans ?_
  rw [View.ld_unit_zero (S := S1024x1024) hz]
  exact (congrArg View.canon (List.append_nil _).symm).trans (canon_pieces x y s [])

end

theorem zero_at (p : Fin 1024) (q : Fin 1024) : (k0_pay3 (F := Ideal)) (ix2 p q) = 0 := by
  pointwise [k0_pay3]

theorem out_at (s z : Vec Ideal S1024x1024 .f32) (p : Fin 1024) (q : Fin 1024) :
    (k0_pay2 (F := Ideal) s z) (ix2 p q) = s (ix2 p q) * ((1 / 2 : ℝ) : EReal) + z (ix2 p q) := by
  pointwise [k0_pay2]
  rw [ofBits_half]

end Cert.Ffn.Down

end
-- ==== Proof.Ffn.Down.lean ====
/- The call that multiplies by the second weight returns the residual rows plus half the hidden array times the weight. -/
module

public import proofs.«01_k».proof.Proof.Ffn.DownStep
public import proofs.«01_k».proof.Proof.Ffn.Sums
public import proofs.«01_k».proof.Proof.Gen.Reference9Ideal.Run
public import Idealize.ShloMosaic.Lib.Claim
public import Idealize.ShloMosaic.Lib.StableHlo.RunRead

@[expose] public section

noncomputable section

namespace Cert.Ffn.Down

open Idealize.ShloMosaic Idealize.ShloMosaic.TcCoe Idealize.SL.Sem Cert.Kernel9Ideal Cert.Kernel9Ideal.Gen

variable (m : (ℓ : Loc nD τ sig) → Buf (Elt Ideal) ℓ) (c : Dev nD)

abbrev aX : Rows := m ((c.tc : Thread nD τ).loc main_arg0)
abbrev aW : Wgu := m ((c.tc : Thread nD τ).loc main_arg1)
abbrev aV : Wd := m ((c.tc : Thread nD τ).loc main_arg2)
abbrev aD : Rows := m ((c.tc : Thread nD τ).loc main_arg3)

theorem V_g : (V m c main_v4 : FVec Ideal S2x4x16384x704 .bf16) = pairs (gu (aX m c) (aW m c)) := by
  entry_read
  rfl

theorem V_w : (V m c main_v6 : FVec Ideal S4x704x1024 .bf16)
    = shapeCast S4x704x1024 (aV m c) Cert.Kernel9Ideal.Gen.shapeCasts_S2816x1024_S4x704x1024 := by
  entry_read
  rfl

theorem V_d : (V m c main_arg3 : FVec Ideal S16384x1024 .f32) = aD m c := by
  entry_read
  rfl

/-- The block indices of a grid point. -/
theorem idx : ∀ t : Fin cfg0.N,
    win0_0.index t = ![0, t.val % 4, t.val / 4, 0] ∧ win0_1.index t = ![t.val % 4, 0, 0] ∧ win0_2.index t = ![t.val / 4, 0]
      ∧ win0_3.index t = ![t.val / 4, 0] :=
  (by decide +kernel : ∀ t : Fin grid0.N, _)

theorem lt64 (t : Fin cfg0.N) : t.val < 64 := lt_of_lt_of_eq t.isLt N_0

theorem blk_g (t : Fin cfg0.N) (e : Fin 2) (r : Fin 1024) (f : Fin 704) :
    iblk m c 0 t (ix4 e 0 r f) = (V m c main_v4 : FVec Ideal S2x4x16384x704 .bf16)
      (ix4 e ⟨t.val % 4, by omega⟩ ⟨t.val / 4 * 1024 + r.val, by have := lt64 t; omega⟩ f) := by
  blk_point [iblk, idx t]

theorem blk_w (t : Fin cfg0.N) (f : Fin 704) (q : Fin 1024) :
    iblk m c 1 t (ix3 0 f q) = (V m c main_v6 : FVec Ideal S4x704x1024 .bf16) (ix3 ⟨t.val % 4, by omega⟩ f q) := by
  blk_point [iblk, idx t]

theorem blk_d (t : Fin cfg0.N) (r : Fin 1024) (q : Fin 1024) :
    iblk m c 2 t (ix2 r q) = (V m c main_arg3 : FVec Ideal S16384x1024 .f32)
      (ix2 ⟨t.val / 4 * 1024 + r.val, by have := lt64 t; omega⟩ q) := by
  blk_point [iblk, idx t]

theorem w_at (w : Wd) (j : Fin 4) (f : Fin 704) (q : Fin 1024) :
    (shapeCast S4x704x1024 w Cert.Kernel9Ideal.Gen.shapeCasts_S2816x1024_S4x704x1024) (ix3 j f q) = w (ix2 ⟨j.val * 704 + f.val, by omega⟩ q) := by
  pointwise

/-- The term of hidden column `f` in the entry (i, q) of the product. -/
def term (i : ℕ) (q : Fin 1024) (f : ℕ) : EReal :=
  hidden (gu (aX m c) (aW m c)) (ix2 ⟨i % 16384, by omega⟩ ⟨f % 2816, by omega⟩) * aV m c (ix2 ⟨f % 2816, by omega⟩ q)

/-- The part of the product that grid point `n` adds. -/
def part (r : Fin 1024) (q : Fin 1024) (n : ℕ) : EReal := ∑ f : Fin 704, term m c (n / 4 * 1024 + r.val) q (n % 4 * 704 + f.val)

theorem acc_at (x : Vec Ideal S2x1x1024x704 .bf16) (y : Vec Ideal S1x704x1024 .bf16) (s : Vec Ideal S1024x1024 .f32) (r q : Fin 1024) :
    acc x y s (ix2 r q) = s (ix2 r q) + ∑ f : Fin 704, hid (n := 1024) x r f * y (ix3 0 f q) := rfl

theorem add_eq (t : Fin cfg0.N) (s : Vec Ideal S1024x1024 .f32) (r q : Fin 1024) :
    acc (iblk m c 0 t) (iblk m c 1 t) s (ix2 r q) = s (ix2 r q) + part m c r q t.val := by
  have ht := lt64 t
  rw [acc_at]
  refine congrArg _ (Finset.sum_congr rfl fun f _ => ?_)
  unfold hid term
  have h1 : (t.val / 4 * 1024 + r.val) % 16384 = t.val / 4 * 1024 + r.val := by omega
  have h2 : (t.val % 4 * 704 + f.val) % 2816 = t.val % 4 * 704 + f.val := by omega
  rw [blk_g, blk_g, blk_w, V_g, V_w, pairs_gate, pairs_up, hidden_at, w_at]
  simp only [h1, h2]

/-- What the scratch holds after a grid point. -/
theorem scratch (r q : Fin 1024) (j k : ℕ) (hk : k < 4) (h : 4 * j + k < cfg0.N) :
    (outsAt0 m c (4 * j + k) h).2 (ix2 r q) = ∑ l ∈ Finset.range (k + 1), part m c r q (4 * j + l) := by
  refine run_sum (fun n h => (outsAt0 m c n h).2 (ix2 r q)) (part m c r q) (fun n h h0 => ?_) (fun n h h' h0 => ?_) j k hk h
  · rw [outsAt0_A m c ⟨n, h⟩ h0 (by dsimp only; omega)]
    dsimp only
    rw [first, add_eq, zero_at, zero_add]
  · by_cases h1 : (n + 1) % 4 = 3
    · rw [outsAt0_C m c ⟨n + 1, h'⟩ h0 h1]
      dsimp only
      rw [last, add_eq]
      rfl
    · rw [outsAt0_B m c ⟨n + 1, h'⟩ h0 h1]
      dsimp only
      rw [next, add_eq]
      rfl

/-- What the last point of a run leaves in the output's block. -/
theorem block (t : Fin cfg0.N) (ht : t.val % 4 = 3) (r q : Fin 1024) :
    (outsAt0 m c t.val t.isLt).1 (ix2 r q) = (∑ f : Fin 2816, term m c (t.val / 4 * 1024 + r.val) q f.val) * ((1 / 2 : ℝ) : EReal)
      + aD m c (ix2 ⟨t.val / 4 * 1024 + r.val, by have := lt64 t; omega⟩ q) := by
  have e : (outsAt0 m c t.val t.isLt).1 (ix2 r q) = (outsAt0 m c t.val t.isLt).2 (ix2 r q) * ((1 / 2 : ℝ) : EReal)
      + aD m c (ix2 ⟨t.val / 4 * 1024 + r.val, by have := lt64 t; omega⟩ q) := by
    rw [outsAt0_C m c t (by omega) ht]
    dsimp only
    rw [flush, last, out_at, blk_d, V_d]
  have e2 : ∀ n h, n = t.val → (outsAt0 m c n h).2 (ix2 r q) = (outsAt0 m c t.val t.isLt).2 (ix2 r q) := by
    intro n h hn; subst hn; rfl
  have hl := lt64 t
  have hd : t.val = 4 * (t.val / 4) + 3 := by omega
  rw [e, ← e2 (4 * (t.val / 4) + 3) (by rw [← hd]; exact t.isLt) hd.symm, scratch m c r q _ 3 (by omega),
    Fin.sum_univ_tiles 4 704 (by norm_num) fun f => term m c (t.val / 4 * 1024 + r.val) q f.val, Finset.sum_range]
  refine congrArg (· * ((1 / 2 : ℝ) : EReal) + _) (Finset.sum_congr (M := EReal) rfl fun j _ => ?_)
  unfold part
  have h1 : (4 * (t.val / 4) + j.val) / 4 = t.val / 4 := by omega
  have h2 : (4 * (t.val / 4) + j.val) % 4 = j.val := by omega
  rw [h1, h2]

/-- The reference's result: the residual rows plus half the hidden array times the weight. -/
def ref (x : Rows) (w : Wgu) (v : Wd) (d : Rows) : Rows :=
  addf d (half (Host.dotGeneral Cert.Reference9Ideal.dot_S16384x2816_S2816x1024_S16384x1024_1_0_0_1_n_n none (hidden (gu x w)) v))

theorem ref_at (x : Rows) (w : Wgu) (v : Wd) (d : Rows) (i : Fin 16384) (q : Fin 1024) : ref x w v d (ix2 i q)
    = d (ix2 i q) + ((1 / 2 : ℝ) : EReal) * ∑ f : Fin 2816, hidden (gu x w) (ix2 i f) * v (ix2 f q) := by
  refine Eq.trans (b := d (ix2 i q) + half (Host.dotGeneral Cert.Reference9Ideal.dot_S16384x2816_S2816x1024_S16384x1024_1_0_0_1_n_n none
    (hidden (gu x w)) v) (ix2 i q)) rfl ?_
  rw [half_at]
  pointwise

theorem out3 : (dats m 0 c).arrAt 3 cfg0.N = ref (aX m c) (aW m c) (aV m c) (aD m c) := by
  refine (dats m 0 c).arrAt_eq_of_covers 3 _ (by decide +kernel) fun t hf y => ?_
  have hl := lt64 t
  obtain ⟨r, q, rfl⟩ : ∃ (r q : Fin 1024), y = ix2 r q := ⟨y 0, y 1, eq_ix2 y⟩
  have e : ∀ X : FVec Ideal S16384x1024 .f32, ((cfg0.win 3).blk t).view.read (Elt Ideal) X (ix2 r q)
      = X (ix2 ⟨t.val / 4 * 1024 + r.val, by omega⟩ q) := fun X => by
    blk_point [idx t]
  refine Eq.trans ?_ ((e (ref (aX m c) (aW m c) (aV m c) (aD m c))).trans (ref_at _ _ _ _ _ _)).symm
  refine (congrFun (after0_3 m c t) _).trans ?_
  refine (block m c t ((flush0_3 t).mp hf) r q).trans ?_
  rw [add_comm]
  refine congrArg (fun v : EReal => aD m c (ix2 ⟨t.val / 4 * 1024 + r.val, by omega⟩ q) + v)
    ((mul_comm _ _).trans (congrArg (fun v : EReal => ((1 / 2 : ℝ) : EReal) * v) (Finset.sum_congr (M := EReal) rfl fun f _ => ?_)))
  have h1 : (t.val / 4 * 1024 + r.val) % 16384 = t.val / 4 * 1024 + r.val := by omega
  have h2 : f.val % 2816 = f.val := by omega
  unfold term
  simp only [h1, h2]

end Cert.Ffn.Down

end
-- ==== Proof.Ffn.Claim9.lean ====
/- The claims of program 9: its runs end with the semaphores at zero and the arguments kept, and the call returns the
   reference's layer's rows. -/
module

public import proofs.«01_k».proof.Defs
public import proofs.«01_k».proof.Proof.Ffn.Down
public import proofs.«01_k».proof.Proof.Gen.Kernel9.Frame
public import proofs.«01_k».proof.Proof.Gen.Kernel9Ideal.Value
public import proofs.«01_k».proof.Proof.Gen.Reference9Ideal.Run
public import Idealize.ShloMosaic.Lib.Quiescent

@[expose] public section

noncomputable section

namespace Cert.Ffn

open Idealize.ShloMosaic Idealize.ShloMosaic.TcCoe Idealize.SL.Sem

theorem quiet9 : Cert.quiescent_Kernel9 (hKernel9 := Cert.Kernel9.Gen.facts) := fun m ρ _ => Cert.Kernel9.Gen.frame m ρ

theorem quiet9Ideal : Cert.quiescent_Kernel9Ideal (hKernel9Ideal := Cert.Kernel9Ideal.Gen.facts) := fun m ρ _ => Cert.Kernel9Ideal.Gen.frame m ρ

theorem quietRef9 : Cert.quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩) (Cert.Reference9Ideal.Value.run m ρ)

theorem keeps9 : Cert.preserves_Kernel9_Kernel9Ideal := trivial

set_option maxRecDepth 8192 in
theorem equal9 : Cert.algebraic_Kernel9Ideal_Reference9Ideal (hKernel9Ideal := Cert.Kernel9Ideal.Gen.facts)
    (hReference9Ideal := Cert.Reference9Ideal.Gen.facts) := by
  intro m g m' g' hpre heq
  refine ⟨fun c => (Cert.Kernel9Ideal.Gen.dats m 0 c).arrAt 3 Cert.Kernel9Ideal.cfg0.N, Cert.Kernel9Ideal.Value.run_blocks m g, ?_⟩
  refine (θ_run Cert.Reference9Ideal.defs _ _).mono (fun r h c => ⟨(h c).1.trans ?_, (h c).2⟩) (Cert.Reference9Ideal.Value.run m' g')
  obtain ⟨e0, e1, e2, e3⟩ := heq c
  refine Eq.trans (b := Down.ref (m' ((c.tc : Thread _ _).loc Cert.Reference9Ideal.main_arg0)) (m' ((c.tc : Thread _ _).loc Cert.Reference9Ideal.main_arg1)) (m' ((c.tc : Thread _ _).loc Cert.Reference9Ideal.main_arg2)) (m' ((c.tc : Thread _ _).loc Cert.Reference9Ideal.main_arg3))) rfl ?_
  rw [e0, e1, e2, e3]
  exact (Down.out3 m c).symm

end Cert.Ffn

end
-- ==== Proof.Proj.OutDwStep.lean ====
/- What a grid point of the call that computes the gradient of the output projection's weight leaves in its scratch and in
   its output block. -/
module

public import proofs.«01_k».proof.Proof.Gen.Kernel10Ideal.Value
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Proj.OutDw

open Idealize.ShloMosaic Idealize.ShloMosaic.TcCoe Idealize.SL.Sem Cert.Kernel10Ideal Cert.Kernel10Ideal.Gen

theorem hz : (![0, 0] : Fin 2 → Nat) = fun _ => 0 := funext fun a => by fin_cases a <;> rfl

section
variable (c : Dev nD) (i : grid0.Coords) (a3 : Memref sig .tc .vmem S1024x1024 .bf16) (h3 : a3.IsWhole)
  (a4 : Memref sig .tc .vmem S1024x1024 .f32) (h4 : a4.IsWhole) (a5 : Memref sig .tc .vmem S1024x1024 .f32) (h5 : a5.IsWhole)
  (a6 : Memref sig .tc .vmem S1024x1024 .f32) (h6 : a6.IsWhole) (x : Vec Ideal S1024x1024 .bf16) (y : Vec Ideal S1024x1024 .f32)
  (s : Vec Ideal S1024x1024 .f32)

theorem first (hc0 : cond0_0 i) (hc1 : ¬cond0_1 i) : sout0_A_0 c i a3 h3 a4 h4 a5 h5 a6 h6 hc0 hc1 x y = k0_pay2 x (k0_pay1 (F := Ideal)) y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz, shapeCast_self]

theorem next (hc0 : ¬cond0_0 i) (hc1 : ¬cond0_1 i) : sout0_B_0 c i a3 h3 a4 h4 a5 h5 a6 h6 hc0 hc1 x y s = k0_pay2 x s y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S1024x1024) hz]
  simp only [View.readAt_eq_ld, h3.read_unread, h4.read_unread, h6.read_unread, View.ld_unit_zero (S := S1024x1024) hz, shapeCast_self]

theorem last (hc0 : ¬cond0_0 i) (hc1 : cond0_1 i) : sout0_C_0 c i a3 h3 a4 h4 a5 h5 a6 h6 hc0 hc1 x y s = k0_pay2 x s y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x1024) hz]
  simp only [View.readAt_eq_ld, h3.read_unread, h4.read_unread, h6.read_unread, View.ld_unit_zero (S := S1024x1024) hz, shapeCast_self]

theorem flush (hc0 : ¬cond0_0 i) (hc1 : cond0_1 i) : out0_C_2 c i a3 h3 a4 h4 a5 h5 a6 h6 hc0 hc1 x y s = k0_pay3 (k0_pay2 x s y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz, shapeCast_self]

end

theorem zero_at (p q : Fin 1024) : (k0_pay1 (F := Ideal)) (ix2 p q) = 0 := by
  pointwise [k0_pay1]

theorem add_at (x : Vec Ideal S1024x1024 .bf16) (s y : Vec Ideal S1024x1024 .f32) (p q : Fin 1024) :
    (k0_pay2 (F := Ideal) x s y) (ix2 p q) = s (ix2 p q) + ∑ r : Fin 1024, x (ix2 r p) * y (ix2 r q) := by
  pointwise [k0_pay2]

theorem out_at (s : Vec Ideal S1024x1024 .f32) (p q : Fin 1024) : (k0_pay3 (F := Ideal) s) (ix2 p q) = s (ix2 p q) := by
  pointwise [k0_pay3]

end Cert.Proj.OutDw

end
-- ==== Proof.Proj.OutDw.lean ====
/- The call that computes the gradient of the output projection's weight returns the transposed rows times the gradient. -/
module

public import proofs.«01_k».proof.Proof.Proj.OutDwStep
public import proofs.«01_k».proof.Proof.Ffn.Sums
public import proofs.«01_k».proof.Proof.Gen.Reference10Ideal.Run
public import Idealize.ShloMosaic.Lib.Claim
public import Idealize.ShloMosaic.Lib.StableHlo.RunRead

@[expose] public section

noncomputable section

namespace Cert.Proj.OutDw

open Idealize.ShloMosaic Idealize.ShloMosaic.TcCoe Idealize.SL.Sem Cert.Kernel10Ideal Cert.Kernel10Ideal.Gen Cert.Ffn

variable (m : (ℓ : Loc nD τ sig) → Buf (Elt Ideal) ℓ) (c : Dev nD)

abbrev aN : FVec Ideal S16384x1024 .f32 := m ((c.tc : Thread nD τ).loc main_arg0)
abbrev aD : FVec Ideal S16384x1024 .f32 := m ((c.tc : Thread nD τ).loc main_arg2)

theorem V_n : (V m c main_v0 : FVec Ideal S16384x1024 .bf16) = aN m c := by
  entry_read
  rfl

theorem V_d : (V m c main_arg2 : FVec Ideal S16384x1024 .f32) = aD m c := by
  entry_read
  rfl

/-- The block indices of a grid point. -/
theorem idx : ∀ t : Fin cfg0.N,
    win0_0.index t = ![t.val, 0] ∧ win0_1.index t = ![t.val, 0] ∧ win0_2.index t = ![0, 0] :=
  (by decide +kernel : ∀ t : Fin grid0.N, _)

theorem lt16 (t : Fin cfg0.N) : t.val < 16 := lt_of_lt_of_eq t.isLt N_0

theorem blk_n (t : Fin cfg0.N) (r p : Fin 1024) :
    iblk m c 0 t (ix2 r p) = (V m c main_v0 : FVec Ideal S16384x1024 .bf16) (ix2 ⟨t.val * 1024 + r.val, by have := lt16 t; omega⟩ p) := by
  blk_point [iblk, idx t]

theorem blk_d (t : Fin cfg0.N) (r q : Fin 1024) :
    iblk m c 1 t (ix2 r q) = (V m c main_arg2 : FVec Ideal S16384x1024 .f32) (ix2 ⟨t.val * 1024 + r.val, by have := lt16 t; omega⟩ q) := by
  blk_point [iblk, idx t]

/-- The term of token `i` in the entry (p, q) of the product. -/
def term (p q : Fin 1024) (i : ℕ) : EReal :=
  aN m c (ix2 ⟨i % 16384, by omega⟩ p) * aD m c (ix2 ⟨i % 16384, by omega⟩ q)

/-- The part of the product that grid point `n` adds. -/
def part (p q : Fin 1024) (n : ℕ) : EReal := ∑ r : Fin 1024, term m c p q (n * 1024 + r.val)

theorem add_eq (t : Fin cfg0.N) (s : Vec Ideal S1024x1024 .f32) (p q : Fin 1024) :
    (k0_pay2 (F := Ideal) (iblk m c 0 t) s (iblk m c 1 t)) (ix2 p q) = s (ix2 p q) + part m c p q t.val := by
  have ht := lt16 t
  rw [add_at]
  refine congrArg _ (Finset.sum_congr rfl fun r _ => ?_)
  rw [blk_n, blk_d, V_n, V_d]
  have h1 : (t.val * 1024 + r.val) % 16384 = t.val * 1024 + r.val := by omega
  unfold term
  simp only [h1]

/-- What the scratch holds after a grid point. -/
theorem scratch (p q : Fin 1024) (j k : ℕ) (hk : k < 16) (h : 16 * j + k < cfg0.N) :
    (outsAt0 m c (16 * j + k) h).2 (ix2 p q) = ∑ l ∈ Finset.range (k + 1), part m c p q (16 * j + l) := by
  refine run_sum (fun n h => (outsAt0 m c n h).2 (ix2 p q)) (part m c p q) (fun n h h0 => ?_) (fun n h h' h0 => ?_) j k hk h
  · rw [outsAt0_A m c ⟨n, h⟩ h0 (by dsimp only; omega)]
    dsimp only
    rw [first, add_eq, zero_at, zero_add]
  · by_cases h1 : (n + 1) % 16 = 15
    · rw [outsAt0_C m c ⟨n + 1, h'⟩ h0 h1]
      dsimp only
      rw [last, add_eq]
      rfl
    · rw [outsAt0_B m c ⟨n + 1, h'⟩ h0 h1]
      dsimp only
      rw [next, add_eq]
      rfl

/-- What the last point leaves in the output's block. -/
theorem block (t : Fin cfg0.N) (ht : t.val % 16 = 15) (p q : Fin 1024) :
    (outsAt0 m c t.val t.isLt).1 (ix2 p q) = ∑ i : Fin 16384, term m c p q i.val := by
  have e : (outsAt0 m c t.val t.isLt).1 (ix2 p q) = (outsAt0 m c t.val t.isLt).2 (ix2 p q) := by
    rw [outsAt0_C m c t (by omega) ht]
    dsimp only
    rw [flush, last, out_at]
  have e2 : ∀ n h, n = t.val → (outsAt0 m c n h).2 (ix2 p q) = (outsAt0 m c t.val t.isLt).2 (ix2 p q) := by
    intro n h hn; subst hn; rfl
  have hl := lt16 t
  have hd : t.val = 16 * 0 + 15 := by omega
  rw [e, ← e2 (16 * 0 + 15) (by rw [← hd]; exact t.isLt) hd.symm, scratch m c p q _ 15 (by omega),
    Fin.sum_univ_tiles 16 1024 (by norm_num) fun i => term m c p q i.val, Finset.sum_range]
  refine Finset.sum_congr rfl fun j _ => ?_
  unfold part
  rw [show 16 * 0 + j.val = j.val by omega]

/-- The reference's result: the transposed product of the gradient with the rows. -/
def ref (n d : FVec Ideal Cert.Reference10Ideal.S16384x1024 .f32) : FVec Ideal Cert.Reference10Ideal.S1024x1024 .f32 :=
  transpose Cert.Reference10Ideal.S1024x1024 [1, 0]
    (Host.dotGeneral Cert.Reference10Ideal.dot_S16384x1024_S16384x1024_S1024x1024_0_0_1_1_n_n none d n)
    Cert.Reference10Ideal.Gen.transposes_S1024x1024_S1024x1024_1_0

theorem ref_at (n d : FVec Ideal Cert.Reference10Ideal.S16384x1024 .f32) (p q : Fin 1024) : ref n d (ix2 p q)
    = ∑ i : Fin 16384, d (ix2 i q) * n (ix2 i p) := by
  unfold ref
  pointwise

theorem out2 : (dats m 0 c).arrAt 2 cfg0.N = ref (aN m c) (aD m c) := by
  refine (dats m 0 c).arrAt_eq_of_covers 2 _ (by decide +kernel) fun t hf y => ?_
  obtain ⟨p, q, rfl⟩ : ∃ (p q : Fin 1024), y = ix2 p q := ⟨y 0, y 1, eq_ix2 y⟩
  have e : ∀ X : FVec Ideal S1024x1024 .f32, ((cfg0.win 2).blk t).view.read (Elt Ideal) X (ix2 p q) = X (ix2 p q) := fun X => by
    blk_point [idx t]
  refine Eq.trans ?_ ((e (ref (aN m c) (aD m c))).trans (ref_at _ _ _ _)).symm
  refine (congrFun (after0_2 m c t) _).trans ?_
  refine (block m c t ((flush0_2 t).mp hf) p q).trans (Finset.sum_congr (M := EReal) rfl fun i _ => ?_)
  have h1 : i.val % 16384 = i.val := by omega
  unfold term
  simp only [h1]
  exact mul_comm _ _

end Cert.Proj.OutDw

end
-- ==== Proof.Proj.Claim10.lean ====
/- The claims of program 10: its runs end with the semaphores at zero and the arguments kept, and the call returns the
   reference's gradient of the output projection's weight. -/
module

public import proofs.«01_k».proof.Defs
public import proofs.«01_k».proof.Proof.Proj.OutDw
public import proofs.«01_k».proof.Proof.Gen.Kernel10.Frame
public import proofs.«01_k».proof.Proof.Gen.Kernel10Ideal.Value
public import proofs.«01_k».proof.Proof.Gen.Reference10Ideal.Run
public import Idealize.ShloMosaic.Lib.Quiescent

@[expose] public section

noncomputable section

namespace Cert.Proj

open Idealize.ShloMosaic Idealize.ShloMosaic.TcCoe Idealize.SL.Sem

theorem quiet10 : Cert.quiescent_Kernel10 (hKernel10 := Cert.Kernel10.Gen.facts) := fun m ρ _ => Cert.Kernel10.Gen.frame m ρ

theorem quiet10Ideal : Cert.quiescent_Kernel10Ideal (hKernel10Ideal := Cert.Kernel10Ideal.Gen.facts) := fun m ρ _ => Cert.Kernel10Ideal.Gen.frame m ρ

theorem quietRef10 : Cert.quiescent_Reference10Ideal (hReference10Ideal := Cert.Reference10Ideal.Gen.facts) := fun m ρ _ =>
  (θ_run Cert.Reference10Ideal.defs _ _).mono
    (fun r h => ⟨fun c => (h c).2, Idealize.ShloMosaic.sem_eq_zero_of_no_sems (by decide) r.2⟩) (Cert.Reference10Ideal.Value.run m ρ)

theorem keeps10 : Cert.preserves_Kernel10_Kernel10Ideal := trivial

set_option maxRecDepth 8192 in
theorem equal10 : Cert.algebraic_Kernel10Ideal_Reference10Ideal (hKernel10Ideal := Cert.Kernel10Ideal.Gen.facts)
    (hReference10Ideal := Cert.Reference10Ideal.Gen.facts) := by
  intro m g m' g' hpre heq
  refine ⟨fun c => (Cert.Kernel10Ideal.Gen.dats m 0 c).arrAt 2 Cert.Kernel10Ideal.cfg0.N, Cert.Kernel10Ideal.Value.run_blocks m g, ?_⟩
  refine (θ_run Cert.Reference10Ideal.defs _ _).mono (fun r h c => ⟨(h c).1.trans ?_, (h c).2⟩) (Cert.Reference10Ideal.Value.run m' g')
  obtain ⟨e0, e1, e2⟩ := heq c
  refine Eq.trans (b := OutDw.ref (m' ((c.tc : Thread _ _).loc Cert.Reference10Ideal.main_arg0)) (m' ((c.tc : Thread _ _).loc Cert.Reference10Ideal.main_arg2))) rfl ?_
  rw [e0, e2]
  exact (OutDw.out2 m c).symm

end Cert.Proj

end
-- ==== Proof.Proj.OutDxStep.lean ====
/- What a grid point of the call that computes the gradient of the output projection's rows leaves in its output block. -/
module

public import proofs.«01_k».proof.Proof.Gen.Kernel11Ideal.Value
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Proj.OutDx

open Idealize.ShloMosaic Idealize.ShloMosaic.TcCoe Idealize.SL.Sem Cert.Kernel11Ideal Cert.Kernel11Ideal.Gen

theorem hz : (![0, 0] : Fin 2 → Nat) = fun _ => 0 := funext fun a => by fin_cases a <;> rfl

section
variable (c : Dev nD) (i : grid0.Coords) (a3 : Memref sig .tc .vmem S1024x1024 .f32) (h3 : a3.IsWhole)
  (a4 : Memref sig .tc .vmem S1024x1024 .bf16) (h4 : a4.IsWhole) (a5 : Memref sig .tc .vmem S1024x1024 .bf16) (h5 : a5.IsWhole)
  (a6 : Memref sig .tc .vmem S1024x1024 .f32) (h6 : a6.IsWhole) (x : Vec Ideal S1024x1024 .f32) (y : Vec Ideal S1024x1024 .bf16)

theorem flush (hc0 : cond0_0 i) (hc1 : cond0_1 i) : out0_A_2 c i a3 h3 a4 h4 a5 h5 a6 h6 hc0 hc1 x y = k0_pay3 (k0_pay2 x (k0_pay1 (F := Ideal)) y) := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero (S := S1024x1024) hz]
  simp only [View.readCov_unit_zero (S := S1024x1024) _ hz, View.readCov_cons_toLoadRect, View.readAt_eq_ld, h3.read_unread, h4.read_unread,
    View.ld_unit_zero (S := S1024x1024) hz, shapeCast_self]

end

theorem block_at (x : Vec Ideal S1024x1024 .f32) (y : Vec Ideal S1024x1024 .bf16) (p q : Fin 1024) :
    (k0_pay3 (F := Ideal) (k0_pay2 x (k0_pay1 (F := Ideal)) y)) (ix2 p q) = ∑ k : Fin 1024, x (ix2 p k) * y (ix2 q k) := by
  pointwise [k0_pay3, k0_pay2, k0_pay1]

end Cert.Proj.OutDx

end
-- ==== Proof.Proj.OutDx.lean ====
/- The call that computes the gradient of the output projection's rows returns the gradient times the transposed weight. -/
module

public import proofs.«01_k».proof.Proof.Proj.OutDxStep
public import proofs.«01_k».proof.Proof.Gen.Reference11Ideal.Run
public import Idealize.ShloMosaic.Lib.Claim
public import Idealize.ShloMosaic.Lib.StableHlo.RunRead

@[expose] public section

noncomputable section

namespace Cert.Proj.OutDx

open Idealize.ShloMosaic Idealize.ShloMosaic.TcCoe Idealize.SL.Sem Cert.Kernel11Ideal Cert.Kernel11Ideal.Gen

variable (m : (ℓ : Loc nD τ sig) → Buf (Elt Ideal) ℓ) (c : Dev nD)

abbrev aW : FVec Ideal S1024x1024 .f32 := m ((c.tc : Thread nD τ).loc main_arg1)
abbrev aD : FVec Ideal S16384x1024 .f32 := m ((c.tc : Thread nD τ).loc main_arg2)

theorem V_w : (V m c main_v0 : FVec Ideal S1024x1024 .bf16) = aW m c := by
  entry_read
  rfl

theorem V_d : (V m c main_arg2 : FVec Ideal S16384x1024 .f32) = aD m c := by
  entry_read
  rfl

/-- The block indices of a grid point. -/
theorem idx : ∀ t : Fin cfg0.N,
    win0_0.index t = ![t.val, 0] ∧ win0_1.index t = ![0, 0] ∧ win0_2.index t = ![t.val, 0] :=
  (by decide +kernel : ∀ t : Fin grid0.N, _)

theorem lt16 (t : Fin cfg0.N) : t.val < 16 := lt_of_lt_of_eq t.isLt N_0

theorem blk_d (t : Fin cfg0.N) (p k : Fin 1024) :
    iblk m c 0 t (ix2 p k) = (V m c main_arg2 : FVec Ideal S16384x1024 .f32) (ix2 ⟨t.val * 1024 + p.val, by have := lt16 t; omega⟩ k) := by
  blk_point [iblk, idx t]

theorem blk_w (t : Fin cfg0.N) (q k : Fin 1024) :
    iblk m c 1 t (ix2 q k) = (V m c main_v0 : FVec Ideal S1024x1024 .bf16) (ix2 q k) := by
  blk_point [iblk, idx t]

/-- The reference's result: the gradient times the transposed weight. -/
def ref (w : FVec Ideal Cert.Reference11Ideal.S1024x1024 .f32) (d : FVec Ideal Cert.Reference11Ideal.S16384x1024 .f32) :
    FVec Ideal Cert.Reference11Ideal.S16384x1024 .bf16 :=
  truncf .bf16 (Host.dotGeneral Cert.Reference11Ideal.dot_S16384x1024_S1024x1024_S16384x1024_1_1_0_0_n_n none d w)
    Cert.Reference11Ideal.Gen.bitsLt_bf16_f32

theorem ref_at (w : FVec Ideal Cert.Reference11Ideal.S1024x1024 .f32) (d : FVec Ideal Cert.Reference11Ideal.S16384x1024 .f32)
    (i : Fin 16384) (q : Fin 1024) : ref w d (ix2 i q) = ∑ k : Fin 1024, d (ix2 i k) * w (ix2 q k) := by
  unfold ref
  pointwise

theorem out2 : (dats m 0 c).arrAt 2 cfg0.N = ref (aW m c) (aD m c) := by
  refine (dats m 0 c).arrAt_eq_of_covers 2 _ (by decide +kernel) fun t hf y => ?_
  have hl := lt16 t
  obtain ⟨p, q, rfl⟩ : ∃ (p q : Fin 1024), y = ix2 p q := ⟨y 0, y 1, eq_ix2 y⟩
  have e : ∀ X : FVec Ideal S16384x1024 .bf16, ((cfg0.win 2).blk t).view.read (Elt Ideal) X (ix2 p q)
      = X (ix2 ⟨t.val * 1024 + p.val, by omega⟩ q) := fun X => by
    blk_point [idx t]
  refine Eq.trans ?_ ((e (ref (aW m c) (aD m c))).trans (ref_at _ _ _ _)).symm
  refine (congrFun (after0_2 m c t) _).trans ?_
  have e3 : outsAt0 m c t (ix2 p q) = ∑ k : Fin 1024, aD m c (ix2 ⟨t.val * 1024 + p.val, by omega⟩ k) * aW m c (ix2 q k) := by
    unfold outsAt0
    rw [flush, block_at]
    refine Finset.sum_congr rfl fun k _ => ?_
    rw [blk_d, blk_w, V_d, V_w]
  exact e3

end Cert.Proj.OutDx

end
-- ==== Proof.Proj.Claim11.lean ====
/- The claims of program 11: its runs end with the semaphores at zero and the arguments kept, and the call returns the
   reference's gradient of the output projection's rows. -/
module

public import proofs.«01_k».proof.Defs
public import proofs.«01_k».proof.Proof.Proj.OutDx
public import proofs.«01_k».proof.Proof.Gen.Kernel11.Frame
public import proofs.«01_k».proof.Proof.Gen.Kernel11Ideal.Value
public import proofs.«01_k».proof.Proof.Gen.Reference11Ideal.Run
public import Idealize.ShloMosaic.Lib.Quiescent

@[expose] public section

noncomputable section

namespace Cert.Proj

open Idealize.ShloMosaic Idealize.ShloMosaic.TcCoe Idealize.SL.Sem

theorem quiet11 : Cert.quiescent_Kernel11 (hKernel11 := Cert.Kernel11.Gen.facts) := fun m ρ _ => Cert.Kernel11.Gen.frame m ρ

theorem quiet11Ideal : Cert.quiescent_Kernel11Ideal (hKernel11Ideal := Cert.Kernel11Ideal.Gen.facts) := fun m ρ _ => Cert.Kernel11Ideal.Gen.frame m ρ

theorem quietRef11 : Cert.quiescent_Reference11Ideal (hReference11Ideal := Cert.Reference11Ideal.Gen.facts) := fun m ρ _ =>
  (θ_run Cert.Reference11Ideal.defs _ _).mono
    (fun r h => ⟨fun c => (h c).2, Idealize.ShloMosaic.sem_eq_zero_of_no_sems (by decide) r.2⟩) (Cert.Reference11Ideal.Value.run m ρ)

theorem keeps11 : Cert.preserves_Kernel11_Kernel11Ideal := trivial

set_option maxRecDepth 8192 in
theorem equal11 : Cert.algebraic_Kernel11Ideal_Reference11Ideal (hKernel11Ideal := Cert.Kernel11Ideal.Gen.facts)
    (hReference11Ideal := Cert.Reference11Ideal.Gen.facts) := by
  intro m g m' g' hpre heq
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ⟨(h c).1.trans ?_, (h c).2⟩) (Cert.Reference11Ideal.Value.run m' g')
  obtain ⟨e0, e1, e2⟩ := heq c
  refine Eq.trans (b := OutDx.ref (m' ((c.tc : Thread _ _).loc Cert.Reference11Ideal.main_arg1)) (m' ((c.tc : Thread _ _).loc Cert.Reference11Ideal.main_arg2))) rfl ?_
  rw [e1, e2]
  exact (OutDx.out2 m c).symm

end Cert.Proj

end
-- ==== Proof.Proj.OutStep.lean ====
/- What a grid point of the output projection's call leaves in its output block. -/
module

public import proofs.«01_k».proof.Proof.Gen.Kernel12Ideal.Value
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Proj.Out

open Idealize.ShloMosaic Idealize.ShloMosaic.TcCoe Idealize.SL.Sem Cert.Kernel12Ideal Cert.Kernel12Ideal.Gen

theorem hz : (![0, 0] : Fin 2 → Nat) = fun _ => 0 := funext fun a => by fin_cases a <;> rfl

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x y : Vec Ideal S1024x1024 .bf16) (z : Vec Ideal S1024x1024 .f32)

theorem flush (hc0 : cond0_0 i) (hc1 : cond0_1 i) :
    out0_A_3 c i a3 h3 a4 h4 a5 h5 a6 h6 a7 h7 hc0 hc1 x y z = k0_pay3 (k0_pay2 x (k0_pay1 (F := Ideal)) y) z := by
  unfold out0_A_3
  rw [View.read_writes_eq_canon _ _ _ (cover0_A_3 c i a3 h3 a4 h4 a5 h5 a6 h6 a7 h7 hc0 hc1 x y z)]
  unfold kernelRun0_A
  dsimp only
  sl_unfold_words
  rw [View.canon_unit_zero (S := S1024x1024) hz]
  simp only [View.readCov_unit_zero (S := S1024x1024) _ hz, View.readCov_cons_toLoadRect, View.readAt_eq_ld, h3.read_unread, h4.read_unread,
    h5.read_unread, View.ld_unit_zero (S := S1024x1024) hz, shapeCast_self]

end

theorem block_at (x y : Vec Ideal S1024x1024 .bf16) (z : Vec Ideal S1024x1024 .f32) (p q : Fin 1024) :
    (k0_pay3 (F := Ideal) (k0_pay2 x (k0_pay1 (F := Ideal)) y) z) (ix2 p q) = (∑ k : Fin 1024, x (ix2 p k) * y (ix2 k q)) + z (ix2 p q) := by
  pointwise [k0_pay3, k0_pay2, k0_pay1]

end Cert.Proj.Out

end
-- ==== Proof.Proj.Out.lean ====
/- The output projection's call returns the residual rows plus the rows times the weight. -/
module

public import proofs.«01_k».proof.Proof.Proj.OutStep
public import proofs.«01_k».proof.Proof.Gen.Reference12Ideal.Run
public import Idealize.ShloMosaic.Lib.Claim
public import Idealize.ShloMosaic.Lib.StableHlo.RunRead

@[expose] public section

noncomputable section

namespace Cert.Proj.Out

open Idealize.ShloMosaic Idealize.ShloMosaic.TcCoe Idealize.SL.Sem Cert.Kernel12Ideal Cert.Kernel12Ideal.Gen

variable (m : (ℓ : Loc nD τ sig) → Buf (Elt Ideal) ℓ) (c : Dev nD)

abbrev aN : FVec Ideal S16384x1024 .f32 := m ((c.tc : Thread nD τ).loc main_arg0)
abbrev aW : FVec Ideal S1024x1024 .f32 := m ((c.tc : Thread nD τ).loc main_arg1)
abbrev aX : FVec Ideal S16384x1024 .f32 := m ((c.tc : Thread nD τ).loc main_arg2)

theorem V_n : (V m c main_v0 : FVec Ideal S16384x1024 .bf16) = aN m c := by
  entry_read
  rfl

theorem V_w : (V m c main_v1 : FVec Ideal S1024x1024 .bf16) = aW m c := by
  entry_read
  rfl

theorem V_x : (V m c main_arg2 : FVec Ideal S16384x1024 .f32) = aX m c := by
  entry_read
  rfl

/-- The block indices of a grid point. -/
theorem idx : ∀ t : Fin cfg0.N,
    win0_0.index t = ![t.val, 0] ∧ win0_1.index t = ![0, 0] ∧ win0_2.index t = ![t.val, 0] ∧ win0_3.index t = ![t.val, 0] :=
  (by decide +kernel : ∀ t : Fin grid0.N, _)

theorem lt16 (t : Fin cfg0.N) : t.val < 16 := lt_of_lt_of_eq t.isLt N_0

theorem blk_n (t : Fin cfg0.N) (p k : Fin 1024) :
    iblk m c 0 t (ix2 p k) = (V m c main_v0 : FVec Ideal S16384x1024 .bf16) (ix2 ⟨t.val * 1024 + p.val, by have := lt16 t; omega⟩ k) := by
  blk_point [iblk, idx t]

theorem blk_w (t : Fin cfg0.N) (k q : Fin 1024) :
    iblk m c 1 t (ix2 k q) = (V m c main_v1 : FVec Ideal S1024x1024 .bf16) (ix2 k q) := by
  blk_point [iblk, idx t]

theorem blk_x (t : Fin cfg0.N) (p q : Fin 1024) :
    iblk m c 2 t (ix2 p q) = (V m c main_arg2 : FVec Ideal S16384x1024 .f32) (ix2 ⟨t.val * 1024 + p.val, by have := lt16 t; omega⟩ q) := by
  blk_point [iblk, idx t]

/-- The reference's result: the residual rows plus the product. -/
def ref (n : FVec Ideal Cert.Reference12Ideal.S16384x1024 .f32) (w : FVec Ideal Cert.Reference12Ideal.S1024x1024 .f32)
    (x : FVec Ideal Cert.Reference12Ideal.S16384x1024 .f32) : FVec Ideal Cert.Reference12Ideal.S16384x1024 .f32 :=
  addf x (Host.dotGeneral Cert.Reference12Ideal.dot_S16384x1024_S1024x1024_S16384x1024_1_0_0_1_n_n none n w)

theorem ref_at (n : FVec Ideal Cert.Reference12Ideal.S16384x1024 .f32) (w : FVec Ideal Cert.Reference12Ideal.S1024x1024 .f32)
    (x : FVec Ideal Cert.Reference12Ideal.S16384x1024 .f32) (i : Fin 16384) (q : Fin 1024) :
    ref n w x (ix2 i q) = x (ix2 i q) + ∑ k : Fin 1024, n (ix2 i k) * w (ix2 k q) := by
  unfold ref
  pointwise

theorem out3 : (dats m 0 c).arrAt 3 cfg0.N = ref (aN m c) (aW m c) (aX m c) := by
  refine (dats m 0 c).arrAt_eq_of_covers 3 _ (by decide +kernel) fun t hf y => ?_
  have hl := lt16 t
  obtain ⟨p, q, rfl⟩ : ∃ (p q : Fin 1024), y = ix2 p q := ⟨y 0, y 1, eq_ix2 y⟩
  have e : ∀ X : FVec Ideal S16384x1024 .f32, ((cfg0.win 3).blk t).view.read (Elt Ideal) X (ix2 p q)
      = X (ix2 ⟨t.val * 1024 + p.val, by omega⟩ q) := fun X => by
    blk_point [idx t]
  refine Eq.trans ?_ ((e (ref (aN m c) (aW m c) (aX m c))).trans (ref_at _ _ _ _ _)).symm
  refine (congrFun (after0_3 m c t) _).trans ?_
  have e3 : outsAt0 m c t (ix2 p q) = (∑ k : Fin 1024, aN m c (ix2 ⟨t.val * 1024 + p.val, by omega⟩ k) * aW m c (ix2 k q))
      + aX m c (ix2 ⟨t.val * 1024 + p.val, by omega⟩ q) := by
    unfold outsAt0
    rw [flush, block_at, blk_x, V_x]
    refine congrArg (· + _) (Finset.sum_congr rfl fun k _ => ?_)
    rw [blk_n, blk_w, V_n, V_w]
  exact e3.trans (add_comm _ _)

end Cert.Proj.Out

end
-- ==== Proof.Proj.Claim12.lean ====
/- The claims of program 12: its runs end with the semaphores at zero and the arguments kept, and the call returns the
   reference's projected rows added to the residual. -/
module

public import proofs.«01_k».proof.Defs
public import proofs.«01_k».proof.Proof.Proj.Out
public import proofs.«01_k».proof.Proof.Gen.Kernel12.Frame
public import proofs.«01_k».proof.Proof.Gen.Kernel12Ideal.Value
public import proofs.«01_k».proof.Proof.Gen.Reference12Ideal.Run
public import Idealize.ShloMosaic.Lib.Quiescent

@[expose] public section

noncomputable section

namespace Cert.Proj

open Idealize.ShloMosaic Idealize.ShloMosaic.TcCoe Idealize.SL.Sem

theorem quiet12 : Cert.quiescent_Kernel12 (hKernel12 := Cert.Kernel12.Gen.facts) := fun m ρ _ => Cert.Kernel12.Gen.frame m ρ

theorem quiet12Ideal : Cert.quiescent_Kernel12Ideal (hKernel12Ideal := Cert.Kernel12Ideal.Gen.facts) := fun m ρ _ => Cert.Kernel12Ideal.Gen.frame m ρ

theorem quietRef12 : Cert.quiescent_Reference12Ideal (hReference12Ideal := Cert.Reference12Ideal.Gen.facts) := fun m ρ _ =>
  (θ_run Cert.Reference12Ideal.defs _ _).mono
    (fun r h => ⟨fun c => (h c).2, Idealize.ShloMosaic.sem_eq_zero_of_no_sems (by decide) r.2⟩) (Cert.Reference12Ideal.Value.run m ρ)

theorem keeps12 : Cert.preserves_Kernel12_Kernel12Ideal := trivial

set_option maxRecDepth 8192 in
theorem equal12 : Cert.algebraic_Kernel12Ideal_Reference12Ideal (hKernel12Ideal := Cert.Kernel12Ideal.Gen.facts)
    (hReference12Ideal := Cert.Reference12Ideal.Gen.facts) := by
  intro m g m' g' hpre heq
  refine ⟨fun c => (Cert.Kernel12Ideal.Gen.dats m 0 c).arrAt 3 Cert.Kernel12Ideal.cfg0.N, Cert.Kernel12Ideal.Value.run_blocks m g, ?_⟩
  refine (θ_run Cert.Reference12Ideal.defs _ _).mono (fun r h c => ⟨(h c).1.trans ?_, (h c).2⟩) (Cert.Reference12Ideal.Value.run m' g')
  obtain ⟨e0, e1, e2⟩ := heq c
  refine Eq.trans (b := Out.ref (m' ((c.tc : Thread _ _).loc Cert.Reference12Ideal.main_arg0)) (m' ((c.tc : Thread _ _).loc Cert.Reference12Ideal.main_arg1)) (m' ((c.tc : Thread _ _).loc Cert.Reference12Ideal.main_arg2))) rfl ?_
  rw [e0, e1, e2]
  exact (Out.out3 m c).symm

end Cert.Proj

end
-- ==== Proof.Proj.InDwStep.lean ====
/- What a grid point of the call that computes the gradient of the input projection's weight leaves in its scratch and in
   its output block. -/
module

public import proofs.«01_k».proof.Proof.Gen.Kernel13Ideal.Value
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Proj.InDw

open Idealize.ShloMosaic Idealize.ShloMosaic.TcCoe Idealize.SL.Sem Cert.Kernel13Ideal Cert.Kernel13Ideal.Gen

theorem hz : (![0, 0] : Fin 2 → Nat) = fun _ => 0 := funext fun a => by fin_cases a <;> rfl

section
variable (c : Dev nD) (i : grid0.Coords) (a3 : Memref sig .tc .vmem S1024x1024 .bf16) (h3 : a3.IsWhole)
  (a4 : Memref sig .tc .vmem S1024x1152 .bf16) (h4 : a4.IsWhole) (a5 : Memref sig .tc .vmem S1024x1152 .f32) (h5 : a5.IsWhole)
  (a6 : Memref sig .tc .vmem S1024x1152 .f32) (h6 : a6.IsWhole) (x : Vec Ideal S1024x1024 .bf16) (y : Vec Ideal S1024x1152 .bf16)
  (s : Vec Ideal S1024x1152 .f32)

theorem first (hc0 : cond0_0 i) (hc1 : ¬cond0_1 i) : sout0_A_0 c i a3 h3 a4 h4 a5 h5 a6 h6 hc0 hc1 x y = k0_pay2 x (k0_pay1 (F := Ideal)) y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1152) hz, View.readCov_unit_zero (S := S1024x1152) _ hz]
  simp only [View.readAt_eq_ld, h3.read_unread, h4.read_unread, View.ld_unit_zero (S := S1024x1024) hz,
    View.ld_unit_zero (S := S1024x1152) hz, shapeCast_self]

theorem next (hc0 : ¬cond0_0 i) (hc1 : ¬cond0_1 i) : sout0_B_0 c i a3 h3 a4 h4 a5 h5 a6 h6 hc0 hc1 x y s = k0_pay2 x s y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S1024x1152) hz]
  simp only [View.readAt_eq_ld, h3.read_unread, h4.read_unread, h6.read_unread, View.ld_unit_zero (S := S1024x1024) hz,
    View.ld_unit_zero (S := S1024x1152) hz, shapeCast_self]

theorem last (hc0 : ¬cond0_0 i) (hc1 : cond0_1 i) : sout0_C_0 c i a3 h3 a4 h4 a5 h5 a6 h6 hc0 hc1 x y s = k0_pay2 x s y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x1152) hz]
  simp only [View.readAt_eq_ld, h3.read_unread, h4.read_unread, h6.read_unread, View.ld_unit_zero (S := S1024x1024) hz,
    View.ld_unit_zero (S := S1024x1152) hz, shapeCast_self]

theorem flush (hc0 : ¬cond0_0 i) (hc1 : cond0_1 i) : out0_C_2 c i a3 h3 a4 h4 a5 h5 a6 h6 hc0 hc1 x y s = k0_pay3 (k0_pay2 x s y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x1152) hz, View.readCov_unit_zero (S := S1024x1152) _ hz]
  simp only [View.readAt_eq_ld, h3.read_unread, h4.read_unread, h6.read_unread, View.ld_unit_zero (S := S1024x1024) hz,
    View.ld_unit_zero (S := S1024x1152) hz, shapeCast_self]

end

theorem zero_at (p : Fin 1024) (q : Fin 1152) : (k0_pay1 (F := Ideal)) (ix2 p q) = 0 := by
  pointwise [k0_pay1]

theorem add_at (x : Vec Ideal S1024x1024 .bf16) (s : Vec Ideal S1024x1152 .f32) (y : Vec Ideal S1024x1152 .bf16) (p : Fin 1024) (q : Fin 1152) :
    (k0_pay2 (F := Ideal) x s y) (ix2 p q) = s (ix2 p q) + ∑ r : Fin 1024, x (ix2 r p) * y (ix2 r q) := by
  pointwise [k0_pay2]

theorem out_at (s : Vec Ideal S1024x1152 .f32) (p : Fin 1024) (q : Fin 1152) : (k0_pay3 (F := Ideal) s) (ix2 p q) = s (ix2 p q) := by
  pointwise [k0_pay3]

end Cert.Proj.InDw

end
-- ==== Proof.Proj.Layout.lean ====
/- How the input projection's 3340 columns are laid out in the 3456 that its calls run over: the 12 columns before the last
   256 go behind them, and zeros fill the rest. -/
module

public import proofs.«01_k».proof.Proof.Gen.Kernel14Ideal
public import proofs.«01_k».proof.Proof.Gen.Reference13Ideal
public import proofs.«01_k».proof.Proof.Gen.Reference15Ideal
public import Idealize.ShloMosaic.PureOps.Ideal
public import Idealize.ShloMosaic.Lib.Pointwise
public import Idealize.ShloMosaic.Lib.ValueIdx
public import Idealize.ShloMosaic.Lib.IdealHost
public import Idealize.ShloMosaic.PureOps.Ideal.Laws
public import Mathlib.Algebra.BigOperators.Fin

@[expose] public section

noncomputable section

namespace Cert.Proj

open Idealize.ShloMosaic Idealize.ShloMosaic.TcCoe Cert.Kernel14Ideal Cert.Kernel14Ideal.Gen
open scoped BigOperators

/-- Column `q` of the layout, out of the columns `f`. -/
def spread (f : ℕ → EReal) (q : ℕ) : EReal :=
  if q < 3072 then f q else if q < 3328 then f (q + 12) else if q < 3340 then f (q - 256) else 0

/-- The padding's value. -/
abbrev nil : FVec Ideal S_ .f32 := sitofp .f32 (constantI S_ 32 0#32)

/-- The weight and the gradient as the kernel's host lays them out. -/
def extW (w : FVec Ideal S1024x3340 .f32) : FVec Ideal S1024x3456 .f32 :=
  concatenate S1024x3456 1
    [⟨S1024x3072, extractStridedSlice S1024x3072 ![0, 0] w slices_S1024x3340_S1024x3072_0_0⟩,
      ⟨S1024x256, extractStridedSlice S1024x256 ![0, 3084] w slices_S1024x3340_S1024x256_0_3084⟩,
      ⟨S1024x128, pad S1024x128 ![0, 0] ![0, 116] ![0, 0] (extractStridedSlice S1024x12 ![0, 3072] w slices_S1024x3340_S1024x12_0_3072) nil
        pads_S1024x12_S1024x128_000_01160 h_S_⟩] concatenates_S1024x3072_S1024x256_S1024x128_S1024x3456_d1

def extD (d : FVec Ideal S16384x3340 .f32) : FVec Ideal S16384x3456 .f32 :=
  concatenate S16384x3456 1
    [⟨S16384x3072, extractStridedSlice S16384x3072 ![0, 0] d slices_S16384x3340_S16384x3072_0_0⟩,
      ⟨S16384x256, extractStridedSlice S16384x256 ![0, 3084] d slices_S16384x3340_S16384x256_0_3084⟩,
      ⟨S16384x128, pad S16384x128 ![0, 0] ![0, 116] ![0, 0] (extractStridedSlice S16384x12 ![0, 3072] d slices_S16384x3340_S16384x12_0_3072) nil
        pads_S16384x12_S16384x128_000_01160 h_S_⟩] concatenates_S16384x3072_S16384x256_S16384x128_S16384x3456_d1

/-- The same two arrays' layout as the reference writes it. -/
def ordW (w : FVec Ideal S1024x3340 .f32) : FVec Ideal S1024x3456 .f32 :=
  concatenate S1024x3456 1
    [⟨S1024x3072, extractStridedSlice S1024x3072 ![0, 0] w slices_S1024x3340_S1024x3072_0_0⟩,
      ⟨S1024x256, extractStridedSlice S1024x256 ![0, 3084] w slices_S1024x3340_S1024x256_0_3084⟩,
      ⟨S1024x12, extractStridedSlice S1024x12 ![0, 3072] w slices_S1024x3340_S1024x12_0_3072⟩,
      ⟨Cert.Reference13Ideal.S1024x116, broadcastInDim Cert.Reference13Ideal.S1024x116 ![] Cert.Reference13Ideal.Gen.bcast_S_S1024x116 (constant S_ .f32 0x00000000#32)⟩]
    Cert.Reference13Ideal.Gen.concatenates_S1024x3072_S1024x256_S1024x12_S1024x116_S1024x3456_d1

def ordD (d : FVec Ideal S16384x3340 .f32) : FVec Ideal S16384x3456 .f32 :=
  concatenate S16384x3456 1
    [⟨S16384x3072, extractStridedSlice S16384x3072 ![0, 0] d slices_S16384x3340_S16384x3072_0_0⟩,
      ⟨S16384x256, extractStridedSlice S16384x256 ![0, 3084] d slices_S16384x3340_S16384x256_0_3084⟩,
      ⟨S16384x12, extractStridedSlice S16384x12 ![0, 3072] d slices_S16384x3340_S16384x12_0_3072⟩,
      ⟨Cert.Reference15Ideal.S16384x116, broadcastInDim Cert.Reference15Ideal.S16384x116 ![] Cert.Reference15Ideal.Gen.bcast_S_S16384x116 (constant S_ .f32 0x00000000#32)⟩]
    Cert.Reference15Ideal.Gen.concatenates_S16384x3072_S16384x256_S16384x12_S16384x116_S16384x3456_d1

/-- A column of an array of 3340. -/
abbrev col {n : ℕ} (w : FVec Ideal (⟨2, ![n, 3340]⟩ : Shape) .f32) (p : Fin n) (j : ℕ) : EReal := w (ix2 p ⟨j % 3340, by omega⟩)

/-- A column of the layout, chosen piece by piece with what fills the rest. -/
theorem spread_eq {n : ℕ} (w : FVec Ideal (⟨2, ![n, 3340]⟩ : Shape) .f32) (p : Fin n) (q : Fin 3456) (z : EReal) (hz : z = 0) :
    (if h : q.val < 3072 then (w (ix2 p ⟨q.val, by omega⟩) : EReal)
      else if h1 : q.val - 3072 < 256 then w (ix2 p ⟨3084 + (q.val - 3072), by omega⟩)
      else if h2 : q.val - 3072 - 256 < 12 then w (ix2 p ⟨3072 + (q.val - 3072 - 256), by omega⟩) else z) = spread (col w p) q.val := by
  have key : ∀ (a : Fin 3340) (b : ℕ), a.val = b → (w (ix2 p a) : EReal) = col w p b := fun a b h => by
    subst h
    exact congrArg (fun k => (w (ix2 p k) : EReal)) (Fin.ext (Nat.mod_eq_of_lt a.isLt).symm)
  unfold spread
  by_cases h : q.val < 3072
  · rw [dif_pos h, if_pos h]
    exact key _ _ rfl
  rw [dif_neg h, if_neg h]
  by_cases h1 : q.val - 3072 < 256
  · rw [dif_pos h1, if_pos (by omega)]
    exact key _ _ (by dsimp only; omega)
  rw [dif_neg h1, if_neg (by omega)]
  by_cases h2 : q.val - 3072 - 256 < 12
  · rw [dif_pos h2, if_pos (by omega)]
    exact key _ _ (by dsimp only; omega)
  rw [dif_neg h2, if_neg (by omega)]
  exact hz

theorem nil_eq : (FloatOps.sitofp FTy.f32 0#32 : Ideal .f32) = (0 : EReal) := by
  simp [FloatOps.sitofp]

theorem extW_at (w : FVec Ideal S1024x3340 .f32) (p : Fin 1024) (q : Fin 3456) : extW w (ix2 p q) = spread (col (n := 1024) w p) q.val := by
  unfold extW
  pointwise
  exact spread_eq (n := 1024) w p q _ nil_eq

theorem extD_at (d : FVec Ideal S16384x3340 .f32) (p : Fin 16384) (q : Fin 3456) : extD d (ix2 p q) = spread (col (n := 16384) d p) q.val := by
  unfold extD
  pointwise
  exact spread_eq (n := 16384) d p q _ nil_eq

theorem ordW_at (w : FVec Ideal S1024x3340 .f32) (p : Fin 1024) (q : Fin 3456) : ordW w (ix2 p q) = spread (col (n := 1024) w p) q.val := by
  unfold ordW
  pointwise
  exact spread_eq (n := 1024) w p q 0 rfl

theorem ordD_at (d : FVec Ideal S16384x3340 .f32) (p : Fin 16384) (q : Fin 3456) : ordD d (ix2 p q) = spread (col (n := 16384) d p) q.val := by
  unfold ordD
  pointwise
  exact spread_eq (n := 16384) d p q 0 rfl

/-- The layout's sum is the columns' sum. -/
theorem sum_spread (f : ℕ → EReal) : ∑ q : Fin 3456, spread f q.val = ∑ k : Fin 3340, f k.val := by
  have e : ∑ q ∈ Finset.range (3072 + 256 + 12 + 116), spread f q = ∑ k ∈ Finset.range (3072 + 12 + 256), f k := by
    rw [Finset.sum_range_add, Finset.sum_range_add, Finset.sum_range_add, Finset.sum_range_add, Finset.sum_range_add]
    have e0 : ∑ x ∈ Finset.range 3072, spread f x = ∑ x ∈ Finset.range 3072, f x := Finset.sum_congr rfl fun x hx => by
      have := Finset.mem_range.mp hx
      unfold spread
      rw [if_pos this]
    have e1 : ∑ x ∈ Finset.range 256, spread f (3072 + x) = ∑ x ∈ Finset.range 256, f (3072 + 12 + x) := Finset.sum_congr rfl fun x hx => by
      have := Finset.mem_range.mp hx
      unfold spread
      rw [if_neg (by omega), if_pos (by omega)]
      congr 1
      omega
    have e2 : ∑ x ∈ Finset.range 12, spread f (3072 + 256 + x) = ∑ x ∈ Finset.range 12, f (3072 + x) := Finset.sum_congr rfl fun x hx => by
      have := Finset.mem_range.mp hx
      unfold spread
      rw [if_neg (by omega), if_neg (by omega), if_pos (by omega)]
      congr 1
      omega
    have e3 : ∑ x ∈ Finset.range 116, spread f (3072 + 256 + 12 + x) = 0 := Finset.sum_eq_zero fun x _ => by
      unfold spread
      rw [if_neg (by omega), if_neg (by omega), if_neg (by omega)]
    rw [e0, e1, e2, e3, add_zero, add_right_comm]
  rw [Finset.sum_range, Finset.sum_range] at e
  exact e

/-- The product of two laid out columns is the layout of the products. -/
theorem spread_mul (f g : ℕ → EReal) (q : ℕ) : spread f q * spread g q = spread (fun k => f k * g k) q := by
  unfold spread
  split_ifs
  · rfl
  · rfl
  · rfl
  · exact mul_zero _

end Cert.Proj

end
-- ==== Proof.Proj.InDw.lean ====
/- The call that computes the gradient of the input projection's weight returns the transposed rows times the gradient, its
   columns in the layout's order. -/
module

public import proofs.«01_k».proof.Proof.Proj.InDwStep
public import proofs.«01_k».proof.Proof.Proj.Layout
public import proofs.«01_k».proof.Proof.Ffn.Sums
public import proofs.«01_k».proof.Proof.Gen.Reference13Ideal.Run
public import Idealize.ShloMosaic.Lib.Claim
public import Idealize.ShloMosaic.Lib.StableHlo.RunRead

@[expose] public section

noncomputable section

namespace Cert.Proj.InDw

open Idealize.ShloMosaic Idealize.ShloMosaic.TcCoe Idealize.SL.Sem Cert.Kernel13Ideal Cert.Kernel13Ideal.Gen Cert.Ffn

variable (m : (ℓ : Loc nD τ sig) → Buf (Elt Ideal) ℓ) (c : Dev nD)

abbrev aN : FVec Ideal S16384x1024 .f32 := m ((c.tc : Thread nD τ).loc main_arg0)
abbrev aD : FVec Ideal S16384x3340 .f32 := m ((c.tc : Thread nD τ).loc main_arg2)

set_option maxRecDepth 100000 in
theorem V_n : (V m c main_v0 : FVec Ideal S16384x1024 .bf16) = aN m c := by
  unfold V
  unfold_abbrev_sides
  after_reads_simp
  rfl

set_option maxRecDepth 100000 in
theorem V_d : (V m c main_v6 : FVec Ideal S16384x3456 .bf16) = extD (aD m c) := by
  unfold V
  unfold_abbrev_sides
  after_reads_simp
  rfl

/-- The block indices of a grid point. -/
theorem idx : ∀ t : Fin cfg0.N,
    win0_0.index t = ![t.val % 16, 0] ∧ win0_1.index t = ![t.val % 16, t.val / 16] ∧ win0_2.index t = ![0, t.val / 16] :=
  (by decide +kernel : ∀ t : Fin grid0.N, _)

theorem lt48 (t : Fin cfg0.N) : t.val < 48 := lt_of_lt_of_eq t.isLt N_0

theorem blk_n (t : Fin cfg0.N) (r p : Fin 1024) :
    iblk m c 0 t (ix2 r p) = (V m c main_v0 : FVec Ideal S16384x1024 .bf16) (ix2 ⟨t.val % 16 * 1024 + r.val, by omega⟩ p) := by
  blk_point [iblk, idx t]

theorem blk_d (t : Fin cfg0.N) (r : Fin 1024) (q : Fin 1152) :
    iblk m c 1 t (ix2 r q) = (V m c main_v6 : FVec Ideal S16384x3456 .bf16)
      (ix2 ⟨t.val % 16 * 1024 + r.val, by omega⟩ ⟨t.val / 16 * 1152 + q.val, by have := lt48 t; omega⟩) := by
  blk_point [iblk, idx t]

/-- The term of token `i` in the entry (p, q) of the product. -/
def term (p : Fin 1024) (q : ℕ) (i : ℕ) : EReal :=
  aN m c (ix2 ⟨i % 16384, by omega⟩ p) * spread (col (n := 16384) (aD m c) ⟨i % 16384, by omega⟩) q

/-- The part of the product that grid point `n` adds. -/
def part (p : Fin 1024) (q : Fin 1152) (n : ℕ) : EReal := ∑ r : Fin 1024, term m c p (n / 16 * 1152 + q.val) (n % 16 * 1024 + r.val)

theorem add_eq (t : Fin cfg0.N) (s : Vec Ideal S1024x1152 .f32) (p : Fin 1024) (q : Fin 1152) :
    (k0_pay2 (F := Ideal) (iblk m c 0 t) s (iblk m c 1 t)) (ix2 p q) = s (ix2 p q) + part m c p q t.val := by
  have ht := lt48 t
  rw [add_at]
  refine congrArg _ (Finset.sum_congr rfl fun r _ => ?_)
  have h1 : (t.val % 16 * 1024 + r.val) % 16384 = t.val % 16 * 1024 + r.val := by omega
  rw [blk_n, blk_d, V_n, V_d, extD_at]
  unfold term
  simp only [h1]

/-- What the scratch holds after a grid point. -/
theorem scratch (p : Fin 1024) (q : Fin 1152) (j k : ℕ) (hk : k < 16) (h : 16 * j + k < cfg0.N) :
    (outsAt0 m c (16 * j + k) h).2 (ix2 p q) = ∑ l ∈ Finset.range (k + 1), part m c p q (16 * j + l) := by
  refine run_sum (fun n h => (outsAt0 m c n h).2 (ix2 p q)) (part m c p q) (fun n h h0 => ?_) (fun n h h' h0 => ?_) j k hk h
  · rw [outsAt0_A m c ⟨n, h⟩ h0 (by dsimp only; omega)]
    dsimp only
    rw [first, add_eq, zero_at, zero_add]
  · by_cases h1 : (n + 1) % 16 = 15
    · rw [outsAt0_C m c ⟨n + 1, h'⟩ h0 h1]
      dsimp only
      rw [last, add_eq]
      rfl
    · rw [outsAt0_B m c ⟨n + 1, h'⟩ h0 h1]
      dsimp only
      rw [next, add_eq]
      rfl

/-- What the last point of a run leaves in the output's block. -/
theorem block (t : Fin cfg0.N) (ht : t.val % 16 = 15) (p : Fin 1024) (q : Fin 1152) :
    (outsAt0 m c t.val t.isLt).1 (ix2 p q) = ∑ i : Fin 16384, term m c p (t.val / 16 * 1152 + q.val) i.val := by
  have e : (outsAt0 m c t.val t.isLt).1 (ix2 p q) = (outsAt0 m c t.val t.isLt).2 (ix2 p q) := by
    rw [outsAt0_C m c t (by omega) ht]
    dsimp only
    rw [flush, last, out_at]
  have e2 : ∀ n h, n = t.val → (outsAt0 m c n h).2 (ix2 p q) = (outsAt0 m c t.val t.isLt).2 (ix2 p q) := by
    intro n h hn; subst hn; rfl
  have hl := lt48 t
  have hd : t.val = 16 * (t.val / 16) + 15 := by omega
  rw [e, ← e2 (16 * (t.val / 16) + 15) (by rw [← hd]; exact t.isLt) hd.symm, scratch m c p q _ 15 (by omega),
    Fin.sum_univ_tiles 16 1024 (by norm_num) fun i => term m c p (t.val / 16 * 1152 + q.val) i.val, Finset.sum_range]
  refine Finset.sum_congr rfl fun j _ => ?_
  unfold part
  have h1 : (16 * (t.val / 16) + j.val) / 16 = t.val / 16 := by omega
  have h2 : (16 * (t.val / 16) + j.val) % 16 = j.val := by omega
  rw [h1, h2]

/-- The weight's gradient: the transposed product of the gradient with the rows. -/
def dw (n : FVec Ideal Cert.Reference13Ideal.S16384x1024 .f32) (d : FVec Ideal Cert.Reference13Ideal.S16384x3340 .f32) :
    FVec Ideal Cert.Reference13Ideal.S1024x3340 .f32 :=
  transpose Cert.Reference13Ideal.S1024x3340 [1, 0]
    (Host.dotGeneral Cert.Reference13Ideal.dot_S16384x3340_S16384x1024_S3340x1024_0_0_1_1_n_n none d n)
    Cert.Reference13Ideal.Gen.transposes_S3340x1024_S1024x3340_1_0

/-- The reference's result: the weight's gradient in the layout's order. -/
def ref (n : FVec Ideal Cert.Reference13Ideal.S16384x1024 .f32) (d : FVec Ideal Cert.Reference13Ideal.S16384x3340 .f32) :
    FVec Ideal Cert.Reference13Ideal.S1024x3456 .f32 := ordW (dw n d)

theorem dw_at (n : FVec Ideal Cert.Reference13Ideal.S16384x1024 .f32) (d : FVec Ideal Cert.Reference13Ideal.S16384x3340 .f32)
    (p : Fin 1024) (k : Fin 3340) : dw n d (ix2 p k) = ∑ i : Fin 16384, d (ix2 i k) * n (ix2 i p) := by
  unfold dw
  pointwise

/-- The layout of sums of products by one factor is the sum of the layouts. -/
theorem spread_sum (n : Fin 16384 → EReal) (d : Fin 16384 → ℕ → EReal) (q : ℕ) :
    spread (fun k => ∑ i : Fin 16384, d i k * n i) q = ∑ i : Fin 16384, n i * spread (d i) q := by
  unfold spread
  split_ifs
  · exact Finset.sum_congr (M := EReal) rfl fun i _ => mul_comm _ _
  · exact Finset.sum_congr (M := EReal) rfl fun i _ => mul_comm _ _
  · exact Finset.sum_congr (M := EReal) rfl fun i _ => mul_comm _ _
  · exact (Finset.sum_eq_zero fun i _ => mul_zero _).symm

theorem ref_at (n : FVec Ideal Cert.Reference13Ideal.S16384x1024 .f32) (d : FVec Ideal Cert.Reference13Ideal.S16384x3340 .f32)
    (p : Fin 1024) (q : Fin 3456) :
    ref n d (ix2 p q) = ∑ i : Fin 16384, n (ix2 i p) * spread (col (n := 16384) d i) q.val := by
  refine (ordW_at (dw n d) p q).trans ?_
  refine Eq.trans (congrArg (fun f => spread f q.val) (funext fun k => dw_at n d p ⟨k % 3340, by omega⟩)) ?_
  exact spread_sum (fun i => n (ix2 i p)) (fun i => col (n := 16384) d i) q.val

theorem out2 : (dats m 0 c).arrAt 2 cfg0.N = ref (aN m c) (aD m c) := by
  refine (dats m 0 c).arrAt_eq_of_covers 2 _ (by decide +kernel) fun t hf y => ?_
  have hl := lt48 t
  obtain ⟨p, q, rfl⟩ : ∃ (p : Fin 1024) (q : Fin 1152), y = ix2 p q := ⟨y 0, y 1, eq_ix2 y⟩
  have e : ∀ X : FVec Ideal S1024x3456 .f32, ((cfg0.win 2).blk t).view.read (Elt Ideal) X (ix2 p q)
      = X (ix2 p ⟨t.val / 16 * 1152 + q.val, by omega⟩) := fun X => by
    blk_point [idx t]
  refine Eq.trans ?_ ((e (ref (aN m c) (aD m c))).trans (ref_at _ _ _ _)).symm
  refine (congrFun (after0_2 m c t) _).trans ?_
  refine (block m c t ((flush0_2 t).mp hf) p q).trans (Finset.sum_congr (M := EReal) rfl fun i _ => ?_)
  have h1 : i.val % 16384 = i.val := by omega
  unfold term
  simp only [h1]

end Cert.Proj.InDw

end
-- ==== Proof.Proj.Claim13.lean ====
/- The claims of program 13: its runs end with the semaphores at zero and the arguments kept, and the call returns the
   reference's gradient of the input projection's weight. -/
module

public import proofs.«01_k».proof.Defs
public import proofs.«01_k».proof.Proof.Proj.InDw
public import proofs.«01_k».proof.Proof.Gen.Kernel13.Frame
public import proofs.«01_k».proof.Proof.Gen.Kernel13Ideal.Value
public import proofs.«01_k».proof.Proof.Gen.Reference13Ideal.Run
public import Idealize.ShloMosaic.Lib.Quiescent

@[expose] public section

noncomputable section

namespace Cert.Proj

open Idealize.ShloMosaic Idealize.ShloMosaic.TcCoe Idealize.SL.Sem

theorem quiet13 : Cert.quiescent_Kernel13 (hKernel13 := Cert.Kernel13.Gen.facts) := fun m ρ _ => Cert.Kernel13.Gen.frame m ρ

theorem quiet13Ideal : Cert.quiescent_Kernel13Ideal (hKernel13Ideal := Cert.Kernel13Ideal.Gen.facts) := fun m ρ _ => Cert.Kernel13Ideal.Gen.frame m ρ

theorem quietRef13 : Cert.quiescent_Reference13Ideal (hReference13Ideal := Cert.Reference13Ideal.Gen.facts) := fun m ρ _ =>
  (θ_run Cert.Reference13Ideal.defs _ _).mono
    (fun r h => ⟨fun c => (h c).2, Idealize.ShloMosaic.sem_eq_zero_of_no_sems (by decide) r.2⟩) (Cert.Reference13Ideal.Value.run m ρ)

theorem keeps13 : Cert.preserves_Kernel13_Kernel13Ideal := trivial

set_option maxRecDepth 8192 in
theorem equal13 : Cert.algebraic_Kernel13Ideal_Reference13Ideal (hKernel13Ideal := Cert.Kernel13Ideal.Gen.facts)
    (hReference13Ideal := Cert.Reference13Ideal.Gen.facts) := by
  intro m g m' g' hpre heq
  refine ⟨fun c => (Cert.Kernel13Ideal.Gen.dats m 0 c).arrAt 2 Cert.Kernel13Ideal.cfg0.N, Cert.Kernel13Ideal.Value.run_blocks m g, ?_⟩
  refine (θ_run Cert.Reference13Ideal.defs _ _).mono (fun r h c => ⟨(h c).1.trans ?_, (h c).2⟩) (Cert.Reference13Ideal.Value.run m' g')
  obtain ⟨e0, e1, e2⟩ := heq c
  refine Eq.trans (b := InDw.ref (m' ((c.tc : Thread _ _).loc Cert.Reference13Ideal.main_arg0)) (m' ((c.tc : Thread _ _).loc Cert.Reference13Ideal.main_arg2))) rfl ?_
  rw [e0, e2]
  exact (InDw.out2 m c).symm

end Cert.Proj

end
-- ==== Proof.Proj.InDxStep.lean ====
/- What a grid point of the call that computes the gradient of the input projection's rows leaves in its scratch and in
   its output block. -/
module

public import proofs.«01_k».proof.Proof.Gen.Kernel14Ideal.Value
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Proj.InDx

open Idealize.ShloMosaic Idealize.ShloMosaic.TcCoe Idealize.SL.Sem Cert.Kernel14Ideal Cert.Kernel14Ideal.Gen

theorem hz : (![0, 0] : Fin 2 → Nat) = fun _ => 0 := funext fun a => by fin_cases a <;> rfl

section
variable (c : Dev nD) (i : grid0.Coords) (a3 : Memref sig .tc .vmem S1024x1152 .bf16) (h3 : a3.IsWhole)
  (a4 : Memref sig .tc .vmem S1024x1152 .bf16) (h4 : a4.IsWhole) (a5 : Memref sig .tc .vmem S1024x1024 .bf16) (h5 : a5.IsWhole)
  (a6 : Memref sig .tc .vmem S1024x1024 .f32) (h6 : a6.IsWhole) (x y : Vec Ideal S1024x1152 .bf16)
  (s : Vec Ideal S1024x1024 .f32)

theorem first (hc0 : cond0_0 i) (hc1 : ¬cond0_1 i) : sout0_A_0 c i a3 h3 a4 h4 a5 h5 a6 h6 hc0 hc1 x y = k0_pay2 x (k0_pay1 (F := Ideal)) y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz,
    View.ld_unit_zero (S := S1024x1152) hz, shapeCast_self]

theorem next (hc0 : ¬cond0_0 i) (hc1 : ¬cond0_1 i) : sout0_B_0 c i a3 h3 a4 h4 a5 h5 a6 h6 hc0 hc1 x y s = k0_pay2 x s y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S1024x1024) hz]
  simp only [View.readAt_eq_ld, h3.read_unread, h4.read_unread, h6.read_unread, View.ld_unit_zero (S := S1024x1024) hz,
    View.ld_unit_zero (S := S1024x1152) hz, shapeCast_self]

theorem last (hc0 : ¬cond0_0 i) (hc1 : cond0_1 i) : sout0_C_0 c i a3 h3 a4 h4 a5 h5 a6 h6 hc0 hc1 x y s = k0_pay2 x s y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x1024) hz]
  simp only [View.readAt_eq_ld, h3.read_unread, h4.read_unread, h6.read_unread, View.ld_unit_zero (S := S1024x1024) hz,
    View.ld_unit_zero (S := S1024x1152) hz, shapeCast_self]

theorem flush (hc0 : ¬cond0_0 i) (hc1 : cond0_1 i) : out0_C_2 c i a3 h3 a4 h4 a5 h5 a6 h6 hc0 hc1 x y s = k0_pay3 (k0_pay2 x s y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz,
    View.ld_unit_zero (S := S1024x1152) hz, shapeCast_self]

end

theorem zero_at (p q : Fin 1024) : (k0_pay1 (F := Ideal)) (ix2 p q) = 0 := by
  pointwise [k0_pay1]

theorem add_at (x : Vec Ideal S1024x1152 .bf16) (s : Vec Ideal S1024x1024 .f32) (y : Vec Ideal S1024x1152 .bf16) (p q : Fin 1024) :
    (k0_pay2 (F := Ideal) x s y) (ix2 p q) = s (ix2 p q) + ∑ f : Fin 1152, x (ix2 p f) * y (ix2 q f) := by
  pointwise [k0_pay2]

theorem out_at (s : Vec Ideal S1024x1024 .f32) (p q : Fin 1024) : (k0_pay3 (F := Ideal) s) (ix2 p q) = s (ix2 p q) := by
  pointwise [k0_pay3]

end Cert.Proj.InDx

end
-- ==== Proof.Proj.InDx.lean ====
/- The call that computes the gradient of the input projection's rows returns the gradient times the transposed weight: the
   layout's order changes nothing in the sum over the columns. -/
module

public import proofs.«01_k».proof.Proof.Proj.InDxStep
public import proofs.«01_k».proof.Proof.Proj.Layout
public import proofs.«01_k».proof.Proof.Ffn.Sums
public import proofs.«01_k».proof.Proof.Gen.Reference14Ideal.Run
public import Idealize.ShloMosaic.Lib.Claim
public import Idealize.ShloMosaic.Lib.StableHlo.RunRead

@[expose] public section

noncomputable section

namespace Cert.Proj.InDx

open Idealize.ShloMosaic Idealize.ShloMosaic.TcCoe Idealize.SL.Sem Cert.Kernel14Ideal Cert.Kernel14Ideal.Gen Cert.Ffn

variable (m : (ℓ : Loc nD τ sig) → Buf (Elt Ideal) ℓ) (c : Dev nD)

abbrev aW : FVec Ideal S1024x3340 .f32 := m ((c.tc : Thread nD τ).loc main_arg1)
abbrev aD : FVec Ideal S16384x3340 .f32 := m ((c.tc : Thread nD τ).loc main_arg2)

set_option maxRecDepth 100000 in
theorem V_d : (V m c main_v5 : FVec Ideal S16384x3456 .bf16) = extD (aD m c) := by
  unfold V
  unfold_abbrev_sides
  after_reads_simp
  rfl

set_option maxRecDepth 100000 in
theorem V_w : (V m c main_v11 : FVec Ideal S1024x3456 .bf16) = extW (aW m c) := by
  unfold V
  unfold_abbrev_sides
  after_reads_simp
  rfl

/-- The block indices of a grid point. -/
theorem idx : ∀ t : Fin cfg0.N,
    win0_0.index t = ![t.val / 3, t.val % 3] ∧ win0_1.index t = ![0, t.val % 3] ∧ win0_2.index t = ![t.val / 3, 0] :=
  (by decide +kernel : ∀ t : Fin grid0.N, _)

theorem lt48 (t : Fin cfg0.N) : t.val < 48 := lt_of_lt_of_eq t.isLt N_0

theorem blk_d (t : Fin cfg0.N) (p : Fin 1024) (f : Fin 1152) :
    iblk m c 0 t (ix2 p f) = (V m c main_v5 : FVec Ideal S16384x3456 .bf16)
      (ix2 ⟨t.val / 3 * 1024 + p.val, by have := lt48 t; omega⟩ ⟨t.val % 3 * 1152 + f.val, by omega⟩) := by
  blk_point [iblk, idx t]

theorem blk_w (t : Fin cfg0.N) (q : Fin 1024) (f : Fin 1152) :
    iblk m c 1 t (ix2 q f) = (V m c main_v11 : FVec Ideal S1024x3456 .bf16) (ix2 q ⟨t.val % 3 * 1152 + f.val, by omega⟩) := by
  blk_point [iblk, idx t]

/-- The product of the columns `k` of row `i` of the gradient and row `q` of the weight. -/
def prod (i : ℕ) (q : Fin 1024) (k : ℕ) : EReal :=
  col (n := 16384) (aD m c) ⟨i % 16384, by omega⟩ k * col (n := 1024) (aW m c) q k

/-- The part of the product that grid point `n` adds. -/
def part (p q : Fin 1024) (n : ℕ) : EReal := ∑ f : Fin 1152, spread (prod m c (n / 3 * 1024 + p.val) q) (n % 3 * 1152 + f.val)

theorem add_eq (t : Fin cfg0.N) (s : Vec Ideal S1024x1024 .f32) (p q : Fin 1024) :
    (k0_pay2 (F := Ideal) (iblk m c 0 t) s (iblk m c 1 t)) (ix2 p q) = s (ix2 p q) + part m c p q t.val := by
  have ht := lt48 t
  rw [add_at]
  refine congrArg _ (Finset.sum_congr rfl fun f _ => ?_)
  have h1 : (t.val / 3 * 1024 + p.val) % 16384 = t.val / 3 * 1024 + p.val := by omega
  rw [blk_d, blk_w, V_d, V_w, extD_at, extW_at, spread_mul]
  unfold prod
  simp only [h1]

/-- What the scratch holds after a grid point. -/
theorem scratch (p q : Fin 1024) (j k : ℕ) (hk : k < 3) (h : 3 * j + k < cfg0.N) :
    (outsAt0 m c (3 * j + k) h).2 (ix2 p q) = ∑ l ∈ Finset.range (k + 1), part m c p q (3 * j + l) := by
  refine run_sum (fun n h => (outsAt0 m c n h).2 (ix2 p q)) (part m c p q) (fun n h h0 => ?_) (fun n h h' h0 => ?_) j k hk h
  · rw [outsAt0_A m c ⟨n, h⟩ h0 (by dsimp only; omega)]
    dsimp only
    rw [first, add_eq, zero_at, zero_add]
  · by_cases h1 : (n + 1) % 3 = 2
    · rw [outsAt0_C m c ⟨n + 1, h'⟩ h0 h1]
      dsimp only
      rw [last, add_eq]
      rfl
    · rw [outsAt0_B m c ⟨n + 1, h'⟩ h0 h1]
      dsimp only
      rw [next, add_eq]
      rfl

/-- What the last point of a run leaves in the output's block. -/
theorem block (t : Fin cfg0.N) (ht : t.val % 3 = 2) (p q : Fin 1024) :
    (outsAt0 m c t.val t.isLt).1 (ix2 p q) = ∑ k : Fin 3340, prod m c (t.val / 3 * 1024 + p.val) q k.val := by
  have e : (outsAt0 m c t.val t.isLt).1 (ix2 p q) = (outsAt0 m c t.val t.isLt).2 (ix2 p q) := by
    rw [outsAt0_C m c t (by omega) ht]
    dsimp only
    rw [flush, last, out_at]
  have e2 : ∀ n h, n = t.val → (outsAt0 m c n h).2 (ix2 p q) = (outsAt0 m c t.val t.isLt).2 (ix2 p q) := by
    intro n h hn; subst hn; rfl
  have hl := lt48 t
  have hd : t.val = 3 * (t.val / 3) + 2 := by omega
  rw [e, ← e2 (3 * (t.val / 3) + 2) (by rw [← hd]; exact t.isLt) hd.symm, scratch m c p q _ 2 (by omega), ← sum_spread,
    Fin.sum_univ_tiles 3 1152 (by norm_num) fun k => spread (prod m c (t.val / 3 * 1024 + p.val) q) k.val, Finset.sum_range]
  refine Finset.sum_congr rfl fun j _ => ?_
  unfold part
  have h1 : (3 * (t.val / 3) + j.val) / 3 = t.val / 3 := by omega
  have h2 : (3 * (t.val / 3) + j.val) % 3 = j.val := by omega
  rw [h1, h2]

/-- The reference's result: the gradient times the transposed weight. -/
def ref (w : FVec Ideal Cert.Reference14Ideal.S1024x3340 .f32) (d : FVec Ideal Cert.Reference14Ideal.S16384x3340 .f32) :
    FVec Ideal Cert.Reference14Ideal.S16384x1024 .bf16 :=
  truncf .bf16 (Host.dotGeneral Cert.Reference14Ideal.dot_S16384x3340_S1024x3340_S16384x1024_1_1_0_0_n_n none d w)
    Cert.Reference14Ideal.Gen.bitsLt_bf16_f32

theorem ref_at (w : FVec Ideal Cert.Reference14Ideal.S1024x3340 .f32) (d : FVec Ideal Cert.Reference14Ideal.S16384x3340 .f32)
    (i : Fin 16384) (q : Fin 1024) : ref w d (ix2 i q) = ∑ k : Fin 3340, d (ix2 i k) * w (ix2 q k) := by
  unfold ref
  pointwise

theorem out2 : (dats m 0 c).arrAt 2 cfg0.N = ref (aW m c) (aD m c) := by
  refine (dats m 0 c).arrAt_eq_of_covers 2 _ (by decide +kernel) fun t hf y => ?_
  have hl := lt48 t
  obtain ⟨p, q, rfl⟩ : ∃ (p q : Fin 1024), y = ix2 p q := ⟨y 0, y 1, eq_ix2 y⟩
  have e : ∀ X : FVec Ideal S16384x1024 .bf16, ((cfg0.win 2).blk t).view.read (Elt Ideal) X (ix2 p q)
      = X (ix2 ⟨t.val / 3 * 1024 + p.val, by omega⟩ q) := fun X => by
    blk_point [idx t]
  refine Eq.trans ?_ ((e (ref (aW m c) (aD m c))).trans (ref_at _ _ _ _)).symm
  refine (congrFun (after0_2 m c t) _).trans ?_
  refine (block m c t ((flush0_2 t).mp hf) p q).trans (Finset.sum_congr (M := EReal) rfl fun k _ => ?_)
  have h1 : (t.val / 3 * 1024 + p.val) % 16384 = t.val / 3 * 1024 + p.val := by omega
  have h2 : k.val % 3340 = k.val := by omega
  unfold prod col
  simp only [h1, h2]

end Cert.Proj.InDx

end
-- ==== Proof.Proj.Claim14.lean ====
/- The claims of program 14: its runs end with the semaphores at zero and the arguments kept, and the call returns the
   reference's gradient of the input projection's rows. -/
module

public import proofs.«01_k».proof.Defs
public import proofs.«01_k».proof.Proof.Proj.InDx
public import proofs.«01_k».proof.Proof.Gen.Kernel14.Frame
public import proofs.«01_k».proof.Proof.Gen.Kernel14Ideal.Value
public import proofs.«01_k».proof.Proof.Gen.Reference14Ideal.Run
public import Idealize.ShloMosaic.Lib.Quiescent

@[expose] public section

noncomputable section

namespace Cert.Proj

open Idealize.ShloMosaic Idealize.ShloMosaic.TcCoe Idealize.SL.Sem

theorem quiet14 : Cert.quiescent_Kernel14 (hKernel14 := Cert.Kernel14.Gen.facts) := fun m ρ _ => Cert.Kernel14.Gen.frame m ρ

theorem quiet14Ideal : Cert.quiescent_Kernel14Ideal (hKernel14Ideal := Cert.Kernel14Ideal.Gen.facts) := fun m ρ _ => Cert.Kernel14Ideal.Gen.frame m ρ

theorem quietRef14 : Cert.quiescent_Reference14Ideal (hReference14Ideal := Cert.Reference14Ideal.Gen.facts) := fun m ρ _ =>
  (θ_run Cert.Reference14Ideal.defs _ _).mono
    (fun r h => ⟨fun c => (h c).2, Idealize.ShloMosaic.sem_eq_zero_of_no_sems (by decide) r.2⟩) (Cert.Reference14Ideal.Value.run m ρ)

theorem keeps14 : Cert.preserves_Kernel14_Kernel14Ideal := trivial

set_option maxRecDepth 8192 in
theorem equal14 : Cert.algebraic_Kernel14Ideal_Reference14Ideal (hKernel14Ideal := Cert.Kernel14Ideal.Gen.facts)
    (hReference14Ideal := Cert.Reference14Ideal.Gen.facts) := by
  intro m g m' g' hpre heq
  refine ⟨fun c => (Cert.Kernel14Ideal.Gen.dats m 0 c).arrAt 2 Cert.Kernel14Ideal.cfg0.N, Cert.Kernel14Ideal.Value.run_blocks m g, ?_⟩
  refine (θ_run Cert.Reference14Ideal.defs _ _).mono (fun r h c => ⟨(h c).1.trans ?_, (h c).2⟩) (Cert.Reference14Ideal.Value.run m' g')
  obtain ⟨e0, e1, e2⟩ := heq c
  refine Eq.trans (b := InDx.ref (m' ((c.tc : Thread _ _).loc Cert.Reference14Ideal.main_arg1)) (m' ((c.tc : Thread _ _).loc Cert.Reference14Ideal.main_arg2))) rfl ?_
  rw [e1, e2]
  exact (InDx.out2 m c).symm

end Cert.Proj

end
-- ==== Proof.Proj.InStep.lean ====
/- What a grid point of the input projection's call leaves in its output block. -/
module

public import proofs.«01_k».proof.Proof.Gen.Kernel15Ideal.Value
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Proj.In

open Idealize.ShloMosaic Idealize.ShloMosaic.TcCoe Idealize.SL.Sem Cert.Kernel15Ideal Cert.Kernel15Ideal.Gen

theorem hz : (![0, 0] : Fin 2 → Nat) = fun _ => 0 := funext fun a => by fin_cases a <;> rfl

section
variable (c : Dev nD) (i : grid0.Coords) (a3 : Memref sig .tc .vmem S1024x1024 .bf16) (h3 : a3.IsWhole)
  (a4 : Memref sig .tc .vmem S1024x1152 .bf16) (h4 : a4.IsWhole) (a5 : Memref sig .tc .vmem S1024x1152 .bf16) (h5 : a5.IsWhole)
  (a6 : Memref sig .tc .vmem S1024x1152 .f32) (h6 : a6.IsWhole) (x : Vec Ideal S1024x1024 .bf16) (y : Vec Ideal S1024x1152 .bf16)

theorem flush (hc0 : cond0_0 i) (hc1 : cond0_1 i) : out0_A_2 c i a3 h3 a4 h4 a5 h5 a6 h6 hc0 hc1 x y = k0_pay3 (k0_pay2 x (k0_pay1 (F := Ideal)) y) := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero (S := S1024x1152) hz]
  simp only [View.readCov_unit_zero (S := S1024x1152) _ hz, View.readCov_cons_toLoadRect, View.readAt_eq_ld, h3.read_unread, h4.read_unread,
    View.ld_unit_zero (S := S1024x1024) hz, View.ld_unit_zero (S := S1024x1152) hz, shapeCast_self]

end

theorem block_at (x : Vec Ideal S1024x1024 .bf16) (y : Vec Ideal S1024x1152 .bf16) (p : Fin 1024) (q : Fin 1152) :
    (k0_pay3 (F := Ideal) (k0_pay2 x (k0_pay1 (F := Ideal)) y)) (ix2 p q) = ∑ k : Fin 1024, x (ix2 p k) * y (ix2 k q) := by
  pointwise [k0_pay3, k0_pay2, k0_pay1]

end Cert.Proj.In

end
-- ==== Proof.Proj.In.lean ====
/- The input projection's call returns the rows times the weight, its columns in the layout's order. -/
module

public import proofs.«01_k».proof.Proof.Proj.InStep
public import proofs.«01_k».proof.Proof.Proj.Layout
public import proofs.«01_k».proof.Proof.Gen.Reference15Ideal.Run
public import Idealize.ShloMosaic.Lib.Claim
public import Idealize.ShloMosaic.Lib.StableHlo.RunRead

@[expose] public section

noncomputable section

namespace Cert.Proj.In

open Idealize.ShloMosaic Idealize.ShloMosaic.TcCoe Idealize.SL.Sem Cert.Kernel15Ideal Cert.Kernel15Ideal.Gen

variable (m : (ℓ : Loc nD τ sig) → Buf (Elt Ideal) ℓ) (c : Dev nD)

abbrev aN : FVec Ideal S16384x1024 .f32 := m ((c.tc : Thread nD τ).loc main_arg0)
abbrev aW : FVec Ideal S1024x3340 .f32 := m ((c.tc : Thread nD τ).loc main_arg1)

set_option maxRecDepth 100000 in
theorem V_n : (V m c main_v0 : FVec Ideal S16384x1024 .bf16) = aN m c := by
  unfold V
  unfold_abbrev_sides
  after_reads_simp
  rfl

set_option maxRecDepth 100000 in
theorem V_w : (V m c main_v6 : FVec Ideal S1024x3456 .bf16) = extW (aW m c) := by
  unfold V
  unfold_abbrev_sides
  after_reads_simp
  rfl

/-- The block indices of a grid point. -/
theorem idx : ∀ t : Fin cfg0.N,
    win0_0.index t = ![t.val / 3, 0] ∧ win0_1.index t = ![0, t.val % 3] ∧ win0_2.index t = ![t.val / 3, t.val % 3] :=
  (by decide +kernel : ∀ t : Fin grid0.N, _)

theorem lt48 (t : Fin cfg0.N) : t.val < 48 := lt_of_lt_of_eq t.isLt N_0

theorem blk_n (t : Fin cfg0.N) (p k : Fin 1024) :
    iblk m c 0 t (ix2 p k) = (V m c main_v0 : FVec Ideal S16384x1024 .bf16) (ix2 ⟨t.val / 3 * 1024 + p.val, by have := lt48 t; omega⟩ k) := by
  blk_point [iblk, idx t]

theorem blk_w (t : Fin cfg0.N) (k : Fin 1024) (q : Fin 1152) :
    iblk m c 1 t (ix2 k q) = (V m c main_v6 : FVec Ideal S1024x3456 .bf16) (ix2 k ⟨t.val % 3 * 1152 + q.val, by omega⟩) := by
  blk_point [iblk, idx t]

/-- The product. -/
def prod (n : FVec Ideal Cert.Reference15Ideal.S16384x1024 .f32) (w : FVec Ideal Cert.Reference15Ideal.S1024x3340 .f32) :
    FVec Ideal Cert.Reference15Ideal.S16384x3340 .f32 :=
  Host.dotGeneral Cert.Reference15Ideal.dot_S16384x1024_S1024x3340_S16384x3340_1_0_0_1_n_n none n w

/-- The reference's result: the product in the layout's order. -/
def ref (n : FVec Ideal Cert.Reference15Ideal.S16384x1024 .f32) (w : FVec Ideal Cert.Reference15Ideal.S1024x3340 .f32) :
    FVec Ideal Cert.Reference15Ideal.S16384x3456 .bf16 :=
  truncf .bf16 (ordD (prod n w)) Cert.Reference15Ideal.Gen.bitsLt_bf16_f32

theorem prod_at (n : FVec Ideal Cert.Reference15Ideal.S16384x1024 .f32) (w : FVec Ideal Cert.Reference15Ideal.S1024x3340 .f32)
    (i : Fin 16384) (j : Fin 3340) : prod n w (ix2 i j) = ∑ k : Fin 1024, n (ix2 i k) * w (ix2 k j) := by
  unfold prod
  pointwise

/-- The layout of sums of products by one factor is the sum of the layouts. -/
theorem spread_sum (n : Fin 1024 → EReal) (w : Fin 1024 → ℕ → EReal) (q : ℕ) :
    spread (fun j => ∑ k : Fin 1024, n k * w k j) q = ∑ k : Fin 1024, n k * spread (w k) q := by
  unfold spread
  split_ifs
  · rfl
  · rfl
  · rfl
  · exact (Finset.sum_eq_zero fun k _ => mul_zero _).symm

theorem truncf_at (X : FVec Ideal Cert.Reference15Ideal.S16384x3456 .f32) (i : Cert.Reference15Ideal.S16384x3456.Idx) :
    (truncf .bf16 X Cert.Reference15Ideal.Gen.bitsLt_bf16_f32 : FVec Ideal Cert.Reference15Ideal.S16384x3456 .bf16) i = X i := rfl

theorem ref_at (n : FVec Ideal Cert.Reference15Ideal.S16384x1024 .f32) (w : FVec Ideal Cert.Reference15Ideal.S1024x3340 .f32)
    (i : Fin 16384) (q : Fin 3456) :
    ref n w (ix2 i q) = ∑ k : Fin 1024, n (ix2 i k) * spread (col (n := 1024) w k) q.val := by
  refine (truncf_at (ordD (prod n w)) (ix2 i q)).trans ((ordD_at (prod n w) i q).trans ?_)
  refine Eq.trans (congrArg (fun f => spread f q.val) (funext fun j => prod_at n w i ⟨j % 3340, by omega⟩)) ?_
  exact spread_sum (fun k => n (ix2 i k)) (fun k => col (n := 1024) w k) q.val

theorem out2 : (dats m 0 c).arrAt 2 cfg0.N = ref (aN m c) (aW m c) := by
  refine (dats m 0 c).arrAt_eq_of_covers 2 _ (by decide +kernel) fun t hf y => ?_
  have hl := lt48 t
  obtain ⟨p, q, rfl⟩ : ∃ (p : Fin 1024) (q : Fin 1152), y = ix2 p q := ⟨y 0, y 1, eq_ix2 y⟩
  have e : ∀ X : FVec Ideal S16384x3456 .bf16, ((cfg0.win 2).blk t).view.read (Elt Ideal) X (ix2 p q)
      = X (ix2 ⟨t.val / 3 * 1024 + p.val, by omega⟩ ⟨t.val % 3 * 1152 + q.val, by omega⟩) := fun X => by
    blk_point [idx t]
  refine Eq.trans ?_ ((e (ref (aN m c) (aW m c))).trans (ref_at _ _ _ _)).symm
  refine (congrFun (after0_2 m c t) _).trans ?_
  have e3 : outsAt0 m c t (ix2 p q) = ∑ k : Fin 1024, aN m c (ix2 ⟨t.val / 3 * 1024 + p.val, by omega⟩ k)
      * spread (col (n := 1024) (aW m c) k) (t.val % 3 * 1152 + q.val) := by
    unfold outsAt0
    rw [flush, block_at]
    refine Finset.sum_congr rfl fun k _ => ?_
    rw [blk_n, blk_w, V_n, V_w, extW_at]
  exact e3

end Cert.Proj.In

end
-- ==== Proof.Proj.Claim15.lean ====
/- The claims of program 15: its runs end with the semaphores at zero and the arguments kept, and the call returns the
   reference's projected rows. -/
module

public import proofs.«01_k».proof.Defs
public import proofs.«01_k».proof.Proof.Proj.In
public import proofs.«01_k».proof.Proof.Gen.Kernel15.Frame
public import proofs.«01_k».proof.Proof.Gen.Kernel15Ideal.Value
public import proofs.«01_k».proof.Proof.Gen.Reference15Ideal.Run
public import Idealize.ShloMosaic.Lib.Quiescent

@[expose] public section

noncomputable section

namespace Cert.Proj

open Idealize.ShloMosaic Idealize.ShloMosaic.TcCoe Idealize.SL.Sem

theorem quiet15 : Cert.quiescent_Kernel15 (hKernel15 := Cert.Kernel15.Gen.facts) := fun m ρ _ => Cert.Kernel15.Gen.frame m ρ

theorem quiet15Ideal : Cert.quiescent_Kernel15Ideal (hKernel15Ideal := Cert.Kernel15Ideal.Gen.facts) := fun m ρ _ => Cert.Kernel15Ideal.Gen.frame m ρ

theorem quietRef15 : Cert.quiescent_Reference15Ideal (hReference15Ideal := Cert.Reference15Ideal.Gen.facts) := fun m ρ _ =>
  (θ_run Cert.Reference15Ideal.defs _ _).mono
    (fun r h => ⟨fun c => (h c).2, Idealize.ShloMosaic.sem_eq_zero_of_no_sems (by decide) r.2⟩) (Cert.Reference15Ideal.Value.run m ρ)

theorem keeps15 : Cert.preserves_Kernel15_Kernel15Ideal := trivial

set_option maxRecDepth 8192 in
theorem equal15 : Cert.algebraic_Kernel15Ideal_Reference15Ideal (hKernel15Ideal := Cert.Kernel15Ideal.Gen.facts)
    (hReference15Ideal := Cert.Reference15Ideal.Gen.facts) := by
  intro m g m' g' hpre heq
  refine ⟨fun c => (Cert.Kernel15Ideal.Gen.dats m 0 c).arrAt 2 Cert.Kernel15Ideal.cfg0.N, Cert.Kernel15Ideal.Value.run_blocks m g, ?_⟩
  refine (θ_run Cert.Reference15Ideal.defs _ _).mono (fun r h c => ⟨(h c).1.trans ?_, (h c).2⟩) (Cert.Reference15Ideal.Value.run m' g')
  obtain ⟨e0, e1⟩ := heq c
  refine Eq.trans (b := In.ref (m' ((c.tc : Thread _ _).loc Cert.Reference15Ideal.main_arg0)) (m' ((c.tc : Thread _ _).loc Cert.Reference15Ideal.main_arg1))) rfl ?_
  rw [e0, e1]
  exact (In.out2 m c).symm

end Cert.Proj

end
-- ==== Proof.Proj.InBDwStep.lean ====
/- What a grid point of the call that computes the gradient of mixer B's input projection's weight leaves in its scratch and in
   its output block. -/
module

public import proofs.«01_k».proof.Proof.Gen.Kernel16Ideal.Value
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Proj.InBDw

open Idealize.ShloMosaic Idealize.ShloMosaic.TcCoe Idealize.SL.Sem Cert.Kernel16Ideal Cert.Kernel16Ideal.Gen

theorem hz : (![0, 0] : Fin 2 → Nat) = fun _ => 0 := funext fun a => by fin_cases a <;> rfl

section
variable (c : Dev nD) (i : grid0.Coords) (a3 : Memref sig .tc .vmem S1024x1024 .bf16) (h3 : a3.IsWhole)
  (a4 : Memref sig .tc .vmem S1024x512 .bf16) (h4 : a4.IsWhole) (a5 : Memref sig .tc .vmem S1024x512 .f32) (h5 : a5.IsWhole)
  (a6 : Memref sig .tc .vmem S1024x512 .f32) (h6 : a6.IsWhole) (x : Vec Ideal S1024x1024 .bf16) (y : Vec Ideal S1024x512 .bf16)
  (s : Vec Ideal S1024x512 .f32)

theorem first (hc0 : cond0_0 i) (hc1 : ¬cond0_1 i) : sout0_A_0 c i a3 h3 a4 h4 a5 h5 a6 h6 hc0 hc1 x y = k0_pay2 x (k0_pay1 (F := Ideal)) y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x512) hz, View.readCov_unit_zero (S := S1024x512) _ hz]
  simp only [View.readAt_eq_ld, h3.read_unread, h4.read_unread, View.ld_unit_zero (S := S1024x1024) hz, View.ld_unit_zero (S := S1024x512) hz, shapeCast_self]

theorem next (hc0 : ¬cond0_0 i) (hc1 : ¬cond0_1 i) : sout0_B_0 c i a3 h3 a4 h4 a5 h5 a6 h6 hc0 hc1 x y s = k0_pay2 x s y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S1024x512) hz]
  simp only [View.readAt_eq_ld, h3.read_unread, h4.read_unread, h6.read_unread, View.ld_unit_zero (S := S1024x1024) hz, View.ld_unit_zero (S := S1024x512) hz, shapeCast_self]

theorem last (hc0 : ¬cond0_0 i) (hc1 : cond0_1 i) : sout0_C_0 c i a3 h3 a4 h4 a5 h5 a6 h6 hc0 hc1 x y s = k0_pay2 x s y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero (S := S1024x512) hz]
  simp only [View.readAt_eq_ld, h3.read_unread, h4.read_unread, h6.read_unread, View.ld_unit_zero (S := S1024x1024) hz, View.ld_unit_zero (S := S1024x512) hz, shapeCast_self]

theorem flush (hc0 : ¬cond0_0 i) (hc1 : cond0_1 i) : out0_C_2 c i a3 h3 a4 h4 a5 h5 a6 h6 hc0 hc1 x y s = k0_pay3 (k0_pay2 x s y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x512) hz, View.readCov_unit_zero (S := S1024x512) _ hz]
  simp only [View.readAt_eq_ld, h3.read_unread, h4.read_unread, h6.read_unread, View.ld_unit_zero (S := S1024x1024) hz, View.ld_unit_zero (S := S1024x512) hz, shapeCast_self]

end

theorem zero_at (p : Fin 1024) (q : Fin 512) : (k0_pay1 (F := Ideal)) (ix2 p q) = 0 := by
  pointwise [k0_pay1]

theorem add_at (x : Vec Ideal S1024x1024 .bf16) (s : Vec Ideal S1024x512 .f32) (y : Vec Ideal S1024x512 .bf16) (p : Fin 1024) (q : Fin 512) :
    (k0_pay2 (F := Ideal) x s y) (ix2 p q) = s (ix2 p q) + ∑ r : Fin 1024, x (ix2 r p) * y (ix2 r q) := by
  pointwise [k0_pay2]

theorem out_at (s : Vec Ideal S1024x512 .f32) (p : Fin 1024) (q : Fin 512) : (k0_pay3 (F := Ideal) s) (ix2 p q) = s (ix2 p q) := by
  pointwise [k0_pay3]

end Cert.Proj.InBDw

end
-- ==== Proof.Proj.InBDw.lean ====
/- The call that computes the gradient of mixer B's input projection's weight returns the transposed rows times the gradient. -/
module

public import proofs.«01_k».proof.Proof.Proj.InBDwStep
public import proofs.«01_k».proof.Proof.Ffn.Sums
public import proofs.«01_k».proof.Proof.Gen.Reference16Ideal.Run
public import Idealize.ShloMosaic.Lib.Claim
public import Idealize.ShloMosaic.Lib.StableHlo.RunRead

@[expose] public section

noncomputable section

namespace Cert.Proj.InBDw

open Idealize.ShloMosaic Idealize.ShloMosaic.TcCoe Idealize.SL.Sem Cert.Kernel16Ideal Cert.Kernel16Ideal.Gen Cert.Ffn

variable (m : (ℓ : Loc nD τ sig) → Buf (Elt Ideal) ℓ) (c : Dev nD)

abbrev aN : FVec Ideal S16384x1024 .f32 := m ((c.tc : Thread nD τ).loc main_arg0)
abbrev aD : FVec Ideal S16384x512 .f32 := m ((c.tc : Thread nD τ).loc main_arg2)

theorem V_n : (V m c main_v0 : FVec Ideal S16384x1024 .bf16) = aN m c := by
  entry_read
  rfl

theorem V_d : (V m c main_v1 : FVec Ideal S16384x512 .bf16) = aD m c := by
  entry_read
  rfl

/-- The block indices of a grid point. -/
theorem idx : ∀ t : Fin cfg0.N,
    win0_0.index t = ![t.val, 0] ∧ win0_1.index t = ![t.val, 0] ∧ win0_2.index t = ![0, 0] :=
  (by decide +kernel : ∀ t : Fin grid0.N, _)

theorem lt16 (t : Fin cfg0.N) : t.val < 16 := lt_of_lt_of_eq t.isLt N_0

theorem blk_n (t : Fin cfg0.N) (r p : Fin 1024) :
    iblk m c 0 t (ix2 r p) = (V m c main_v0 : FVec Ideal S16384x1024 .bf16) (ix2 ⟨t.val * 1024 + r.val, by have := lt16 t; omega⟩ p) := by
  blk_point [iblk, idx t]

theorem blk_d (t : Fin cfg0.N) (r : Fin 1024) (q : Fin 512) :
    iblk m c 1 t (ix2 r q) = (V m c main_v1 : FVec Ideal S16384x512 .bf16) (ix2 ⟨t.val * 1024 + r.val, by have := lt16 t; omega⟩ q) := by
  blk_point [iblk, idx t]

/-- The term of token `i` in the entry (p, q) of the product. -/
def term (p : Fin 1024) (q : Fin 512) (i : ℕ) : EReal :=
  aN m c (ix2 ⟨i % 16384, by omega⟩ p) * aD m c (ix2 ⟨i % 16384, by omega⟩ q)

/-- The part of the product that grid point `n` adds. -/
def part (p : Fin 1024) (q : Fin 512) (n : ℕ) : EReal := ∑ r : Fin 1024, term m c p q (n * 1024 + r.val)

theorem add_eq (t : Fin cfg0.N) (s : Vec Ideal S1024x512 .f32) (p : Fin 1024) (q : Fin 512) :
    (k0_pay2 (F := Ideal) (iblk m c 0 t) s (iblk m c 1 t)) (ix2 p q) = s (ix2 p q) + part m c p q t.val := by
  have ht := lt16 t
  rw [add_at]
  refine congrArg _ (Finset.sum_congr rfl fun r _ => ?_)
  rw [blk_n, blk_d, V_n, V_d]
  have h1 : (t.val * 1024 + r.val) % 16384 = t.val * 1024 + r.val := by omega
  unfold term
  simp only [h1]

/-- What the scratch holds after a grid point. -/
theorem scratch (p : Fin 1024) (q : Fin 512) (j k : ℕ) (hk : k < 16) (h : 16 * j + k < cfg0.N) :
    (outsAt0 m c (16 * j + k) h).2 (ix2 p q) = ∑ l ∈ Finset.range (k + 1), part m c p q (16 * j + l) := by
  refine run_sum (fun n h => (outsAt0 m c n h).2 (ix2 p q)) (part m c p q) (fun n h h0 => ?_) (fun n h h' h0 => ?_) j k hk h
  · rw [outsAt0_A m c ⟨n, h⟩ h0 (by dsimp only; omega)]
    dsimp only
    rw [first, add_eq, zero_at, zero_add]
  · by_cases h1 : (n + 1) % 16 = 15
    · rw [outsAt0_C m c ⟨n + 1, h'⟩ h0 h1]
      dsimp only
      rw [last, add_eq]
      rfl
    · rw [outsAt0_B m c ⟨n + 1, h'⟩ h0 h1]
      dsimp only
      rw [next, add_eq]
      rfl

/-- What the last point leaves in the output's block. -/
theorem block (t : Fin cfg0.N) (ht : t.val % 16 = 15) (p : Fin 1024) (q : Fin 512) :
    (outsAt0 m c t.val t.isLt).1 (ix2 p q) = ∑ i : Fin 16384, term m c p q i.val := by
  have e : (outsAt0 m c t.val t.isLt).1 (ix2 p q) = (outsAt0 m c t.val t.isLt).2 (ix2 p q) := by
    rw [outsAt0_C m c t (by omega) ht]
    dsimp only
    rw [flush, last, out_at]
  have e2 : ∀ n h, n = t.val → (outsAt0 m c n h).2 (ix2 p q) = (outsAt0 m c t.val t.isLt).2 (ix2 p q) := by
    intro n h hn; subst hn; rfl
  have hl := lt16 t
  have hd : t.val = 16 * 0 + 15 := by omega
  rw [e, ← e2 (16 * 0 + 15) (by rw [← hd]; exact t.isLt) hd.symm, scratch m c p q _ 15 (by omega),
    Fin.sum_univ_tiles 16 1024 (by norm_num) fun i => term m c p q i.val, Finset.sum_range]
  refine Finset.sum_congr rfl fun j _ => ?_
  unfold part
  rw [show 16 * 0 + j.val = j.val by omega]

/-- The reference's result: the transposed product of the gradient with the rows. -/
def ref (n : FVec Ideal Cert.Reference16Ideal.S16384x1024 .f32) (d : FVec Ideal Cert.Reference16Ideal.S16384x512 .f32) : FVec Ideal Cert.Reference16Ideal.S1024x512 .f32 :=
  transpose Cert.Reference16Ideal.S1024x512 [1, 0]
    (Host.dotGeneral Cert.Reference16Ideal.dot_S16384x512_S16384x1024_S512x1024_0_0_1_1_n_n none d n)
    Cert.Reference16Ideal.Gen.transposes_S512x1024_S1024x512_1_0

theorem ref_at (n : FVec Ideal Cert.Reference16Ideal.S16384x1024 .f32) (d : FVec Ideal Cert.Reference16Ideal.S16384x512 .f32) (p : Fin 1024) (q : Fin 512) : ref n d (ix2 p q)
    = ∑ i : Fin 16384, d (ix2 i q) * n (ix2 i p) := by
  unfold ref
  pointwise

theorem out2 : (dats m 0 c).arrAt 2 cfg0.N = ref (aN m c) (aD m c) := by
  refine (dats m 0 c).arrAt_eq_of_covers 2 _ (by decide +kernel) fun t hf y => ?_
  obtain ⟨p, q, rfl⟩ : ∃ (p : Fin 1024) (q : Fin 512), y = ix2 p q := ⟨y 0, y 1, eq_ix2 y⟩
  have e : ∀ X : FVec Ideal S1024x512 .f32, ((cfg0.win 2).blk t).view.read (Elt Ideal) X (ix2 p q) = X (ix2 p q) := fun X => by
    blk_point [idx t]
  refine Eq.trans ?_ ((e (ref (aN m c) (aD m c))).trans (ref_at _ _ _ _)).symm
  refine (congrFun (after0_2 m c t) _).trans ?_
  refine (block m c t ((flush0_2 t).mp hf) p q).trans (Finset.sum_congr (M := EReal) rfl fun i _ => ?_)
  have h1 : i.val % 16384 = i.val := by omega
  unfold term
  simp only [h1]
  exact mul_comm _ _

end Cert.Proj.InBDw

end
-- ==== Proof.Proj.Claim16.lean ====
/- The claims of program 16: its runs end with the semaphores at zero and the arguments kept, and the call returns the
   reference's gradient of mixer B's input projection's weight. -/
module

public import proofs.«01_k».proof.Defs
public import proofs.«01_k».proof.Proof.Proj.InBDw
public import proofs.«01_k».proof.Proof.Gen.Kernel16.Frame
public import proofs.«01_k».proof.Proof.Gen.Kernel16Ideal.Value
public import proofs.«01_k».proof.Proof.Gen.Reference16Ideal.Run
public import Idealize.ShloMosaic.Lib.Quiescent

@[expose] public section

noncomputable section

namespace Cert.Proj

open Idealize.ShloMosaic Idealize.ShloMosaic.TcCoe Idealize.SL.Sem

theorem quiet16 : Cert.quiescent_Kernel16 (hKernel16 := Cert.Kernel16.Gen.facts) := fun m ρ _ => Cert.Kernel16.Gen.frame m ρ

theorem quiet16Ideal : Cert.quiescent_Kernel16Ideal (hKernel16Ideal := Cert.Kernel16Ideal.Gen.facts) := fun m ρ _ => Cert.Kernel16Ideal.Gen.frame m ρ

theorem quietRef16 : Cert.quiescent_Reference16Ideal (hReference16Ideal := Cert.Reference16Ideal.Gen.facts) := fun m ρ _ =>
  (θ_run Cert.Reference16Ideal.defs _ _).mono
    (fun r h => ⟨fun c => (h c).2, Idealize.ShloMosaic.sem_eq_zero_of_no_sems (by decide) r.2⟩) (Cert.Reference16Ideal.Value.run m ρ)

theorem keeps16 : Cert.preserves_Kernel16_Kernel16Ideal := trivial

set_option maxRecDepth 8192 in
theorem equal16 : Cert.algebraic_Kernel16Ideal_Reference16Ideal (hKernel16Ideal := Cert.Kernel16Ideal.Gen.facts)
    (hReference16Ideal := Cert.Reference16Ideal.Gen.facts) := by
  intro m g m' g' hpre heq
  refine ⟨fun c => (Cert.Kernel16Ideal.Gen.dats m 0 c).arrAt 2 Cert.Kernel16Ideal.cfg0.N, Cert.Kernel16Ideal.Value.run_blocks m g, ?_⟩
  refine (θ_run Cert.Reference16Ideal.defs _ _).mono (fun r h c => ⟨(h c).1.trans ?_, (h c).2⟩) (Cert.Reference16Ideal.Value.run m' g')
  obtain ⟨e0, e1, e2⟩ := heq c
  refine Eq.trans (b := InBDw.ref (m' ((c.tc : Thread _ _).loc Cert.Reference16Ideal.main_arg0)) (m' ((c.tc : Thread _ _).loc Cert.Reference16Ideal.main_arg2))) rfl ?_
  rw [e0, e2]
  exact (InBDw.out2 m c).symm

end Cert.Proj

end
-- ==== Proof.Proj.InBDxStep.lean ====
/- What a grid point of the call that computes the gradient of the rows that mixer B projects leaves in its output block. -/
module

public import proofs.«01_k».proof.Proof.Gen.Kernel17Ideal.Value
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Proj.InBDx

open Idealize.ShloMosaic Idealize.ShloMosaic.TcCoe Idealize.SL.Sem Cert.Kernel17Ideal Cert.Kernel17Ideal.Gen

theorem hz : (![0, 0] : Fin 2 → Nat) = fun _ => 0 := funext fun a => by fin_cases a <;> rfl

section
variable (c : Dev nD) (i : grid0.Coords) (a3 : Memref sig .tc .vmem S1024x512 .bf16) (h3 : a3.IsWhole)
  (a4 : Memref sig .tc .vmem S1024x512 .bf16) (h4 : a4.IsWhole) (a5 : Memref sig .tc .vmem S1024x1024 .bf16) (h5 : a5.IsWhole)
  (a6 : Memref sig .tc .vmem S1024x1024 .f32) (h6 : a6.IsWhole) (x : Vec Ideal S1024x512 .bf16) (y : Vec Ideal S1024x512 .bf16)

theorem flush (hc0 : cond0_0 i) (hc1 : cond0_1 i) : out0_A_2 c i a3 h3 a4 h4 a5 h5 a6 h6 hc0 hc1 x y = k0_pay3 (k0_pay2 x (k0_pay1 (F := Ideal)) y) := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero (S := S1024x1024) hz]
  simp only [View.readCov_unit_zero (S := S1024x1024) _ hz, View.readCov_cons_toLoadRect, View.readAt_eq_ld, h3.read_unread, h4.read_unread,
    View.ld_unit_zero (S := S1024x512) hz, shapeCast_self]

end

theorem block_at (x : Vec Ideal S1024x512 .bf16) (y : Vec Ideal S1024x512 .bf16) (p q : Fin 1024) :
    (k0_pay3 (F := Ideal) (k0_pay2 x (k0_pay1 (F := Ideal)) y)) (ix2 p q) = ∑ k : Fin 512, x (ix2 p k) * y (ix2 q k) := by
  pointwise [k0_pay3, k0_pay2, k0_pay1]

end Cert.Proj.InBDx

end
-- ==== Proof.Proj.InBDx.lean ====
/- The call that computes the gradient of the rows that mixer B projects returns the gradient times the transposed weight. -/
module

public import proofs.«01_k».proof.Proof.Proj.InBDxStep
public import proofs.«01_k».proof.Proof.Gen.Reference17Ideal.Run
public import Idealize.ShloMosaic.Lib.Claim
public import Idealize.ShloMosaic.Lib.StableHlo.RunRead

@[expose] public section

noncomputable section

namespace Cert.Proj.InBDx

open Idealize.ShloMosaic Idealize.ShloMosaic.TcCoe Idealize.SL.Sem Cert.Kernel17Ideal Cert.Kernel17Ideal.Gen

variable (m : (ℓ : Loc nD τ sig) → Buf (Elt Ideal) ℓ) (c : Dev nD)

abbrev aW : FVec Ideal S1024x512 .f32 := m ((c.tc : Thread nD τ).loc main_arg1)
abbrev aD : FVec Ideal S16384x512 .f32 := m ((c.tc : Thread nD τ).loc main_arg2)

theorem V_w : (V m c main_v1 : FVec Ideal S1024x512 .bf16) = aW m c := by
  entry_read
  rfl

theorem V_d : (V m c main_v0 : FVec Ideal S16384x512 .bf16) = aD m c := by
  entry_read
  rfl

/-- The block indices of a grid point. -/
theorem idx : ∀ t : Fin cfg0.N,
    win0_0.index t = ![t.val, 0] ∧ win0_1.index t = ![0, 0] ∧ win0_2.index t = ![t.val, 0] :=
  (by decide +kernel : ∀ t : Fin grid0.N, _)

theorem lt16 (t : Fin cfg0.N) : t.val < 16 := lt_of_lt_of_eq t.isLt N_0

theorem blk_d (t : Fin cfg0.N) (p : Fin 1024) (k : Fin 512) :
    iblk m c 0 t (ix2 p k) = (V m c main_v0 : FVec Ideal S16384x512 .bf16) (ix2 ⟨t.val * 1024 + p.val, by have := lt16 t; omega⟩ k) := by
  blk_point [iblk, idx t]

theorem blk_w (t : Fin cfg0.N) (q : Fin 1024) (k : Fin 512) :
    iblk m c 1 t (ix2 q k) = (V m c main_v1 : FVec Ideal S1024x512 .bf16) (ix2 q k) := by
  blk_point [iblk, idx t]

/-- The reference's result: the gradient times the transposed weight. -/
def ref (w : FVec Ideal Cert.Reference17Ideal.S1024x512 .f32) (d : FVec Ideal Cert.Reference17Ideal.S16384x512 .f32) :
    FVec Ideal Cert.Reference17Ideal.S16384x1024 .bf16 :=
  truncf .bf16 (Host.dotGeneral Cert.Reference17Ideal.dot_S16384x512_S1024x512_S16384x1024_1_1_0_0_n_n none d w)
    Cert.Reference17Ideal.Gen.bitsLt_bf16_f32

theorem ref_at (w : FVec Ideal Cert.Reference17Ideal.S1024x512 .f32) (d : FVec Ideal Cert.Reference17Ideal.S16384x512 .f32)
    (i : Fin 16384) (q : Fin 1024) : ref w d (ix2 i q) = ∑ k : Fin 512, d (ix2 i k) * w (ix2 q k) := by
  unfold ref
  pointwise

theorem out2 : (dats m 0 c).arrAt 2 cfg0.N = ref (aW m c) (aD m c) := by
  refine (dats m 0 c).arrAt_eq_of_covers 2 _ (by decide +kernel) fun t hf y => ?_
  have hl := lt16 t
  obtain ⟨p, q, rfl⟩ : ∃ (p q : Fin 1024), y = ix2 p q := ⟨y 0, y 1, eq_ix2 y⟩
  have e : ∀ X : FVec Ideal S16384x1024 .bf16, ((cfg0.win 2).blk t).view.read (Elt Ideal) X (ix2 p q)
      = X (ix2 ⟨t.val * 1024 + p.val, by omega⟩ q) := fun X => by
    blk_point [idx t]
  refine Eq.trans ?_ ((e (ref (aW m c) (aD m c))).trans (ref_at _ _ _ _)).symm
  refine (congrFun (after0_2 m c t) _).trans ?_
  have e3 : outsAt0 m c t (ix2 p q) = ∑ k : Fin 512, aD m c (ix2 ⟨t.val * 1024 + p.val, by omega⟩ k) * aW m c (ix2 q k) := by
    unfold outsAt0
    rw [flush, block_at]
    refine Finset.sum_congr rfl fun k _ => ?_
    rw [blk_d, blk_w, V_d, V_w]
  exact e3

end Cert.Proj.InBDx

end
-- ==== Proof.Proj.Claim17.lean ====
/- The claims of program 17: its runs end with the semaphores at zero and the arguments kept, and the call returns the
   reference's gradient of the rows that mixer B projects. -/
module

public import proofs.«01_k».proof.Defs
public import proofs.«01_k».proof.Proof.Proj.InBDx
public import proofs.«01_k».proof.Proof.Gen.Kernel17.Frame
public import proofs.«01_k».proof.Proof.Gen.Kernel17Ideal.Value
public import proofs.«01_k».proof.Proof.Gen.Reference17Ideal.Run
public import Idealize.ShloMosaic.Lib.Quiescent

@[expose] public section

noncomputable section

namespace Cert.Proj

open Idealize.ShloMosaic Idealize.ShloMosaic.TcCoe Idealize.SL.Sem

theorem quiet17 : Cert.quiescent_Kernel17 (hKernel17 := Cert.Kernel17.Gen.facts) := fun m ρ _ => Cert.Kernel17.Gen.frame m ρ

theorem quiet17Ideal : Cert.quiescent_Kernel17Ideal (hKernel17Ideal := Cert.Kernel17Ideal.Gen.facts) := fun m ρ _ => Cert.Kernel17Ideal.Gen.frame m ρ

theorem quietRef17 : Cert.quiescent_Reference17Ideal (hReference17Ideal := Cert.Reference17Ideal.Gen.facts) := fun m ρ _ =>
  (θ_run Cert.Reference17Ideal.defs _ _).mono
    (fun r h => ⟨fun c => (h c).2, Idealize.ShloMosaic.sem_eq_zero_of_no_sems (by decide) r.2⟩) (Cert.Reference17Ideal.Value.run m ρ)

theorem keeps17 : Cert.preserves_Kernel17_Kernel17Ideal := trivial

set_option maxRecDepth 8192 in
theorem equal17 : Cert.algebraic_Kernel17Ideal_Reference17Ideal (hKernel17Ideal := Cert.Kernel17Ideal.Gen.facts)
    (hReference17Ideal := Cert.Reference17Ideal.Gen.facts) := by
  intro m g m' g' hpre heq
  refine ⟨fun c => (Cert.Kernel17Ideal.Gen.dats m 0 c).arrAt 2 Cert.Kernel17Ideal.cfg0.N, Cert.Kernel17Ideal.Value.run_blocks m g, ?_⟩
  refine (θ_run Cert.Reference17Ideal.defs _ _).mono (fun r h c => ⟨(h c).1.trans ?_, (h c).2⟩) (Cert.Reference17Ideal.Value.run m' g')
  obtain ⟨e0, e1, e2⟩ := heq c
  refine Eq.trans (b := InBDx.ref (m' ((c.tc : Thread _ _).loc Cert.Reference17Ideal.main_arg1)) (m' ((c.tc : Thread _ _).loc Cert.Reference17Ideal.main_arg2))) rfl ?_
  rw [e1, e2]
  exact (InBDx.out2 m c).symm

end Cert.Proj

end
-- ==== Proof.Proj.InBStep.lean ====
/- What a grid point of the call of mixer B's input projection leaves in its output block. -/
module

public import proofs.«01_k».proof.Proof.Gen.Kernel18Ideal.Value
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Proj.InB

open Idealize.ShloMosaic Idealize.ShloMosaic.TcCoe Idealize.SL.Sem Cert.Kernel18Ideal Cert.Kernel18Ideal.Gen

theorem hz : (![0, 0] : Fin 2 → Nat) = fun _ => 0 := funext fun a => by fin_cases a <;> rfl

section
variable (c : Dev nD) (i : grid0.Coords) (a3 : Memref sig .tc .vmem S1024x1024 .bf16) (h3 : a3.IsWhole)
  (a4 : Memref sig .tc .vmem S1024x512 .bf16) (h4 : a4.IsWhole) (a5 : Memref sig .tc .vmem S1024x512 .bf16) (h5 : a5.IsWhole)
  (a6 : Memref sig .tc .vmem S1024x512 .f32) (h6 : a6.IsWhole) (x : Vec Ideal S1024x1024 .bf16) (y : Vec Ideal S1024x512 .bf16)

theorem flush (hc0 : cond0_0 i) (hc1 : cond0_1 i) : out0_A_2 c i a3 h3 a4 h4 a5 h5 a6 h6 hc0 hc1 x y = k0_pay3 (k0_pay2 x (k0_pay1 (F := Ideal)) y) := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero (S := S1024x512) hz]
  simp only [View.readCov_unit_zero (S := S1024x512) _ hz, View.readCov_cons_toLoadRect, View.readAt_eq_ld, h3.read_unread, h4.read_unread,
    View.ld_unit_zero (S := S1024x1024) hz, View.ld_unit_zero (S := S1024x512) hz, shapeCast_self]

end

theorem block_at (x : Vec Ideal S1024x1024 .bf16) (y : Vec Ideal S1024x512 .bf16) (p : Fin 1024) (q : Fin 512) :
    (k0_pay3 (F := Ideal) (k0_pay2 x (k0_pay1 (F := Ideal)) y)) (ix2 p q) = ∑ k : Fin 1024, x (ix2 p k) * y (ix2 k q) := by
  pointwise [k0_pay3, k0_pay2, k0_pay1]

end Cert.Proj.InB

end
-- ==== Proof.Proj.InB.lean ====
/- The call of mixer B's input projection returns the rows times the weight. -/
module

public import proofs.«01_k».proof.Proof.Proj.InBStep
public import proofs.«01_k».proof.Proof.Gen.Reference18Ideal.Run
public import Idealize.ShloMosaic.Lib.Claim
public import Idealize.ShloMosaic.Lib.StableHlo.RunRead

@[expose] public section

noncomputable section

namespace Cert.Proj.InB

open Idealize.ShloMosaic Idealize.ShloMosaic.TcCoe Idealize.SL.Sem Cert.Kernel18Ideal Cert.Kernel18Ideal.Gen

variable (m : (ℓ : Loc nD τ sig) → Buf (Elt Ideal) ℓ) (c : Dev nD)

abbrev aN : FVec Ideal S16384x1024 .f32 := m ((c.tc : Thread nD τ).loc main_arg0)
abbrev aW : FVec Ideal S1024x512 .f32 := m ((c.tc : Thread nD τ).loc main_arg1)

theorem V_n : (V m c main_v0 : FVec Ideal S16384x1024 .bf16) = aN m c := by
  entry_read
  rfl

theorem V_w : (V m c main_v1 : FVec Ideal S1024x512 .bf16) = aW m c := by
  entry_read
  rfl

/-- The block indices of a grid point. -/
theorem idx : ∀ t : Fin cfg0.N,
    win0_0.index t = ![t.val, 0] ∧ win0_1.index t = ![0, 0] ∧ win0_2.index t = ![t.val, 0] :=
  (by decide +kernel : ∀ t : Fin grid0.N, _)

theorem lt16 (t : Fin cfg0.N) : t.val < 16 := lt_of_lt_of_eq t.isLt N_0

theorem blk_n (t : Fin cfg0.N) (p k : Fin 1024) :
    iblk m c 0 t (ix2 p k) = (V m c main_v0 : FVec Ideal S16384x1024 .bf16) (ix2 ⟨t.val * 1024 + p.val, by have := lt16 t; omega⟩ k) := by
  blk_point [iblk, idx t]

theorem blk_w (t : Fin cfg0.N) (k : Fin 1024) (q : Fin 512) :
    iblk m c 1 t (ix2 k q) = (V m c main_v1 : FVec Ideal S1024x512 .bf16) (ix2 k q) := by
  blk_point [iblk, idx t]

/-- The reference's result: the product. -/
def ref (n : FVec Ideal Cert.Reference18Ideal.S16384x1024 .f32) (w : FVec Ideal Cert.Reference18Ideal.S1024x512 .f32) :
    FVec Ideal Cert.Reference18Ideal.S16384x512 .bf16 :=
  truncf .bf16 (Host.dotGeneral Cert.Reference18Ideal.dot_S16384x1024_S1024x512_S16384x512_1_0_0_1_n_n none n w)
    Cert.Reference18Ideal.Gen.bitsLt_bf16_f32

theorem ref_at (n : FVec Ideal Cert.Reference18Ideal.S16384x1024 .f32) (w : FVec Ideal Cert.Reference18Ideal.S1024x512 .f32)
    (i : Fin 16384) (q : Fin 512) : ref n w (ix2 i q) = ∑ k : Fin 1024, n (ix2 i k) * w (ix2 k q) := by
  unfold ref
  pointwise

theorem out2 : (dats m 0 c).arrAt 2 cfg0.N = ref (aN m c) (aW m c) := by
  refine (dats m 0 c).arrAt_eq_of_covers 2 _ (by decide +kernel) fun t hf y => ?_
  have hl := lt16 t
  obtain ⟨p, q, rfl⟩ : ∃ (p : Fin 1024) (q : Fin 512), y = ix2 p q := ⟨y 0, y 1, eq_ix2 y⟩
  have e : ∀ X : FVec Ideal S16384x512 .bf16, ((cfg0.win 2).blk t).view.read (Elt Ideal) X (ix2 p q)
      = X (ix2 ⟨t.val * 1024 + p.val, by omega⟩ q) := fun X => by
    blk_point [idx t]
  refine Eq.trans ?_ ((e (ref (aN m c) (aW m c))).trans (ref_at _ _ _ _)).symm
  refine (congrFun (after0_2 m c t) _).trans ?_
  have e3 : outsAt0 m c t (ix2 p q) = ∑ k : Fin 1024, aN m c (ix2 ⟨t.val * 1024 + p.val, by omega⟩ k) * aW m c (ix2 k q) := by
    unfold outsAt0
    rw [flush, block_at]
    refine Finset.sum_congr rfl fun k _ => ?_
    rw [blk_n, blk_w, V_n, V_w]
  exact e3

end Cert.Proj.InB

end
-- ==== Proof.Proj.Claim18.lean ====
/- The claims of program 18: its runs end with the semaphores at zero and the arguments kept, and the call returns the
   reference's rows projected for mixer B. -/
module

public import proofs.«01_k».proof.Defs
public import proofs.«01_k».proof.Proof.Proj.InB
public import proofs.«01_k».proof.Proof.Gen.Kernel18.Frame
public import proofs.«01_k».proof.Proof.Gen.Kernel18Ideal.Value
public import proofs.«01_k».proof.Proof.Gen.Reference18Ideal.Run
public import Idealize.ShloMosaic.Lib.Quiescent

@[expose] public section

noncomputable section

namespace Cert.Proj

open Idealize.ShloMosaic Idealize.ShloMosaic.TcCoe Idealize.SL.Sem

theorem quiet18 : Cert.quiescent_Kernel18 (hKernel18 := Cert.Kernel18.Gen.facts) := fun m ρ _ => Cert.Kernel18.Gen.frame m ρ

theorem quiet18Ideal : Cert.quiescent_Kernel18Ideal (hKernel18Ideal := Cert.Kernel18Ideal.Gen.facts) := fun m ρ _ => Cert.Kernel18Ideal.Gen.frame m ρ

theorem quietRef18 : Cert.quiescent_Reference18Ideal (hReference18Ideal := Cert.Reference18Ideal.Gen.facts) := fun m ρ _ =>
  (θ_run Cert.Reference18Ideal.defs _ _).mono
    (fun r h => ⟨fun c => (h c).2, Idealize.ShloMosaic.sem_eq_zero_of_no_sems (by decide) r.2⟩) (Cert.Reference18Ideal.Value.run m ρ)

theorem keeps18 : Cert.preserves_Kernel18_Kernel18Ideal := trivial

set_option maxRecDepth 8192 in
theorem equal18 : Cert.algebraic_Kernel18Ideal_Reference18Ideal (hKernel18Ideal := Cert.Kernel18Ideal.Gen.facts)
    (hReference18Ideal := Cert.Reference18Ideal.Gen.facts) := by
  intro m g m' g' hpre heq
  refine ⟨fun c => (Cert.Kernel18Ideal.Gen.dats m 0 c).arrAt 2 Cert.Kernel18Ideal.cfg0.N, Cert.Kernel18Ideal.Value.run_blocks m g, ?_⟩
  refine (θ_run Cert.Reference18Ideal.defs _ _).mono (fun r h c => ⟨(h c).1.trans ?_, (h c).2⟩) (Cert.Reference18Ideal.Value.run m' g')
  obtain ⟨e0, e1⟩ := heq c
  refine Eq.trans (b := InB.ref (m' ((c.tc : Thread _ _).loc Cert.Reference18Ideal.main_arg0)) (m' ((c.tc : Thread _ _).loc Cert.Reference18Ideal.main_arg1))) rfl ?_
  rw [e0, e1]
  exact (InB.out2 m c).symm

end Cert.Proj

end
-- ==== Proof.Mem.Head.lean ====
/- The gradient of the attention to the memory, one head of one query, over the extended reals: the softmax's exponentials,
   the gradient of the scores, and the fact that a sum over all columns of a head's part is the sum over its 64 columns. -/
module

public import Idealize.ShloMosaic.PureOps.Ideal
public import Idealize.ShloMosaic.Lib.Pointwise.Sums
public import proofs.«01_k».proof.Proof.Ffn.Sums

@[expose] public section

noncomputable section

namespace Cert.Mem

open Idealize.ShloMosaic
open scoped BigOperators

/-- Column `d` of head `h`, of the 256. -/
def col (h : Fin 4) (d : Fin 64) : Fin 256 := ⟨h.val * 64 + d.val, by omega⟩

/-- A column's head. -/
def hd (x : Fin 256) : Fin 4 := ⟨x.val / 64, by omega⟩

theorem hd_col (h : Fin 4) (d : Fin 64) : hd (col h d) = h := Fin.ext (by simp only [hd, col]; omega)

theorem col_hd (x : Fin 256) : col (hd x) ⟨x.val % 64, by omega⟩ = x := Fin.ext (by simp only [hd, col]; omega)

/-- The factor that keeps the columns of head `h`. -/
def keep (h : Fin 4) (x : Fin 256) : EReal := if hd x = h then 1 else 0

/-- A sum over the columns whose terms vanish outside head `h`. -/
theorem sum_keep (h : Fin 4) (f : Fin 256 → EReal) (hf : ∀ x, hd x ≠ h → f x = 0) : ∑ x, f x = ∑ d, f (col h d) := by
  classical
  rw [← Finset.sum_image (s := Finset.univ) (g := col h) (f := f)
    (fun a _ b _ e => Fin.ext (by have := congrArg Fin.val e; simp only [col] at this; omega))]
  refine (Finset.sum_subset (Finset.subset_univ _) fun x _ hx => hf x fun e => hx ?_).symm
  refine Finset.mem_image.mpr ⟨⟨x.val % 64, by omega⟩, Finset.mem_univ _, Fin.ext ?_⟩
  subst e
  simp only [col, hd]
  omega

theorem sum_keep_left (h : Fin 4) (f g : Fin 256 → EReal) : ∑ x, f x * keep h x * g x = ∑ d, f (col h d) * g (col h d) := by
  rw [sum_keep h _ fun x hx => by rw [keep, if_neg hx, mul_zero, zero_mul]]
  refine Finset.sum_congr rfl fun d _ => ?_
  rw [keep, if_pos (hd_col h d), mul_one]

theorem sum_keep_right (h : Fin 4) (f g : Fin 256 → EReal) : ∑ x, f x * (g x * keep h x) = ∑ d, f (col h d) * g (col h d) := by
  rw [sum_keep h _ fun x hx => by rw [keep, if_neg hx, mul_zero, mul_zero]]
  refine Finset.sum_congr rfl fun d _ => ?_
  rw [keep, if_pos (hd_col h d), mul_one]

/-- Of four heads' parts, each kept on its own columns, a column keeps its own head's. -/
theorem four_keep (f : Fin 4 → EReal) (x : Fin 256) :
    f 3 * keep 3 x + f 2 * keep 2 x + f 1 * keep 1 x + f 0 * keep 0 x = f (hd x) := by
  unfold keep
  generalize hd x = h
  fin_cases h <;> simp

/-- One query's numbers (`q`), its output's cotangent (`g`), the keys and the values, the heads side by side. -/
structure Row where
  q : Fin 256 → EReal
  g : Fin 256 → EReal
  k : Fin 256 → Fin 256 → EReal
  v : Fin 256 → Fin 256 → EReal

namespace Row

variable (r : Row) (h : Fin 4)

/-- The scaled scores. -/
def score (j : Fin 256) : EReal := (∑ d, r.q (col h d) * r.k j (col h d)) * Ideal.ofBits .f32 0x3E000000#32

/-- The largest. -/
def top : EReal := Finset.univ.fold max (Ideal.ofBits .f32 0xFF800000#32) (r.score h)

/-- The exponentials of the scores less the largest. -/
def ex (j : Fin 256) : EReal := Ideal.exp (r.score h j - r.top h)

/-- Their sum. -/
def tot : EReal := ∑ j, r.ex h j

/-- The gradient of the weights. -/
def dp (j : Fin 256) : EReal := ∑ d, r.g (col h d) * r.v j (col h d)

/-- The term that all the scores' gradients share. -/
def back : EReal := -∑ j, r.dp h j * Ideal.div (Ideal.ofBits .f32 0x3F800000#32) (r.tot h * r.tot h) * r.ex h j

/-- The gradient of the scores. -/
def ds (j : Fin 256) : EReal := (Ideal.div (r.dp h j) (r.tot h) + r.back h) * r.ex h j * Ideal.ofBits .f32 0x3E000000#32

/-- The query's gradient, and what the query adds to those of the keys and of the values. -/
def dq (x : Fin 256) : EReal := ∑ j, r.ds (hd x) j * r.k j x
def dk (j x : Fin 256) : EReal := r.ds (hd x) j * r.q x
def dv (j x : Fin 256) : EReal := r.g x * Ideal.div (r.ex (hd x) j) (r.tot (hd x))

end Row

end Cert.Mem

end
-- ==== Proof.Mem.Pay.lean ====
/- The values that a grid point of the call computes, read at an index: each head's part, and the sums of the four. -/
module

public import proofs.«01_k».proof.Proof.Gen.Kernel19Ideal.Value
public import proofs.«01_k».proof.Proof.Mem.Head
public import Idealize.ShloMosaic.Lib.Pointwise
public import Idealize.ShloMosaic.Lib.ValueIdx
public import Idealize.ShloMosaic.Lib.Tactic
public import Idealize.ShloMosaic.PureOps.Ideal.Laws

@[expose] public section

noncomputable section

namespace Cert.Mem

open Idealize.ShloMosaic Idealize.ShloMosaic.TcCoe Cert.Kernel19Ideal Cert.Kernel19Ideal.Gen

/-- Arrays [query, column] or [query, key], [key, column], [query, 1] and [1, column]. -/
abbrev Queries := FVec Ideal S512x256 .f32
abbrev Keys := FVec Ideal S256x256 .f32
abbrev Each := FVec Ideal S512x1 .f32
abbrev Cols := FVec Ideal S1x256 .f32

section
variable (q g : Queries) (k v : Keys) (w : BitVec 32)

/-- 1 at the columns of head `w`, 0 elsewhere. -/
def msk : Cols := sitofp .f32 (extui 32 (cmpi .eq k0_pay5 (broadcast S1x256 w)) natLt_1_32)

/-- The array with the other heads' columns at zero. -/
def ownQ : FVec Ideal S512x256 .bf16 := truncf .bf16 (mulf q (broadcastTo S512x256 (msk w) broadcasts_S1x256_S512x256)) bitsLt_bf16_f32
def ownK : FVec Ideal S256x256 .bf16 := truncf .bf16 (mulf v (broadcastTo S256x256 (msk w) broadcasts_S1x256_S256x256)) bitsLt_bf16_f32

/-- A query's number, once a key. -/
def perKey (x : Each) : Queries := broadcastTo S512x256 x broadcasts_S512x1_S512x256

/-- The sum over the keys. -/
def sumKeys (x : Queries) : Each :=
  shapeCast S512x1 (multiReduction .add [1] S512 x 0x00000000#32 reduces_S512x256_S512 (.inl rfl) rfl) shapeCasts_S512_S512x1

def scores : Queries :=
  mulf (matmul dot_S512x256_S256x256_S512x256_1_1_0_0_n_n none (ownQ q w) (truncf .bf16 k bitsLt_bf16_f32) (constant S512x256 .f32 0x00000000#32))
    (broadcast S512x256 (Scalar.ofBits .f32 0x3E000000#32))

def exps : Queries :=
  exp (subf (scores q k w) (perKey (shapeCast S512x1
    (multiReduction .maximumf [1] S512 (scores q k w) 0xFF800000#32 reduces_S512x256_S512 (.inl rfl) rfl) shapeCasts_S512_S512x1)))

def tots : Each := sumKeys (exps q k w)

def invs : Each := divf (broadcast S512x1 (Scalar.ofBits .f32 0x3F800000#32)) (mulf (tots q k w) (tots q k w))

def dps : Queries :=
  extf .f32 (truncf .bf16 (matmul dot_S512x256_S256x256_S512x256_1_1_0_0_n_n none g (ownK v w) (constant S512x256 .f32 0x00000000#32)) bitsLt_bf16_f32) bitsLt_bf16_f32

def backs : Each :=
  subf (broadcast S512x1 (Scalar.ofBits .f32 0x00000000#32)) (sumKeys (mulf (mulf (dps g v w) (perKey (invs q k w))) (exps q k w)))

def dss : Queries :=
  mulf (mulf (addf (divf (dps g v w) (perKey (tots q k w)))
    (perKey (shapeCast S512x1 (multiReduction .add [1] S512 (backs q g k v w) 0x00000000#32 reduces_S512x1_S512 (.inl rfl) rfl) shapeCasts_S512_S512x1)))
    (exps q k w)) (broadcast S512x256 (Scalar.ofBits .f32 0x3E000000#32))

/-- A head's parts of the three gradients. -/
def dqs : Queries :=
  mulf (extf .f32 (truncf .bf16 (matmul dot_S512x256_S256x256_S512x256_1_0_0_1_n_n none (dss q g k v w)
      (truncf .bf16 k bitsLt_bf16_f32) (constant S512x256 .f32 0x00000000#32)) bitsLt_bf16_f32) bitsLt_bf16_f32)
    (broadcastTo S512x256 (msk w) broadcasts_S1x256_S512x256)

def dks : Keys :=
  extf .f32 (truncf .bf16 (matmul dot_S512x256_S512x256_S256x256_0_0_1_1_n_n none (dss q g k v w) (ownQ q w)
    (constant S256x256 .f32 0x00000000#32)) bitsLt_bf16_f32) bitsLt_bf16_f32

def dvs : Keys :=
  mulf (extf .f32 (truncf .bf16 (transpose S256x256 [1, 0] (matmul dot_S512x256_S512x256_S256x256_0_0_1_1_n_n none g
      (truncf .bf16 (divf (exps q k w) (perKey (tots q k w))) bitsLt_bf16_f32) (constant S256x256 .f32 0x00000000#32))
      transposes_S256x256_p1_0_S256x256) bitsLt_bf16_f32) bitsLt_bf16_f32)
    (broadcastTo S256x256 (msk w) broadcasts_S1x256_S256x256)

end

/-- The four heads' parts together. -/
def dqAll (q g : Queries) (k v : Keys) : Queries :=
  addf (addf (addf (dqs q g k v 3#32) (dqs q g k v 2#32)) (dqs q g k v 1#32)) (dqs q g k v 0#32)
def dkAll (q g : Queries) (k v : Keys) : Keys :=
  addf (addf (addf (dks q g k v 3#32) (dks q g k v 2#32)) (dks q g k v 1#32)) (dks q g k v 0#32)
def dvAll (q g : Queries) (k : Keys) : Keys :=
  addf (addf (addf (dvs q g k 3#32) (dvs q g k 2#32)) (dvs q g k 1#32)) (dvs q g k 0#32)

section
variable (q g : Queries) (k v : Keys) (h : Fin 4)

theorem shift_at : ∀ x : Fin 256, ∀ h : Fin 4,
    IntOp.cmpi .eq (IntOp.shrui .vector (BitVec.ofNat 32 x.val) 6#32) (BitVec.ofNat 32 h.val) = if hd x = h then 1#1 else 0#1 := by
  decide +kernel

theorem msk_at (x : Fin 256) : msk (BitVec.ofNat 32 h.val) (ix2 0 x) = keep h x := by
  unfold msk
  pointwise [k0_pay5]
  rw [shift_at]
  unfold keep
  split <;> norm_num [FloatOps.sitofp]

/-- The query in row `p` of the block. -/
def row (p : Fin 512) : Row where
  q x := q (ix2 p x)
  g x := g (ix2 p x)
  k j x := k (ix2 j x)
  v j x := v (ix2 j x)

theorem scores_at (p : Fin 512) (j : Fin 256) : scores q k (BitVec.ofNat 32 h.val) (ix2 p j) = (row q g k v p).score h j := by
  unfold scores ownQ
  pointwise
  simp only [msk_at]
  exact congrArg (· * _) (sum_keep_left h (fun x => q (ix2 p x)) fun x => k (ix2 j x))

theorem exps_at (p : Fin 512) (j : Fin 256) : exps q k (BitVec.ofNat 32 h.val) (ix2 p j) = (row q g k v p).ex h j := by
  unfold exps perKey
  pointwise
  simp only [scores_at q g k v]
  rfl

theorem tots_at (p : Fin 512) (z : Fin 1) : tots q k (BitVec.ofNat 32 h.val) (ix2 p z) = (row q g k v p).tot h := by
  unfold tots sumKeys
  pointwise
  simp only [exps_at q g k v]
  rfl

theorem invs_at (p : Fin 512) (z : Fin 1) : invs q k (BitVec.ofNat 32 h.val) (ix2 p z)
    = Ideal.div (Ideal.ofBits .f32 0x3F800000#32) ((row q g k v p).tot h * (row q g k v p).tot h) := by
  unfold invs
  pointwise
  rw [tots_at q g k v]

theorem dps_at (p : Fin 512) (j : Fin 256) : dps g v (BitVec.ofNat 32 h.val) (ix2 p j) = (row q g k v p).dp h j := by
  unfold dps ownK
  pointwise
  simp only [msk_at]
  exact sum_keep_right h (fun x => g (ix2 p x)) fun x => v (ix2 j x)

theorem backs_at (p : Fin 512) (z : Fin 1) : backs q g k v (BitVec.ofNat 32 h.val) (ix2 p z) = (row q g k v p).back h := by
  unfold backs sumKeys perKey
  pointwise
  simp only [exps_at q g k v, invs_at q g k v, dps_at q g k v]
  exact (zero_sub _).trans rfl

theorem dss_at (p : Fin 512) (j : Fin 256) : dss q g k v (BitVec.ofNat 32 h.val) (ix2 p j) = (row q g k v p).ds h j := by
  unfold dss perKey
  pointwise
  simp only [exps_at q g k v, tots_at q g k v, dps_at q g k v, backs_at q g k v, Fin.sum_univ_one]
  rfl

theorem dqs_at (p : Fin 512) (x : Fin 256) : dqs q g k v (BitVec.ofNat 32 h.val) (ix2 p x)
    = (∑ j, (row q g k v p).ds h j * k (ix2 j x)) * keep h x := by
  unfold dqs
  pointwise
  simp only [msk_at, dss_at]

theorem dks_at (j x : Fin 256) : dks q g k v (BitVec.ofNat 32 h.val) (ix2 j x)
    = (∑ p, (row q g k v p).ds h j * q (ix2 p x)) * keep h x := by
  unfold dks ownQ
  pointwise
  simp only [msk_at, dss_at]
  unfold keep
  split <;> simp

theorem dvs_at (j x : Fin 256) : dvs q g k (BitVec.ofNat 32 h.val) (ix2 j x)
    = (∑ p, g (ix2 p x) * Ideal.div ((row q g k v p).ex h j) ((row q g k v p).tot h)) * keep h x := by
  unfold dvs perKey
  pointwise
  simp only [msk_at, exps_at q g k v, tots_at q g k v]

theorem dqAll_at (p : Fin 512) (x : Fin 256) : dqAll q g k v (ix2 p x) = (row q g k v p).dq x := by
  unfold dqAll
  pointwise
  exact (congrArg₂ (· + ·) (congrArg₂ (· + ·) (congrArg₂ (· + ·) (dqs_at q g k v 3 p x) (dqs_at q g k v 2 p x)) (dqs_at q g k v 1 p x)) (dqs_at q g k v 0 p x)).trans
    (four_keep (fun h => ∑ j, (row q g k v p).ds h j * k (ix2 j x)) x)

theorem dkAll_at (j x : Fin 256) : dkAll q g k v (ix2 j x) = ∑ p, (row q g k v p).dk j x := by
  unfold dkAll
  pointwise
  exact (congrArg₂ (· + ·) (congrArg₂ (· + ·) (congrArg₂ (· + ·) (dks_at q g k v 3 j x) (dks_at q g k v 2 j x)) (dks_at q g k v 1 j x)) (dks_at q g k v 0 j x)).trans
    (four_keep (fun h => ∑ p, (row q g k v p).ds h j * q (ix2 p x)) x)

theorem dvAll_at (j x : Fin 256) : dvAll q g k (ix2 j x) = ∑ p, (row q g k v p).dv j x := by
  unfold dvAll
  pointwise
  exact (congrArg₂ (· + ·) (congrArg₂ (· + ·) (congrArg₂ (· + ·) (dvs_at q g k v 3 j x) (dvs_at q g k v 2 j x)) (dvs_at q g k v 1 j x)) (dvs_at q g k v 0 j x)).trans
    (four_keep (fun h => ∑ p, g (ix2 p x) * Ideal.div ((row q g k v p).ex h j) ((row q g k v p).tot h)) x)

end

end Cert.Mem

end
-- ==== Proof.Mem.Step.lean ====
/- What a grid point of the call that computes the gradient of mixer B's attention to the memory leaves in its three blocks. -/
module

public import proofs.«01_k».proof.Proof.Gen.Kernel19Ideal.Value
public import proofs.«01_k».proof.Proof.Mem.Pay
public import Idealize.ShloMosaic.Lib.Pointwise
public import Idealize.ShloMosaic.Lib.ValueIdx
public import Idealize.ShloMosaic.Lib.Pipeline.ValueKit
public import Idealize.ShloMosaic.Lib.Tactic
public import Idealize.ShloMosaic.PureOps.Ideal.Laws

@[expose] public section

noncomputable section

namespace Cert.Mem

open Idealize.ShloMosaic Idealize.ShloMosaic.TcCoe Idealize.SL.Sem Cert.Kernel19Ideal Cert.Kernel19Ideal.Gen

theorem hz : (![0, 0] : Fin 2 → Nat) = fun _ => 0 := funext fun a => by fin_cases a <;> rfl

theorem pay1_eq (q : Vec Ideal S512x256 .bf16) : k0_pay1 q = q := by
  unfold k0_pay1
  rw [shapeCast_self]
  rfl

theorem pay2_eq (k : Vec Ideal S256x256 .bf16) : k0_pay2 k = k := by
  unfold k0_pay2
  rw [shapeCast_self]
  rfl

theorem pay3_eq (k : Vec Ideal S256x256 .bf16) : k0_pay3 k = k := by
  unfold k0_pay3
  rw [shapeCast_self]
  rfl

theorem pay4_eq (q : Vec Ideal S512x256 .bf16) : k0_pay4 q = q := by
  unfold k0_pay4
  rw [shapeCast_self]
  rfl

theorem zero_at (p q : Fin 256) : (k0_pay56 (F := Ideal)) (ix2 p q) = 0 := by
  pointwise [k0_pay56]

theorem zero'_at (p q : Fin 256) : (k0_pay58 (F := Ideal)) (ix2 p q) = 0 := by
  pointwise [k0_pay58]

/-- The three values that a point writes, as the sums of the heads' parts. -/
theorem dq_eq (q g : Vec Ideal S512x256 .bf16) (k v : Vec Ideal S256x256 .bf16) : k0_pay55 k0_pay6 (k0_pay8 k) (k0_pay9 q k) (k0_pay10 q k)
      (k0_pay50 (k0_pay4 g) (k0_pay15 k0_pay5 k0_pay14) (k0_pay17 (k0_pay2 k)) (k0_pay18 (k0_pay1 q) (k0_pay2 k) k0_pay5 k0_pay14)
        (k0_pay19 (k0_pay1 q) (k0_pay2 k) k0_pay5 k0_pay14) (k0_pay20 (k0_pay1 q) (k0_pay2 k) k0_pay5 k0_pay14)
        (k0_pay22 (k0_pay3 v) k0_pay5 k0_pay14)
        (k0_pay42 (k0_pay32 k0_pay5) (k0_pay34 (k0_pay2 k)) (k0_pay35 (k0_pay1 q) (k0_pay2 k) k0_pay5) (k0_pay39 (k0_pay1 q) (k0_pay2 k) (k0_pay3 v) (k0_pay4 g) k0_pay5)
          (k0_pay40 (k0_pay1 q) (k0_pay2 k) (k0_pay3 v) (k0_pay4 g) k0_pay5))
        (k0_pay46 (k0_pay4 g) (k0_pay25 (k0_pay2 k)) (k0_pay26 (k0_pay1 q) (k0_pay2 k) k0_pay5)
          (k0_pay27 (k0_pay1 q) (k0_pay2 k) k0_pay5) (k0_pay29 (k0_pay1 q) (k0_pay2 k) k0_pay5)
          (k0_pay31 (k0_pay3 v) (k0_pay23 k0_pay5)))
        (k0_pay47 (k0_pay23 k0_pay5)))
      (k0_pay51 (k0_pay4 g) (k0_pay13 v)) (k0_pay53 (k0_pay4 g) (k0_pay11 q k) (k0_pay13 v))
    = dqAll q g k v := by
  refine Eq.trans (b := dqAll (k0_pay1 q) (k0_pay4 g) (k0_pay2 k) (k0_pay3 v)) rfl ?_
  rw [pay1_eq, pay2_eq, pay3_eq, pay4_eq]

theorem dk_eq (q g : Vec Ideal S512x256 .bf16) (k v : Vec Ideal S256x256 .bf16) (s : Vec Ideal S256x256 .f32) :
    k0_pay57 (k0_pay7 q) (k0_pay9 q k) (k0_pay10 q k)
      (k0_pay49 (k0_pay4 g) (k0_pay16 (k0_pay1 q) k0_pay5 k0_pay14) (k0_pay18 (k0_pay1 q) (k0_pay2 k) k0_pay5 k0_pay14)
        (k0_pay19 (k0_pay1 q) (k0_pay2 k) k0_pay5 k0_pay14) (k0_pay20 (k0_pay1 q) (k0_pay2 k) k0_pay5 k0_pay14)
        (k0_pay22 (k0_pay3 v) k0_pay5 k0_pay14)
        (k0_pay45 (k0_pay4 g) (k0_pay24 (k0_pay1 q) k0_pay5) (k0_pay26 (k0_pay1 q) (k0_pay2 k) k0_pay5)
          (k0_pay27 (k0_pay1 q) (k0_pay2 k) k0_pay5) (k0_pay29 (k0_pay1 q) (k0_pay2 k) k0_pay5)
          (k0_pay31 (k0_pay3 v) (k0_pay23 k0_pay5)) (k0_pay33 (k0_pay1 q) k0_pay5)
          (k0_pay35 (k0_pay1 q) (k0_pay2 k) k0_pay5) (k0_pay39 (k0_pay1 q) (k0_pay2 k) (k0_pay3 v) (k0_pay4 g) k0_pay5)
          (k0_pay40 (k0_pay1 q) (k0_pay2 k) (k0_pay3 v) (k0_pay4 g) k0_pay5)))
      (k0_pay51 (k0_pay4 g) (k0_pay13 v)) (k0_pay53 (k0_pay4 g) (k0_pay11 q k) (k0_pay13 v)) s
    = addf s (dkAll q g k v) := by
  refine Eq.trans (b := addf (shapeCast S256x256 s shapeCasts_S256x256_S256x256) (dkAll (k0_pay1 q) (k0_pay4 g) (k0_pay2 k) (k0_pay3 v))) rfl ?_
  rw [pay1_eq, pay2_eq, pay3_eq, pay4_eq, shapeCast_self]

theorem dv_eq (q g : Vec Ideal S512x256 .bf16) (k : Vec Ideal S256x256 .bf16) (s : Vec Ideal S256x256 .f32) :
    k0_pay59
      (k0_pay52 (k0_pay4 g) k0_pay6 (k0_pay12 q k) (k0_pay15 k0_pay5 k0_pay14)
        (k0_pay21 (k0_pay1 q) (k0_pay2 k) k0_pay5 k0_pay14)
        (k0_pay43 (k0_pay4 g) (k0_pay23 k0_pay5) (k0_pay30 (k0_pay28 (k0_pay1 q) (k0_pay2 k) k0_pay5))
          (k0_pay38 (k0_pay1 q) (k0_pay2 k) (k0_pay4 g) k0_pay5)))
      s
    = addf s (dvAll q g k) := by
  refine Eq.trans (b := addf (shapeCast S256x256 s shapeCasts_S256x256_S256x256) (dvAll (k0_pay1 q) (k0_pay4 g) (k0_pay2 k))) rfl ?_
  rw [pay1_eq, pay2_eq, pay4_eq, shapeCast_self]

section
variable (c : Dev nD) (i : grid0.Coords) (a1 : Memref sig .tc .vmem S512x256 .bf16) (h1 : a1.IsWhole)
  (a2 : Memref sig .tc .vmem S256x256 .bf16) (h2 : a2.IsWhole) (a3 : Memref sig .tc .vmem S256x256 .bf16) (h3 : a3.IsWhole)
  (a4 : Memref sig .tc .vmem S512x256 .bf16) (h4 : a4.IsWhole) (a5 : Memref sig .tc .vmem S512x256 .bf16) (h5 : a5.IsWhole)
  (a6 : Memref sig .tc .vmem S256x256 .f32) (h6 : a6.IsWhole) (a7 : Memref sig .tc .vmem S256x256 .f32) (h7 : a7.IsWhole)
  (q : Vec Ideal S512x256 .bf16) (k v : Vec Ideal S256x256 .bf16) (g : Vec Ideal S512x256 .bf16) (s s' : Vec Ideal S256x256 .f32)

theorem first4 (hc0 : cond0_0 i) (hc1 : cond0_1 i) :
    out0_A_4 c i a1 h1 a2 h2 a3 h3 a4 h4 a5 h5 a6 h6 a7 h7 hc0 hc1 q k v g = dqAll q g k v := by
  unfold out0_A_4
  rw [View.read_writes_eq_canon _ _ _ (cover0_A_4 c i a1 h1 a2 h2 a3 h3 a4 h4 a5 h5 a6 h6 a7 h7 hc0 hc1 q k v g)]
  unfold kernelRun0_A
  dsimp only
  sl_unfold_words
  rw [View.canon_unit_zero (S := S512x256) hz]
  simp only [View.readAt_eq_ld, h1.read_unread, h2.read_unread, h3.read_unread, h4.read_unread, h6.read_unread, h7.read_unread, View.ld_unit_zero (S := S512x256) hz, View.ld_unit_zero (S := S256x256) hz, shapeCast_self]
  exact dq_eq q g k v

theorem first5 (hc0 : cond0_0 i) (hc1 : cond0_1 i) :
    out0_A_5 c i a1 h1 a2 h2 a3 h3 a4 h4 a5 h5 a6 h6 a7 h7 hc0 hc1 q k v g = addf k0_pay56 (dkAll q g k v) := by
  unfold out0_A_5
  rw [View.read_writes_eq_canon _ _ _ (cover0_A_5 c i a1 h1 a2 h2 a3 h3 a4 h4 a5 h5 a6 h6 a7 h7 hc0 hc1 q k v g)]
  unfold kernelRun0_A
  dsimp only
  sl_unfold_words
  rw [View.canon_cons_unit_zero (S := S256x256) hz, View.readCov_unit_zero (S := S256x256) _ hz]
  simp only [View.readAt_eq_ld, h1.read_unread, h2.read_unread, h3.read_unread, h4.read_unread, h6.read_unread, h7.read_unread, View.ld_unit_zero (S := S512x256) hz, View.ld_unit_zero (S := S256x256) hz, shapeCast_self]
  exact dk_eq q g k v _

theorem first6 (hc0 : cond0_0 i) (hc1 : cond0_1 i) :
    out0_A_6 c i a1 h1 a2 h2 a3 h3 a4 h4 a5 h5 a6 h6 a7 h7 hc0 hc1 q k v g = addf k0_pay58 (dvAll q g k) := by
  unfold out0_A_6
  rw [View.read_writes_eq_canon _ _ _ (cover0_A_6 c i a1 h1 a2 h2 a3 h3 a4 h4 a5 h5 a6 h6 a7 h7 hc0 hc1 q k v g)]
  unfold kernelRun0_A
  dsimp only
  sl_unfold_words
  rw [View.canon_cons_unit_zero (S := S256x256) hz, View.readCov_unit_zero (S := S256x256) _ hz]
  simp only [View.readAt_eq_ld, h1.read_unread, h2.read_unread, h3.read_unread, h4.read_unread, h6.read_unread, h7.read_unread, View.ld_unit_zero (S := S512x256) hz, View.ld_unit_zero (S := S256x256) hz, shapeCast_self]
  exact dv_eq q g k _

theorem next4 (hc0 : ¬cond0_0 i) (hc1 : ¬cond0_1 i) :
    out0_B_4 c i a1 h1 a2 h2 a3 h3 a4 h4 a5 h5 a6 h6 a7 h7 hc0 hc1 q k v g s s' = dqAll q g k v := by
  unfold out0_B_4
  rw [View.read_writes_eq_canon _ _ _ (cover0_B_4 c i a1 h1 a2 h2 a3 h3 a4 h4 a5 h5 a6 h6 a7 h7 hc0 hc1 q k v g s s')]
  unfold kernelRun0_B
  dsimp only
  sl_unfold_words
  rw [View.canon_unit_zero (S := S512x256) hz]
  simp only [View.readAt_eq_ld, h1.read_unread, h2.read_unread, h3.read_unread, h4.read_unread, h6.read_unread, h7.read_unread, View.ld_unit_zero (S := S512x256) hz, View.ld_unit_zero (S := S256x256) hz, shapeCast_self]
  exact dq_eq q g k v

theorem next5 (hc0 : ¬cond0_0 i) (hc1 : ¬cond0_1 i) :
    out0_B_5 c i a1 h1 a2 h2 a3 h3 a4 h4 a5 h5 a6 h6 a7 h7 hc0 hc1 q k v g s s' = addf s (dkAll q g k v) := by
  unfold out0_B_5
  rw [View.read_writes_eq_canon _ _ _ (cover0_B_5 c i a1 h1 a2 h2 a3 h3 a4 h4 a5 h5 a6 h6 a7 h7 hc0 hc1 q k v g s s')]
  unfold kernelRun0_B
  dsimp only
  sl_unfold_words
  rw [View.canon_unit_zero (S := S256x256) hz]
  simp only [View.readAt_eq_ld, h1.read_unread, h2.read_unread, h3.read_unread, h4.read_unread, h6.read_unread, h7.read_unread, View.ld_unit_zero (S := S512x256) hz, View.ld_unit_zero (S := S256x256) hz, shapeCast_self]
  exact dk_eq q g k v _

theorem next6 (hc0 : ¬cond0_0 i) (hc1 : ¬cond0_1 i) :
    out0_B_6 c i a1 h1 a2 h2 a3 h3 a4 h4 a5 h5 a6 h6 a7 h7 hc0 hc1 q k v g s s' = addf s' (dvAll q g k) := by
  unfold out0_B_6
  rw [View.read_writes_eq_canon _ _ _ (cover0_B_6 c i a1 h1 a2 h2 a3 h3 a4 h4 a5 h5 a6 h6 a7 h7 hc0 hc1 q k v g s s')]
  unfold kernelRun0_B
  dsimp only
  sl_unfold_words
  rw [View.canon_unit_zero (S := S256x256) hz]
  simp only [View.readAt_eq_ld, h1.read_unread, h2.read_unread, h3.read_unread, h4.read_unread, h6.read_unread, h7.read_unread, View.ld_unit_zero (S := S512x256) hz, View.ld_unit_zero (S := S256x256) hz, shapeCast_self]
  exact dv_eq q g k _

end

end Cert.Mem

end
-- ==== Proof.Mem.Ref.lean ====
/- What the reference's lines compute, as functions of its arguments, and those functions read at an index: the gradient of
   the attention to the memory, of all queries and heads. -/
module

public import proofs.«01_k».proof.Proof.Mem.Head
public import proofs.«01_k».proof.Proof.Gen.Reference19Ideal.Run
public import Idealize.ShloMosaic.Lib.Pointwise
public import Idealize.ShloMosaic.Lib.ValueIdx
public import Idealize.ShloMosaic.Lib.Tactic
public import Idealize.ShloMosaic.PureOps.Ideal.Laws

@[expose] public section

noncomputable section

namespace Cert.Mem.Ref

open Idealize.ShloMosaic Idealize.ShloMosaic.TcCoe Cert.Reference19Ideal Cert.Reference19Ideal.Gen

/-- Arrays [token, head, 64], [key, head, 64], [head, token, key] and [head, token]. -/
abbrev Toks := FVec Ideal S16384x4x64 .f32
abbrev Mems := FVec Ideal S256x4x64 .f32
abbrev Pairs := FVec Ideal S4x16384x256 .f32
abbrev Rows := FVec Ideal S4x16384 .f32

/-- The arguments, their columns split by head. -/
def splitQ (x : FVec Ideal S16384x512 .f32) : Toks :=
  shapeCast _ (extractStridedSlice S16384x256 ![0, 256] x slices_S16384x512_S16384x256_0_256) shapeCasts_S16384x256_S16384x4x64
def splitG (x : FVec Ideal S16384x1024 .f32) : Toks :=
  shapeCast _ (extractStridedSlice S16384x256 ![0, 768] x slices_S16384x1024_S16384x256_0_768) shapeCasts_S16384x256_S16384x4x64
def splitK (x : FVec Ideal S256x512 .f32) : Mems :=
  shapeCast _ (extractStridedSlice S256x256 ![0, 0] x slices_S256x512_S256x256_0_0) shapeCasts_S256x256_S256x4x64
def splitV (x : FVec Ideal S256x512 .f32) : Mems :=
  shapeCast _ (extractStridedSlice S256x256 ![0, 256] x slices_S256x512_S256x256_0_256) shapeCasts_S256x256_S256x4x64

/-- A query's number, once a key. -/
def perKey (r : Rows) : Pairs :=
  broadcastInDim S4x16384x256 ![0, 1, 2] bcast_S4x16384x1_S4x16384x256_0_1_2 (broadcastInDim S4x16384x1 ![0, 1] bcast_S4x16384_S4x16384x1_0_1 r)

/-- The sum over the keys. -/
def sumKeys (x : Pairs) : Rows := Host.reduceAdd x (constant S_ .f32 0x00000000#32) reducesTo_S4x16384x256_S4x16384_d2 h_S_

/-- The factor of the scores. -/
def scale : Pairs := broadcastInDim S4x16384x256 ![] bcast_S_S4x16384x256 (constant S_ .f32 0x3E000000#32)

section
variable (q g : Toks) (k v : Mems)

def scores : Pairs := mulf (Host.dotGeneral dot_S16384x4x64_S256x4x64_S4x16384x256_2_2_0_0_1_1 none q k) scale

def largest : Rows :=
  Host.reduce FloatOps.maximumf (scores q k) (constant S_ .f32 0xFF800000#32) reducesTo_S4x16384x256_S4x16384_d2 h_S_

def exps : Pairs :=
  Host.exp (subf (scores q k) (perKey (maximumf (broadcastInDim S4x16384 ![] bcast_S_S4x16384 (constant S_ .f32 0xFF800000#32)) (largest q k))))

def heads : FVec Ideal S4x64x16384 .f32 := transpose S4x64x16384 [1, 2, 0] g transposes_S16384x4x64_S4x64x16384_1_2_0

def dps : Pairs := Host.dotGeneral dot_S4x64x16384_S256x4x64_S4x16384x256_1_2_2_0_0_1 none (heads g) v

def invs : FVec Ideal S4x16384x1 .f32 :=
  Host.divf (broadcastInDim S4x16384x1 ![] bcast_S_S4x16384x1 (constant S_ .f32 0x3F800000#32))
    (mulf (broadcastInDim S4x16384x1 ![0, 1] bcast_S4x16384_S4x16384x1_0_1 (sumKeys (exps q k)))
      (broadcastInDim S4x16384x1 ![0, 1] bcast_S4x16384_S4x16384x1_0_1 (sumKeys (exps q k))))

def backs : Rows :=
  Host.reduceAdd
    (Host.negf (shapeCast S4x16384x1
      (sumKeys (mulf (mulf (dps g v) (broadcastInDim S4x16384x256 ![0, 1, 2] bcast_S4x16384x1_S4x16384x256_0_1_2 (invs q k))) (exps q k)))
      shapeCasts_S4x16384_S4x16384x1))
    (constant S_ .f32 0x00000000#32) reducesTo_S4x16384x1_S4x16384_d2 h_S_

def dss : Pairs :=
  mulf (mulf (addf (Host.divf (dps g v) (perKey (sumKeys (exps q k))))
    (broadcastInDim S4x16384x256 ![0, 1] bcast_S4x16384_S4x16384x256_0_1 (backs q g k v))) (exps q k)) scale

def dqs : FVec Ideal S16384x256 .bf16 :=
  truncf .bf16 (shapeCast S16384x256 (transpose S16384x4x64 [1, 0, 2]
    (Host.dotGeneral dot_S4x16384x256_S256x4x64_S4x16384x64_2_0_1_2_0_1 none (dss q g k v) k) transposes_S4x16384x64_S16384x4x64_1_0_2)
    shapeCasts_S16384x4x64_S16384x256) bitsLt_bf16_f32

def dks : FVec Ideal S256x256 .f32 :=
  shapeCast S256x256 (transpose S256x4x64 [1, 0, 2]
    (Host.dotGeneral dot_S4x16384x256_S16384x4x64_S4x256x64_1_0_2_2_0_1 none (dss q g k v) q) transposes_S4x256x64_S256x4x64_1_0_2)
    shapeCasts_S256x4x64_S256x256

def dvs : FVec Ideal S256x256 .f32 :=
  shapeCast S256x256 (transpose S256x4x64 [2, 0, 1]
    (Host.dotGeneral dot_S4x64x16384_S4x16384x256_S4x64x256_2_1_1_2_0_0 none (heads g)
      (Host.divf (exps q k) (perKey (sumKeys (exps q k))))) transposes_S4x64x256_S256x4x64_2_0_1)
    shapeCasts_S256x4x64_S256x256

/-- The gradients of the keys and of the values side by side, as the reference returns them before it splits them. -/
def both : FVec Ideal S256x512 .f32 :=
  concatenate S256x512 1 [⟨S256x256, dks q g k v⟩, ⟨S256x256, dvs q g k⟩] concatenates_S256x256_S256x256_S256x512_d1

def left : FVec Ideal S256x256 .f32 := extractStridedSlice S256x256 ![0, 0] (both q g k v) slices_S256x512_S256x256_0_0
def right : FVec Ideal S256x256 .f32 := extractStridedSlice S256x256 ![0, 256] (both q g k v) slices_S256x512_S256x256_0_256

end

/-- Token `n`'s numbers. -/
def tok (x : FVec Ideal S16384x512 .f32) (y : FVec Ideal S256x512 .f32) (z : FVec Ideal S16384x1024 .f32) (n : Fin 16384) : Row where
  q c := x (ix2 n ⟨256 + c.val, by omega⟩)
  g c := z (ix2 n ⟨768 + c.val, by omega⟩)
  k j c := y (ix2 j ⟨c.val, by omega⟩)
  v j c := y (ix2 j ⟨256 + c.val, by omega⟩)

variable (x : FVec Ideal S16384x512 .f32) (y : FVec Ideal S256x512 .f32) (z : FVec Ideal S16384x1024 .f32)

theorem splitQ_at (n : Fin 16384) (h : Fin 4) (d : Fin 64) : splitQ x (ix3 n h d) = (tok x y z n).q (col h d) := by
  unfold splitQ
  pointwise
  rfl

theorem splitG_at (n : Fin 16384) (h : Fin 4) (d : Fin 64) : splitG z (ix3 n h d) = (tok x y z n).g (col h d) := by
  unfold splitG
  pointwise
  rfl

theorem splitK_at (n : Fin 16384) (j : Fin 256) (h : Fin 4) (d : Fin 64) : splitK y (ix3 j h d) = (tok x y z n).k j (col h d) := by
  unfold splitK
  pointwise
  rfl

theorem splitV_at (n : Fin 16384) (j : Fin 256) (h : Fin 4) (d : Fin 64) : splitV y (ix3 j h d) = (tok x y z n).v j (col h d) := by
  unfold splitV
  pointwise
  rfl

theorem reduceMax_at {A B N : Nat} {o : Shape} (f : FVec Ideal ⟨3, ![A, B, N]⟩ .f32) (init : FVec Ideal o .f32)
    (hr : Shape.ReducesTo ⟨3, ![A, B, N]⟩ [2] ⟨2, ![A, B]⟩) (ho : 0 < o.numel) (p : Fin A) (q : Fin B) :
    Host.reduce FloatOps.maximumf f init hr ho (ix2 p q)
      = Finset.univ.fold max (init (Shape.Idx.first ho)) fun k : Fin N => f (ix3 p q k) := by
  pointwise

theorem max_fold {N : Nat} (b : EReal) (f : Fin N → EReal) : max b (Finset.univ.fold max b f) = Finset.univ.fold max b f :=
  max_eq_right ((Finset.le_fold_max b).mpr (Or.inl le_rfl))

theorem low_at : (constant (F := Ideal) S_ .f32 0xFF800000#32) (Shape.Idx.first h_S_) = Ideal.ofBits .f32 0xFF800000#32 := rfl

theorem scores_at (n : Fin 16384) (h : Fin 4) (j : Fin 256) : scores (splitQ x) (splitK y) (ix3 h n j) = (tok x y z n).score h j := by
  unfold scores scale
  pointwise
  simp only [splitQ_at x y z, splitK_at x y z n]
  rfl

theorem largest_at (n : Fin 16384) (h : Fin 4) : largest (splitQ x) (splitK y) (ix2 h n) = (tok x y z n).top h := by
  unfold largest Row.top
  rw [reduceMax_at, low_at]
  generalize Ideal.ofBits .f32 0xFF800000#32 = b
  exact congrArg (fun f => Finset.univ.fold max b f) (funext fun j => scores_at x y z n h j)

theorem max_top (r : Row) (h : Fin 4) : max (Ideal.ofBits .f32 0xFF800000#32) (r.top h) = r.top h := by
  unfold Row.top
  exact max_fold _ _

theorem exps_of (s : Pairs) (r : Rows) (h : Fin 4) (n : Fin 16384) (j : Fin 256) :
    (Host.exp (subf s (perKey r)) : Pairs) (ix3 h n j) = Ideal.exp (s (ix3 h n j) - r (ix2 h n)) := by
  unfold perKey
  pointwise

theorem max_at (r : Rows) (h : Fin 4) (n : Fin 16384) :
    (maximumf (broadcastInDim S4x16384 ![] bcast_S_S4x16384 (constant S_ .f32 0xFF800000#32)) r : Rows) (ix2 h n)
      = max (Ideal.ofBits .f32 0xFF800000#32) (r (ix2 h n)) := by
  pointwise

theorem exps_at (n : Fin 16384) (h : Fin 4) (j : Fin 256) : exps (splitQ x) (splitK y) (ix3 h n j) = (tok x y z n).ex h j := by
  unfold exps Row.ex
  rw [exps_of, scores_at x y z, max_at, largest_at x y z, max_top]

theorem tots_at (n : Fin 16384) (h : Fin 4) : sumKeys (exps (splitQ x) (splitK y)) (ix2 h n) = (tok x y z n).tot h := by
  unfold sumKeys
  pointwise
  simp only [exps_at x y z]
  rfl

theorem dps_at (n : Fin 16384) (h : Fin 4) (j : Fin 256) : dps (splitG z) (splitV y) (ix3 h n j) = (tok x y z n).dp h j := by
  unfold dps heads
  pointwise
  simp only [splitG_at x y z, splitV_at x y z n]
  rfl

theorem invs_at (n : Fin 16384) (h : Fin 4) (o : Fin 1) : invs (splitQ x) (splitK y) (ix3 h n o)
    = Ideal.div (Ideal.ofBits .f32 0x3F800000#32) ((tok x y z n).tot h * (tok x y z n).tot h) := by
  unfold invs
  pointwise
  rw [tots_at x y z]

theorem backs_at (n : Fin 16384) (h : Fin 4) : backs (splitQ x) (splitG z) (splitK y) (splitV y) (ix2 h n) = (tok x y z n).back h := by
  have e : ∀ f : Pairs, sumKeys f (ix2 h n) = ∑ j, f (ix3 h n j) := fun f => by
    unfold sumKeys
    pointwise
  unfold backs
  pointwise
  simp only [e, Fin.sum_univ_one]
  pointwise
  simp only [exps_at x y z, dps_at x y z, invs_at x y z]
  rfl

theorem dss_at (n : Fin 16384) (h : Fin 4) (j : Fin 256) :
    dss (splitQ x) (splitG z) (splitK y) (splitV y) (ix3 h n j) = (tok x y z n).ds h j := by
  unfold dss perKey scale
  pointwise
  rw [exps_at x y z, tots_at x y z, dps_at x y z, backs_at x y z]
  rfl

theorem dqs_at (n : Fin 16384) (c : Fin 256) : dqs (splitQ x) (splitG z) (splitK y) (splitV y) (ix2 n c) = (tok x y z n).dq c := by
  unfold dqs Row.dq
  pointwise
  refine Finset.sum_congr rfl fun j _ => congrArg₂ (· * ·) (dss_at x y z n (hd c) j) ?_
  exact (splitK_at x y z n j (hd c) ⟨c.val % 64, by omega⟩).trans (congrArg _ (col_hd c))

theorem dks_at (j c : Fin 256) : dks (splitQ x) (splitG z) (splitK y) (splitV y) (ix2 j c) = ∑ n, (tok x y z n).dk j c := by
  unfold dks Row.dk
  pointwise
  refine Finset.sum_congr rfl fun n _ => congrArg₂ (· * ·) (dss_at x y z n (hd c) j) ?_
  exact (splitQ_at x y z n (hd c) ⟨c.val % 64, by omega⟩).trans (congrArg _ (col_hd c))

theorem dvs_at (j c : Fin 256) : dvs (splitQ x) (splitG z) (splitK y) (ix2 j c) = ∑ n, (tok x y z n).dv j c := by
  unfold dvs perKey heads Row.dv
  pointwise
  refine Finset.sum_congr rfl fun n _ => congrArg₂ (· * ·) ?_ (congrArg₂ Ideal.div (exps_at x y z n (hd c) j) (tots_at x y z n (hd c)))
  exact (splitG_at x y z n (hd c) ⟨c.val % 64, by omega⟩).trans (congrArg _ (col_hd c))

theorem left_at (j c : Fin 256) : left (splitQ x) (splitG z) (splitK y) (splitV y) (ix2 j c) = ∑ n, (tok x y z n).dk j c := by
  rw [← dks_at]
  unfold left both
  pointwise

theorem right_at (j c : Fin 256) : right (splitQ x) (splitG z) (splitK y) (splitV y) (ix2 j c) = ∑ n, (tok x y z n).dv j c := by
  rw [← dvs_at]
  unfold right both
  pointwise

end Cert.Mem.Ref

end
-- ==== Proof.Mem.Bwd.lean ====
/- The call that computes the gradient of mixer B's attention to the memory returns the reference's gradients of the queries, of
   the keys and of the values. -/
module

public import proofs.«01_k».proof.Proof.Mem.Step
public import proofs.«01_k».proof.Proof.Mem.Ref
public import Idealize.ShloMosaic.Lib.Claim
public import Idealize.ShloMosaic.Lib.StableHlo.RunRead

@[expose] public section

noncomputable section

namespace Cert.Mem

open Idealize.ShloMosaic Idealize.ShloMosaic.TcCoe Idealize.SL.Sem Cert.Kernel19Ideal Cert.Kernel19Ideal.Gen Cert.Ffn

variable (m : (ℓ : Loc nD τ sig) → Buf (Elt Ideal) ℓ) (c : Dev nD)

abbrev aX : FVec Ideal S16384x512 .f32 := m ((c.tc : Thread nD τ).loc main_arg0)
abbrev aM : FVec Ideal S256x512 .f32 := m ((c.tc : Thread nD τ).loc main_arg1)
abbrev aD : FVec Ideal S16384x1024 .f32 := m ((c.tc : Thread nD τ).loc main_arg2)

theorem V_x : (V m c main_v0 : FVec Ideal S16384x512 .bf16) = aX m c := by
  entry_read
  rfl

theorem V_m : (V m c main_v1 : FVec Ideal S256x512 .bf16) = aM m c := by
  entry_read
  rfl

theorem V_d : (V m c main_v2 : FVec Ideal S16384x1024 .bf16) = aD m c := by
  entry_read
  rfl

/-- The block indices of a grid point. -/
theorem idx : ∀ t : Fin cfg0.N,
    win0_0.index t = ![t.val, 1] ∧ win0_1.index t = ![0, 0] ∧ win0_2.index t = ![0, 1] ∧ win0_3.index t = ![t.val, 3]
      ∧ win0_4.index t = ![t.val, 0] ∧ win0_5.index t = ![0, 0] ∧ win0_6.index t = ![0, 0] :=
  (by decide +kernel : ∀ t : Fin grid0.N, _)

theorem lt32 (t : Fin cfg0.N) : t.val < 32 := lt_of_lt_of_eq t.isLt N_0

theorem blk_q (t : Fin cfg0.N) (p : Fin 512) (x : Fin 256) :
    iblk m c 0 t (ix2 p x)
      = (V m c main_v0 : FVec Ideal S16384x512 .bf16) (ix2 ⟨t.val * 512 + p.val, by have := lt32 t; omega⟩ ⟨256 + x.val, by omega⟩) := by
  blk_point [iblk, idx t]

theorem blk_k (t : Fin cfg0.N) (j x : Fin 256) :
    iblk m c 1 t (ix2 j x) = (V m c main_v1 : FVec Ideal S256x512 .bf16) (ix2 j ⟨x.val, by omega⟩) := by
  blk_point [iblk, idx t]

theorem blk_v (t : Fin cfg0.N) (j x : Fin 256) :
    iblk m c 2 t (ix2 j x) = (V m c main_v1 : FVec Ideal S256x512 .bf16) (ix2 j ⟨256 + x.val, by omega⟩) := by
  blk_point [iblk, idx t]

theorem blk_g (t : Fin cfg0.N) (p : Fin 512) (x : Fin 256) :
    iblk m c 3 t (ix2 p x)
      = (V m c main_v2 : FVec Ideal S16384x1024 .bf16) (ix2 ⟨t.val * 512 + p.val, by have := lt32 t; omega⟩ ⟨768 + x.val, by omega⟩) := by
  blk_point [iblk, idx t]

/-- Token `n`'s numbers. -/
def at' (n : ℕ) : Row := Ref.tok (aX m c) (aM m c) (aD m c) ⟨n % 16384, by omega⟩

/-- A row of a grid point's blocks is a token. -/
theorem row_eq (t : Fin cfg0.N) (p : Fin 512) :
    row (iblk m c 0 t) (iblk m c 3 t) (iblk m c 1 t) (iblk m c 2 t) p = at' m c (t.val * 512 + p.val) := by
  have ht := lt32 t
  have h1 : (t.val * 512 + p.val) % 16384 = t.val * 512 + p.val := by omega
  unfold row at' Ref.tok
  simp only [blk_q, blk_k, blk_v, blk_g, h1]
  rw [Row.mk.injEq]
  exact ⟨funext fun _ => congrFun (V_x m c) _, funext fun _ => congrFun (V_d m c) _,
    funext fun _ => funext fun _ => congrFun (V_m m c) _, funext fun _ => funext fun _ => congrFun (V_m m c) _⟩

/-- What grid point `n` adds to the gradients of the keys and of the values. -/
def partK (j x : Fin 256) (n : ℕ) : EReal := ∑ p : Fin 512, (at' m c (n * 512 + p.val)).dk j x
def partV (j x : Fin 256) (n : ℕ) : EReal := ∑ p : Fin 512, (at' m c (n * 512 + p.val)).dv j x

theorem addK_eq (t : Fin cfg0.N) (s : Vec Ideal S256x256 .f32) (j x : Fin 256) :
    (addf s (dkAll (iblk m c 0 t) (iblk m c 3 t) (iblk m c 1 t) (iblk m c 2 t))) (ix2 j x) = s (ix2 j x) + partK m c j x t.val := by
  refine congrArg (s (ix2 j x) + ·) ((dkAll_at _ _ _ _ _ _).trans ?_)
  exact Finset.sum_congr rfl fun p _ => by rw [row_eq]

theorem addV_eq (t : Fin cfg0.N) (s : Vec Ideal S256x256 .f32) (j x : Fin 256) :
    (addf s (dvAll (iblk m c 0 t) (iblk m c 3 t) (iblk m c 1 t))) (ix2 j x) = s (ix2 j x) + partV m c j x t.val := by
  refine congrArg (s (ix2 j x) + ·) ((dvAll_at _ _ _ (iblk m c 2 t) _ _).trans ?_)
  exact Finset.sum_congr rfl fun p _ => by rw [row_eq]

/-- What the blocks of the two accumulated outputs hold after a grid point. -/
theorem sumK (j x : Fin 256) (a k : ℕ) (hk : k < 32) (h : 32 * a + k < cfg0.N) :
    (outsAt0 m c (32 * a + k) h).2.1 (ix2 j x) = ∑ l ∈ Finset.range (k + 1), partK m c j x (32 * a + l) := by
  refine run_sum (fun n h => (outsAt0 m c n h).2.1 (ix2 j x)) (partK m c j x) (fun n h h0 => ?_) (fun n h h' h0 => ?_) a k hk h
  · rw [outsAt0_A m c ⟨n, h⟩ h0 h0]
    dsimp only
    rw [first5, addK_eq, zero_at, zero_add]
  · rw [outsAt0_B m c ⟨n + 1, h'⟩ h0 h0]
    dsimp only
    rw [next5, addK_eq]
    rfl

theorem sumV (j x : Fin 256) (a k : ℕ) (hk : k < 32) (h : 32 * a + k < cfg0.N) :
    (outsAt0 m c (32 * a + k) h).2.2 (ix2 j x) = ∑ l ∈ Finset.range (k + 1), partV m c j x (32 * a + l) := by
  refine run_sum (fun n h => (outsAt0 m c n h).2.2 (ix2 j x)) (partV m c j x) (fun n h h0 => ?_) (fun n h h' h0 => ?_) a k hk h
  · rw [outsAt0_A m c ⟨n, h⟩ h0 h0]
    dsimp only
    rw [first6, addV_eq, zero'_at, zero_add]
  · rw [outsAt0_B m c ⟨n + 1, h'⟩ h0 h0]
    dsimp only
    rw [next6, addV_eq]
    rfl

/-- The points' parts together are the sum over the tokens. -/
theorem all_tokens (f : Row → EReal) :
    ∑ l ∈ Finset.range (31 + 1), ∑ p : Fin 512, f (at' m c ((32 * 0 + l) * 512 + p.val)) = ∑ n, f (Ref.tok (aX m c) (aM m c) (aD m c) n) := by
  refine Eq.trans ?_ (Finset.sum_congr rfl fun n _ => ?_ : ∑ n : Fin 16384, f (at' m c n.val) = _)
  · rw [Fin.sum_univ_tiles 32 512 (by norm_num) fun n => f (at' m c n.val), Finset.sum_range]
    refine Finset.sum_congr rfl fun j _ => ?_
    rw [show 32 * 0 + j.val = j.val by omega]
  · have h1 : n.val % 16384 = n.val := by omega
    unfold at'
    simp only [h1]

theorem blockK (t : Fin cfg0.N) (ht : t.val % 32 = 31) (j x : Fin 256) :
    (outsAt0 m c t.val t.isLt).2.1 (ix2 j x) = ∑ n, (Ref.tok (aX m c) (aM m c) (aD m c) n).dk j x := by
  have e2 : ∀ n h, n = t.val → (outsAt0 m c n h).2.1 (ix2 j x) = (outsAt0 m c t.val t.isLt).2.1 (ix2 j x) := by
    intro n h hn; subst hn; rfl
  have hl := lt32 t
  have hd : t.val = 32 * 0 + 31 := by omega
  rw [← e2 (32 * 0 + 31) (by rw [← hd]; exact t.isLt) hd.symm, sumK m c j x _ 31 (by omega)]
  exact all_tokens m c fun r => r.dk j x

theorem blockV (t : Fin cfg0.N) (ht : t.val % 32 = 31) (j x : Fin 256) :
    (outsAt0 m c t.val t.isLt).2.2 (ix2 j x) = ∑ n, (Ref.tok (aX m c) (aM m c) (aD m c) n).dv j x := by
  have e2 : ∀ n h, n = t.val → (outsAt0 m c n h).2.2 (ix2 j x) = (outsAt0 m c t.val t.isLt).2.2 (ix2 j x) := by
    intro n h hn; subst hn; rfl
  have hl := lt32 t
  have hd : t.val = 32 * 0 + 31 := by omega
  rw [← e2 (32 * 0 + 31) (by rw [← hd]; exact t.isLt) hd.symm, sumV m c j x _ 31 (by omega)]
  exact all_tokens m c fun r => r.dv j x

theorem blockQ (t : Fin cfg0.N) (p : Fin 512) (x : Fin 256) :
    (outsAt0 m c t.val t.isLt).1 (ix2 p x) = (at' m c (t.val * 512 + p.val)).dq x := by
  by_cases h0 : t.val % 32 = 0
  · rw [outsAt0_A m c t h0 h0]
    dsimp only
    rw [first4]
    exact (dqAll_at _ _ _ _ _ _).trans (by rw [row_eq])
  · rw [outsAt0_B m c t h0 h0]
    dsimp only
    rw [next4]
    exact (dqAll_at _ _ _ _ _ _).trans (by rw [row_eq])

/-- The three results. -/
abbrev refQ (x : FVec Ideal S16384x512 .f32) (y : FVec Ideal S256x512 .f32) (z : FVec Ideal S16384x1024 .f32) : FVec Ideal S16384x256 .bf16 :=
  Ref.dqs (Ref.splitQ x) (Ref.splitG z) (Ref.splitK y) (Ref.splitV y)
abbrev refK (x : FVec Ideal S16384x512 .f32) (y : FVec Ideal S256x512 .f32) (z : FVec Ideal S16384x1024 .f32) : FVec Ideal S256x256 .f32 :=
  Ref.left (Ref.splitQ x) (Ref.splitG z) (Ref.splitK y) (Ref.splitV y)
abbrev refV (x : FVec Ideal S16384x512 .f32) (y : FVec Ideal S256x512 .f32) (z : FVec Ideal S16384x1024 .f32) : FVec Ideal S256x256 .f32 :=
  Ref.right (Ref.splitQ x) (Ref.splitG z) (Ref.splitK y) (Ref.splitV y)

theorem out4 : (dats m 0 c).arrAt 4 cfg0.N = refQ (aX m c) (aM m c) (aD m c) := by
  refine (dats m 0 c).arrAt_eq_of_covers 4 _ (by decide +kernel) fun t hf y => ?_
  obtain ⟨p, x, rfl⟩ : ∃ (p : Fin 512) (x : Fin 256), y = ix2 p x := ⟨y 0, y 1, eq_ix2 y⟩
  have ht := lt32 t
  have e : ∀ X : FVec Ideal S16384x256 .bf16, ((cfg0.win 4).blk t).view.read (Elt Ideal) X (ix2 p x) = X (ix2 ⟨t.val * 512 + p.val, by omega⟩ x) := fun X => by
    blk_point [idx t]
  refine Eq.trans ?_ ((e (refQ (aX m c) (aM m c) (aD m c))).trans (Ref.dqs_at _ _ _ _ _)).symm
  refine (congrFun (after0_4 m c t) _).trans ?_
  have h1 : (t.val * 512 + p.val) % 16384 = t.val * 512 + p.val := by omega
  refine (blockQ m c t p x).trans ?_
  unfold at'
  simp only [h1]

theorem out5 : (dats m 0 c).arrAt 5 cfg0.N = refK (aX m c) (aM m c) (aD m c) := by
  refine (dats m 0 c).arrAt_eq_of_covers 5 _ (by decide +kernel) fun t hf y => ?_
  obtain ⟨p, x, rfl⟩ : ∃ (p : Fin 256) (x : Fin 256), y = ix2 p x := ⟨y 0, y 1, eq_ix2 y⟩
  have e : ∀ X : FVec Ideal S256x256 .f32, ((cfg0.win 5).blk t).view.read (Elt Ideal) X (ix2 p x) = X (ix2 p x) := fun X => by
    blk_point [idx t]
  refine Eq.trans ?_ ((e (refK (aX m c) (aM m c) (aD m c))).trans (Ref.left_at _ _ _ _ _)).symm
  exact (congrFun (after0_5 m c t) _).trans (blockK m c t ((flush0_5 t).mp hf) p x)

theorem out6 : (dats m 0 c).arrAt 6 cfg0.N = refV (aX m c) (aM m c) (aD m c) := by
  refine (dats m 0 c).arrAt_eq_of_covers 6 _ (by decide +kernel) fun t hf y => ?_
  obtain ⟨p, x, rfl⟩ : ∃ (p : Fin 256) (x : Fin 256), y = ix2 p x := ⟨y 0, y 1, eq_ix2 y⟩
  have e : ∀ X : FVec Ideal S256x256 .f32, ((cfg0.win 6).blk t).view.read (Elt Ideal) X (ix2 p x) = X (ix2 p x) := fun X => by
    blk_point [idx t]
  refine Eq.trans ?_ ((e (refV (aX m c) (aM m c) (aD m c))).trans (Ref.right_at _ _ _ _ _)).symm
  exact (congrFun (after0_6 m c t) _).trans (blockV m c t ((flush0_6 t).mp hf) p x)

end Cert.Mem

end
-- ==== Proof.Mem.Claim19.lean ====
/- The claims of program 19: its runs end with the semaphores at zero and the arguments kept, and the call returns the
   reference's gradients of the queries, the keys and the values of mixer B's attention to the memory. -/
module

public import proofs.«01_k».proof.Defs
public import proofs.«01_k».proof.Proof.Mem.Bwd
public import proofs.«01_k».proof.Proof.Gen.Kernel19.Frame
public import proofs.«01_k».proof.Proof.Gen.Kernel19Ideal.Value
public import proofs.«01_k».proof.Proof.Gen.Reference19Ideal.Run
public import Idealize.ShloMosaic.Lib.Quiescent

@[expose] public section

noncomputable section

namespace Cert.Mem

open Idealize.ShloMosaic Idealize.ShloMosaic.TcCoe Idealize.SL.Sem

theorem quiet19 : Cert.quiescent_Kernel19 (hKernel19 := Cert.Kernel19.Gen.facts) := fun m ρ _ => Cert.Kernel19.Gen.frame m ρ

theorem quiet19Ideal : Cert.quiescent_Kernel19Ideal (hKernel19Ideal := Cert.Kernel19Ideal.Gen.facts) := fun m ρ _ => Cert.Kernel19Ideal.Gen.frame m ρ

theorem quietRef19 : Cert.quiescent_Reference19Ideal (hReference19Ideal := Cert.Reference19Ideal.Gen.facts) := fun m ρ _ =>
  (θ_run Cert.Reference19Ideal.defs _ _).mono
    (fun r h => ⟨fun c => (h c).2.2.2, Idealize.ShloMosaic.sem_eq_zero_of_no_sems (by decide) r.2⟩) (Cert.Reference19Ideal.Value.run m ρ)

theorem keeps19 : Cert.preserves_Kernel19_Kernel19Ideal := trivial

/-- The reference's results are the functions of Proof/Mem/Ref.lean. -/
theorem ref_out0 (m : (ℓ : Loc Cert.Reference19Ideal.nD Cert.Reference19Ideal.τ Cert.Reference19Ideal.sig) → Buf (Elt Ideal) ℓ) (c : Dev Cert.Reference19Ideal.nD) :
    Cert.Reference19Ideal.Value.res_out0 m c = refQ (m ((c.tc : Thread _ _).loc Cert.Reference19Ideal.main_arg0))
      (m ((c.tc : Thread _ _).loc Cert.Reference19Ideal.main_arg1)) (m ((c.tc : Thread _ _).loc Cert.Reference19Ideal.main_arg2)) := rfl

theorem ref_out1 (m : (ℓ : Loc Cert.Reference19Ideal.nD Cert.Reference19Ideal.τ Cert.Reference19Ideal.sig) → Buf (Elt Ideal) ℓ) (c : Dev Cert.Reference19Ideal.nD) :
    Cert.Reference19Ideal.Value.res_out1 m c = refK (m ((c.tc : Thread _ _).loc Cert.Reference19Ideal.main_arg0))
      (m ((c.tc : Thread _ _).loc Cert.Reference19Ideal.main_arg1)) (m ((c.tc : Thread _ _).loc Cert.Reference19Ideal.main_arg2)) := rfl

theorem ref_out2 (m : (ℓ : Loc Cert.Reference19Ideal.nD Cert.Reference19Ideal.τ Cert.Reference19Ideal.sig) → Buf (Elt Ideal) ℓ) (c : Dev Cert.Reference19Ideal.nD) :
    Cert.Reference19Ideal.Value.res_out2 m c = refV (m ((c.tc : Thread _ _).loc Cert.Reference19Ideal.main_arg0))
      (m ((c.tc : Thread _ _).loc Cert.Reference19Ideal.main_arg1)) (m ((c.tc : Thread _ _).loc Cert.Reference19Ideal.main_arg2)) := rfl

set_option maxRecDepth 8192 in
theorem equal19 : Cert.algebraic_Kernel19Ideal_Reference19Ideal (hKernel19Ideal := Cert.Kernel19Ideal.Gen.facts)
    (hReference19Ideal := Cert.Reference19Ideal.Gen.facts) := by
  intro m g m' g' hpre heq
  refine ⟨fun c => (Cert.Kernel19Ideal.Gen.dats m 0 c).arrAt 4 Cert.Kernel19Ideal.cfg0.N,
    fun c => (Cert.Kernel19Ideal.Gen.dats m 0 c).arrAt 5 Cert.Kernel19Ideal.cfg0.N,
    fun c => (Cert.Kernel19Ideal.Gen.dats m 0 c).arrAt 6 Cert.Kernel19Ideal.cfg0.N,
    Cert.Kernel19Ideal.Value.run_blocks m g, ?_⟩
  refine (θ_run Cert.Reference19Ideal.defs _ _).mono (fun r h c => ⟨(h c).1.trans ?_, (h c).2.1.trans ?_, (h c).2.2.1.trans ?_, (h c).2.2.2⟩)
    (Cert.Reference19Ideal.Value.run m' g')
  · obtain ⟨e0, e1, e2⟩ := heq c
    refine (ref_out0 m' c).trans ?_
    rw [e0, e1, e2]
    exact (out4 m c).symm
  · obtain ⟨e0, e1, e2⟩ := heq c
    refine (ref_out1 m' c).trans ?_
    rw [e0, e1, e2]
    exact (out5 m c).symm
  · obtain ⟨e0, e1, e2⟩ := heq c
    refine (ref_out2 m' c).trans ?_
    rw [e0, e1, e2]
    exact (out6 m c).symm

end Cert.Mem

end
-- ==== Proof.lean ====
module

public import proofs.«01_k».proof.Defs
public import Idealize.ShloMosaic.Adequacy
public import Idealize.ShloMosaic.Init
public import proofs.«01_k».proof.Proof.Att.Claim1
public import proofs.«01_k».proof.Proof.Att.Claim2
public import proofs.«01_k».proof.Proof.Att.Claim3
public import proofs.«01_k».proof.Proof.Ffn.Claim4
public import proofs.«01_k».proof.Proof.Ffn.Claim5
public import proofs.«01_k».proof.Proof.Ffn.Claim6
public import proofs.«01_k».proof.Proof.Ffn.Claim7
public import proofs.«01_k».proof.Proof.Ffn.Claim8
public import proofs.«01_k».proof.Proof.Ffn.Claim9
public import proofs.«01_k».proof.Proof.Proj.Claim10
public import proofs.«01_k».proof.Proof.Proj.Claim11
public import proofs.«01_k».proof.Proof.Proj.Claim12
public import proofs.«01_k».proof.Proof.Proj.Claim13
public import proofs.«01_k».proof.Proof.Proj.Claim14
public import proofs.«01_k».proof.Proof.Proj.Claim15
public import proofs.«01_k».proof.Proof.Proj.Claim16
public import proofs.«01_k».proof.Proof.Proj.Claim17
public import proofs.«01_k».proof.Proof.Proj.Claim18
public import proofs.«01_k».proof.Proof.Mem.Claim19
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Kernel9Ideal.Value
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Pre_finite.Gen.facts, Cert.Pre_finite3.Gen.facts, Cert.Pre_finite4.Gen.facts,
    Att.quiet1, Att.quiet1Ideal, Att.quiet1IdealPre, Att.quietRef1, Att.quietRef1Pre,
    Att.quiet2, Att.quiet2Ideal, Att.quiet2IdealPre, Att.quietRef2, Att.quietRef2Pre,
    Att.quiet3, Att.quiet3Ideal, Att.quiet3IdealPre, Att.quietRef3, Att.quietRef3Pre,
    Ffn.quiet4, Ffn.quiet4Ideal, Ffn.quiet4IdealPre, Ffn.quietRef4, Ffn.quietRef4Pre,
    Ffn.quiet5, Ffn.quiet5Ideal, Ffn.quietRef5,
    Ffn.quiet6, Ffn.quiet6Ideal, Ffn.quietRef6,
    Ffn.quiet7, Ffn.quiet7Ideal, Ffn.quietRef7,
    Ffn.quiet8, Ffn.quiet8Ideal, Ffn.quietRef8,
    Ffn.quiet9, Ffn.quiet9Ideal, Ffn.quietRef9,
    Proj.quiet10, Proj.quiet10Ideal, Proj.quietRef10,
    Proj.quiet11, Proj.quiet11Ideal, Proj.quietRef11,
    Proj.quiet12, Proj.quiet12Ideal, Proj.quietRef12,
    Proj.quiet13, Proj.quiet13Ideal, Proj.quietRef13,
    Proj.quiet14, Proj.quiet14Ideal, Proj.quietRef14,
    Proj.quiet15, Proj.quiet15Ideal, Proj.quietRef15,
    Proj.quiet16, Proj.quiet16Ideal, Proj.quietRef16,
    Proj.quiet17, Proj.quiet17Ideal, Proj.quietRef17,
    Proj.quiet18, Proj.quiet18Ideal, Proj.quietRef18,
    Mem.quiet19, Mem.quiet19Ideal, Mem.quietRef19,
    Att.keeps1, Att.equal1,
    Att.keeps2, Att.equal2,
    Att.keeps3, Att.equal3,
    Ffn.keeps4, Ffn.equal4,
    Ffn.keeps5, Ffn.equal5,
    Ffn.keeps6, Ffn.equal6,
    Ffn.keeps7, Ffn.equal7,
    Ffn.keeps8, Ffn.equal8,
    Ffn.keeps9, Ffn.equal9,
    Proj.keeps10, Proj.equal10,
    Proj.keeps11, Proj.equal11,
    Proj.keeps12, Proj.equal12,
    Proj.keeps13, Proj.equal13,
    Proj.keeps14, Proj.equal14,
    Proj.keeps15, Proj.equal15,
    Proj.keeps16, Proj.equal16,
    Proj.keeps17, Proj.equal17,
    Proj.keeps18, Proj.equal18,
    Mem.keeps19, Mem.equal19⟩

end Cert.Proof

end
